-- ==== Defs.lean ====
def Pre_Kernel [hPre_edges_in_nodes : Cert.Pre_edges_in_nodes.Facts] (m : (ℓ : Loc Cert.Kernel.nD Cert.Kernel.τ Cert.Kernel.sig) → Buf (Elt Bits) ℓ) : Prop :=
  ∀ c : Dev Cert.Kernel.nD,
    (Cert.Pre_edges_in_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_edges_in_nodes : Cert.Pre_edges_in_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_edges_in_nodes [hPre_edges_in_nodes : Cert.Pre_edges_in_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_edges_in_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_edges_in_nodes : Cert.Pre_edges_in_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_edges_in_nodes : Cert.Pre_edges_in_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_edges_in_nodes [hReferenceIdeal : Cert.ReferenceIdeal.Facts] [hPre_edges_in_nodes : Cert.Pre_edges_in_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_edges_in_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_edges_in_nodes : Cert.Pre_edges_in_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_edges_in_nodes : Cert.Pre_edges_in_nodes.Facts),
    quiescent_Kernel (hKernel := hKernel) (hPre_edges_in_nodes := hPre_edges_in_nodes)
    ∧ quiescent_KernelIdeal (hKernelIdeal := hKernelIdeal) (hPre_edges_in_nodes := hPre_edges_in_nodes)
    ∧ quiescent_ReferenceIdeal (hReferenceIdeal := hReferenceIdeal)
    ∧ quiescent_ReferenceIdeal_pre_edges_in_nodes (hReferenceIdeal := hReferenceIdeal) (hPre_edges_in_nodes := hPre_edges_in_nodes)
    ∧ preserves_Kernel_KernelIdeal
    ∧ algebraic_KernelIdeal_ReferenceIdeal (hKernelIdeal := hKernelIdeal) (hReferenceIdeal := hReferenceIdeal) (hPre_edges_in_nodes := hPre_edges_in_nodes)
-- ==== Pre_edges_in_nodes.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : IVec S2x320000 32) (main_arg2 : IVec S10000 32) (main_arg3 : FVec F S128x128 .f32) (main_arg4 : FVec F S128 .f32) (main_arg5 : FVec F S4x128x128 .f32) (main_arg6 : FVec F S4x128 .f32) (main_arg7 : FVec F S128x10 .f32) (main_arg8 : FVec F S10 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  main_v4
-- ==== Kernel.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S640000 : Shape := ⟨1, ![640000]⟩
abbrev S320000 : Shape := ⟨1, ![320000]⟩
abbrev S2000 : Shape := ⟨1, ![2000]⟩
abbrev S16 : Shape := ⟨1, ![16]⟩
abbrev S_ : Shape := ⟨0, ![]⟩
abbrev S32x10000 : Shape := ⟨2, ![32, 10000]⟩
abbrev S128x1 : Shape := ⟨2, ![128, 1]⟩
abbrev S1x128x128 : Shape := ⟨3, ![1, 128, 128]⟩
abbrev S128x10000 : Shape := ⟨2, ![128, 10000]⟩
abbrev S1x10000 : Shape := ⟨2, ![1, 10000]⟩
abbrev S2048x128 : Shape := ⟨2, ![2048, 128]⟩
abbrev S32x2048 : Shape := ⟨2, ![32, 2048]⟩
abbrev S128x2048 : Shape := ⟨2, ![128, 2048]⟩
abbrev S1x2048 : Shape := ⟨2, ![1, 2048]⟩
abbrev S2048 : Shape := ⟨1, ![2048]⟩
abbrev S1280000 : Shape := ⟨1, ![1280000]⟩
abbrev S40000 : Shape := ⟨1, ![40000]⟩
abbrev S1x128 : Shape := ⟨2, ![1, 128]⟩
abbrev S1x10 : Shape := ⟨2, ![1, 10]⟩
abbrev S64x10 : Shape := ⟨2, ![64, 10]⟩
abbrev S64x128 : Shape := ⟨2, ![64, 128]⟩
abbrev S64x1 : Shape := ⟨2, ![64, 1]⟩
abbrev S64x2048 : Shape := ⟨2, ![64, 2048]⟩
abbrev S64 : Shape := ⟨1, ![64]⟩

abbrev nBuf : Table → Nat
  | .hbm => 54
  | .local .tc .vmem => 55
  | .local .scVector .vmem => 20
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S128x10, .f32⟩
  | .hbm, ⟨8, _⟩ => ⟨S10, .f32⟩
  | .hbm, ⟨9, _⟩ => ⟨S640000, .i32⟩
  | .hbm, ⟨10, _⟩ => ⟨S320000, .i32⟩
  | .hbm, ⟨11, _⟩ => ⟨S320000, .f32⟩
  | .hbm, ⟨12, _⟩ => ⟨S32x10000, .f32⟩
  | .hbm, ⟨13, _⟩ => ⟨S128x1, .f32⟩
  | .hbm, ⟨14, _⟩ => ⟨S1x128x128, .f32⟩
  | .hbm, ⟨15, _⟩ => ⟨S128x128, .f32⟩
  | .hbm, ⟨16, _⟩ => ⟨S128x10000, .f32⟩
  | .hbm, ⟨17, _⟩ => ⟨S1x10000, .f32⟩
  | .hbm, ⟨18, _⟩ => ⟨S1280000, .f32⟩
  | .hbm, ⟨19, _⟩ => ⟨S1280000, .f32⟩
  | .hbm, ⟨20, _⟩ => ⟨S128x10000, .f32⟩
  | .hbm, ⟨21, _⟩ => ⟨S1x128, .f32⟩
  | .hbm, ⟨22, _⟩ => ⟨S128, .f32⟩
  | .hbm, ⟨23, _⟩ => ⟨S128x1, .f32⟩
  | .hbm, ⟨24, _⟩ => ⟨S1x128x128, .f32⟩
  | .hbm, ⟨25, _⟩ => ⟨S128x128, .f32⟩
  | .hbm, ⟨26, _⟩ => ⟨S128x10000, .f32⟩
  | .hbm, ⟨27, _⟩ => ⟨S1280000, .f32⟩
  | .hbm, ⟨28, _⟩ => ⟨S1280000, .f32⟩
  | .hbm, ⟨29, _⟩ => ⟨S128x10000, .f32⟩
  | .hbm, ⟨30, _⟩ => ⟨S1x128, .f32⟩
  | .hbm, ⟨31, _⟩ => ⟨S128, .f32⟩
  | .hbm, ⟨32, _⟩ => ⟨S128x1, .f32⟩
  | .hbm, ⟨33, _⟩ => ⟨S1x128x128, .f32⟩
  | .hbm, ⟨34, _⟩ => ⟨S128x128, .f32⟩
  | .hbm, ⟨35, _⟩ => ⟨S128x10000, .f32⟩
  | .hbm, ⟨36, _⟩ => ⟨S1280000, .f32⟩
  | .hbm, ⟨37, _⟩ => ⟨S1280000, .f32⟩
  | .hbm, ⟨38, _⟩ => ⟨S128x10000, .f32⟩
  | .hbm, ⟨39, _⟩ => ⟨S1x128, .f32⟩
  | .hbm, ⟨40, _⟩ => ⟨S128, .f32⟩
  | .hbm, ⟨41, _⟩ => ⟨S128x1, .f32⟩
  | .hbm, ⟨42, _⟩ => ⟨S1x128x128, .f32⟩
  | .hbm, ⟨43, _⟩ => ⟨S128x128, .f32⟩
  | .hbm, ⟨44, _⟩ => ⟨S128x10000, .f32⟩
  | .hbm, ⟨45, _⟩ => ⟨S1280000, .f32⟩
  | .hbm, ⟨46, _⟩ => ⟨S1280000, .f32⟩
  | .hbm, ⟨47, _⟩ => ⟨S128x10000, .f32⟩
  | .hbm, ⟨48, _⟩ => ⟨S1x128, .f32⟩
  | .hbm, ⟨49, _⟩ => ⟨S128, .f32⟩
  | .hbm, ⟨50, _⟩ => ⟨S128x1, .f32⟩
  | .hbm, ⟨51, _⟩ => ⟨S1x10000, .i32⟩
  | .hbm, ⟨52, _⟩ => ⟨S1x10, .f32⟩
  | .hbm, ⟨53, _⟩ => ⟨S64x10, .f32⟩
  | .local .tc .vmem, ⟨0, _⟩ => ⟨S2048x128, .f32⟩
  | .local .tc .vmem, ⟨1, _⟩ => ⟨S2048x128, .f32⟩
  | .local .tc .vmem, ⟨2, _⟩ => ⟨S128x128, .f32⟩
  | .local .tc .vmem, ⟨3, _⟩ => ⟨S128x1, .f32⟩
  | .local .tc .vmem, ⟨4, _⟩ => ⟨S128x128, .f32⟩
  | .local .tc .vmem, ⟨5, _⟩ => ⟨S32x2048, .f32⟩
  | .local .tc .vmem, ⟨6, _⟩ => ⟨S32x2048, .f32⟩
  | .local .tc .vmem, ⟨7, _⟩ => ⟨S128x2048, .f32⟩
  | .local .tc .vmem, ⟨8, _⟩ => ⟨S128x2048, .f32⟩
  | .local .tc .vmem, ⟨9, _⟩ => ⟨S1x2048, .f32⟩
  | .local .tc .vmem, ⟨10, _⟩ => ⟨S1x2048, .f32⟩
  | .local .tc .vmem, ⟨11, _⟩ => ⟨S128x2048, .f32⟩
  | .local .tc .vmem, ⟨12, _⟩ => ⟨S128x2048, .f32⟩
  | .local .tc .vmem, ⟨13, _⟩ => ⟨S128x2048, .f32⟩
  | .local .tc .vmem, ⟨14, _⟩ => ⟨S128x2048, .f32⟩
  | .local .tc .vmem, ⟨15, _⟩ => ⟨S1x2048, .f32⟩
  | .local .tc .vmem, ⟨16, _⟩ => ⟨S1x2048, .f32⟩
  | .local .tc .vmem, ⟨17, _⟩ => ⟨S128x1, .f32⟩
  | .local .tc .vmem, ⟨18, _⟩ => ⟨S128x128, .f32⟩
  | .local .tc .vmem, ⟨19, _⟩ => ⟨S128x2048, .f32⟩
  | .local .tc .vmem, ⟨20, _⟩ => ⟨S128x2048, .f32⟩
  | .local .tc .vmem, ⟨21, _⟩ => ⟨S128x2048, .f32⟩
  | .local .tc .vmem, ⟨22, _⟩ => ⟨S128x2048, .f32⟩
  | .local .tc .vmem, ⟨23, _⟩ => ⟨S128x2048, .f32⟩
  | .local .tc .vmem, ⟨24, _⟩ => ⟨S128x2048, .f32⟩
  | .local .tc .vmem, ⟨25, _⟩ => ⟨S1x2048, .f32⟩
  | .local .tc .vmem, ⟨26, _⟩ => ⟨S1x2048, .f32⟩
  | .local .tc .vmem, ⟨27, _⟩ => ⟨S128x1, .f32⟩
  | .local .tc .vmem, ⟨28, _⟩ => ⟨S128x128, .f32⟩
  | .local .tc .vmem, ⟨29, _⟩ => ⟨S128x2048, .f32⟩
  | .local .tc .vmem, ⟨30, _⟩ => ⟨S128x2048, .f32⟩
  | .local .tc .vmem, ⟨31, _⟩ => ⟨S128x2048, .f32⟩
  | .local .tc .vmem, ⟨32, _⟩ => ⟨S128x2048, .f32⟩
  | .local .tc .vmem, ⟨33, _⟩ => ⟨S128x2048, .f32⟩
  | .local .tc .vmem, ⟨34, _⟩ => ⟨S128x2048, .f32⟩
  | .local .tc .vmem, ⟨35, _⟩ => ⟨S1x2048, .f32⟩
  | .local .tc .vmem, ⟨36, _⟩ => ⟨S1x2048, .f32⟩
  | .local .tc .vmem, ⟨37, _⟩ => ⟨S128x1, .f32⟩
  | .local .tc .vmem, ⟨38, _⟩ => ⟨S128x128, .f32⟩
  | .local .tc .vmem, ⟨39, _⟩ => ⟨S128x2048, .f32⟩
  | .local .tc .vmem, ⟨40, _⟩ => ⟨S128x2048, .f32⟩
  | .local .tc .vmem, ⟨41, _⟩ => ⟨S128x2048, .f32⟩
  | .local .tc .vmem, ⟨42, _⟩ => ⟨S128x2048, .f32⟩
  | .local .tc .vmem, ⟨43, _⟩ => ⟨S128x2048, .f32⟩
  | .local .tc .vmem, ⟨44, _⟩ => ⟨S128x2048, .f32⟩
  | .local .tc .vmem, ⟨45, _⟩ => ⟨S1x2048, .f32⟩
  | .local .tc .vmem, ⟨46, _⟩ => ⟨S1x2048, .f32⟩
  | .local .tc .vmem, ⟨47, _⟩ => ⟨S128x1, .f32⟩
  | .local .tc .vmem, ⟨48, _⟩ => ⟨S1x2048, .i32⟩
  | .local .tc .vmem, ⟨49, _⟩ => ⟨S1x2048, .i32⟩
  | .local .tc .vmem, ⟨50, _⟩ => ⟨S128x10, .f32⟩
  | .local .tc .vmem, ⟨51, _⟩ => ⟨S1x10, .f32⟩
  | .local .tc .vmem, ⟨52, _⟩ => ⟨S64x10, .f32⟩
  | .local .tc .vmem, ⟨53, _⟩ => ⟨S64x128, .f32⟩
  | .local .tc .vmem, ⟨54, _⟩ => ⟨S64x1, .f32⟩
  | .local .scVector .vmem, ⟨0, _⟩ => ⟨S10000, .f32⟩
  | .local .scVector .vmem, ⟨1, _⟩ => ⟨S2000, .i32⟩
  | .local .scVector .vmem, ⟨2, _⟩ => ⟨S2000, .i32⟩
  | .local .scVector .vmem, ⟨3, _⟩ => ⟨S2000, .i32⟩
  | .local .scVector .vmem, ⟨4, _⟩ => ⟨S40000, .f32⟩
  | .local .scVector .vmem, ⟨5, _⟩ => ⟨S40000, .f32⟩
  | .local .scVector .vmem, ⟨6, _⟩ => ⟨S2000, .i32⟩
  | .local .scVector .vmem, ⟨7, _⟩ => ⟨S2000, .i32⟩
  | .local .scVector .vmem, ⟨8, _⟩ => ⟨S40000, .f32⟩
  | .local .scVector .vmem, ⟨9, _⟩ => ⟨S40000, .f32⟩
  | .local .scVector .vmem, ⟨10, _⟩ => ⟨S2000, .i32⟩
  | .local .scVector .vmem, ⟨11, _⟩ => ⟨S2000, .i32⟩
  | .local .scVector .vmem, ⟨12, _⟩ => ⟨S40000, .f32⟩
  | .local .scVector .vmem, ⟨13, _⟩ => ⟨S40000, .f32⟩
  | .local .scVector .vmem, ⟨14, _⟩ => ⟨S2000, .i32⟩
  | .local .scVector .vmem, ⟨15, _⟩ => ⟨S2000, .i32⟩
  | .local .scVector .vmem, ⟨16, _⟩ => ⟨S40000, .f32⟩
  | .local .scVector .vmem, ⟨17, _⟩ => ⟨S40000, .f32⟩
  | .local .scVector .vmem, ⟨18, _⟩ => ⟨S2000, .i32⟩
  | .local .scVector .vmem, ⟨19, _⟩ => ⟨S2000, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 85 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => false
  | ⟨42, _⟩ => false
  | ⟨43, _⟩ => false
  | ⟨44, _⟩ => false
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => false
  | ⟨56, _⟩ => false
  | ⟨57, _⟩ => false
  | ⟨58, _⟩ => false
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => false
  | ⟨70, _⟩ => false
  | ⟨71, _⟩ => false
  | ⟨72, _⟩ => false
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTables nBuf rfl bufTy 4 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v0_scv : Ref sig .scVector := ⟨.hbm, 9, rfl⟩
abbrev main_v1_0_scv : Ref sig .scVector := ⟨.hbm, 10, rfl⟩
abbrev main_v1_1_scv : Ref sig .scVector := ⟨.hbm, 11, rfl⟩
abbrev main_v7_scv : Ref sig .scVector := ⟨.hbm, 18, rfl⟩
abbrev main_v8_scv : Ref sig .scVector := ⟨.hbm, 19, rfl⟩
abbrev main_v16_scv : Ref sig .scVector := ⟨.hbm, 27, rfl⟩
abbrev main_v17_scv : Ref sig .scVector := ⟨.hbm, 28, rfl⟩
abbrev main_v25_scv : Ref sig .scVector := ⟨.hbm, 36, rfl⟩
abbrev main_v26_scv : Ref sig .scVector := ⟨.hbm, 37, rfl⟩
abbrev main_v34_scv : Ref sig .scVector := ⟨.hbm, 45, rfl⟩
abbrev main_v35_scv : Ref sig .scVector := ⟨.hbm, 46, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc1_stg6_1 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg5_0 : Ref sig .tc := ⟨.vmem, 19, rfl⟩
abbrev cc3_stg5_1 : Ref sig .tc := ⟨.vmem, 20, rfl⟩
abbrev cc5_stg0_0 : Ref sig .tc := ⟨.vmem, 21, rfl⟩
abbrev cc5_stg0_1 : Ref sig .tc := ⟨.vmem, 22, rfl⟩
abbrev cc5_stg1_0 : Ref sig .tc := ⟨.vmem, 23, rfl⟩
abbrev cc5_stg1_1 : Ref sig .tc := ⟨.vmem, 24, rfl⟩
abbrev cc5_stg2_0 : Ref sig .tc := ⟨.vmem, 25, rfl⟩
abbrev cc5_stg2_1 : Ref sig .tc := ⟨.vmem, 26, rfl⟩
abbrev cc5_stg3_0 : Ref sig .tc := ⟨.vmem, 27, rfl⟩
abbrev cc5_stg4_0 : Ref sig .tc := ⟨.vmem, 28, rfl⟩
abbrev cc5_stg5_0 : Ref sig .tc := ⟨.vmem, 29, rfl⟩
abbrev cc5_stg5_1 : Ref sig .tc := ⟨.vmem, 30, rfl⟩
abbrev cc7_stg0_0 : Ref sig .tc := ⟨.vmem, 31, rfl⟩
abbrev cc7_stg0_1 : Ref sig .tc := ⟨.vmem, 32, rfl⟩
abbrev cc7_stg1_0 : Ref sig .tc := ⟨.vmem, 33, rfl⟩
abbrev cc7_stg1_1 : Ref sig .tc := ⟨.vmem, 34, rfl⟩
abbrev cc7_stg2_0 : Ref sig .tc := ⟨.vmem, 35, rfl⟩
abbrev cc7_stg2_1 : Ref sig .tc := ⟨.vmem, 36, rfl⟩
abbrev cc7_stg3_0 : Ref sig .tc := ⟨.vmem, 37, rfl⟩
abbrev cc7_stg4_0 : Ref sig .tc := ⟨.vmem, 38, rfl⟩
abbrev cc7_stg5_0 : Ref sig .tc := ⟨.vmem, 39, rfl⟩
abbrev cc7_stg5_1 : Ref sig .tc := ⟨.vmem, 40, rfl⟩
abbrev cc9_stg0_0 : Ref sig .tc := ⟨.vmem, 41, rfl⟩
abbrev cc9_stg0_1 : Ref sig .tc := ⟨.vmem, 42, rfl⟩
abbrev cc9_stg1_0 : Ref sig .tc := ⟨.vmem, 43, rfl⟩
abbrev cc9_stg1_1 : Ref sig .tc := ⟨.vmem, 44, rfl⟩
abbrev cc9_stg2_0 : Ref sig .tc := ⟨.vmem, 45, rfl⟩
abbrev cc9_stg2_1 : Ref sig .tc := ⟨.vmem, 46, rfl⟩
abbrev cc9_stg3_0 : Ref sig .tc := ⟨.vmem, 47, rfl⟩
abbrev cc9_stg4_0 : Ref sig .tc := ⟨.vmem, 48, rfl⟩
abbrev cc9_stg4_1 : Ref sig .tc := ⟨.vmem, 49, rfl⟩
abbrev cc9_stg5_0 : Ref sig .tc := ⟨.vmem, 50, rfl⟩
abbrev cc9_stg6_0 : Ref sig .tc := ⟨.vmem, 51, rfl⟩
abbrev cc9_stg7_0 : Ref sig .tc := ⟨.vmem, 52, rfl⟩
abbrev cc9_scratch0 : Ref sig .tc := ⟨.vmem, 53, rfl⟩
abbrev cc9_scratch1 : Ref sig .tc := ⟨.vmem, 54, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc4_scratch0 : Ref sig .scVector := ⟨.vmem, 8, rfl⟩
abbrev cc4_scratch1 : Ref sig .scVector := ⟨.vmem, 9, rfl⟩
abbrev cc4_scratch2 : Ref sig .scVector := ⟨.vmem, 10, rfl⟩
abbrev cc4_scratch3 : Ref sig .scVector := ⟨.vmem, 11, rfl⟩
abbrev cc6_scratch0 : Ref sig .scVector := ⟨.vmem, 12, rfl⟩
abbrev cc6_scratch1 : Ref sig .scVector := ⟨.vmem, 13, rfl⟩
abbrev cc6_scratch2 : Ref sig .scVector := ⟨.vmem, 14, rfl⟩
abbrev cc6_scratch3 : Ref sig .scVector := ⟨.vmem, 15, rfl⟩
abbrev cc8_scratch0 : Ref sig .scVector := ⟨.vmem, 16, rfl⟩
abbrev cc8_scratch1 : Ref sig .scVector := ⟨.vmem, 17, rfl⟩
abbrev cc8_scratch2 : Ref sig .scVector := ⟨.vmem, 18, rfl⟩
abbrev cc8_scratch3 : Ref sig .scVector := ⟨.vmem, 19, rfl⟩
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem5_1 : DmaSem sig := 40
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem5_1 : DmaSem sig := 54
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem5_0 : DmaSem sig := 67
abbrev cc7_sem5_1 : DmaSem sig := 68
abbrev cc9_sem0_0 : DmaSem sig := 73
abbrev cc9_sem0_1 : DmaSem sig := 74
abbrev cc9_sem1_0 : DmaSem sig := 75
abbrev cc9_sem1_1 : DmaSem sig := 76
abbrev cc9_sem2_0 : DmaSem sig := 77
abbrev cc9_sem2_1 : DmaSem sig := 78
abbrev cc9_sem3_0 : DmaSem sig := 79
abbrev cc9_sem4_0 : DmaSem sig := 80
abbrev cc9_sem4_1 : DmaSem sig := 81
abbrev cc9_sem5_0 : DmaSem sig := 82
abbrev cc9_sem6_0 : DmaSem sig := 83
abbrev cc9_sem7_0 : DmaSem sig := 84
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c625_i32 : BitVec 32 := 625#32
  let v3 : BitVec 32 := Scalar.addi c0_i32_0 c625_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v22 : BitVec 32 := Scalar.muli arg9 c16_i32
  let v23 : Index := Scalar.indexCast v22
  ![v23.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let v6 : BitVec 32 := Scalar.addi v5 c0_i32_3
  ![v6.toNat]
def k0_off3 (i : grid0.Coords) (c0_i32_3 : BitVec 32) : Fin 1 → Nat :=
  let c320000_i32 : BitVec 32 := 320000#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let v6 : BitVec 32 := Scalar.addi v5 c0_i32_3
  let v7 : BitVec 32 := Scalar.addi c320000_i32 v6
  ![v7.toNat]
@[reducible] def k0_t2_loop : Scf.Loop 32 :=
  let c0_i32_5 : BitVec 32 := 0#32
  let c125_i32 : BitVec 32 := 125#32
  let v8 : BitVec 32 := Scalar.addi c0_i32_5 c125_i32
  let c1_i32_6 : BitVec 32 := 1#32
  ⟨c0_i32_5, v8, c1_i32_6⟩
def k0_off4 (k0_t2 : Fin k0_t2_loop.trips) : Fin 1 → Nat :=
  let c0_i32_5 : BitVec 32 := 0#32
  let c1_i32_6 : BitVec 32 := 1#32
  let arg9 : BitVec 32 := Scf.iv c0_i32_5 c1_i32_6 k0_t2
  let c16_i32 : BitVec 32 := 16#32
  let v22 : BitVec 32 := Scalar.muli arg9 c16_i32
  let v23 : Index := Scalar.indexCast v22
  ![v23.toNat]

def k0_chk1 (v27 : IVec S16 32) : Prop :=
  (∀ a x, ((![v27] : Fin 1 → IVec S16 32) a x).toNat < S10000.size a)
theorem k0_idx1_inb : ∀ (v27 : IVec S16 32) (k0_hw1 : k0_chk1 v27), ∀ a x, ((![v27] : Fin 1 → IVec S16 32) a x).toNat < S10000.size a := fun v27 k0_hw1 => k0_hw1
def k0_off5 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v5 : BitVec 32 := Scalar.muli v1 c10000_i32
  let v6 : BitVec 32 := Scalar.addi v5 c0_i32_3
  ![v6.toNat]
@[reducible] def k0_t3_loop : Scf.Loop 32 :=
  let c0_i32_10 : BitVec 32 := 0#32
  let c125_i32_11 : BitVec 32 := 125#32
  let v11 : BitVec 32 := Scalar.addi c0_i32_10 c125_i32_11
  let c1_i32_12 : BitVec 32 := 1#32
  ⟨c0_i32_10, v11, c1_i32_12⟩
def k0_off6 (k0_t3 : Fin k0_t3_loop.trips) : Fin 1 → Nat :=
  let c0_i32_10 : BitVec 32 := 0#32
  let c1_i32_12 : BitVec 32 := 1#32
  let arg9 : BitVec 32 := Scf.iv c0_i32_10 c1_i32_12 k0_t3
  let c16_i32 : BitVec 32 := 16#32
  let v22 : BitVec 32 := Scalar.muli arg9 c16_i32
  let v23 : Index := Scalar.indexCast v22
  ![v23.toNat]

def k0_chk2 (v27 : IVec S16 32) : Prop :=
  (∀ a x, ((![v27] : Fin 1 → IVec S16 32) a x).toNat < S10000.size a)
theorem k0_idx2_inb : ∀ (v27 : IVec S16 32) (k0_hw2 : k0_chk2 v27), ∀ a x, ((![v27] : Fin 1 → IVec S16 32) a x).toNat < S10000.size a := fun v27 k0_hw2 => k0_hw2
@[reducible] def k0_t4_loop : Scf.Loop 32 :=
  let c0_i32_16 : BitVec 32 := 0#32
  let c125_i32_17 : BitVec 32 := 125#32
  let v14 : BitVec 32 := Scalar.addi c0_i32_16 c125_i32_17
  let c1_i32_18 : BitVec 32 := 1#32
  ⟨c0_i32_16, v14, c1_i32_18⟩
def k0_off7 (k0_t4 : Fin k0_t4_loop.trips) : Fin 1 → Nat :=
  let c0_i32_16 : BitVec 32 := 0#32
  let c1_i32_18 : BitVec 32 := 1#32
  let arg9 : BitVec 32 := Scf.iv c0_i32_16 c1_i32_18 k0_t4
  let c16_i32 : BitVec 32 := 16#32
  let v22 : BitVec 32 := Scalar.muli arg9 c16_i32
  let v23 : Index := Scalar.indexCast v22
  ![v23.toNat]

def k0_chk3 (v27 : IVec S16 32) : Prop :=
  (∀ a x, ((![v27] : Fin 1 → IVec S16 32) a x).toNat < S10000.size a)
theorem k0_idx3_inb : ∀ (v27 : IVec S16 32) (k0_hw3 : k0_chk3 v27), ∀ a x, ((![v27] : Fin 1 → IVec S16 32) a x).toNat < S10000.size a := fun v27 k0_hw3 => k0_hw3
@[reducible] def k0_t5_loop : Scf.Loop 32 :=
  let c0_i32_22 : BitVec 32 := 0#32
  let c125_i32_23 : BitVec 32 := 125#32
  let v17 : BitVec 32 := Scalar.addi c0_i32_22 c125_i32_23
  let c1_i32_24 : BitVec 32 := 1#32
  ⟨c0_i32_22, v17, c1_i32_24⟩
def k0_off8 (k0_t5 : Fin k0_t5_loop.trips) : Fin 1 → Nat :=
  let c0_i32_22 : BitVec 32 := 0#32
  let c1_i32_24 : BitVec 32 := 1#32
  let arg9 : BitVec 32 := Scf.iv c0_i32_22 c1_i32_24 k0_t5
  let c16_i32 : BitVec 32 := 16#32
  let v22 : BitVec 32 := Scalar.muli arg9 c16_i32
  let v23 : Index := Scalar.indexCast v22
  ![v23.toNat]

def k0_chk4 (v27 : IVec S16 32) : Prop :=
  (∀ a x, ((![v27] : Fin 1 → IVec S16 32) a x).toNat < S10000.size a)
theorem k0_idx4_inb : ∀ (v27 : IVec S16 32) (k0_hw4 : k0_chk4 v27), ∀ a x, ((![v27] : Fin 1 → IVec S16 32) a x).toNat < S10000.size a := fun v27 k0_hw4 => k0_hw4
@[reducible] def k0_t6_loop : Scf.Loop 32 :=
  let c0_i32_28 : BitVec 32 := 0#32
  let c125_i32_29 : BitVec 32 := 125#32
  let v20 : BitVec 32 := Scalar.addi c0_i32_28 c125_i32_29
  let c1_i32_30 : BitVec 32 := 1#32
  ⟨c0_i32_28, v20, c1_i32_30⟩
def k0_off9 (k0_t6 : Fin k0_t6_loop.trips) : Fin 1 → Nat :=
  let c0_i32_28 : BitVec 32 := 0#32
  let c1_i32_30 : BitVec 32 := 1#32
  let arg9 : BitVec 32 := Scf.iv c0_i32_28 c1_i32_30 k0_t6
  let c16_i32 : BitVec 32 := 16#32
  let v22 : BitVec 32 := Scalar.muli arg9 c16_i32
  let v23 : Index := Scalar.indexCast v22
  ![v23.toNat]

def k0_chk5 (v27 : IVec S16 32) : Prop :=
  (∀ a x, ((![v27] : Fin 1 → IVec S16 32) a x).toNat < S10000.size a)
theorem k0_idx5_inb : ∀ (v27 : IVec S16 32) (k0_hw5 : k0_chk5 v27), ∀ a x, ((![v27] : Fin 1 → IVec S16 32) a x).toNat < S10000.size a := fun v27 k0_hw5 => k0_hw5
def k0_off10 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32_32 : BitVec 32 := 10000#32
  let v21 : BitVec 32 := Scalar.muli v1 c10000_i32_32
  ![v21.toNat]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40000_i32 : BitVec 32 := 40000#32
  let v2 : BitVec 32 := Scalar.muli v1 c40000_i32
  ![v2.toNat]
@[reducible] def k2_t1_loop : Scf.Loop 32 :=
  let c0_i32_0 : BitVec 32 := 0#32
  let c2500_i32 : BitVec 32 := 2500#32
  let v4 : BitVec 32 := Scalar.addi c0_i32_0 c2500_i32
  let c1_i32 : BitVec 32 := 1#32
  ⟨c0_i32_0, v4, c1_i32⟩
def k2_off2 (k2_t1 : Fin k2_t1_loop.trips) : Fin 1 → Nat :=
  let c0_i32_0 : BitVec 32 := 0#32
  let c1_i32 : BitVec 32 := 1#32
  let arg11 : BitVec 32 := Scf.iv c0_i32_0 c1_i32 k2_t1
  let c16_i32 : BitVec 32 := 16#32
  let v10 : BitVec 32 := Scalar.muli arg11 c16_i32
  let v11 : Index := Scalar.indexCast v10
  ![v11.toNat]
@[reducible] def k2_t2_loop : Scf.Loop 32 :=
  let c0_i32_6 : BitVec 32 := 0#32
  let c80_i32 : BitVec 32 := 80#32
  let v9 : BitVec 32 := Scalar.addi c0_i32_6 c80_i32
  let c1_i32_7 : BitVec 32 := 1#32
  ⟨c0_i32_6, v9, c1_i32_7⟩
def k2_off3 (k2_t2 : Fin k2_t2_loop.trips) (c0_i32_10 : BitVec 32) : Fin 1 → Nat :=
  let c0_i32_6 : BitVec 32 := 0#32
  let c1_i32_7 : BitVec 32 := 1#32
  let arg11 : BitVec 32 := Scf.iv c0_i32_6 c1_i32_7 k2_t2
  let c2_i32_9 : BitVec 32 := 2#32
  let v10 : BitVec 32 := Scalar.muli arg11 c2_i32_9
  let v11 : BitVec 32 := Scalar.addi v10 c0_i32_10
  let c2000_i32_11 : BitVec 32 := 2000#32
  let v12 : BitVec 32 := Scalar.muli v11 c2000_i32_11
  ![v12.toNat]
@[reducible] def k2_t3_loop : Scf.Loop 32 :=
  let c0_i32_13 : BitVec 32 := 0#32
  let c125_i32 : BitVec 32 := 125#32
  let v15 : BitVec 32 := Scalar.addi c0_i32_13 c125_i32
  let c1_i32_14 : BitVec 32 := 1#32
  ⟨c0_i32_13, v15, c1_i32_14⟩
def k2_off4 (k2_t3 : Fin k2_t3_loop.trips) : Fin 1 → Nat :=
  let c0_i32_13 : BitVec 32 := 0#32
  let c1_i32_14 : BitVec 32 := 1#32
  let arg12 : BitVec 32 := Scf.iv c0_i32_13 c1_i32_14 k2_t3
  let c16_i32 : BitVec 32 := 16#32
  let v30 : BitVec 32 := Scalar.muli arg12 c16_i32
  let v31 : Index := Scalar.indexCast v30
  ![v31.toNat]

def k2_chk1 (v38 : IVec S16 32) : Prop :=
  (∀ a x, ((![v38] : Fin 1 → IVec S16 32) a x).toNat < S40000.size a)
theorem k2_idx1_inb : ∀ (v38 : IVec S16 32) (k2_hw1 : k2_chk1 v38), ∀ a x, ((![v38] : Fin 1 → IVec S16 32) a x).toNat < S40000.size a := fun v38 k2_hw1 => k2_hw1

def k2_chk2 (v41 : IVec S16 32) : Prop :=
  (∀ a x, ((![v41] : Fin 1 → IVec S16 32) a x).toNat < S40000.size a)
theorem k2_idx2_inb : ∀ (v41 : IVec S16 32) (k2_hw2 : k2_chk2 v41), ∀ a x, ((![v41] : Fin 1 → IVec S16 32) a x).toNat < S40000.size a := fun v41 k2_hw2 => k2_hw2

def k2_chk3 (v43 : IVec S16 32) : Prop :=
  (∀ a x, ((![v43] : Fin 1 → IVec S16 32) a x).toNat < S40000.size a)
theorem k2_idx3_inb : ∀ (v43 : IVec S16 32) (k2_hw3 : k2_chk3 v43), ∀ a x, ((![v43] : Fin 1 → IVec S16 32) a x).toNat < S40000.size a := fun v43 k2_hw3 => k2_hw3

def k2_chk4 (v46 : IVec S16 32) : Prop :=
  (∀ a x, ((![v46] : Fin 1 → IVec S16 32) a x).toNat < S40000.size a)
theorem k2_idx4_inb : ∀ (v46 : IVec S16 32) (k2_hw4 : k2_chk4 v46), ∀ a x, ((![v46] : Fin 1 → IVec S16 32) a x).toNat < S40000.size a := fun v46 k2_hw4 => k2_hw4

def k2_chk5 (v48 : IVec S16 32) : Prop :=
  (∀ a x, ((![v48] : Fin 1 → IVec S16 32) a x).toNat < S40000.size a)
theorem k2_idx5_inb : ∀ (v48 : IVec S16 32) (k2_hw5 : k2_chk5 v48), ∀ a x, ((![v48] : Fin 1 → IVec S16 32) a x).toNat < S40000.size a := fun v48 k2_hw5 => k2_hw5

def k2_chk6 (v51 : IVec S16 32) : Prop :=
  (∀ a x, ((![v51] : Fin 1 → IVec S16 32) a x).toNat < S40000.size a)
theorem k2_idx6_inb : ∀ (v51 : IVec S16 32) (k2_hw6 : k2_chk6 v51), ∀ a x, ((![v51] : Fin 1 → IVec S16 32) a x).toNat < S40000.size a := fun v51 k2_hw6 => k2_hw6

def k2_chk7 (v53 : IVec S16 32) : Prop :=
  (∀ a x, ((![v53] : Fin 1 → IVec S16 32) a x).toNat < S40000.size a)
theorem k2_idx7_inb : ∀ (v53 : IVec S16 32) (k2_hw7 : k2_chk7 v53), ∀ a x, ((![v53] : Fin 1 → IVec S16 32) a x).toNat < S40000.size a := fun v53 k2_hw7 => k2_hw7

def k2_chk8 (v56 : IVec S16 32) : Prop :=
  (∀ a x, ((![v56] : Fin 1 → IVec S16 32) a x).toNat < S40000.size a)
theorem k2_idx8_inb : ∀ (v56 : IVec S16 32) (k2_hw8 : k2_chk8 v56), ∀ a x, ((![v56] : Fin 1 → IVec S16 32) a x).toNat < S40000.size a := fun v56 k2_hw8 => k2_hw8
def k2_cond1 (k2_t2 : Fin k2_t2_loop.trips) : BitVec 1 :=
  let c0_i32_6 : BitVec 32 := 0#32
  let c1_i32_7 : BitVec 32 := 1#32
  let arg11 : BitVec 32 := Scf.iv c0_i32_6 c1_i32_7 k2_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_16 : BitVec 32 := 2#32
  let v16 : BitVec 32 := Scalar.addi v11 c2_i32_16
  let c160_i32 : BitVec 32 := 160#32
  let v17 : BitVec 1 := Scalar.cmpi .slt v16 c160_i32
  let v18 : BitVec 32 := Scalar.extui v17
  let c0_i32_17 : BitVec 32 := 0#32
  let v19 : BitVec 1 := Scalar.cmpi .ne v18 c0_i32_17
  v19

def k2_off5 (k2_t2 : Fin k2_t2_loop.trips) : Fin 1 → Nat :=
  let c0_i32_6 : BitVec 32 := 0#32
  let c1_i32_7 : BitVec 32 := 1#32
  let arg11 : BitVec 32 := Scf.iv c0_i32_6 c1_i32_7 k2_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_29 : BitVec 32 := 2#32
  let v30 : BitVec 32 := Scalar.addi v11 c2_i32_29
  let c2000_i32_30 : BitVec 32 := 2000#32
  let v31 : BitVec 32 := Scalar.muli v30 c2000_i32_30
  ![v31.toNat]
@[reducible] def k2_t4_loop : Scf.Loop 32 :=
  let c0_i32_22 : BitVec 32 := 0#32
  let c125_i32_23 : BitVec 32 := 125#32
  let v25 : BitVec 32 := Scalar.addi c0_i32_22 c125_i32_23
  let c1_i32_24 : BitVec 32 := 1#32
  ⟨c0_i32_22, v25, c1_i32_24⟩
def k2_off6 (k2_t4 : Fin k2_t4_loop.trips) : Fin 1 → Nat :=
  let c0_i32_22 : BitVec 32 := 0#32
  let c1_i32_24 : BitVec 32 := 1#32
  let arg12 : BitVec 32 := Scf.iv c0_i32_22 c1_i32_24 k2_t4
  let c16_i32 : BitVec 32 := 16#32
  let v30 : BitVec 32 := Scalar.muli arg12 c16_i32
  let v31 : Index := Scalar.indexCast v30
  ![v31.toNat]

def k2_chk9 (v38 : IVec S16 32) : Prop :=
  (∀ a x, ((![v38] : Fin 1 → IVec S16 32) a x).toNat < S40000.size a)
theorem k2_idx9_inb : ∀ (v38 : IVec S16 32) (k2_hw9 : k2_chk9 v38), ∀ a x, ((![v38] : Fin 1 → IVec S16 32) a x).toNat < S40000.size a := fun v38 k2_hw9 => k2_hw9

def k2_chk10 (v41 : IVec S16 32) : Prop :=
  (∀ a x, ((![v41] : Fin 1 → IVec S16 32) a x).toNat < S40000.size a)
theorem k2_idx10_inb : ∀ (v41 : IVec S16 32) (k2_hw10 : k2_chk10 v41), ∀ a x, ((![v41] : Fin 1 → IVec S16 32) a x).toNat < S40000.size a := fun v41 k2_hw10 => k2_hw10

def k2_chk11 (v43 : IVec S16 32) : Prop :=
  (∀ a x, ((![v43] : Fin 1 → IVec S16 32) a x).toNat < S40000.size a)
theorem k2_idx11_inb : ∀ (v43 : IVec S16 32) (k2_hw11 : k2_chk11 v43), ∀ a x, ((![v43] : Fin 1 → IVec S16 32) a x).toNat < S40000.size a := fun v43 k2_hw11 => k2_hw11

def k2_chk12 (v46 : IVec S16 32) : Prop :=
  (∀ a x, ((![v46] : Fin 1 → IVec S16 32) a x).toNat < S40000.size a)
theorem k2_idx12_inb : ∀ (v46 : IVec S16 32) (k2_hw12 : k2_chk12 v46), ∀ a x, ((![v46] : Fin 1 → IVec S16 32) a x).toNat < S40000.size a := fun v46 k2_hw12 => k2_hw12

def k2_chk13 (v48 : IVec S16 32) : Prop :=
  (∀ a x, ((![v48] : Fin 1 → IVec S16 32) a x).toNat < S40000.size a)
theorem k2_idx13_inb : ∀ (v48 : IVec S16 32) (k2_hw13 : k2_chk13 v48), ∀ a x, ((![v48] : Fin 1 → IVec S16 32) a x).toNat < S40000.size a := fun v48 k2_hw13 => k2_hw13

def k2_chk14 (v51 : IVec S16 32) : Prop :=
  (∀ a x, ((![v51] : Fin 1 → IVec S16 32) a x).toNat < S40000.size a)
theorem k2_idx14_inb : ∀ (v51 : IVec S16 32) (k2_hw14 : k2_chk14 v51), ∀ a x, ((![v51] : Fin 1 → IVec S16 32) a x).toNat < S40000.size a := fun v51 k2_hw14 => k2_hw14

def k2_chk15 (v53 : IVec S16 32) : Prop :=
  (∀ a x, ((![v53] : Fin 1 → IVec S16 32) a x).toNat < S40000.size a)
theorem k2_idx15_inb : ∀ (v53 : IVec S16 32) (k2_hw15 : k2_chk15 v53), ∀ a x, ((![v53] : Fin 1 → IVec S16 32) a x).toNat < S40000.size a := fun v53 k2_hw15 => k2_hw15

def k2_chk16 (v56 : IVec S16 32) : Prop :=
  (∀ a x, ((![v56] : Fin 1 → IVec S16 32) a x).toNat < S40000.size a)
theorem k2_idx16_inb : ∀ (v56 : IVec S16 32) (k2_hw16 : k2_chk16 v56), ∀ a x, ((![v56] : Fin 1 → IVec S16 32) a x).toNat < S40000.size a := fun v56 k2_hw16 => k2_hw16
def k2_cond2 (k2_t2 : Fin k2_t2_loop.trips) : BitVec 1 :=
  let c0_i32_6 : BitVec 32 := 0#32
  let c1_i32_7 : BitVec 32 := 1#32
  let arg11 : BitVec 32 := Scf.iv c0_i32_6 c1_i32_7 k2_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_26 : BitVec 32 := 2#32
  let v26 : BitVec 32 := Scalar.addi v21 c2_i32_26
  let c160_i32_27 : BitVec 32 := 160#32
  let v27 : BitVec 1 := Scalar.cmpi .slt v26 c160_i32_27
  let v28 : BitVec 32 := Scalar.extui v27
  let c0_i32_28 : BitVec 32 := 0#32
  let v29 : BitVec 1 := Scalar.cmpi .ne v28 c0_i32_28
  v29

def k2_off7 (k2_t2 : Fin k2_t2_loop.trips) : Fin 1 → Nat :=
  let c0_i32_6 : BitVec 32 := 0#32
  let c1_i32_7 : BitVec 32 := 1#32
  let arg11 : BitVec 32 := Scf.iv c0_i32_6 c1_i32_7 k2_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_29 : BitVec 32 := 2#32
  let v30 : BitVec 32 := Scalar.addi v21 c2_i32_29
  let c2000_i32_30 : BitVec 32 := 2000#32
  let v31 : BitVec 32 := Scalar.muli v30 c2000_i32_30
  ![v31.toNat]
abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S128x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S128x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40000_i32 : BitVec 32 := 40000#32
  let v2 : BitVec 32 := Scalar.muli v1 c40000_i32
  ![v2.toNat]
@[reducible] def k4_t1_loop : Scf.Loop 32 :=
  let c0_i32_0 : BitVec 32 := 0#32
  let c2500_i32 : BitVec 32 := 2500#32
  let v4 : BitVec 32 := Scalar.addi c0_i32_0 c2500_i32
  let c1_i32 : BitVec 32 := 1#32
  ⟨c0_i32_0, v4, c1_i32⟩
def k4_off2 (k4_t1 : Fin k4_t1_loop.trips) : Fin 1 → Nat :=
  let c0_i32_0 : BitVec 32 := 0#32
  let c1_i32 : BitVec 32 := 1#32
  let arg11 : BitVec 32 := Scf.iv c0_i32_0 c1_i32 k4_t1
  let c16_i32 : BitVec 32 := 16#32
  let v10 : BitVec 32 := Scalar.muli arg11 c16_i32
  let v11 : Index := Scalar.indexCast v10
  ![v11.toNat]
@[reducible] def k4_t2_loop : Scf.Loop 32 :=
  let c0_i32_6 : BitVec 32 := 0#32
  let c80_i32 : BitVec 32 := 80#32
  let v9 : BitVec 32 := Scalar.addi c0_i32_6 c80_i32
  let c1_i32_7 : BitVec 32 := 1#32
  ⟨c0_i32_6, v9, c1_i32_7⟩
def k4_off3 (k4_t2 : Fin k4_t2_loop.trips) (c0_i32_10 : BitVec 32) : Fin 1 → Nat :=
  let c0_i32_6 : BitVec 32 := 0#32
  let c1_i32_7 : BitVec 32 := 1#32
  let arg11 : BitVec 32 := Scf.iv c0_i32_6 c1_i32_7 k4_t2
  let c2_i32_9 : BitVec 32 := 2#32
  let v10 : BitVec 32 := Scalar.muli arg11 c2_i32_9
  let v11 : BitVec 32 := Scalar.addi v10 c0_i32_10
  let c2000_i32_11 : BitVec 32 := 2000#32
  let v12 : BitVec 32 := Scalar.muli v11 c2000_i32_11
  ![v12.toNat]
@[reducible] def k4_t3_loop : Scf.Loop 32 :=
  let c0_i32_13 : BitVec 32 := 0#32
  let c125_i32 : BitVec 32 := 125#32
  let v15 : BitVec 32 := Scalar.addi c0_i32_13 c125_i32
  let c1_i32_14 : BitVec 32 := 1#32
  ⟨c0_i32_13, v15, c1_i32_14⟩
def k4_off4 (k4_t3 : Fin k4_t3_loop.trips) : Fin 1 → Nat :=
  let c0_i32_13 : BitVec 32 := 0#32
  let c1_i32_14 : BitVec 32 := 1#32
  let arg12 : BitVec 32 := Scf.iv c0_i32_13 c1_i32_14 k4_t3
  let c16_i32 : BitVec 32 := 16#32
  let v30 : BitVec 32 := Scalar.muli arg12 c16_i32
  let v31 : Index := Scalar.indexCast v30
  ![v31.toNat]

def k4_chk1 (v38 : IVec S16 32) : Prop :=
  (∀ a x, ((![v38] : Fin 1 → IVec S16 32) a x).toNat < S40000.size a)
theorem k4_idx1_inb : ∀ (v38 : IVec S16 32) (k4_hw1 : k4_chk1 v38), ∀ a x, ((![v38] : Fin 1 → IVec S16 32) a x).toNat < S40000.size a := fun v38 k4_hw1 => k4_hw1

def k4_chk2 (v41 : IVec S16 32) : Prop :=
  (∀ a x, ((![v41] : Fin 1 → IVec S16 32) a x).toNat < S40000.size a)
theorem k4_idx2_inb : ∀ (v41 : IVec S16 32) (k4_hw2 : k4_chk2 v41), ∀ a x, ((![v41] : Fin 1 → IVec S16 32) a x).toNat < S40000.size a := fun v41 k4_hw2 => k4_hw2

def k4_chk3 (v43 : IVec S16 32) : Prop :=
  (∀ a x, ((![v43] : Fin 1 → IVec S16 32) a x).toNat < S40000.size a)
theorem k4_idx3_inb : ∀ (v43 : IVec S16 32) (k4_hw3 : k4_chk3 v43), ∀ a x, ((![v43] : Fin 1 → IVec S16 32) a x).toNat < S40000.size a := fun v43 k4_hw3 => k4_hw3

def k4_chk4 (v46 : IVec S16 32) : Prop :=
  (∀ a x, ((![v46] : Fin 1 → IVec S16 32) a x).toNat < S40000.size a)
theorem k4_idx4_inb : ∀ (v46 : IVec S16 32) (k4_hw4 : k4_chk4 v46), ∀ a x, ((![v46] : Fin 1 → IVec S16 32) a x).toNat < S40000.size a := fun v46 k4_hw4 => k4_hw4

def k4_chk5 (v48 : IVec S16 32) : Prop :=
  (∀ a x, ((![v48] : Fin 1 → IVec S16 32) a x).toNat < S40000.size a)
theorem k4_idx5_inb : ∀ (v48 : IVec S16 32) (k4_hw5 : k4_chk5 v48), ∀ a x, ((![v48] : Fin 1 → IVec S16 32) a x).toNat < S40000.size a := fun v48 k4_hw5 => k4_hw5

def k4_chk6 (v51 : IVec S16 32) : Prop :=
  (∀ a x, ((![v51] : Fin 1 → IVec S16 32) a x).toNat < S40000.size a)
theorem k4_idx6_inb : ∀ (v51 : IVec S16 32) (k4_hw6 : k4_chk6 v51), ∀ a x, ((![v51] : Fin 1 → IVec S16 32) a x).toNat < S40000.size a := fun v51 k4_hw6 => k4_hw6

def k4_chk7 (v53 : IVec S16 32) : Prop :=
  (∀ a x, ((![v53] : Fin 1 → IVec S16 32) a x).toNat < S40000.size a)
theorem k4_idx7_inb : ∀ (v53 : IVec S16 32) (k4_hw7 : k4_chk7 v53), ∀ a x, ((![v53] : Fin 1 → IVec S16 32) a x).toNat < S40000.size a := fun v53 k4_hw7 => k4_hw7

def k4_chk8 (v56 : IVec S16 32) : Prop :=
  (∀ a x, ((![v56] : Fin 1 → IVec S16 32) a x).toNat < S40000.size a)
theorem k4_idx8_inb : ∀ (v56 : IVec S16 32) (k4_hw8 : k4_chk8 v56), ∀ a x, ((![v56] : Fin 1 → IVec S16 32) a x).toNat < S40000.size a := fun v56 k4_hw8 => k4_hw8
def k4_cond1 (k4_t2 : Fin k4_t2_loop.trips) : BitVec 1 :=
  let c0_i32_6 : BitVec 32 := 0#32
  let c1_i32_7 : BitVec 32 := 1#32
  let arg11 : BitVec 32 := Scf.iv c0_i32_6 c1_i32_7 k4_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_16 : BitVec 32 := 2#32
  let v16 : BitVec 32 := Scalar.addi v11 c2_i32_16
  let c160_i32 : BitVec 32 := 160#32
  let v17 : BitVec 1 := Scalar.cmpi .slt v16 c160_i32
  let v18 : BitVec 32 := Scalar.extui v17
  let c0_i32_17 : BitVec 32 := 0#32
  let v19 : BitVec 1 := Scalar.cmpi .ne v18 c0_i32_17
  v19

def k4_off5 (k4_t2 : Fin k4_t2_loop.trips) : Fin 1 → Nat :=
  let c0_i32_6 : BitVec 32 := 0#32
  let c1_i32_7 : BitVec 32 := 1#32
  let arg11 : BitVec 32 := Scf.iv c0_i32_6 c1_i32_7 k4_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_29 : BitVec 32 := 2#32
  let v30 : BitVec 32 := Scalar.addi v11 c2_i32_29
  let c2000_i32_30 : BitVec 32 := 2000#32
  let v31 : BitVec 32 := Scalar.muli v30 c2000_i32_30
  ![v31.toNat]
@[reducible] def k4_t4_loop : Scf.Loop 32 :=
  let c0_i32_22 : BitVec 32 := 0#32
  let c125_i32_23 : BitVec 32 := 125#32
  let v25 : BitVec 32 := Scalar.addi c0_i32_22 c125_i32_23
  let c1_i32_24 : BitVec 32 := 1#32
  ⟨c0_i32_22, v25, c1_i32_24⟩
def k4_off6 (k4_t4 : Fin k4_t4_loop.trips) : Fin 1 → Nat :=
  let c0_i32_22 : BitVec 32 := 0#32
  let c1_i32_24 : BitVec 32 := 1#32
  let arg12 : BitVec 32 := Scf.iv c0_i32_22 c1_i32_24 k4_t4
  let c16_i32 : BitVec 32 := 16#32
  let v30 : BitVec 32 := Scalar.muli arg12 c16_i32
  let v31 : Index := Scalar.indexCast v30
  ![v31.toNat]

def k4_chk9 (v38 : IVec S16 32) : Prop :=
  (∀ a x, ((![v38] : Fin 1 → IVec S16 32) a x).toNat < S40000.size a)
theorem k4_idx9_inb : ∀ (v38 : IVec S16 32) (k4_hw9 : k4_chk9 v38), ∀ a x, ((![v38] : Fin 1 → IVec S16 32) a x).toNat < S40000.size a := fun v38 k4_hw9 => k4_hw9

def k4_chk10 (v41 : IVec S16 32) : Prop :=
  (∀ a x, ((![v41] : Fin 1 → IVec S16 32) a x).toNat < S40000.size a)
theorem k4_idx10_inb : ∀ (v41 : IVec S16 32) (k4_hw10 : k4_chk10 v41), ∀ a x, ((![v41] : Fin 1 → IVec S16 32) a x).toNat < S40000.size a := fun v41 k4_hw10 => k4_hw10

def k4_chk11 (v43 : IVec S16 32) : Prop :=
  (∀ a x, ((![v43] : Fin 1 → IVec S16 32) a x).toNat < S40000.size a)
theorem k4_idx11_inb : ∀ (v43 : IVec S16 32) (k4_hw11 : k4_chk11 v43), ∀ a x, ((![v43] : Fin 1 → IVec S16 32) a x).toNat < S40000.size a := fun v43 k4_hw11 => k4_hw11

def k4_chk12 (v46 : IVec S16 32) : Prop :=
  (∀ a x, ((![v46] : Fin 1 → IVec S16 32) a x).toNat < S40000.size a)
theorem k4_idx12_inb : ∀ (v46 : IVec S16 32) (k4_hw12 : k4_chk12 v46), ∀ a x, ((![v46] : Fin 1 → IVec S16 32) a x).toNat < S40000.size a := fun v46 k4_hw12 => k4_hw12

def k4_chk13 (v48 : IVec S16 32) : Prop :=
  (∀ a x, ((![v48] : Fin 1 → IVec S16 32) a x).toNat < S40000.size a)
theorem k4_idx13_inb : ∀ (v48 : IVec S16 32) (k4_hw13 : k4_chk13 v48), ∀ a x, ((![v48] : Fin 1 → IVec S16 32) a x).toNat < S40000.size a := fun v48 k4_hw13 => k4_hw13

def k4_chk14 (v51 : IVec S16 32) : Prop :=
  (∀ a x, ((![v51] : Fin 1 → IVec S16 32) a x).toNat < S40000.size a)
theorem k4_idx14_inb : ∀ (v51 : IVec S16 32) (k4_hw14 : k4_chk14 v51), ∀ a x, ((![v51] : Fin 1 → IVec S16 32) a x).toNat < S40000.size a := fun v51 k4_hw14 => k4_hw14

def k4_chk15 (v53 : IVec S16 32) : Prop :=
  (∀ a x, ((![v53] : Fin 1 → IVec S16 32) a x).toNat < S40000.size a)
theorem k4_idx15_inb : ∀ (v53 : IVec S16 32) (k4_hw15 : k4_chk15 v53), ∀ a x, ((![v53] : Fin 1 → IVec S16 32) a x).toNat < S40000.size a := fun v53 k4_hw15 => k4_hw15

def k4_chk16 (v56 : IVec S16 32) : Prop :=
  (∀ a x, ((![v56] : Fin 1 → IVec S16 32) a x).toNat < S40000.size a)
theorem k4_idx16_inb : ∀ (v56 : IVec S16 32) (k4_hw16 : k4_chk16 v56), ∀ a x, ((![v56] : Fin 1 → IVec S16 32) a x).toNat < S40000.size a := fun v56 k4_hw16 => k4_hw16
def k4_cond2 (k4_t2 : Fin k4_t2_loop.trips) : BitVec 1 :=
  let c0_i32_6 : BitVec 32 := 0#32
  let c1_i32_7 : BitVec 32 := 1#32
  let arg11 : BitVec 32 := Scf.iv c0_i32_6 c1_i32_7 k4_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_26 : BitVec 32 := 2#32
  let v26 : BitVec 32 := Scalar.addi v21 c2_i32_26
  let c160_i32_27 : BitVec 32 := 160#32
  let v27 : BitVec 1 := Scalar.cmpi .slt v26 c160_i32_27
  let v28 : BitVec 32 := Scalar.extui v27
  let c0_i32_28 : BitVec 32 := 0#32
  let v29 : BitVec 1 := Scalar.cmpi .ne v28 c0_i32_28
  v29

def k4_off7 (k4_t2 : Fin k4_t2_loop.trips) : Fin 1 → Nat :=
  let c0_i32_6 : BitVec 32 := 0#32
  let c1_i32_7 : BitVec 32 := 1#32
  let arg11 : BitVec 32 := Scf.iv c0_i32_6 c1_i32_7 k4_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_29 : BitVec 32 := 2#32
  let v30 : BitVec 32 := Scalar.addi v21 c2_i32_29
  let c2000_i32_30 : BitVec 32 := 2000#32
  let v31 : BitVec 32 := Scalar.muli v30 c2000_i32_30
  ![v31.toNat]
abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S128x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x2048 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S128x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40000_i32 : BitVec 32 := 40000#32
  let v2 : BitVec 32 := Scalar.muli v1 c40000_i32
  ![v2.toNat]
@[reducible] def k6_t1_loop : Scf.Loop 32 :=
  let c0_i32_0 : BitVec 32 := 0#32
  let c2500_i32 : BitVec 32 := 2500#32
  let v4 : BitVec 32 := Scalar.addi c0_i32_0 c2500_i32
  let c1_i32 : BitVec 32 := 1#32
  ⟨c0_i32_0, v4, c1_i32⟩
def k6_off2 (k6_t1 : Fin k6_t1_loop.trips) : Fin 1 → Nat :=
  let c0_i32_0 : BitVec 32 := 0#32
  let c1_i32 : BitVec 32 := 1#32
  let arg11 : BitVec 32 := Scf.iv c0_i32_0 c1_i32 k6_t1
  let c16_i32 : BitVec 32 := 16#32
  let v10 : BitVec 32 := Scalar.muli arg11 c16_i32
  let v11 : Index := Scalar.indexCast v10
  ![v11.toNat]
@[reducible] def k6_t2_loop : Scf.Loop 32 :=
  let c0_i32_6 : BitVec 32 := 0#32
  let c80_i32 : BitVec 32 := 80#32
  let v9 : BitVec 32 := Scalar.addi c0_i32_6 c80_i32
  let c1_i32_7 : BitVec 32 := 1#32
  ⟨c0_i32_6, v9, c1_i32_7⟩
def k6_off3 (k6_t2 : Fin k6_t2_loop.trips) (c0_i32_10 : BitVec 32) : Fin 1 → Nat :=
  let c0_i32_6 : BitVec 32 := 0#32
  let c1_i32_7 : BitVec 32 := 1#32
  let arg11 : BitVec 32 := Scf.iv c0_i32_6 c1_i32_7 k6_t2
  let c2_i32_9 : BitVec 32 := 2#32
  let v10 : BitVec 32 := Scalar.muli arg11 c2_i32_9
  let v11 : BitVec 32 := Scalar.addi v10 c0_i32_10
  let c2000_i32_11 : BitVec 32 := 2000#32
  let v12 : BitVec 32 := Scalar.muli v11 c2000_i32_11
  ![v12.toNat]
@[reducible] def k6_t3_loop : Scf.Loop 32 :=
  let c0_i32_13 : BitVec 32 := 0#32
  let c125_i32 : BitVec 32 := 125#32
  let v15 : BitVec 32 := Scalar.addi c0_i32_13 c125_i32
  let c1_i32_14 : BitVec 32 := 1#32
  ⟨c0_i32_13, v15, c1_i32_14⟩
def k6_off4 (k6_t3 : Fin k6_t3_loop.trips) : Fin 1 → Nat :=
  let c0_i32_13 : BitVec 32 := 0#32
  let c1_i32_14 : BitVec 32 := 1#32
  let arg12 : BitVec 32 := Scf.iv c0_i32_13 c1_i32_14 k6_t3
  let c16_i32 : BitVec 32 := 16#32
  let v30 : BitVec 32 := Scalar.muli arg12 c16_i32
  let v31 : Index := Scalar.indexCast v30
  ![v31.toNat]

def k6_chk1 (v38 : IVec S16 32) : Prop :=
  (∀ a x, ((![v38] : Fin 1 → IVec S16 32) a x).toNat < S40000.size a)
theorem k6_idx1_inb : ∀ (v38 : IVec S16 32) (k6_hw1 : k6_chk1 v38), ∀ a x, ((![v38] : Fin 1 → IVec S16 32) a x).toNat < S40000.size a := fun v38 k6_hw1 => k6_hw1

def k6_chk2 (v41 : IVec S16 32) : Prop :=
  (∀ a x, ((![v41] : Fin 1 → IVec S16 32) a x).toNat < S40000.size a)
theorem k6_idx2_inb : ∀ (v41 : IVec S16 32) (k6_hw2 : k6_chk2 v41), ∀ a x, ((![v41] : Fin 1 → IVec S16 32) a x).toNat < S40000.size a := fun v41 k6_hw2 => k6_hw2

def k6_chk3 (v43 : IVec S16 32) : Prop :=
  (∀ a x, ((![v43] : Fin 1 → IVec S16 32) a x).toNat < S40000.size a)
theorem k6_idx3_inb : ∀ (v43 : IVec S16 32) (k6_hw3 : k6_chk3 v43), ∀ a x, ((![v43] : Fin 1 → IVec S16 32) a x).toNat < S40000.size a := fun v43 k6_hw3 => k6_hw3

def k6_chk4 (v46 : IVec S16 32) : Prop :=
  (∀ a x, ((![v46] : Fin 1 → IVec S16 32) a x).toNat < S40000.size a)
theorem k6_idx4_inb : ∀ (v46 : IVec S16 32) (k6_hw4 : k6_chk4 v46), ∀ a x, ((![v46] : Fin 1 → IVec S16 32) a x).toNat < S40000.size a := fun v46 k6_hw4 => k6_hw4

def k6_chk5 (v48 : IVec S16 32) : Prop :=
  (∀ a x, ((![v48] : Fin 1 → IVec S16 32) a x).toNat < S40000.size a)
theorem k6_idx5_inb : ∀ (v48 : IVec S16 32) (k6_hw5 : k6_chk5 v48), ∀ a x, ((![v48] : Fin 1 → IVec S16 32) a x).toNat < S40000.size a := fun v48 k6_hw5 => k6_hw5

def k6_chk6 (v51 : IVec S16 32) : Prop :=
  (∀ a x, ((![v51] : Fin 1 → IVec S16 32) a x).toNat < S40000.size a)
theorem k6_idx6_inb : ∀ (v51 : IVec S16 32) (k6_hw6 : k6_chk6 v51), ∀ a x, ((![v51] : Fin 1 → IVec S16 32) a x).toNat < S40000.size a := fun v51 k6_hw6 => k6_hw6

def k6_chk7 (v53 : IVec S16 32) : Prop :=
  (∀ a x, ((![v53] : Fin 1 → IVec S16 32) a x).toNat < S40000.size a)
theorem k6_idx7_inb : ∀ (v53 : IVec S16 32) (k6_hw7 : k6_chk7 v53), ∀ a x, ((![v53] : Fin 1 → IVec S16 32) a x).toNat < S40000.size a := fun v53 k6_hw7 => k6_hw7

def k6_chk8 (v56 : IVec S16 32) : Prop :=
  (∀ a x, ((![v56] : Fin 1 → IVec S16 32) a x).toNat < S40000.size a)
theorem k6_idx8_inb : ∀ (v56 : IVec S16 32) (k6_hw8 : k6_chk8 v56), ∀ a x, ((![v56] : Fin 1 → IVec S16 32) a x).toNat < S40000.size a := fun v56 k6_hw8 => k6_hw8
def k6_cond1 (k6_t2 : Fin k6_t2_loop.trips) : BitVec 1 :=
  let c0_i32_6 : BitVec 32 := 0#32
  let c1_i32_7 : BitVec 32 := 1#32
  let arg11 : BitVec 32 := Scf.iv c0_i32_6 c1_i32_7 k6_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_16 : BitVec 32 := 2#32
  let v16 : BitVec 32 := Scalar.addi v11 c2_i32_16
  let c160_i32 : BitVec 32 := 160#32
  let v17 : BitVec 1 := Scalar.cmpi .slt v16 c160_i32
  let v18 : BitVec 32 := Scalar.extui v17
  let c0_i32_17 : BitVec 32 := 0#32
  let v19 : BitVec 1 := Scalar.cmpi .ne v18 c0_i32_17
  v19

def k6_off5 (k6_t2 : Fin k6_t2_loop.trips) : Fin 1 → Nat :=
  let c0_i32_6 : BitVec 32 := 0#32
  let c1_i32_7 : BitVec 32 := 1#32
  let arg11 : BitVec 32 := Scf.iv c0_i32_6 c1_i32_7 k6_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_29 : BitVec 32 := 2#32
  let v30 : BitVec 32 := Scalar.addi v11 c2_i32_29
  let c2000_i32_30 : BitVec 32 := 2000#32
  let v31 : BitVec 32 := Scalar.muli v30 c2000_i32_30
  ![v31.toNat]
@[reducible] def k6_t4_loop : Scf.Loop 32 :=
  let c0_i32_22 : BitVec 32 := 0#32
  let c125_i32_23 : BitVec 32 := 125#32
  let v25 : BitVec 32 := Scalar.addi c0_i32_22 c125_i32_23
  let c1_i32_24 : BitVec 32 := 1#32
  ⟨c0_i32_22, v25, c1_i32_24⟩
def k6_off6 (k6_t4 : Fin k6_t4_loop.trips) : Fin 1 → Nat :=
  let c0_i32_22 : BitVec 32 := 0#32
  let c1_i32_24 : BitVec 32 := 1#32
  let arg12 : BitVec 32 := Scf.iv c0_i32_22 c1_i32_24 k6_t4
  let c16_i32 : BitVec 32 := 16#32
  let v30 : BitVec 32 := Scalar.muli arg12 c16_i32
  let v31 : Index := Scalar.indexCast v30
  ![v31.toNat]

def k6_chk9 (v38 : IVec S16 32) : Prop :=
  (∀ a x, ((![v38] : Fin 1 → IVec S16 32) a x).toNat < S40000.size a)
theorem k6_idx9_inb : ∀ (v38 : IVec S16 32) (k6_hw9 : k6_chk9 v38), ∀ a x, ((![v38] : Fin 1 → IVec S16 32) a x).toNat < S40000.size a := fun v38 k6_hw9 => k6_hw9

def k6_chk10 (v41 : IVec S16 32) : Prop :=
  (∀ a x, ((![v41] : Fin 1 → IVec S16 32) a x).toNat < S40000.size a)
theorem k6_idx10_inb : ∀ (v41 : IVec S16 32) (k6_hw10 : k6_chk10 v41), ∀ a x, ((![v41] : Fin 1 → IVec S16 32) a x).toNat < S40000.size a := fun v41 k6_hw10 => k6_hw10

def k6_chk11 (v43 : IVec S16 32) : Prop :=
  (∀ a x, ((![v43] : Fin 1 → IVec S16 32) a x).toNat < S40000.size a)
theorem k6_idx11_inb : ∀ (v43 : IVec S16 32) (k6_hw11 : k6_chk11 v43), ∀ a x, ((![v43] : Fin 1 → IVec S16 32) a x).toNat < S40000.size a := fun v43 k6_hw11 => k6_hw11

def k6_chk12 (v46 : IVec S16 32) : Prop :=
  (∀ a x, ((![v46] : Fin 1 → IVec S16 32) a x).toNat < S40000.size a)
theorem k6_idx12_inb : ∀ (v46 : IVec S16 32) (k6_hw12 : k6_chk12 v46), ∀ a x, ((![v46] : Fin 1 → IVec S16 32) a x).toNat < S40000.size a := fun v46 k6_hw12 => k6_hw12

def k6_chk13 (v48 : IVec S16 32) : Prop :=
  (∀ a x, ((![v48] : Fin 1 → IVec S16 32) a x).toNat < S40000.size a)
theorem k6_idx13_inb : ∀ (v48 : IVec S16 32) (k6_hw13 : k6_chk13 v48), ∀ a x, ((![v48] : Fin 1 → IVec S16 32) a x).toNat < S40000.size a := fun v48 k6_hw13 => k6_hw13

def k6_chk14 (v51 : IVec S16 32) : Prop :=
  (∀ a x, ((![v51] : Fin 1 → IVec S16 32) a x).toNat < S40000.size a)
theorem k6_idx14_inb : ∀ (v51 : IVec S16 32) (k6_hw14 : k6_chk14 v51), ∀ a x, ((![v51] : Fin 1 → IVec S16 32) a x).toNat < S40000.size a := fun v51 k6_hw14 => k6_hw14

def k6_chk15 (v53 : IVec S16 32) : Prop :=
  (∀ a x, ((![v53] : Fin 1 → IVec S16 32) a x).toNat < S40000.size a)
theorem k6_idx15_inb : ∀ (v53 : IVec S16 32) (k6_hw15 : k6_chk15 v53), ∀ a x, ((![v53] : Fin 1 → IVec S16 32) a x).toNat < S40000.size a := fun v53 k6_hw15 => k6_hw15

def k6_chk16 (v56 : IVec S16 32) : Prop :=
  (∀ a x, ((![v56] : Fin 1 → IVec S16 32) a x).toNat < S40000.size a)
theorem k6_idx16_inb : ∀ (v56 : IVec S16 32) (k6_hw16 : k6_chk16 v56), ∀ a x, ((![v56] : Fin 1 → IVec S16 32) a x).toNat < S40000.size a := fun v56 k6_hw16 => k6_hw16
def k6_cond2 (k6_t2 : Fin k6_t2_loop.trips) : BitVec 1 :=
  let c0_i32_6 : BitVec 32 := 0#32
  let c1_i32_7 : BitVec 32 := 1#32
  let arg11 : BitVec 32 := Scf.iv c0_i32_6 c1_i32_7 k6_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_26 : BitVec 32 := 2#32
  let v26 : BitVec 32 := Scalar.addi v21 c2_i32_26
  let c160_i32_27 : BitVec 32 := 160#32
  let v27 : BitVec 1 := Scalar.cmpi .slt v26 c160_i32_27
  let v28 : BitVec 32 := Scalar.extui v27
  let c0_i32_28 : BitVec 32 := 0#32
  let v29 : BitVec 1 := Scalar.cmpi .ne v28 c0_i32_28
  v29

def k6_off7 (k6_t2 : Fin k6_t2_loop.trips) : Fin 1 → Nat :=
  let c0_i32_6 : BitVec 32 := 0#32
  let c1_i32_7 : BitVec 32 := 1#32
  let arg11 : BitVec 32 := Scf.iv c0_i32_6 c1_i32_7 k6_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_29 : BitVec 32 := 2#32
  let v30 : BitVec 32 := Scalar.addi v21 c2_i32_29
  let c2000_i32_30 : BitVec 32 := 2000#32
  let v31 : BitVec 32 := Scalar.muli v30 c2000_i32_30
  ![v31.toNat]
abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S128x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S128x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S128x2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨2, ![2, 16], ![false, false]⟩

def k8_off1 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c40000_i32 : BitVec 32 := 40000#32
  let v2 : BitVec 32 := Scalar.muli v1 c40000_i32
  ![v2.toNat]
@[reducible] def k8_t1_loop : Scf.Loop 32 :=
  let c0_i32_0 : BitVec 32 := 0#32
  let c2500_i32 : BitVec 32 := 2500#32
  let v4 : BitVec 32 := Scalar.addi c0_i32_0 c2500_i32
  let c1_i32 : BitVec 32 := 1#32
  ⟨c0_i32_0, v4, c1_i32⟩
def k8_off2 (k8_t1 : Fin k8_t1_loop.trips) : Fin 1 → Nat :=
  let c0_i32_0 : BitVec 32 := 0#32
  let c1_i32 : BitVec 32 := 1#32
  let arg11 : BitVec 32 := Scf.iv c0_i32_0 c1_i32 k8_t1
  let c16_i32 : BitVec 32 := 16#32
  let v10 : BitVec 32 := Scalar.muli arg11 c16_i32
  let v11 : Index := Scalar.indexCast v10
  ![v11.toNat]
@[reducible] def k8_t2_loop : Scf.Loop 32 :=
  let c0_i32_6 : BitVec 32 := 0#32
  let c80_i32 : BitVec 32 := 80#32
  let v9 : BitVec 32 := Scalar.addi c0_i32_6 c80_i32
  let c1_i32_7 : BitVec 32 := 1#32
  ⟨c0_i32_6, v9, c1_i32_7⟩
def k8_off3 (k8_t2 : Fin k8_t2_loop.trips) (c0_i32_10 : BitVec 32) : Fin 1 → Nat :=
  let c0_i32_6 : BitVec 32 := 0#32
  let c1_i32_7 : BitVec 32 := 1#32
  let arg11 : BitVec 32 := Scf.iv c0_i32_6 c1_i32_7 k8_t2
  let c2_i32_9 : BitVec 32 := 2#32
  let v10 : BitVec 32 := Scalar.muli arg11 c2_i32_9
  let v11 : BitVec 32 := Scalar.addi v10 c0_i32_10
  let c2000_i32_11 : BitVec 32 := 2000#32
  let v12 : BitVec 32 := Scalar.muli v11 c2000_i32_11
  ![v12.toNat]
@[reducible] def k8_t3_loop : Scf.Loop 32 :=
  let c0_i32_13 : BitVec 32 := 0#32
  let c125_i32 : BitVec 32 := 125#32
  let v15 : BitVec 32 := Scalar.addi c0_i32_13 c125_i32
  let c1_i32_14 : BitVec 32 := 1#32
  ⟨c0_i32_13, v15, c1_i32_14⟩
def k8_off4 (k8_t3 : Fin k8_t3_loop.trips) : Fin 1 → Nat :=
  let c0_i32_13 : BitVec 32 := 0#32
  let c1_i32_14 : BitVec 32 := 1#32
  let arg12 : BitVec 32 := Scf.iv c0_i32_13 c1_i32_14 k8_t3
  let c16_i32 : BitVec 32 := 16#32
  let v30 : BitVec 32 := Scalar.muli arg12 c16_i32
  let v31 : Index := Scalar.indexCast v30
  ![v31.toNat]

def k8_chk1 (v38 : IVec S16 32) : Prop :=
  (∀ a x, ((![v38] : Fin 1 → IVec S16 32) a x).toNat < S40000.size a)
theorem k8_idx1_inb : ∀ (v38 : IVec S16 32) (k8_hw1 : k8_chk1 v38), ∀ a x, ((![v38] : Fin 1 → IVec S16 32) a x).toNat < S40000.size a := fun v38 k8_hw1 => k8_hw1

def k8_chk2 (v41 : IVec S16 32) : Prop :=
  (∀ a x, ((![v41] : Fin 1 → IVec S16 32) a x).toNat < S40000.size a)
theorem k8_idx2_inb : ∀ (v41 : IVec S16 32) (k8_hw2 : k8_chk2 v41), ∀ a x, ((![v41] : Fin 1 → IVec S16 32) a x).toNat < S40000.size a := fun v41 k8_hw2 => k8_hw2

def k8_chk3 (v43 : IVec S16 32) : Prop :=
  (∀ a x, ((![v43] : Fin 1 → IVec S16 32) a x).toNat < S40000.size a)
theorem k8_idx3_inb : ∀ (v43 : IVec S16 32) (k8_hw3 : k8_chk3 v43), ∀ a x, ((![v43] : Fin 1 → IVec S16 32) a x).toNat < S40000.size a := fun v43 k8_hw3 => k8_hw3

def k8_chk4 (v46 : IVec S16 32) : Prop :=
  (∀ a x, ((![v46] : Fin 1 → IVec S16 32) a x).toNat < S40000.size a)
theorem k8_idx4_inb : ∀ (v46 : IVec S16 32) (k8_hw4 : k8_chk4 v46), ∀ a x, ((![v46] : Fin 1 → IVec S16 32) a x).toNat < S40000.size a := fun v46 k8_hw4 => k8_hw4

def k8_chk5 (v48 : IVec S16 32) : Prop :=
  (∀ a x, ((![v48] : Fin 1 → IVec S16 32) a x).toNat < S40000.size a)
theorem k8_idx5_inb : ∀ (v48 : IVec S16 32) (k8_hw5 : k8_chk5 v48), ∀ a x, ((![v48] : Fin 1 → IVec S16 32) a x).toNat < S40000.size a := fun v48 k8_hw5 => k8_hw5

def k8_chk6 (v51 : IVec S16 32) : Prop :=
  (∀ a x, ((![v51] : Fin 1 → IVec S16 32) a x).toNat < S40000.size a)
theorem k8_idx6_inb : ∀ (v51 : IVec S16 32) (k8_hw6 : k8_chk6 v51), ∀ a x, ((![v51] : Fin 1 → IVec S16 32) a x).toNat < S40000.size a := fun v51 k8_hw6 => k8_hw6

def k8_chk7 (v53 : IVec S16 32) : Prop :=
  (∀ a x, ((![v53] : Fin 1 → IVec S16 32) a x).toNat < S40000.size a)
theorem k8_idx7_inb : ∀ (v53 : IVec S16 32) (k8_hw7 : k8_chk7 v53), ∀ a x, ((![v53] : Fin 1 → IVec S16 32) a x).toNat < S40000.size a := fun v53 k8_hw7 => k8_hw7

def k8_chk8 (v56 : IVec S16 32) : Prop :=
  (∀ a x, ((![v56] : Fin 1 → IVec S16 32) a x).toNat < S40000.size a)
theorem k8_idx8_inb : ∀ (v56 : IVec S16 32) (k8_hw8 : k8_chk8 v56), ∀ a x, ((![v56] : Fin 1 → IVec S16 32) a x).toNat < S40000.size a := fun v56 k8_hw8 => k8_hw8
def k8_cond1 (k8_t2 : Fin k8_t2_loop.trips) : BitVec 1 :=
  let c0_i32_6 : BitVec 32 := 0#32
  let c1_i32_7 : BitVec 32 := 1#32
  let arg11 : BitVec 32 := Scf.iv c0_i32_6 c1_i32_7 k8_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_16 : BitVec 32 := 2#32
  let v16 : BitVec 32 := Scalar.addi v11 c2_i32_16
  let c160_i32 : BitVec 32 := 160#32
  let v17 : BitVec 1 := Scalar.cmpi .slt v16 c160_i32
  let v18 : BitVec 32 := Scalar.extui v17
  let c0_i32_17 : BitVec 32 := 0#32
  let v19 : BitVec 1 := Scalar.cmpi .ne v18 c0_i32_17
  v19

def k8_off5 (k8_t2 : Fin k8_t2_loop.trips) : Fin 1 → Nat :=
  let c0_i32_6 : BitVec 32 := 0#32
  let c1_i32_7 : BitVec 32 := 1#32
  let arg11 : BitVec 32 := Scf.iv c0_i32_6 c1_i32_7 k8_t2
  let c2_i32_9 : BitVec 32 := 2#32
  let v10 : BitVec 32 := Scalar.muli arg11 c2_i32_9
  let c0_i32_10 : BitVec 32 := 0#32
  let v11 : BitVec 32 := Scalar.addi v10 c0_i32_10
  let c2_i32_29 : BitVec 32 := 2#32
  let v30 : BitVec 32 := Scalar.addi v11 c2_i32_29
  let c2000_i32_30 : BitVec 32 := 2000#32
  let v31 : BitVec 32 := Scalar.muli v30 c2000_i32_30
  ![v31.toNat]
@[reducible] def k8_t4_loop : Scf.Loop 32 :=
  let c0_i32_22 : BitVec 32 := 0#32
  let c125_i32_23 : BitVec 32 := 125#32
  let v25 : BitVec 32 := Scalar.addi c0_i32_22 c125_i32_23
  let c1_i32_24 : BitVec 32 := 1#32
  ⟨c0_i32_22, v25, c1_i32_24⟩
def k8_off6 (k8_t4 : Fin k8_t4_loop.trips) : Fin 1 → Nat :=
  let c0_i32_22 : BitVec 32 := 0#32
  let c1_i32_24 : BitVec 32 := 1#32
  let arg12 : BitVec 32 := Scf.iv c0_i32_22 c1_i32_24 k8_t4
  let c16_i32 : BitVec 32 := 16#32
  let v30 : BitVec 32 := Scalar.muli arg12 c16_i32
  let v31 : Index := Scalar.indexCast v30
  ![v31.toNat]

def k8_chk9 (v38 : IVec S16 32) : Prop :=
  (∀ a x, ((![v38] : Fin 1 → IVec S16 32) a x).toNat < S40000.size a)
theorem k8_idx9_inb : ∀ (v38 : IVec S16 32) (k8_hw9 : k8_chk9 v38), ∀ a x, ((![v38] : Fin 1 → IVec S16 32) a x).toNat < S40000.size a := fun v38 k8_hw9 => k8_hw9

def k8_chk10 (v41 : IVec S16 32) : Prop :=
  (∀ a x, ((![v41] : Fin 1 → IVec S16 32) a x).toNat < S40000.size a)
theorem k8_idx10_inb : ∀ (v41 : IVec S16 32) (k8_hw10 : k8_chk10 v41), ∀ a x, ((![v41] : Fin 1 → IVec S16 32) a x).toNat < S40000.size a := fun v41 k8_hw10 => k8_hw10

def k8_chk11 (v43 : IVec S16 32) : Prop :=
  (∀ a x, ((![v43] : Fin 1 → IVec S16 32) a x).toNat < S40000.size a)
theorem k8_idx11_inb : ∀ (v43 : IVec S16 32) (k8_hw11 : k8_chk11 v43), ∀ a x, ((![v43] : Fin 1 → IVec S16 32) a x).toNat < S40000.size a := fun v43 k8_hw11 => k8_hw11

def k8_chk12 (v46 : IVec S16 32) : Prop :=
  (∀ a x, ((![v46] : Fin 1 → IVec S16 32) a x).toNat < S40000.size a)
theorem k8_idx12_inb : ∀ (v46 : IVec S16 32) (k8_hw12 : k8_chk12 v46), ∀ a x, ((![v46] : Fin 1 → IVec S16 32) a x).toNat < S40000.size a := fun v46 k8_hw12 => k8_hw12

def k8_chk13 (v48 : IVec S16 32) : Prop :=
  (∀ a x, ((![v48] : Fin 1 → IVec S16 32) a x).toNat < S40000.size a)
theorem k8_idx13_inb : ∀ (v48 : IVec S16 32) (k8_hw13 : k8_chk13 v48), ∀ a x, ((![v48] : Fin 1 → IVec S16 32) a x).toNat < S40000.size a := fun v48 k8_hw13 => k8_hw13

def k8_chk14 (v51 : IVec S16 32) : Prop :=
  (∀ a x, ((![v51] : Fin 1 → IVec S16 32) a x).toNat < S40000.size a)
theorem k8_idx14_inb : ∀ (v51 : IVec S16 32) (k8_hw14 : k8_chk14 v51), ∀ a x, ((![v51] : Fin 1 → IVec S16 32) a x).toNat < S40000.size a := fun v51 k8_hw14 => k8_hw14

def k8_chk15 (v53 : IVec S16 32) : Prop :=
  (∀ a x, ((![v53] : Fin 1 → IVec S16 32) a x).toNat < S40000.size a)
theorem k8_idx15_inb : ∀ (v53 : IVec S16 32) (k8_hw15 : k8_chk15 v53), ∀ a x, ((![v53] : Fin 1 → IVec S16 32) a x).toNat < S40000.size a := fun v53 k8_hw15 => k8_hw15

def k8_chk16 (v56 : IVec S16 32) : Prop :=
  (∀ a x, ((![v56] : Fin 1 → IVec S16 32) a x).toNat < S40000.size a)
theorem k8_idx16_inb : ∀ (v56 : IVec S16 32) (k8_hw16 : k8_chk16 v56), ∀ a x, ((![v56] : Fin 1 → IVec S16 32) a x).toNat < S40000.size a := fun v56 k8_hw16 => k8_hw16
def k8_cond2 (k8_t2 : Fin k8_t2_loop.trips) : BitVec 1 :=
  let c0_i32_6 : BitVec 32 := 0#32
  let c1_i32_7 : BitVec 32 := 1#32
  let arg11 : BitVec 32 := Scf.iv c0_i32_6 c1_i32_7 k8_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_26 : BitVec 32 := 2#32
  let v26 : BitVec 32 := Scalar.addi v21 c2_i32_26
  let c160_i32_27 : BitVec 32 := 160#32
  let v27 : BitVec 1 := Scalar.cmpi .slt v26 c160_i32_27
  let v28 : BitVec 32 := Scalar.extui v27
  let c0_i32_28 : BitVec 32 := 0#32
  let v29 : BitVec 1 := Scalar.cmpi .ne v28 c0_i32_28
  v29

def k8_off7 (k8_t2 : Fin k8_t2_loop.trips) : Fin 1 → Nat :=
  let c0_i32_6 : BitVec 32 := 0#32
  let c1_i32_7 : BitVec 32 := 1#32
  let arg11 : BitVec 32 := Scf.iv c0_i32_6 c1_i32_7 k8_t2
  let c2_i32_18 : BitVec 32 := 2#32
  let v20 : BitVec 32 := Scalar.muli arg11 c2_i32_18
  let c1_i32_19 : BitVec 32 := 1#32
  let v21 : BitVec 32 := Scalar.addi v20 c1_i32_19
  let c2_i32_29 : BitVec 32 := 2#32
  let v30 : BitVec 32 := Scalar.addi v21 c2_i32_29
  let c2000_i32_30 : BitVec 32 := 2000#32
  let v31 : BitVec 32 := Scalar.muli v30 c2000_i32_30
  ![v31.toNat]
abbrev grid9 : Pipeline.Grid := ⟨1, ![5], ![false]⟩

def k9_cond2 (i : grid9.Coords) : BitVec 1 :=
  let arg0 : BitVec 32 := BitVec.ofNat 32 (i 0).val
  let c4_i32 : BitVec 32 := 4#32
  let v46 : BitVec 1 := Scalar.cmpi .eq arg0 c4_i32
  let v47 : BitVec 32 := Scalar.extui v46
  let c0_i32_22 : BitVec 32 := 0#32
  let v48 : BitVec 1 := Scalar.cmpi .ne v47 c0_i32_22
  v48

def cc9_transform_0 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![c0_i32.toNat, arg0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S128x2048 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S128x2048 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1x2048 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x2048 .i32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S128x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x10 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S10000 : Shape := ⟨1, ![10000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S1x128 : Shape := ⟨2, ![1, 128]⟩
abbrev S1x128x128 : Shape := ⟨3, ![1, 128, 128]⟩
abbrev S330000x128 : Shape := ⟨2, ![330000, 128]⟩
abbrev S64x128 : Shape := ⟨2, ![64, 128]⟩
abbrev S10000x1 : Shape := ⟨2, ![10000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 221
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S128x128, .f32⟩
  | 4 => ⟨S128, .f32⟩
  | 5 => ⟨S4x128x128, .f32⟩
  | 6 => ⟨S4x128, .f32⟩
  | 7 => ⟨S128x10, .f32⟩
  | 8 => ⟨S10, .f32⟩
  | 9 => ⟨S1x320000, .i32⟩
  | 10 => ⟨S320000, .i32⟩
  | 11 => ⟨S1x320000, .i32⟩
  | 12 => ⟨S320000, .i32⟩
  | 13 => ⟨S10000, .i32⟩
  | 14 => ⟨S330000, .i32⟩
  | 15 => ⟨S330000, .i32⟩
  | 16 => ⟨S_, .f32⟩
  | 17 => ⟨S10000, .f32⟩
  | 18 => ⟨S_, .i32⟩
  | 19 => ⟨S330000, .i32⟩
  | 20 => ⟨S330000, .i1⟩
  | 21 => ⟨S_, .i32⟩
  | 22 => ⟨S330000, .i32⟩
  | 23 => ⟨S330000, .i32⟩
  | 24 => ⟨S330000, .i32⟩
  | 25 => ⟨S330000x1, .i32⟩
  | 26 => ⟨S_, .f32⟩
  | 27 => ⟨S330000, .f32⟩
  | 28 => ⟨S10000, .f32⟩
  | 29 => ⟨S_, .f32⟩
  | 30 => ⟨S10000, .f32⟩
  | 31 => ⟨S10000, .i1⟩
  | 32 => ⟨S_, .f32⟩
  | 33 => ⟨S10000, .f32⟩
  | 34 => ⟨S10000, .f32⟩
  | 35 => ⟨S10000, .f32⟩
  | 36 => ⟨S_, .f32⟩
  | 37 => ⟨S_, .f32⟩
  | 38 => ⟨S10000, .f32⟩
  | 39 => ⟨S10000, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S_, .i32⟩
  | 50 => ⟨S330000, .i32⟩
  | 51 => ⟨S330000, .i1⟩
  | 52 => ⟨S_, .i32⟩
  | 53 => ⟨S330000, .i32⟩
  | 54 => ⟨S330000, .i32⟩
  | 55 => ⟨S330000, .i32⟩
  | 56 => ⟨S330000x1, .i32⟩
  | 57 => ⟨S330000, .f32⟩
  | 58 => ⟨S330000, .f32⟩
  | 59 => ⟨S10000x128, .f32⟩
  | 60 => ⟨S1x128, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S1x128x128, .f32⟩
  | 67 => ⟨S128x128, .f32⟩
  | 68 => ⟨S10000x128, .f32⟩
  | 69 => ⟨S_, .i32⟩
  | 70 => ⟨S330000, .i32⟩
  | 71 => ⟨S330000, .i1⟩
  | 72 => ⟨S_, .i32⟩
  | 73 => ⟨S330000, .i32⟩
  | 74 => ⟨S330000, .i32⟩
  | 75 => ⟨S330000, .i32⟩
  | 76 => ⟨S330000x1, .i32⟩
  | 77 => ⟨S330000x128, .f32⟩
  | 78 => ⟨S330000x1, .f32⟩
  | 79 => ⟨S330000x128, .f32⟩
  | 80 => ⟨S330000x128, .f32⟩
  | 81 => ⟨S_, .f32⟩
  | 82 => ⟨S10000x128, .f32⟩
  | 83 => ⟨S_, .i32⟩
  | 84 => ⟨S330000, .i32⟩
  | 85 => ⟨S330000, .i1⟩
  | 86 => ⟨S_, .i32⟩
  | 87 => ⟨S330000, .i32⟩
  | 88 => ⟨S330000, .i32⟩
  | 89 => ⟨S330000, .i32⟩
  | 90 => ⟨S330000x1, .i32⟩
  | 91 => ⟨S10000x128, .f32⟩
  | 92 => ⟨S1x128, .f32⟩
  | 93 => ⟨S128, .f32⟩
  | 94 => ⟨S1x128, .f32⟩
  | 95 => ⟨S10000x128, .f32⟩
  | 96 => ⟨S10000x128, .f32⟩
  | 97 => ⟨S_, .f32⟩
  | 98 => ⟨S10000x128, .f32⟩
  | 99 => ⟨S10000x128, .f32⟩
  | 100 => ⟨S1x128x128, .f32⟩
  | 101 => ⟨S128x128, .f32⟩
  | 102 => ⟨S10000x128, .f32⟩
  | 103 => ⟨S_, .i32⟩
  | 104 => ⟨S330000, .i32⟩
  | 105 => ⟨S330000, .i1⟩
  | 106 => ⟨S_, .i32⟩
  | 107 => ⟨S330000, .i32⟩
  | 108 => ⟨S330000, .i32⟩
  | 109 => ⟨S330000, .i32⟩
  | 110 => ⟨S330000x1, .i32⟩
  | 111 => ⟨S330000x128, .f32⟩
  | 112 => ⟨S330000x1, .f32⟩
  | 113 => ⟨S330000x128, .f32⟩
  | 114 => ⟨S330000x128, .f32⟩
  | 115 => ⟨S_, .f32⟩
  | 116 => ⟨S10000x128, .f32⟩
  | 117 => ⟨S_, .i32⟩
  | 118 => ⟨S330000, .i32⟩
  | 119 => ⟨S330000, .i1⟩
  | 120 => ⟨S_, .i32⟩
  | 121 => ⟨S330000, .i32⟩
  | 122 => ⟨S330000, .i32⟩
  | 123 => ⟨S330000, .i32⟩
  | 124 => ⟨S330000x1, .i32⟩
  | 125 => ⟨S10000x128, .f32⟩
  | 126 => ⟨S1x128, .f32⟩
  | 127 => ⟨S128, .f32⟩
  | _ => ⟨S10000x128, .f32⟩

abbrev hbmTy0_1 (i : Nat) : BufTy := match i % 128 with
  | 0 => ⟨S1x128, .f32⟩
  | 1 => ⟨S10000x128, .f32⟩
  | 2 => ⟨S10000x128, .f32⟩
  | 3 => ⟨S_, .f32⟩
  | 4 => ⟨S10000x128, .f32⟩
  | 5 => ⟨S10000x128, .f32⟩
  | 6 => ⟨S1x128x128, .f32⟩
  | 7 => ⟨S128x128, .f32⟩
  | 8 => ⟨S10000x128, .f32⟩
  | 9 => ⟨S_, .i32⟩
  | 10 => ⟨S330000, .i32⟩
  | 11 => ⟨S330000, .i1⟩
  | 12 => ⟨S_, .i32⟩
  | 13 => ⟨S330000, .i32⟩
  | 14 => ⟨S330000, .i32⟩
  | 15 => ⟨S330000, .i32⟩
  | 16 => ⟨S330000x1, .i32⟩
  | 17 => ⟨S330000x128, .f32⟩
  | 18 => ⟨S330000x1, .f32⟩
  | 19 => ⟨S330000x128, .f32⟩
  | 20 => ⟨S330000x128, .f32⟩
  | 21 => ⟨S_, .f32⟩
  | 22 => ⟨S10000x128, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S10000x128, .f32⟩
  | 32 => ⟨S1x128, .f32⟩
  | 33 => ⟨S128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S1x128x128, .f32⟩
  | 41 => ⟨S128x128, .f32⟩
  | 42 => ⟨S10000x128, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000x128, .f32⟩
  | 52 => ⟨S330000x1, .f32⟩
  | 53 => ⟨S330000x128, .f32⟩
  | 54 => ⟨S330000x128, .f32⟩
  | 55 => ⟨S_, .f32⟩
  | 56 => ⟨S10000x128, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S10000x128, .f32⟩
  | 66 => ⟨S1x128, .f32⟩
  | 67 => ⟨S128, .f32⟩
  | 68 => ⟨S1x128, .f32⟩
  | 69 => ⟨S10000x128, .f32⟩
  | 70 => ⟨S10000x128, .f32⟩
  | 71 => ⟨S_, .f32⟩
  | 72 => ⟨S10000x128, .f32⟩
  | 73 => ⟨S10000x128, .f32⟩
  | 74 => ⟨S_, .f32⟩
  | 75 => ⟨S64x128, .f32⟩
  | 76 => ⟨S10000x1, .i32⟩
  | 77 => ⟨S64x128, .f32⟩
  | 78 => ⟨S_, .f32⟩
  | 79 => ⟨S10000x1, .f32⟩
  | 80 => ⟨S_, .f32⟩
  | 81 => ⟨S64x1, .f32⟩
  | 82 => ⟨S10000x1, .i32⟩
  | 83 => ⟨S64x1, .f32⟩
  | 84 => ⟨S_, .f32⟩
  | 85 => ⟨S64x1, .f32⟩
  | 86 => ⟨S64x1, .f32⟩
  | 87 => ⟨S64x128, .f32⟩
  | 88 => ⟨S64x128, .f32⟩
  | 89 => ⟨S64x10, .f32⟩
  | 90 => ⟨S1x10, .f32⟩
  | 91 => ⟨S64x10, .f32⟩
  | 92 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_c_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_c_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_c_17 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_c_19 : Ref sig .tc := ⟨.hbm, 117, rfl⟩
abbrev main_v85 : Ref sig .tc := ⟨.hbm, 118, rfl⟩
abbrev main_v86 : Ref sig .tc := ⟨.hbm, 119, rfl⟩
abbrev main_c_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_21 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_22 : Ref sig .tc := ⟨.hbm, 137, rfl⟩
abbrev main_v102 : Ref sig .tc := ⟨.hbm, 138, rfl⟩
abbrev main_v103 : Ref sig .tc := ⟨.hbm, 139, rfl⟩
abbrev main_c_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_c_25 : Ref sig .tc := ⟨.hbm, 151, rfl⟩
abbrev main_v113 : Ref sig .tc := ⟨.hbm, 152, rfl⟩
abbrev main_v114 : Ref sig .tc := ⟨.hbm, 153, rfl⟩
abbrev main_c_26 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_27 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_c_28 : Ref sig .tc := ⟨.hbm, 171, rfl⟩
abbrev main_v130 : Ref sig .tc := ⟨.hbm, 172, rfl⟩
abbrev main_v131 : Ref sig .tc := ⟨.hbm, 173, rfl⟩
abbrev main_c_29 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_30 : Ref sig .tc := ⟨.hbm, 183, rfl⟩
abbrev main_v140 : Ref sig .tc := ⟨.hbm, 184, rfl⟩
abbrev main_c_31 : Ref sig .tc := ⟨.hbm, 185, rfl⟩
abbrev main_v141 : Ref sig .tc := ⟨.hbm, 186, rfl⟩
abbrev main_v142 : Ref sig .tc := ⟨.hbm, 187, rfl⟩
abbrev main_c_32 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_33 : Ref sig .tc := ⟨.hbm, 199, rfl⟩
abbrev main_v153 : Ref sig .tc := ⟨.hbm, 200, rfl⟩
abbrev main_v154 : Ref sig .tc := ⟨.hbm, 201, rfl⟩
abbrev main_cst_34 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_cst_35 : Ref sig .tc := ⟨.hbm, 206, rfl⟩
abbrev main_v158 : Ref sig .tc := ⟨.hbm, 207, rfl⟩
abbrev main_cst_36 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_37 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩

abbrev nD : Nat := 1
abbrev τ : Topo := Topo.v7x

variable {F : FTy → Type} [FloatOps F]
-- ==== Proof.Own.lean ====
/-
  Rules for memory operations of one thread over memrefs owned at what they READ (`owns c m q X`): a load of a
  rectangle, a store, a gather and a scatter of tile memory, a local transfer and its wait. They say what the rules of
  the library say over raw buffer contents, with the contents replaced by functions of the memref's own indices.
-/
module

public import Idealize.ShloMosaic.Lib.Transfers
public import Idealize.ShloMosaic.Lib.Memref
public import Idealize.ShloMosaic.Lib.MemrefSat
public import Idealize.ShloMosaic.Lib.SparseCore.Ops
public import Idealize.ShloMosaic.Lib.Tactic

@[expose] public section

noncomputable section

namespace Cert.Proof.Own

open Idealize.ShloMosaic Idealize.ShloMosaic.Transfers
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {F : FTy → Type}
variable {Ix : Type} [DecidableEq Ix] {Name : Type} [DecidableEq Name] {U : Type} [URA U] {Lvl : Type}

local notation "𝕄" => MT nD τ sig Ix (Elt F) Name U Lvl

variable [Preorder Lvl] {Λ : Labels} {defs : Defs nD τ sig (Elt F) Λ} (𝒱 : Variants) (c : Thread nD τ) (bd : Option 𝒱.V)
variable {α : Type} {s : Shape} {e : EltTy}

/-- A load of a rectangle of a memref owned at `X` continues at `X` on the rectangle. -/
theorem wp_load_owns {Q : α → sProp 𝕄} {cs : CoreSpace} {m : Memref sig c.2.kind cs s e} {r : Rect s} {hl : m.view.LoadsAt r}
    {k : (r.shape.Idx → Elt F e) → Prog (TpuEff nD τ sig (Elt F) Λ c.2) α} {q : PosShare TreeShare} {X : s.Idx → Elt F e} :
    (owns c m q X : sProp 𝕄)
      ⊢ iprop((owns c m q X -∗ wp frame (wpE defs 𝒱 c bd) Set.univ (k (fun i => X (r.emb i))) Q)
        -∗ wp frame (wpE defs 𝒱 c bd) Set.univ (.op (.load m r hl) k) Q) := by
  unfold owns
  iintro ⟨%f, %hf, H⟩ Hk
  iapply (wp_load_rect 𝒱 c bd Set.univ (m := m) (r := r) (S := m.view.set) (m.view.set_slice_subset r)) $$ H
  iintro H
  have he : (m.access r).read (Elt F) f = fun i => X (r.emb i) := by
    funext i; exact congrFun hf (r.emb i)
  rw [he]
  iapply Hk
  iexists f; isplitr
  · ipureintro; exact hf
  iexact H

/-- A load of a rectangle of a memref owned at `X`, at a given reading of it. -/
theorem wp_load_owns_eq {Q : α → sProp 𝕄} {cs : CoreSpace} {m : Memref sig c.2.kind cs s e} {r : Rect s} {hl : m.view.LoadsAt r}
    {k : (r.shape.Idx → Elt F e) → Prog (TpuEff nD τ sig (Elt F) Λ c.2) α} {q : PosShare TreeShare} {X : s.Idx → Elt F e}
    (v : r.shape.Idx → Elt F e) (hv : (fun i => X (r.emb i)) = v) :
    (owns c m q X : sProp 𝕄)
      ⊢ iprop((owns c m q X -∗ wp frame (wpE defs 𝒱 c bd) Set.univ (k v) Q)
        -∗ wp frame (wpE defs 𝒱 c bd) Set.univ (.op (.load m r hl) k) Q) := by
  subst hv
  exact wp_load_owns 𝒱 c bd

/-- A store of a whole rectangle into a memref owned at `X` leaves it at `X` with the rectangle replaced. -/
theorem wp_store_owns {Q : α → sProp 𝕄} {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : s.Idx → Elt F e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (Mk := Finset.univ) (S := m.view.set) (by
    have := m.view.set_slice_subset r
    exact this)) $$ H
  iintro H
  iapply Hk
  iexists _; isplitr
  · ipureintro
    show m.view.read (Elt F) ((m.view.slice r).write (Elt F) f w Finset.univ) = r.overlay X w
    funext j
    by_cases hj : j ∈ r.set
    · obtain ⟨i, rfl⟩ := r.exists_idx_of_mem hj
      change m.view.read (Elt F) _ (r.emb i) = r.overlay X w (r.emb i)
      rw [Rect.overlay_emb, View.read_slice_write_emb r f w (Finset.mem_univ i)]
    · rw [Rect.overlay_of_not_mem _ _ _ hj, View.read_slice_write_of_not_mem r f w _ (by rw [Rect.map_emb_univ]; exact hj), hf]
  iexact H

theorem whole_emb (i : (Rect.whole s).shape.Idx) : (Rect.whole s).emb i = i := by
  funext a; exact Fin.ext (by simp [Rect.emb_apply, Rect.whole])

theorem whole_set : (Rect.whole s).set = Finset.univ := by
  rw [← Rect.map_emb_univ]
  ext j
  simp only [Finset.mem_map, Finset.mem_univ, true_and, iff_true]
  exact ⟨j, whole_emb j⟩

variable [FloatOps F]

/-- A gather of a memref owned at `X` continues at `loadIdx X`. -/
theorem wp_gather_owns {Q : α → sProp 𝕄} {t : Shape} {base : Memref sig c.2.kind .vmem s e} {idxs : Fin s.rank → IVec t 32}
    {h : ∀ a x, (idxs a x).toNat < s.size a} {hl : base.view.Loads} {k : Vec F t e → Prog (TpuEff nD τ sig (Elt F) Λ c.2) α}
    {q : PosShare TreeShare} {X : s.Idx → Elt F e} :
    (owns c base q X : sProp 𝕄)
      ⊢ iprop((owns c base q X -∗ wp frame (wpE defs 𝒱 c bd) Set.univ (k (loadIdx (F := F) (e := e) X idxs h)) Q)
        -∗ wp frame (wpE defs 𝒱 c bd) Set.univ (SparseCore.vectorLoadIdx base idxs h hl >>= k) Q) := by
  unfold owns
  iintro ⟨%f, %hf, H⟩ Hk
  iapply (SparseCore.wp_vectorLoadIdx 𝒱 c bd Set.univ (base := base) (S := base.view.set) (q := q) (f := f)
    (base.view.set_slice_subset (.whole s))) $$ H
  iintro H
  have he : (base.access (.whole s)).read (Elt F) f = X := by
    funext i; exact (congrFun hf ((Rect.whole s).emb i)).trans (congrArg X (whole_emb i))
  rw [he]
  iapply Hk
  iexists f; isplitr
  · ipureintro; exact hf
  iexact H

/-- A scatter into a memref owned at `X` leaves it at `storeIdx X`. -/
theorem wp_scatter_owns {Q : α → sProp 𝕄} {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} :
    (owns c base fullShare X : sProp 𝕄)
      ⊢ iprop((owns c base fullShare (storeIdx (F := F) (e := e) X idxs v mask add h) -∗ wp frame (wpE defs 𝒱 c bd) Set.univ (k ⟨⟩) Q)
        -∗ wp frame (wpE defs 𝒱 c bd) Set.univ (SparseCore.vectorStoreIdx base idxs v mask add h hs >>= k) Q) := by
  have hset : (base.access (.whole s)).set = base.view.set := by
    show (base.view.slice (.whole s)).set = _
    rw [View.set_slice, whole_set]; rfl
  unfold owns
  iintro ⟨%f, %hf, H⟩ Hk
  have he : (base.access (.whole s)).read (Elt F) f = X := by
    funext i; exact (congrFun hf ((Rect.whole s).emb i)).trans (congrArg X (whole_emb i))
  ihave H' := (Entails.of_eq (show (base.view.loc c ↦[base.view.set]{fullShare} f : sProp 𝕄)
      = ((base.access (.whole s)).loc c ↦[(base.access (.whole s)).set]{fullShare} f) by rw [hset])) $$ H
  iapply (SparseCore.wp_vectorStoreIdx 𝒱 c bd Set.univ (base := base)) $$ H'
  iintro H
  iapply Hk
  iexists _; isplitr
  swap
  · iapply (Entails.of_eq (show ((base.access (.whole s)).loc c ↦[(base.access (.whole s)).set]{fullShare} _ : sProp 𝕄)
        = (base.view.loc c ↦[base.view.set]{fullShare} _) by rw [hset]))
    iexact H
  · ipureintro
    rw [he]
    funext j
    have := View.read_slice_write_emb (v := base.view) (Val := Elt F) (.whole s) f
      (storeIdx (F := F) (e := e) X idxs v mask add h) (M := Finset.univ) (x := j) (Finset.mem_univ _)
    rw [whole_emb] at this
    exact this

omit [FloatOps F]

/-! ## Local transfers -/

variable [CountersIn U]

/-- A transfer in flight may be handed more to deliver. -/
theorem flight_frame {sm : SemLoc sig} {ι : Ix} {N : ℕ} {D R' : sProp 𝕄} (EC : UEmb Counters 𝕄) :
    iprop(Flight EC c sm ι N D ∗ R') ⊢ (Flight EC c sm ι N iprop(D ∗ R') : sProp 𝕄) := by
  unfold Flight
  iintro ⟨⟨⟨%R, HR, %hcap, %hpeek⟩, Hcred⟩, HR'⟩
  isplitl [HR HR']
  · iexists iprop(R ∗ R')
    isplitl [HR HR']
    · isplitl [HR] <;> iassumption
    isplit
    · ipureintro
      intro K
      refine Entails.trans ?_ (hcap K)
      iintro ⟨⟨HR, HR'⟩, HK⟩
      isplitl [HR]
      · iexact HR
      iintro ⟨Hv, HD⟩
      iapply HK
      isplitl [Hv]
      · iexact Hv
      isplitl [HD] <;> iassumption
    · ipureintro
      intro K
      refine Entails.trans ?_ (hpeek K)
      iintro ⟨⟨HR, HR'⟩, HK⟩
      isplitl [HR]
      · iexact HR
      iintro HR
      iapply HK
      isplitl [HR] <;> iassumption
  · iexact Hcred

/-- A rectangle overlaid with what was there. -/
theorem overlay_self (r : Rect s) (X : s.Idx → Elt F e) : r.overlay X (fun i => X (r.emb i)) = X := by
  funext j
  by_cases hj : j ∈ r.set
  · obtain ⟨i, rfl⟩ := r.exists_idx_of_mem hj
    exact Rect.overlay_emb r X (fun i => X (r.emb i)) i
  · rw [Rect.overlay_of_not_mem _ _ _ hj]

/-- A local transfer between two memrefs: at the wait the destination holds what was read off the source, and the
    source comes back. -/
theorem wp_dma_owns (EC : UEmb Counters 𝕄) {Q : α → sProp 𝕄} [Infinite Name] [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {X Y : s.Idx → Elt F e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare X ∗ owns c src q X) -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  ihave Hs' := (show owns c src q X ⊢ iprop(∃ g, ⌜src.view.read (Elt F) g = X⌝ ∗ src.view.loc c ↦[src.view.set]{q} g) from .rfl) $$ Hs
  ihave Hd' := (show owns c dst fullShare Y ⊢ iprop(∃ g, ⌜dst.view.read (Elt F) g = Y⌝ ∗ dst.view.loc c ↦[dst.view.set]{fullShare} g) from .rfl) $$ Hd
  icases Hs' with ⟨%fs, %hfs, Hs⟩
  icases Hd' with ⟨%fd, %hfd, Hd⟩
  iapply (wp_dmaLocal EC 𝒱 c bd ι N hN hN0 (Finset.Subset.refl _) (fs := fs) (fd := fd)) $$ [Hs Hd Hv]
  · isplitl [Hs]
    · iexact Hs
    isplitl [Hd] <;> iassumption
  iintro Hf
  iapply Hk
  ihave Hf' := (Flight_mono EC c (sm := sm) (ι := ι) (N := N) (D' := iprop(owns c dst fullShare X ∗ owns c src q X)) (by
    iintro ⟨Hd, Hs⟩
    isplitl [Hd]
    · unfold owns
      iexists _
      isplitr
      swap
      · iexact Hd
      · ipureintro
        rw [View.read_write_univ, ReadAs.apply_same, hfs]
    · unfold owns
      iexists fs
      isplitr
      · ipureintro; exact hfs
      iexact Hs)) $$ Hf
  iexact Hf'

/-- A local transfer out of a rectangle of a memref owned as a whole: the whole comes back at the wait. -/
theorem wp_dmaIn_owns (EC : UEmb Counters 𝕄) {Q : α → sProp 𝕄} [Infinite Name] [EC.LandsIn (upEmb : UEmb _ 𝕄)] {sp sp' : Space}
    {src : Memref sig c.2.kind sp s e} {r : Rect s} {hr : ∀ a, r.stride a = 1}
    {dst : Memref sig c.2.kind sp' r.shape e} {sm : SemLoc sig}
    {hsrc : (src.slice r hr).view.WordExact} {hdst : dst.view.WordExact} {hsem : DmaTarget.Typed (nD := nD) sp sm (.here dst)}
    {k : PUnit → Prog (TpuEff nD τ sig (Elt F) Λ c.2) α} {q : PosShare TreeShare} {X : s.Idx → Elt F e} {Y : r.shape.Idx → Elt F e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare (fun i => X (r.emb i)) ∗ owns c src q X)
            -∗ wp frame (wpE defs 𝒱 c bd) Set.univ (k ⟨⟩) Q)
          -∗ wp frame (wpE defs 𝒱 c bd) Set.univ (.op (.enqueueDma (src.slice r hr) (.here dst) sm hsrc hdst hsem) k) Q) := by
  iintro ⟨Hs, Hd, Hv⟩ Hk
  ihave Hs' := (owns_slice_split (r := r) (hr := hr) c src q X) $$ Hs
  icases Hs' with ⟨Hs, %f, %hf, Hrest⟩
  iapply (wp_dma_owns 𝒱 c bd EC ι N hN hN0) $$ [Hs Hd Hv]
  · isplitl [Hs]
    · iexact Hs
    isplitl [Hd] <;> iassumption
  iintro Hf
  iapply Hk
  ihave Hf := (flight_frame c EC (R' := (src.view.loc c ↦[src.view.set \ (src.slice r hr).view.set]{q} f))) $$ [Hf Hrest]
  · isplitl [Hf] <;> iassumption
  ihave Hf' := (Flight_mono EC c (sm := sm) (ι := ι) (N := N)
      (D' := iprop(owns c dst fullShare (fun i => X (r.emb i)) ∗ owns c src q X)) (by
    iintro ⟨⟨Hd, Hs⟩, Hr⟩
    isplitl [Hd]
    · iexact Hd
    ihave H := (owns_slice_join (r := r) (hr := hr) c src q (fun i => X (r.emb i)) f) $$ [Hs Hr]
    · isplitl [Hs] <;> iassumption
    rw [hf, overlay_self]
    iexact H)) $$ Hf
  iexact Hf'

/-- The wait for a local transfer, by a thread that owes `O`. -/
theorem wp_dmaWait (EC : UEmb Counters 𝕄) {Q : α → sProp 𝕄} [EC.LandsIn (upEmb : UEmb _ 𝕄)] {sp sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(Flight EC c (.dma sem) ι N D ∗ owes c O W ∗ MayWaits c ι O)
      ⊢ iprop((iprop(D ∗ semVal (c, .dma sem) 0 ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  iintro ⟨Hf, HO, Hm⟩ Hk
  iapply (wp_waitLocalO EC 𝒱 c bd (srcw := srcw) ι hN) $$ [Hf HO Hm]
  · isplitl [Hf]
    · iexact Hf
    isplitl [HO]
    · iexact HO
    iapply (MayWaits.elim (.dma sem)) $$ Hm
  iexact Hk

/-- What a thread owes, having waited at `ι` only beyond the waits `W`. -/
def Owing (c : Thread nD τ) (ι : Ix) (O : CellTallies nD τ sig Ix) (W : Waits sig Ix) : sProp 𝕄 :=
  iprop(∃ W', ⌜∀ x ∈ W', x ∈ W ∨ x.2 = ι⌝ ∗ owes c O W')

theorem Owing_intro (ι : Ix) (O : CellTallies nD τ sig Ix) (W : Waits sig Ix) : (owes c O W : sProp 𝕄) ⊢ Owing c ι O W := by
  unfold Owing
  iintro H
  iexists W
  isplitr
  · ipureintro; exact fun x hx => .inl hx
  iexact H

/-- The wait for a local transfer, the thread's waits told only as `Owing`. -/
theorem wp_dmaWaitO (EC : UEmb Counters 𝕄) {Q : α → sProp 𝕄} [EC.LandsIn (upEmb : UEmb _ 𝕄)] {sp sp' : Space} {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (ι : Ix) {N : ℕ} (hN : dstw.view.dmaCredit = N) {D : sProp 𝕄}
    {O : CellTallies nD τ sig Ix} {W : Waits sig Ix} :
    iprop(MayWaits c ι O ∗ Flight EC c (.dma sem) ι N D ∗ Owing c ι O W)
      ⊢ iprop((iprop(D ∗ semVal (c, .dma sem) 0 ∗ Owing c ι O W) -∗ wp frame (wpE defs 𝒱 c bd) Set.univ (k ⟨⟩) Q)
          -∗ wp frame (wpE defs 𝒱 c bd) Set.univ (.op (.waitDma2 sem srcw dstw hsrc hdst) k) Q) := by
  unfold Owing
  iintro ⟨#Hm, Hf, ⟨%W1, %hW, HO⟩⟩ Hk
  iapply (wp_dmaWait 𝒱 c bd EC ι hN) $$ [Hf HO]
  · isplitl [Hf]
    · iexact Hf
    isplitl [HO]
    · iexact HO
    iexact Hm
  iintro ⟨HD, Hs, HO⟩
  iapply Hk
  isplitl [HD]
  · iexact HD
  isplitl [Hs]
  · iexact Hs
  iexists _
  isplitr
  swap
  · iexact HO
  · ipureintro
    intro x hx
    rcases Finset.mem_insert.mp hx with hx | hx
    · exact .inr (hx ▸ rfl)
    · exact hW x hx

/-- A copy of a rectangle of a memref into another memref, enqueued and at once waited for. -/
theorem wp_copyIn (EC : UEmb Counters 𝕄) {Q : α → sProp 𝕄} [Infinite Name] [EC.LandsIn (upEmb : UEmb _ 𝕄)] {sp sp' sp2 sp3 : Space}
    {src : Memref sig c.2.kind sp s e} {r : Rect s} {hr : ∀ a, r.stride a = 1}
    {dst : Memref sig c.2.kind sp' r.shape e} {sem : DmaSem sig}
    {hsrc : (src.slice r hr).view.WordExact} {hdst : dst.view.WordExact} {hsem : DmaTarget.Typed (nD := nD) sp (.dma sem) (.here dst)}
    {s2 s3 : Shape} {e2 e3 : EltTy} {κ' : Kind}
    {srcw : Memref sig c.2.kind sp2 s2 e2} {dstw : Memref sig κ' sp3 s3 e3} {hsw : srcw.view.WordExact} {hdw : dstw.view.WordExact}
    {k : PUnit → Prog (TpuEff nD τ sig (Elt F) Λ c.2) α} {q : PosShare TreeShare} {X : s.Idx → Elt F e} {Y : r.shape.Idx → Elt F e}
    (ι : Ix) (N : ℕ) (hN : dst.view.amount (.dma sem) = N) (hN0 : 0 < N) (hNw : dstw.view.dmaCredit = N)
    (v : r.shape.Idx → Elt F e) (hv : (fun i => X (r.emb i)) = v)
    {O : CellTallies nD τ sig Ix} {W : Waits sig Ix} :
    iprop(MayWaits c ι O ∗ owns c src q X ∗ owns c dst fullShare Y ∗ semVal (c, .dma sem) 0 ∗ Owing c ι O W)
      ⊢ iprop((iprop(owns c src q X ∗ owns c dst fullShare v ∗ semVal (c, .dma sem) 0 ∗ Owing c ι O W)
            -∗ wp frame (wpE defs 𝒱 c bd) Set.univ (k ⟨⟩) Q)
          -∗ wp frame (wpE defs 𝒱 c bd) Set.univ (.op (.enqueueDma (src.slice r hr) (.here dst) (.dma sem) hsrc hdst hsem)
            fun _ => .op (.waitDma2 sem srcw dstw hsw hdw) k) Q) := by
  subst hv
  iintro ⟨#Hm, Hs, Hd, Hv, HO⟩ Hk
  iapply (wp_dmaIn_owns 𝒱 c bd EC ι N hN hN0) $$ [Hs Hd Hv]
  · isplitl [Hs]
    · iexact Hs
    isplitl [Hd] <;> iassumption
  iintro Hf
  iapply (wp_dmaWaitO 𝒱 c bd EC ι hNw) $$ [Hf HO]
  · isplitr
    · iexact Hm
    isplitl [Hf] <;> iassumption
  iintro ⟨⟨Hd, Hs⟩, Hv, HO⟩
  iapply Hk
  isplitl [Hs]
  · iexact Hs
  isplitl [Hd]
  · iexact Hd
  isplitl [Hv] <;> iassumption

/-- A copy between two memrefs, enqueued and at once waited for. -/
theorem wp_copy (EC : UEmb Counters 𝕄) {Q : α → sProp 𝕄} [Infinite Name] [EC.LandsIn (upEmb : UEmb _ 𝕄)] {sp sp' sp2 sp3 : Space}
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {s2 s3 : Shape} {e2 e3 : EltTy} {κ' : Kind}
    {srcw : Memref sig c.2.kind sp2 s2 e2} {dstw : Memref sig κ' sp3 s3 e3} {hsw : srcw.view.WordExact} {hdw : dstw.view.WordExact}
    {k : PUnit → Prog (TpuEff nD τ sig (Elt F) Λ c.2) α} {q : PosShare TreeShare} {X Y : s.Idx → Elt F e}
    (ι : Ix) (N : ℕ) (hN : dst.view.amount (.dma sem) = N) (hN0 : 0 < N) (hNw : dstw.view.dmaCredit = N)
    {O : CellTallies nD τ sig Ix} {W : Waits sig Ix} :
    iprop(MayWaits c ι O ∗ owns c src q X ∗ owns c dst fullShare Y ∗ semVal (c, .dma sem) 0 ∗ Owing c ι O W)
      ⊢ iprop((iprop(owns c src q X ∗ owns c dst fullShare X ∗ semVal (c, .dma sem) 0 ∗ Owing c ι O W)
            -∗ wp frame (wpE defs 𝒱 c bd) Set.univ (k ⟨⟩) Q)
          -∗ wp frame (wpE defs 𝒱 c bd) Set.univ (.op (.enqueueDma src (.here dst) (.dma sem) hsrc hdst hsem)
            fun _ => .op (.waitDma2 sem srcw dstw hsw hdw) k) Q) := by
  iintro ⟨#Hm, Hs, Hd, Hv, HO⟩ Hk
  iapply (wp_dma_owns 𝒱 c bd EC ι N hN hN0) $$ [Hs Hd Hv]
  · isplitl [Hs]
    · iexact Hs
    isplitl [Hd] <;> iassumption
  iintro Hf
  iapply (wp_dmaWaitO 𝒱 c bd EC ι hNw) $$ [Hf HO]
  · isplitr
    · iexact Hm
    isplitl [Hf] <;> iassumption
  iintro ⟨⟨Hd, Hs⟩, Hv, HO⟩
  iapply Hk
  isplitl [Hs]
  · iexact Hs
  isplitl [Hd]
  · iexact Hd
  isplitl [Hv] <;> iassumption

end Cert.Proof.Own

end
-- ==== Proof.Spec.lean ====
/-
  What the SparseCore tiles compute, as functions of array contents and at any float instance: one packed group of 16
  edges gathered and scattered (`aggStep`), the sum over the first groups (`aggAt`), the contents one tile writes.
-/
module

public import Idealize.ShloMosaic.PureOps.ShapeOps
public import Idealize.ShloMosaic.PureOps.Vector
public import Idealize.ShloMosaic.Lib.Memref

@[expose] public section

noncomputable section

namespace Cert.Proof.Spec

open Idealize.ShloMosaic

/-- The vectors' shape. -/
abbrev L16 : Shape := ⟨1, ![16]⟩
/-- A rank-one shape. -/
abbrev A1 (n : ℕ) : Shape := ⟨1, ![n]⟩

/-- The index `k` (modulo the extent) of a rank-one shape. -/
def ix1 (n : ℕ) [NeZero n] (k : ℕ) : (A1 n).Idx := fun a => ⟨k % n, by
  have : a = 0 := Subsingleton.elim _ _
  subst this; exact Nat.mod_lt _ (Nat.pos_of_ne_zero (NeZero.ne n))⟩

theorem ix1_val (n : ℕ) [NeZero n] (k : ℕ) (a : Fin 1) : (ix1 n k a).val = k % n := rfl

theorem idx1_ext {n : ℕ} {i j : (A1 n).Idx} (h : (i 0).val = (j 0).val) : i = j := by
  funext a
  have : a = 0 := Subsingleton.elim _ _
  subst this; exact Fin.ext h

theorem eq_ix1 {n : ℕ} [NeZero n] (i : (A1 n).Idx) (k : ℕ) (h : (i 0).val = k) : i = ix1 n k := by
  apply idx1_ext
  have := (i 0).isLt
  rw [ix1_val, ← h]; exact (Nat.mod_eq_of_lt this).symm

theorem ix1_self {n : ℕ} [NeZero n] (i : (A1 n).Idx) : ix1 n (i 0).val = i := (eq_ix1 i _ rfl).symm

/-! ## The edge words -/

/-- Both ends of the edge packed in a word name nodes. -/
def GoodW (w : BitVec 32) : Prop := (w.sshiftRight' 14#32).toNat < 10000 ∧ (w &&& 16383#32).toNat < 10000

/-- The source lanes of a packed vector, shifted into feature row `o`. -/
def srcIx (o : BitVec 32) (v : IVec L16 32) : IVec L16 32 := addi (shrsi v (broadcast L16 14#32)) (broadcast L16 o)
/-- The destination lanes of a packed vector, shifted into feature row `o`. -/
def dstIx (o : BitVec 32) (v : IVec L16 32) : IVec L16 32 := addi (andi v (broadcast L16 16383#32)) (broadcast L16 o)

theorem srcIx_val (o : BitVec 32) (v : IVec L16 32) (i : L16.Idx) (h : GoodW (v i)) (ho : o.toNat ≤ 30000) :
    (srcIx o v i).toNat = ((v i).sshiftRight' 14#32).toNat + o.toNat := by
  have : srcIx o v i = (v i).sshiftRight' 14#32 + o := rfl
  rw [this, BitVec.toNat_add]
  have := h.1
  omega

theorem dstIx_val (o : BitVec 32) (v : IVec L16 32) (i : L16.Idx) (h : GoodW (v i)) (ho : o.toNat ≤ 30000) :
    (dstIx o v i).toNat = (v i &&& 16383#32).toNat + o.toNat := by
  have : dstIx o v i = (v i &&& 16383#32) + o := rfl
  rw [this, BitVec.toNat_add]
  have := h.2
  omega

/-- Every lane names an element of an array of `n` words. -/
abbrev InB (n : ℕ) (idx : IVec L16 32) : Prop := ∀ a x, ((![idx] : Fin 1 → IVec L16 32) a x).toNat < (A1 n).size a

theorem inB_of {n : ℕ} {idx : IVec L16 32} (h : ∀ x, (idx x).toNat < n) : InB n idx := fun a x => by
  have : a = 0 := Subsingleton.elim _ _
  subst this; exact h x

theorem srcIx_inB (o : BitVec 32) (v : IVec L16 32) (h : ∀ i, GoodW (v i)) (ho : o.toNat ≤ 30000) : InB 40000 (srcIx o v) :=
  inB_of fun x => by rw [srcIx_val o v x (h x) ho]; have := (h x).1; omega
theorem dstIx_inB (o : BitVec 32) (v : IVec L16 32) (h : ∀ i, GoodW (v i)) (ho : o.toNat ≤ 30000) : InB 40000 (dstIx o v) :=
  inB_of fun x => by rw [dstIx_val o v x (h x) ho]; have := (h x).2; omega

variable {F : FTy → Type} [FloatOps F]

/-! ## Gather and scatter, total -/

/-- The gather at index vectors that may be out of range (then anything). -/
def gat {n : ℕ} [NeZero n] (u : Vec F (A1 n) .f32) (idx : IVec L16 32) : Vec F L16 .f32 :=
  if h : InB n idx then loadIdx (F := F) (e := .f32) u ![idx] h else fun _ => u (ix1 n 0)

/-- The adding scatter at index vectors that may be out of range (then nothing). -/
def sca {n : ℕ} (g : Vec F (A1 n) .f32) (idx : IVec L16 32) (v : Vec F L16 .f32) : Vec F (A1 n) .f32 :=
  if h : InB n idx then storeIdx (F := F) (e := .f32) g ![idx] v (fun _ => 1#1) true h else g

theorem gat_eq {n : ℕ} [NeZero n] (u : Vec F (A1 n) .f32) (idx : IVec L16 32) (h : InB n idx) :
    loadIdx (F := F) (e := .f32) u ![idx] h = gat u idx := (dif_pos h).symm
theorem sca_eq {n : ℕ} (g : Vec F (A1 n) .f32) (idx : IVec L16 32) (v : Vec F L16 .f32) (h : InB n idx) :
    storeIdx (F := F) (e := .f32) g ![idx] v (fun _ => 1#1) true h = sca g idx v := (dif_pos h).symm

/-! ## The aggregation of one tile -/

/-- One packed vector: for each of the tile's four feature rows, gather at the sources and add at the destinations. -/
def aggStep (u : Vec F (A1 40000) .f32) (v : IVec L16 32) (g : Vec F (A1 40000) .f32) : Vec F (A1 40000) .f32 :=
  sca (sca (sca (sca g (dstIx 0#32 v) (gat u (srcIx 0#32 v))) (dstIx 10000#32 v) (gat u (srcIx 10000#32 v)))
    (dstIx 20000#32 v) (gat u (srcIx 20000#32 v))) (dstIx 30000#32 v) (gat u (srcIx 30000#32 v))

/-- Group `n` of 16 packed edges. -/
def grp (p : IVec (A1 320000) 32) (n : ℕ) : IVec L16 32 := fun l => p (ix1 320000 (16 * n + (l 0).val))

/-- Chunk `n` of 2000 packed edges. -/
def chunk (p : IVec (A1 320000) 32) (n : ℕ) : IVec (A1 2000) 32 := fun l => p (ix1 320000 (2000 * n + (l 0).val))

/-- What a tile has accumulated after the first `n` groups. -/
def aggAt (u : Vec F (A1 40000) .f32) (p : IVec (A1 320000) 32) : ℕ → Vec F (A1 40000) .f32
  | 0 => broadcast (A1 40000) (Scalar.ofBits .f32 0x00000000#32)
  | n + 1 => aggStep u (grp p n) (aggAt u p n)

/-- The four feature rows of tile number `w`. -/
def rows (ut : Vec F (A1 1280000) .f32) (w : ℕ) : Vec F (A1 40000) .f32 := fun i => ut (ix1 1280000 (40000 * w + (i 0).val))

/-- The aggregated array of all tiles. -/
def aggAll (ut : Vec F (A1 1280000) .f32) (p : IVec (A1 320000) 32) : Vec F (A1 1280000) .f32 := fun k =>
  aggAt (rows ut ((k 0).val / 40000)) p 20000 (ix1 40000 ((k 0).val % 40000))

/-! ## The edge preparation of one tile -/

/-- An edge's word: its source above its destination. -/
def packW (s d : BitVec 32) : BitVec 32 := ori (shli (fun _ : L16.Idx => s) (broadcast L16 14#32)) (fun _ => d) (ix1 16 0)

/-- The packed word of every edge. -/
def packAll (e : IVec (A1 640000) 32) : IVec (A1 320000) 32 := fun k =>
  packW (e (ix1 640000 (k 0).val)) (e (ix1 640000 (320000 + (k 0).val)))

/-- Chunk `c` of the sources of tile `w`. -/
def esrc (e : IVec (A1 640000) 32) (w c : ℕ) : IVec (A1 2000) 32 := fun l => e (ix1 640000 (10000 * w + 2000 * c + (l 0).val))
/-- Chunk `c` of the destinations of tile `w`. -/
def edst (e : IVec (A1 640000) 32) (w c : ℕ) : IVec (A1 2000) 32 := fun l => e (ix1 640000 (320000 + (10000 * w + 2000 * c + (l 0).val)))
/-- Chunk `c` of the packed words of tile `w`. -/
def epack (e : IVec (A1 640000) 32) (w c : ℕ) : IVec (A1 2000) 32 := fun l => packW (esrc e w c l) (edst e w c l)
/-- Group `n` of 16 destinations of tile `w`. -/
def dgrp (e : IVec (A1 640000) 32) (w n : ℕ) : IVec L16 32 := fun l => e (ix1 640000 (320000 + (10000 * w + 16 * n + (l 0).val)))

/-- The counts of tile `w` after `n` groups. -/
def degAt (e : IVec (A1 640000) 32) (w : ℕ) : ℕ → Vec F (A1 10000) .f32
  | 0 => broadcast (A1 10000) (Scalar.ofBits .f32 0x00000000#32)
  | n + 1 => sca (degAt e w n) (dgrp e w n) (broadcast L16 (Scalar.ofBits .f32 0x3F800000#32))

/-- The counts of all tiles, one after the other. -/
def degAll (e : IVec (A1 640000) 32) : Vec F (A1 320000) .f32 := fun k =>
  degAt (F := F) e ((k 0).val / 10000) 625 (ix1 10000 ((k 0).val % 10000))

end Cert.Proof.Spec

end
-- ==== Proof.Kernel.AggEq.lean ====
/-
  The four aggregation calls run one program.
-/
module

public import proofs.«01_k».proof.Proof.Kernel.Agg

@[expose] public section

namespace Cert.Proof.Kernel.Agg

open Cert.Kernel Cert.Kernel.Gen
open Idealize.ShloMosaic

set_option maxRecDepth 65536

theorem cc4_eq {F : FTy → Type} [FloatOps F] : cc4__aggregate (F := F) = cc2__aggregate (F := F) := rfl
theorem cc6_eq {F : FTy → Type} [FloatOps F] : cc6__aggregate (F := F) = cc2__aggregate (F := F) := rfl
theorem cc8_eq {F : FTy → Type} [FloatOps F] : cc8__aggregate (F := F) = cc2__aggregate (F := F) := rfl

end Cert.Proof.Kernel.Agg
-- ==== Proof.Pack.lean ====
/-
  The packed edge words: the two halves of a word are the edge's ends, when these name nodes.
-/
module

public import proofs.«01_k».proof.Proof.Spec

@[expose] public section

namespace Cert.Proof.Spec

open Idealize.ShloMosaic

theorem packW_eq (s d : BitVec 32) : packW s d = (s <<< 14 ||| d) := rfl

theorem packW_toNat (s d : BitVec 32) (hs : s.toNat < 10000) (hd : d.toNat < 10000) : (packW s d).toNat = s.toNat * 16384 + d.toNat := by
  rw [packW_eq, BitVec.toNat_or, BitVec.toNat_shiftLeft]
  have h1 : s.toNat <<< 14 % 2 ^ 32 = s.toNat <<< 14 := by
    rw [Nat.shiftLeft_eq]; omega
  rw [h1, ← Nat.shiftLeft_add_eq_or_of_lt (by omega), Nat.shiftLeft_eq]

theorem packW_src (s d : BitVec 32) (hs : s.toNat < 10000) (hd : d.toNat < 10000) : ((packW s d).sshiftRight' 14#32).toNat = s.toNat := by
  have h := packW_toNat s d hs hd
  have hm : (packW s d).msb = false := by
    rw [BitVec.msb_eq_decide]; simp only [decide_eq_false_iff_not]; omega
  rw [BitVec.sshiftRight_eq', BitVec.sshiftRight_eq_of_msb_false hm, BitVec.toNat_ushiftRight, h, Nat.shiftRight_eq_div_pow]
  rw [show 2 ^ (14#32).toNat = 16384 from rfl]
  omega

theorem packW_dst (s d : BitVec 32) (hs : s.toNat < 10000) (hd : d.toNat < 10000) : (packW s d &&& 16383#32).toNat = d.toNat := by
  have h := packW_toNat s d hs hd
  rw [BitVec.toNat_and, h, show (16383#32).toNat = 2 ^ 14 - 1 from rfl, Nat.and_two_pow_sub_one_eq_mod]
  omega

/-- Packed from ends that name nodes, a word's halves name nodes. -/
theorem goodW_packAll (e : IVec (A1 640000) 32) (he : ∀ k, (e k).toNat < 10000) (j : (A1 320000).Idx) : GoodW (packAll e j) :=
  ⟨by unfold packAll; rw [packW_src _ _ (he _) (he _)]; exact he _, by unfold packAll; rw [packW_dst _ _ (he _) (he _)]; exact he _⟩

end Cert.Proof.Spec
-- ==== Proof.KernelIdeal.Setup.lean ====
/-
  The kernel's launch as the library's launch theorem sees it: labels, body table, termination measure, the resource
  algebra with the handshakes' rounds, the pipelines' rounds and the transfers' counters, and the initial ghost state.
-/
module

public import proofs.«01_k».proof.Defs
public import proofs.«01_k».proof.Proof.Own
public import proofs.«01_k».proof.Proof.Spec
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Rounds
open Idealize.ShloMosaic.Tactic

variable {F : FTy → Type} [FloatOps F]

abbrev ΛP : Labels := Pipeline.Sig Λ₀ (Fin 5) fun p => (pcfgs (F := F) p).Adm
abbrev K : SparseCore.Cfg τ sig (ΛP (F := F)) 5 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 5) (Elt F) ℕ UU ℕ

/-- The handshakes' rounds. -/
abbrev EH : Emb UH (MT nD τ sig (HIx 5) (Elt F) ℕ UU ℕ) := embL
/-- The pipelines' rounds. -/
def EP : Emb UP (MT nD τ sig (HIx 5) (Elt F) ℕ UU ℕ) := (Emb.inl : Emb UP (UP × Counters)).trans embR

instance EP_landsIn : (EP (F := F)).LandsIn (upEmb : UEmb _ (MT nD τ sig (HIx 5) (Elt F) ℕ UU ℕ)) := by
  unfold EP embR; infer_instance

def u₀ (F : FTy → Type) [FloatOps F] : UU := (initOf (K (F := F)).hsCells (K (F := F)).hsToks, (initOf (Pipeline.cells (cfgs) cellOf_inj) (Pipeline.launchToks (cfgs) cellOf_inj), 1))

/-- The pipelines' ghost state of a device. -/
def G (d : Dev nD) : sProp 𝕄 :=
  iprop((bigSep Finset.univ fun p => Pipeline.cellsGhost (cfgs) (EP (F := F)) p d) ∗ bigSep Finset.univ fun p => Pipeline.toksInit (cfgs) (EP (F := F)) p d)

theorem split_u₀ : (ownU (u₀ F) : sProp 𝕄)
    ⊢ |={Set.univ}=> iprop(BI.own ((EH (F := F)) (initOf (K (F := F)).hsCells (K (F := F)).hsToks)) ∗ bigSep Finset.univ (G (F := F))) := by
  unfold u₀
  iintro Hu
  ihave H := (ownU_pair _ _) $$ Hu
  icases H with ⟨HH, HR⟩
  ihave HR := (own_pair_emb embR _ _) $$ HR
  icases HR with ⟨HP, -⟩
  ihave HP := (show BI.own (((Emb.inl : Emb UP (UP × Counters)).trans embR) (initOf (Pipeline.cells (cfgs) cellOf_inj) (Pipeline.launchToks (cfgs) cellOf_inj)) : MT nD τ sig (HIx 5) (Elt F) ℕ UU ℕ) ⊢ _ from
    Pipeline.fund_ghost (cfgs) (EP (F := F)) cellOf_inj) $$ HP
  imod HP with ⟨HA, HB⟩
  imodintro
  isplitl [HH]; · iexact HH
  unfold G
  rw [BI.bigSep_sep']
  isplitl [HA]; · iexact HA
  iexact HB

/-! ## The buffers and semaphores of a tile, listed -/

theorem bigSep_list {M : Type _} [URA M] {I : Type _} [DecidableEq I] {S : Finset I} (l : List I) (hl : l.Nodup) (h : ∀ i ∈ l, i ∈ S) (Φ : I → sProp M) :
    bigSep S Φ = iprop(bigSepL l Φ ∗ bigSep (S \ l.toFinset) Φ) := by
  have hs : l.toFinset ⊆ S := fun i hi => h i (List.mem_toFinset.mp hi)
  conv_lhs => rw [← Finset.union_sdiff_of_subset hs]
  rw [BI.bigSep_union Finset.disjoint_sdiff, BI.bigSep_eq_bigSepL l hl]
  rfl

theorem bigSepL_cons' {M : Type _} [URA M] {I : Type _} (i : I) (l : List I) (Φ : I → sProp M) : bigSepL (i :: l) Φ = iprop(Φ i ∗ bigSepL l Φ) := BI.bigSepL_cons i l Φ
theorem bigSepL_nil' {M : Type _} [URA M] {I : Type _} (Φ : I → sProp M) : bigSepL ([] : List I) Φ = iprop(emp) := BI.bigSepL_nil Φ

theorem ownSems0_list (thr : Thread nD τ) (l : List (SemLoc sig)) (hl : l.Nodup) (h : ∀ s ∈ l, s.isScoped thr.2.kind = true) :
    (ownSems0 thr : sProp 𝕄) = iprop(bigSepL (l.map fun s => ((thr, s) : GSem nD τ sig)) (fun g => semVal g 0)
      ∗ bigSep (ownCells thr \ (l.map fun s => ((thr, s) : GSem nD τ sig)).toFinset) fun g => semVal g 0) := by
  unfold SparseCore.Cfg.ownSems0
  refine bigSep_list _ (hl.map fun a b e => (Prod.mk.inj e).2) (fun g hg => ?_) _
  obtain ⟨s, hs, rfl⟩ := List.mem_map.mp hg
  exact mem_ownCells.mpr ⟨rfl, h s hs⟩

theorem ownBufs_list (d : Dev nD) (p : Proc τ) (l : List (Ref sig p.kind)) (hl : l.Nodup) (h : ∀ b ∈ l, (p.devRef b).owner = .proc p) :
    (ownBufs ((d, p) : Thread nD τ) : sProp 𝕄) = iprop(bigSepL (l.map fun b => p.devRef b) (fun b => iprop(∃ f, ((d, b) : Loc nD τ sig) ↦{fullShare} f))
      ∗ bigSep (ownRefs p \ (l.map fun b => p.devRef b).toFinset) fun b => iprop(∃ f, ((d, b) : Loc nD τ sig) ↦{fullShare} f)) := by
  unfold SparseCore.Cfg.ownBufs
  refine bigSep_list _ (hl.map (Proc.devRef_injective p)) (fun g hg => ?_) _
  obtain ⟨b, hb, rfl⟩ := List.mem_map.mp hg
  exact SparseCore.Cfg.mem_ownRefs_of_owner (h b hb)

end Cert.Proof.KernelIdeal

end
-- ==== Proof.KernelIdeal.Bodies.lean ====
/-
  The five TensorCore bodies over their memrefs owned at what they read: every load and store is of the whole block, so
  a body leaves its inputs as they were and its outputs at the payloads of the inputs.
-/
module

public import proofs.«01_k».proof.Proof.KernelIdeal.Setup

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 5) (Elt F) ℕ UU ℕ

/-! ## Whole-block accesses -/

/-- The rectangle at the origin of the whole extent is every index, itself. -/
theorem unit_emb {S : Shape} (off : Fin S.rank → ℕ) (h : ∀ a, off a + S.size a ≤ S.size a) (j : (Rect.unit (s := S) off S.size h).shape.Idx) :
    (Rect.unit (s := S) off S.size h).emb j = j := by
  funext a
  have := h a
  have h0 : off a = 0 := by omega
  apply Fin.ext
  rw [Rect.emb_apply]
  change off a + 1 * (j a).val = (j a).val
  omega

theorem read_unit {S : Shape} {α : Type} (off : Fin S.rank → ℕ) (h : ∀ a, off a + S.size a ≤ S.size a) (X : S.Idx → α) :
    (fun i => X ((Rect.unit (s := S) off S.size h).emb i)) = X :=
  funext fun i => congrArg X (unit_emb off h i)

theorem overlay_unit {S : Shape} {α : Type} (off : Fin S.rank → ℕ) (h : ∀ a, off a + S.size a ≤ S.size a) (X : S.Idx → α)
    (w : (Rect.unit (s := S) off S.size h).shape.Idx → α) : (Rect.unit (s := S) off S.size h).overlay X w = w := by
  funext j
  have e := Rect.overlay_emb (Rect.unit (s := S) off S.size h) X w j
  rw [unit_emb off h j] at e
  exact e

section
variable {Λ : Labels} {defs : Defs nD τ sig (Elt F) Λ} (𝒱 : Variants) (c : Thread nD τ) (bd : Option 𝒱.V)

/-- A load of a whole block owned at `X` continues at `X`. -/
theorem wp_load_all {α : Type} {Q : α → sProp (MT nD τ sig (HIx 5) (Elt F) ℕ UU ℕ)} {cs : CoreSpace} {S : Shape} {e : EltTy} {m : Memref sig c.2.kind cs S e}
    {off : Fin S.rank → ℕ} {h : ∀ a, off a + S.size a ≤ S.size a} {hl : m.view.LoadsAt (Rect.unit (s := S) off S.size h).toLoadRect}
    {k : ((Rect.unit (s := S) off S.size h).shape.Idx → Elt F e) → Prog (TpuEff nD τ sig (Elt F) Λ c.2) α} {q : PosShare TreeShare} {X : S.Idx → Elt F e} :
    (owns c m q X : sProp 𝕄)
      ⊢ iprop((owns c m q X -∗ wp frame (wpE defs 𝒱 c bd) Set.univ (k X) Q)
        -∗ wp frame (wpE defs 𝒱 c bd) Set.univ (.op (.load m (Rect.unit (s := S) off S.size h).toLoadRect hl) k) Q) :=
  wp_load_owns_eq 𝒱 c bd (r := Rect.unit (s := S) off S.size h) (m := m) (hl := hl) (k := k) (X := X) X (read_unit off h X)

/-- A store of a whole block leaves it at what was stored. -/
theorem wp_store_all {α : Type} {Q : α → sProp (MT nD τ sig (HIx 5) (Elt F) ℕ UU ℕ)} {cs : CoreSpace} {S : Shape} {e : EltTy} {m : Memref sig c.2.kind cs S e}
    {off : Fin S.rank → ℕ} {h : ∀ a, off a + S.size a ≤ S.size a} {w : (Rect.unit (s := S) off S.size h).shape.Idx → Elt F e}
    {hx : (m.access (Rect.unit (s := S) off S.size h)).Stores Finset.univ}
    {hm : (Finset.univ : Finset (Rect.unit (s := S) off S.size h).shape.Idx) = Finset.univ ∨ ∀ a, (Rect.unit (s := S) off S.size h).stride a = 1}
    {k : PUnit → Prog (TpuEff nD τ sig (Elt F) Λ c.2) α} {X : S.Idx → Elt F e} :
    (owns c m fullShare X : sProp 𝕄)
      ⊢ iprop((owns c m fullShare (Val := Elt F) w -∗ wp frame (wpE defs 𝒱 c bd) Set.univ (k ⟨⟩) Q)
        -∗ wp frame (wpE defs 𝒱 c bd) Set.univ (.op (.store m (Rect.unit (s := S) off S.size h) w Finset.univ hx hm) k) Q) := by
  have e := wp_store_owns (defs := defs) 𝒱 c bd (Ix := HIx 5) (Name := ℕ) (U := UU) (Lvl := ℕ) (Q := Q) (m := m) (w := w) (hx := hx) (hm := hm) (k := k) (X := X)
  rw [overlay_unit off h X w] at e
  exact e

end

/-! ## The bodies -/

section
variable (d : Dev nD) (bd : Option 𝒱₀.V)

/-- The preparation of the first layer. -/
theorem wp_prep (i : grid1.Coords) (a1 : Memref sig .tc .vmem S2048x128 .f32) (h1 : a1.IsWhole) (a2 : Memref sig .tc .vmem S128x128 .f32) (h2 : a2.IsWhole)
    (a3 : Memref sig .tc .vmem S128x1 .f32) (h3 : a3.IsWhole) (a4 : Memref sig .tc .vmem S128x128 .f32) (h4 : a4.IsWhole) (a5 : Memref sig .tc .vmem S32x2048 .f32) (h5 : a5.IsWhole)
    (a6 : Memref sig .tc .vmem S128x2048 .f32) (h6 : a6.IsWhole) (a7 : Memref sig .tc .vmem S1x2048 .f32) (h7 : a7.IsWhole)
    (X1 : Vec F S2048x128 .f32) (X2 : Vec F S128x128 .f32) (X3 : Vec F S128x1 .f32) (X4 : Vec F S128x128 .f32) (X5 : Vec F S32x2048 .f32) (X6 : Vec F S128x2048 .f32) (X7 : Vec F S1x2048 .f32)
    (Q : PUnit → sProp (MT nD τ sig (HIx 5) (Elt F) ℕ UU ℕ)) :
    iprop(owns (T d) a1 fullShare X1 ∗ owns (T d) a2 fullShare X2 ∗ owns (T d) a3 fullShare X3 ∗ owns (T d) a4 fullShare X4 ∗ owns (T d) a5 fullShare X5
        ∗ owns (T d) a6 fullShare X6 ∗ owns (T d) a7 fullShare X7
        ∗ ((owns (T d) a1 fullShare X1 ∗ owns (T d) a2 fullShare X2 ∗ owns (T d) a3 fullShare X3 ∗ owns (T d) a4 fullShare X4 ∗ owns (T d) a5 fullShare X5
            ∗ owns (T d) a6 fullShare (Val := Elt F) (k1_pay2 X5 X2 X1 X3 X4) ∗ owns (T d) a7 fullShare (Val := Elt F) (k1_pay1 X5)) -∗ Q ⟨⟩) : sProp 𝕄)
      ⊢ wp frame (wpE defs₀ 𝒱₀ (T d) bd) Set.univ (cc1__prep_body (F := F) i a1 h1 a2 h2 a3 h3 a4 h4 a5 h5 a6 h6 a7 h7) Q := by
  rw [cc1__prep_body_eq_skeleton]
  simp only [cc1__prep_body_skel, Prog.lift, Prog.bind_op, Prog.bind_ret, Prog.pure_eq_ret]
  iintro ⟨H1, H2, H3, H4, H5, H6, H7, Hk⟩
  iapply (wp_load_all 𝒱₀ (T d) bd) $$ H5
  iintro H5
  iapply (wp_load_all 𝒱₀ (T d) bd) $$ H7
  iintro H7
  iapply (wp_store_all 𝒱₀ (T d) bd) $$ H7
  iintro H7
  iapply (wp_load_all 𝒱₀ (T d) bd) $$ H2
  iintro H2
  iapply (wp_load_all 𝒱₀ (T d) bd) $$ H1
  iintro H1
  iapply (wp_load_all 𝒱₀ (T d) bd) $$ H3
  iintro H3
  iapply (wp_load_all 𝒱₀ (T d) bd) $$ H4
  iintro H4
  iapply (wp_load_all 𝒱₀ (T d) bd) $$ H6
  iintro H6
  iapply (wp_store_all 𝒱₀ (T d) bd) $$ H6
  iintro H6
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

/-- A layer's body. -/
theorem wp_layer3 (i : grid3.Coords) (a1 : Memref sig .tc .vmem S128x2048 .f32) (h1 : a1.IsWhole) (a2 : Memref sig .tc .vmem S128x2048 .f32) (h2 : a2.IsWhole)
    (a3 : Memref sig .tc .vmem S1x2048 .f32) (h3 : a3.IsWhole) (a4 : Memref sig .tc .vmem S128x1 .f32) (h4 : a4.IsWhole) (a5 : Memref sig .tc .vmem S128x128 .f32) (h5 : a5.IsWhole)
    (a6 : Memref sig .tc .vmem S128x2048 .f32) (h6 : a6.IsWhole)
    (X1 : Vec F S128x2048 .f32) (X2 : Vec F S128x2048 .f32) (X3 : Vec F S1x2048 .f32) (X4 : Vec F S128x1 .f32) (X5 : Vec F S128x128 .f32) (X6 : Vec F S128x2048 .f32)
    (Q : PUnit → sProp (MT nD τ sig (HIx 5) (Elt F) ℕ UU ℕ)) :
    iprop(owns (T d) a1 fullShare X1 ∗ owns (T d) a2 fullShare X2 ∗ owns (T d) a3 fullShare X3 ∗ owns (T d) a4 fullShare X4 ∗ owns (T d) a5 fullShare X5
        ∗ owns (T d) a6 fullShare X6
        ∗ ((owns (T d) a1 fullShare X1 ∗ owns (T d) a2 fullShare X2 ∗ owns (T d) a3 fullShare X3 ∗ owns (T d) a4 fullShare X4 ∗ owns (T d) a5 fullShare X5
            ∗ owns (T d) a6 fullShare (Val := Elt F) (k3_pay1 X3 X1 X2 X4 X5)) -∗ Q ⟨⟩) : sProp 𝕄)
      ⊢ wp frame (wpE defs₀ 𝒱₀ (T d) bd) Set.univ (cc3__layer_body (F := F) i a1 h1 a2 h2 a3 h3 a4 h4 a5 h5 a6 h6) Q := by
  rw [cc3__layer_body_eq_skeleton]
  simp only [cc3__layer_body_skel, Prog.lift, Prog.bind_op, Prog.bind_ret, Prog.pure_eq_ret]
  iintro ⟨H1, H2, H3, H4, H5, H6, Hk⟩
  iapply (wp_load_all 𝒱₀ (T d) bd) $$ H3
  iintro H3
  iapply (wp_load_all 𝒱₀ (T d) bd) $$ H1
  iintro H1
  iapply (wp_load_all 𝒱₀ (T d) bd) $$ H2
  iintro H2
  iapply (wp_load_all 𝒱₀ (T d) bd) $$ H4
  iintro H4
  iapply (wp_load_all 𝒱₀ (T d) bd) $$ H5
  iintro H5
  iapply (wp_load_all 𝒱₀ (T d) bd) $$ H6
  iintro H6
  iapply (wp_store_all 𝒱₀ (T d) bd) $$ H6
  iintro H6
  rw [wp_ret]; imodintro
  iapply Hk
  isplitl [H1]; · iexact H1
  isplitl [H2]; · iexact H2
  isplitl [H3]; · iexact H3
  isplitl [H4]; · iexact H4
  isplitl [H5]; · iexact H5
  iexact H6

/-- The three layers run one body. -/
theorem layer5_eq : cc5__layer_body (F := F) = cc3__layer_body (F := F) := rfl
theorem layer7_eq : cc7__layer_body (F := F) = cc3__layer_body (F := F) := rfl

/-- The final body's first step clears the accumulators. -/
abbrev first (i : grid9.Coords) : Prop :=
  Scalar.cmpi .ne (Scalar.extui (Scalar.cmpi .eq (BitVec.ofNat 32 (i 0).val) 0#32) : BitVec 32) 0#32 = 1#1

/-- The accumulated sums at a step's start. -/
def sum0 (i : grid9.Coords) (X : Vec F S64x128 .f32) : Vec F S64x128 .f32 := if first i then k9_pay4 (F := F) else X
/-- The accumulated counts at a step's start. -/
def cnt0 (i : grid9.Coords) (X : Vec F S64x1 .f32) : Vec F S64x1 .f32 := if first i then k9_pay5 (F := F) else X
/-- The accumulated sums after a step. -/
def sum1 (i : grid9.Coords) (X1 X2 : Vec F S128x2048 .f32) (X3 : Vec F S1x2048 .f32) (X4 : Vec F S128x1 .f32) (X5 : Vec F S1x2048 .i32) (X : Vec F S64x128 .f32) : Vec F S64x128 .f32 :=
  k9_pay1 (k9_pay7 i X3 X1 X2 X4 X5 (sum0 i X))
/-- The accumulated counts after a step. -/
def cnt1 (i : grid9.Coords) (X5 : Vec F S1x2048 .i32) (X : Vec F S64x1 .f32) : Vec F S64x1 .f32 := k9_pay2 (k9_pay6 i X5) (cnt0 i X)

/-- The final body. -/
theorem wp_final (i : grid9.Coords) (a1 : Memref sig .tc .vmem S128x2048 .f32) (h1 : a1.IsWhole) (a2 : Memref sig .tc .vmem S128x2048 .f32) (h2 : a2.IsWhole)
    (a3 : Memref sig .tc .vmem S1x2048 .f32) (h3 : a3.IsWhole) (a4 : Memref sig .tc .vmem S128x1 .f32) (h4 : a4.IsWhole) (a5 : Memref sig .tc .vmem S1x2048 .i32) (h5 : a5.IsWhole)
    (a6 : Memref sig .tc .vmem S128x10 .f32) (h6 : a6.IsWhole) (a7 : Memref sig .tc .vmem S1x10 .f32) (h7 : a7.IsWhole) (a8 : Memref sig .tc .vmem S64x10 .f32) (h8 : a8.IsWhole)
    (a9 : Memref sig .tc .vmem S64x128 .f32) (h9 : a9.IsWhole) (a10 : Memref sig .tc .vmem S64x1 .f32) (h10 : a10.IsWhole)
    (X1 : Vec F S128x2048 .f32) (X2 : Vec F S128x2048 .f32) (X3 : Vec F S1x2048 .f32) (X4 : Vec F S128x1 .f32) (X5 : Vec F S1x2048 .i32) (X6 : Vec F S128x10 .f32)
    (X7 : Vec F S1x10 .f32) (X8 : Vec F S64x10 .f32) (X9 : Vec F S64x128 .f32) (X10 : Vec F S64x1 .f32)
    (Q : PUnit → sProp (MT nD τ sig (HIx 5) (Elt F) ℕ UU ℕ)) :
    iprop(owns (T d) a1 fullShare X1 ∗ owns (T d) a2 fullShare X2 ∗ owns (T d) a3 fullShare X3 ∗ owns (T d) a4 fullShare X4 ∗ owns (T d) a5 fullShare X5
        ∗ owns (T d) a6 fullShare X6 ∗ owns (T d) a7 fullShare X7 ∗ owns (T d) a8 fullShare X8 ∗ owns (T d) a9 fullShare X9 ∗ owns (T d) a10 fullShare X10
        ∗ ((owns (T d) a1 fullShare X1 ∗ owns (T d) a2 fullShare X2 ∗ owns (T d) a3 fullShare X3 ∗ owns (T d) a4 fullShare X4 ∗ owns (T d) a5 fullShare X5
            ∗ owns (T d) a6 fullShare X6 ∗ owns (T d) a7 fullShare X7
            ∗ owns (T d) a8 fullShare (Val := Elt F) (if k9_cond2 i = 1#1 then k9_pay3 (sum1 i X1 X2 X3 X4 X5 X9) (cnt1 i X5 X10) X6 X7 else X8)
            ∗ owns (T d) a9 fullShare (Val := Elt F) (sum1 i X1 X2 X3 X4 X5 X9) ∗ owns (T d) a10 fullShare (Val := Elt F) (cnt1 i X5 X10)) -∗ Q ⟨⟩) : sProp 𝕄)
      ⊢ wp frame (wpE defs₀ 𝒱₀ (T d) bd) Set.univ (cc9__final_body (F := F) i a1 h1 a2 h2 a3 h3 a4 h4 a5 h5 a6 h6 a7 h7 a8 h8 a9 h9 a10 h10) Q := by
  rw [cc9__final_body_eq_skeleton]
  unfold cc9__final_body_skel
  rw [k9_part1_eq_skeleton]
  unfold k9_part1_skel
  by_cases hf : first i
  case' pos =>
    have e9 : sum0 i X9 = k9_pay4 := if_pos hf
    have e10 : cnt0 i X10 = k9_pay5 := if_pos hf
    simp only [dif_pos hf, Prog.lift, Prog.bind_op, Prog.bind_ret, Prog.pure_eq_ret]
    unfold sum1 cnt1
    rw [e9, e10]
    iintro ⟨H1, H2, H3, H4, H5, H6, H7, H8, H9, H10, Hk⟩
    iapply (wp_load_all 𝒱₀ (T d) bd) $$ H9
    iintro H9
    iapply (wp_store_all 𝒱₀ (T d) bd) $$ H9
    iintro H9
    iapply (wp_load_all 𝒱₀ (T d) bd) $$ H10
    iintro H10
    iapply (wp_store_all 𝒱₀ (T d) bd) $$ H10
    iintro H10
  case' neg =>
    have e9 : sum0 i X9 = X9 := if_neg hf
    have e10 : cnt0 i X10 = X10 := if_neg hf
    simp only [dif_neg hf, Prog.lift, Prog.bind_op, Prog.bind_ret, Prog.pure_eq_ret]
    unfold sum1 cnt1
    rw [e9, e10]
    iintro ⟨H1, H2, H3, H4, H5, H6, H7, H8, H9, H10, Hk⟩
  all_goals
    iapply (wp_load_all 𝒱₀ (T d) bd) $$ H3
    iintro H3
    iapply (wp_load_all 𝒱₀ (T d) bd) $$ H1
    iintro H1
    iapply (wp_load_all 𝒱₀ (T d) bd) $$ H2
    iintro H2
    iapply (wp_load_all 𝒱₀ (T d) bd) $$ H4
    iintro H4
    iapply (wp_load_all 𝒱₀ (T d) bd) $$ H5
    iintro H5
    iapply (wp_load_all 𝒱₀ (T d) bd) $$ H9
    iintro H9
    iapply (wp_load_all 𝒱₀ (T d) bd) $$ H9
    iintro H9
    iapply (wp_store_all 𝒱₀ (T d) bd) $$ H9
    iintro H9
    iapply (wp_load_all 𝒱₀ (T d) bd) $$ H10
    iintro H10
    iapply (wp_load_all 𝒱₀ (T d) bd) $$ H10
    iintro H10
    iapply (wp_store_all 𝒱₀ (T d) bd) $$ H10
    iintro H10
    by_cases h2 : k9_cond2 i = 1#1
    case' pos =>
      rw [dif_pos h2, if_pos h2]
      simp only [Prog.bind_op, Prog.bind_ret]
      iapply (wp_load_all 𝒱₀ (T d) bd) $$ H9
      iintro H9
      iapply (wp_load_all 𝒱₀ (T d) bd) $$ H10
      iintro H10
      iapply (wp_load_all 𝒱₀ (T d) bd) $$ H6
      iintro H6
      iapply (wp_load_all 𝒱₀ (T d) bd) $$ H7
      iintro H7
      iapply (wp_load_all 𝒱₀ (T d) bd) $$ H8
      iintro H8
      iapply (wp_store_all 𝒱₀ (T d) bd) $$ H8
      iintro H8
    case' neg =>
      rw [dif_neg h2, if_neg h2]
      simp only [Prog.bind_op, Prog.bind_ret]
    all_goals
      rw [wp_ret]; imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10

end

end Cert.Proof.KernelIdeal

end
-- ==== Proof.KernelIdeal.Region.lean ====
/-
  A TensorCore region of @main inside the SparseCore launch, generic in the pipeline: from every unscoped buffer at a
  valuation, the core still owing the later calls' starts, to every buffer at a valuation that differs at the pipeline's
  outputs only, which hold what the body's relation allows.
-/
module

public import proofs.«01_k».proof.Proof.KernelIdeal.Setup
public import Idealize.ShloMosaic.Lib.Pipeline.RegionArraysF
public import Idealize.ShloMosaic.Lib.Pipeline.ArrRel
public import Idealize.ShloMosaic.Lib.Pipeline.FrameSuffix

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Pipeline (arrRef arrRefs ucRefs RDat)

variable {F : FTy → Type} [FloatOps F]

local notation "𝕄" => MT nD τ sig (HIx 5) (Elt F) ℕ UU ℕ

abbrev Vl (F : FTy → Type) : Type := Valuation τ sig (Elt F)

/-- The level below which the TensorCore's waits sit after the first `n` calls. -/
abbrev wb (n : ℕ) : ℕ := 8 * SparseCore.Cfg.Blocks.fst (Q := 5) (N := 5) n

/-- What the TensorCore owes between calls: the later calls' starts. -/
def owesB (d : Dev nD) (n : ℕ) : sProp (MT nD τ sig (HIx 5) (Elt F) ℕ UU ℕ) :=
  iprop(∃ W, ⌜(K (F := F)).WBelow (T d) W (wb n)⌝ ∗ owes (T d) ((K (F := F)).Otc d n) W)

/-- Contents that a fetch at point `t` may leave of window `w`. -/
def Fet (cfg : Pipeline.Cfg sig Λ₀) (V : Vl F) (w : Fin cfg.W) (t : Fin cfg.N) (Y : (cfg.win w).block.Idx → Elt F (cfg.win w).elt) : Prop :=
  ∃ d, Y = (cfg.win w).fill (cfg.grid.coords t) d (((cfg.win w).blk t).view.read (Elt F) (V (Proc.devRef .tc (arrRef cfg.spec w))))

/-- Relational proof data of a pipeline entered at the valuation `V` after `n` calls. -/
def rdat (cfg : Pipeline.Cfg sig Λ₀) (V : Vl F) (n : ℕ)
    (after : (w : Fin cfg.W) → Fin cfg.N → (Y X : (cfg.win w).block.Idx → Elt F (cfg.win w).elt) → Prop)
    (Φ : Dev nD → Fin (cfg.N + 1) → sProp (MT nD τ sig (HIx 5) (Elt F) ℕ UU ℕ)) (c : Dev nD) : RDat τ (Elt F) (HIx 5) ℕ UU ℕ cfg c where
  A w := V (Proc.devRef .tc (arrRef cfg.spec w))
  after := after
  Φ := Φ c
  q _ := fullShare
  owed _ := (K (F := F)).Otc c n
  recorded _ := {p | (K (F := F)).lev (T c, p.1) p.2 ≤ wb n}

theorem Otc_none (d : Dev nD) (n : ℕ) (g : GSem nD τ sig) : (K (F := F)).Otc (N := 5) d n g none = 0 := by
  by_contra h
  have := SparseCore.Cfg.lev_of_Otc_pos (K := K (F := F)) (Nat.pos_of_ne_zero h)
  rw [SparseCore.Cfg.lev_none] at this
  omega

/-- The proof data with the body's relation dropped: what holds its arrays. -/
def datOf {cfg : Pipeline.Cfg sig Λ₀} {c : Dev nD} (rd : RDat τ (Elt F) (HIx 5) ℕ UU ℕ cfg c) : Pipeline.Dat τ (Elt F) (HIx 5) ℕ UU ℕ cfg c :=
  rd.withAfter fun _ _ _ => Classical.arbitrary _

theorem arrays_datOf {cfg : Pipeline.Cfg sig Λ₀} {c : Dev nD} (rd : RDat τ (Elt F) (HIx 5) ℕ UU ℕ cfg c) (A) :
    (rd.arrays A : sProp 𝕄) = (datOf rd).arrays A := rfl

theorem withArrays_off {gr W : ℕ} (win : Fin W → Pipeline.WinSpec sig gr) (c : Dev nD) (V : Vl F)
    (A : (w : Fin W) → Buf (Elt F) ((win w).arr.view.loc (c.tc : Thread nD τ))) (b : DevRef τ sig) (hb : b ∉ arrRefs (τ := τ) win) :
    Pipeline.withArrays win c V A b = V b := by
  unfold Pipeline.withArrays
  rw [dif_neg]
  rintro ⟨w, rfl⟩
  exact hb (Finset.mem_map.mpr ⟨_, Finset.mem_image.mpr ⟨w, Finset.mem_univ w, rfl⟩, rfl⟩)

theorem arrays_some {cfg : Pipeline.Cfg sig Λ₀} {c : Dev nD} (rd : RDat τ (Elt F) (HIx 5) ℕ UU ℕ cfg c) (n : ℕ) :
    (rd.arraysAt n : sProp 𝕄) ⊢ iprop(∃ A, ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

variable (rds : (p : Fin 5) → (c : Dev nD) → RDat τ (Elt F) (HIx 5) ℕ UU ℕ (cfgs p) c)

/-- The region's record. -/
def regionSeg (p : Fin 5) (kit : Pipeline.LaunchFacts (nD := nD) (τ := τ) cfgs p) (V : Vl F) (n : ℕ) (Sx : Finset (DevRef τ sig))
    (hsub : arrRefs (τ := τ) (cfgs p).spec ⊆ Sx) (hK : (pcfgs (F := F) p).pre.K = 0)
    (hA : ∀ c w, (rds p c).A w = V (Proc.devRef .tc (arrRef (cfgs p).spec w)))
    (hq : ∀ c w, (rds p c).q w = fullShare)
    (ho : ∀ c t, (rds p c).owed t = (K (F := F)).Otc c n)
    (hr : ∀ c t, (rds p c).recorded t = {x | (K (F := F)).lev (T c, x.1) x.2 ≤ wb n})
    (hb : ∀ c, (rds p c).BodyObligation defs₀ 𝒱₀ none Set.univ)
    (hin : ∀ c, (Pipeline.scopedRest (cfgs p).spec c : sProp 𝕄) ⊢ (rds p c).Φ 0)
    (hout : ∀ c, (rds p c).Φ (Fin.last (cfgs p).N) ⊢ (Pipeline.scopedRest (cfgs p).spec c : sProp 𝕄)) :
    RDat.RegionSeg (pcfgs (F := F)) (fun q => (cfgs q).toPCfg_adm) rds none defs₀ 𝒱₀ (K (F := F)).L (K (F := F)).lev p where
  win := kit.win.to₀
  block_pos := kit.block_pos
  stage_whole := kit.stage_whole
  K := PEmpty
  osem := fun k => k.elim
  ho := Pipeline.OwnSemFacts.none _
  hbody := hb
  hwaits c := Pipeline.RDat.cellsWaits_intro _ _ none p c fun w s t => by
    rw [ho c t]
    exact (K (F := F)).mayWait_none _ (Otc_none c n)
  pre c := iprop(StableHlo.held (T c) Sx V ∗ owesB c n)
  post c := iprop(∃ V', ⌜(∀ w, (rds p c).ArrAt w (cfgs p).N (V' (Proc.devRef .tc (arrRef (cfgs p).spec w)))) ∧ ∀ b, b ∉ arrRefs (cfgs p).spec → V' b = V b⌝
    ∗ StableHlo.held (T c) Sx V' ∗ owesB c n)
  X c := iprop(emp)
  Y c := iprop(emp)
  Z c := StableHlo.held (T c) (Sx \ arrRefs (cfgs p).spec) V
  hentry c := by
    have hs : ∀ w, (rds p c).share w = fullShare := fun w => by
      unfold RDat.share; split
      · rfl
      · exact hq c w
    show _ ⊢ |={Set.univ}=> iprop((datOf (rds p c)).arrays (rds p c).A ∗ Pipeline.prefHeld (pcfgs (F := F) p).pre c (fun _ => fullShare) _
        ∗ (rds p c).owesAt none 0 ∗ _ ∗ _)
    rw [Pipeline.prefHeld_of_none _ hK, Pipeline.arrays_held (pcfgs (F := F)) (fun q => (cfgs q).toPCfg_adm) (fun p c => datOf (rds p c)) p kit.toP c hs (rds p c).A V (hA c),
      StableHlo.held_sub_split (T c) hsub V]
    unfold RDat.owesAt Pipeline.owesWithin RDat.bound owesB
    rw [ho c 0, hr c 0]
    iintro ⟨⟨⟨Ha, Hr⟩, %W, %hW, HO⟩, -, -⟩
    imodintro
    isplitl [Ha]; · iexact Ha
    isplitr; · iempintro
    isplitl [HO]
    · iexists W; isplitr
      · ipureintro; exact fun x hx => Or.inl (hW x hx)
      iexact HO
    isplitr; · iempintro
    iexact Hr
  hin c := by
    refine Entails.trans ?_ (hin c)
    iintro ⟨-, -, H⟩; iexact H
  hout c := by
    refine (hout c).trans ?_
    rw [Pipeline.ownSems0_none]
    iintro H
    isplitr; · iempintro
    isplitr; · iempintro
    iexact H
  hexit c := by
    have hs : ∀ w, (rds p c).share w = fullShare := fun w => by
      unfold RDat.share; split
      · rfl
      · exact hq c w
    have hcl : ∀ A, (∀ w, Pipeline.withArrays (cfgs p).spec c V A (Proc.devRef .tc (arrRef (cfgs p).spec w)) = A w) →
        (iprop((rds p c).arrays A ∗ StableHlo.held (T c) (Sx \ arrRefs (cfgs p).spec) V) : sProp (MT nD τ sig (HIx 5) (Elt F) ℕ UU ℕ))
          ⊢ StableHlo.held (T c) Sx (Pipeline.withArrays (cfgs p).spec c V A) := fun A hw => by
      rw [StableHlo.held_sub_split (T c) hsub (Pipeline.withArrays (cfgs p).spec c V A), arrays_datOf,
        Pipeline.arrays_held (pcfgs (F := F)) (fun q => (cfgs q).toPCfg_adm) (fun p c => datOf (rds p c)) p kit.toP c hs A _ (fun w => (hw w).symm),
        StableHlo.held_congr (T c) (S := Sx \ arrRefs (cfgs p).spec) (V := Pipeline.withArrays (cfgs p).spec c V A) (V' := V) (fun b hb => withArrays_off _ c V A b (Finset.mem_sdiff.mp hb).2)]
    unfold owesB RDat.owesAt Pipeline.owesWithin RDat.bound
    rw [ho c (Fin.last _), hr c (Fin.last _)]
    iintro ⟨Ha, HO, -, Hr⟩
    ihave Ha := (arrays_some (rds p c) _) $$ Ha
    icases Ha with ⟨%A, %hA, Ha⟩
    imodintro
    have hw := Pipeline.withArrays_arr (cfgs p).spec kit.win.arr_inj c V A
    iexists (Pipeline.withArrays (cfgs p).spec c V A)
    isplitr
    · ipureintro
      refine ⟨fun w => ?_, fun b hb => withArrays_off _ c V A b hb⟩
      rw [hw w]; exact hA w
    isplitl [Ha Hr]
    · iapply (hcl A hw)
      isplitl [Ha]; · iexact Ha
      iexact Hr
    icases HO with ⟨%W, %hW, HO⟩
    iexists W; isplitr
    · ipureintro
      intro x hx
      rcases hW hx with h | ⟨w, s, h⟩
      · exact h
      · rw [h, SparseCore.Cfg.lev_none]; exact Nat.zero_le _
    iexact HO

/-- A region of @main, lifted to the launch's program: from the boundary, every unscoped buffer at `V`, what is owed and the
    pipeline's ghost state, to every buffer at a valuation that the relation allows. -/
theorem wp_region (p : Fin 5) (V : Vl F) (n : ℕ) (d : Dev nD)
    (R : RDat.RegionSeg (pcfgs (F := F)) (fun q => (cfgs q).toPCfg_adm) rds none defs₀ 𝒱₀ (K (F := F)).L (K (F := F)).lev p)
    (Φ : PUnit → sProp (MT nD τ sig (HIx 5) (Elt F) ℕ UU ℕ)) :
    iprop(boundary (T d) ∗ R.pre d ∗ levAts (K (F := F)).L (K (F := F)).lev
        ∗ Pipeline.cellsGhost cfgs (EP (F := F)) p d ∗ Pipeline.toksInit cfgs (EP (F := F)) p d
        ∗ ((boundary (T d) ∗ R.post d) -∗ Φ ⟨⟩) : sProp 𝕄)
      ⊢ wp frame (wpE defs 𝒱 (T d) none) Set.univ (Prog.lift (.customCall (SparseCore.inner (Pipeline.entry p)) ())) Φ := by
  refine Entails.trans ?_ ((K (F := F)).wp_liftProg D 𝒱 (T d) Set.univ none (Prog.lift (.customCall (Pipeline.entry p) ())) Φ)
  refine Entails.trans ?_ (RDat.RegionSeg.wp (pcfgs (F := F)) (fun q => (cfgs q).toPCfg_adm) rds none cellOf_inj (EP (F := F)) defs₀ 𝒱₀ (K (F := F)).L (K (F := F)).lev R d none
    (fun _ h => absurd h (by simp)) (fun x => .ret x) Φ)
  iintro ⟨Hb, Hp, HL, Hg, Ht, Hk⟩
  isplitl [Hk]
  · iintro ⟨Hb, Hp⟩
    rw [wp_ret]; imodintro
    iapply Hk
    isplitl [Hb]; · iexact Hb
    iexact Hp
  isplitl [Hb]; · iexact Hb
  isplitl [Hp]; · iexact Hp
  isplitl [HL]; · iexact HL
  isplitl [Hg]; · iexact Hg
  iexact Ht

end Cert.Proof.KernelIdeal

end
-- ==== Proof.KernelIdeal.Regions.lean ====
/-
  The five TensorCore regions: what each body may leave in its output windows (the payload of contents that the fetches may
  leave), its obligation, and the region's record.
-/
module

public import proofs.«01_k».proof.Proof.KernelIdeal.Bodies
public import proofs.«01_k».proof.Proof.KernelIdeal.Region
public import proofs.«01_k».proof.Proof.Gen.KernelIdeal.Points
public import Idealize.ShloMosaic.Lib.Pipeline.FrameBody

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Pipeline (arrRef arrRefs ucRefs RDat)

variable {F : FTy → Type} [FloatOps F]

local notation "𝕄" => MT nD τ sig (HIx 5) (Elt F) ℕ UU ℕ

/-- The body's invariant of a pipeline with no scratch: the scoped buffers that no window stages. -/
abbrev ΦS (cfg : Pipeline.Cfg sig Λ₀) (c : Dev nD) : Fin (cfg.N + 1) → sProp (MT nD τ sig (HIx 5) (Elt F) ℕ UU ℕ) := fun _ => Pipeline.scopedRest cfg.spec c

/-! ## The preparation of the first layer -/

/-- What the preparation's body may leave. -/
def after1 (V : Vl F) : (w : Fin cfg1.W) → Fin cfg1.N → (Y X : (cfg1.win w).block.Idx → Elt F (cfg1.win w).elt) → Prop
  | 0 => fun _ Y X => X = Y
  | 1 => fun _ Y X => X = Y
  | 2 => fun _ Y X => X = Y
  | 3 => fun _ Y X => X = Y
  | 4 => fun _ Y X => X = Y
  | 5 => fun t _ X => ∃ Y0 Y1 Y2 Y3 Y4, Fet cfg1 V 0 t Y0 ∧ Fet cfg1 V 1 t Y1 ∧ Fet cfg1 V 2 t Y2 ∧ Fet cfg1 V 3 t Y3 ∧ Fet cfg1 V 4 t Y4 ∧ X = k1_pay2 Y4 Y1 Y0 Y2 Y3
  | 6 => fun t _ X => ∃ Y4, Fet cfg1 V 4 t Y4 ∧ X = k1_pay1 Y4
  | ⟨_ + 7, h⟩ => absurd h (Nat.not_lt.2 (Nat.le_add_left _ _))

/-- What a layer's body may leave. -/
def after3 (V : Vl F) : (w : Fin cfg3.W) → Fin cfg3.N → (Y X : (cfg3.win w).block.Idx → Elt F (cfg3.win w).elt) → Prop
  | 0 => fun _ Y X => X = Y
  | 1 => fun _ Y X => X = Y
  | 2 => fun _ Y X => X = Y
  | 3 => fun _ Y X => X = Y
  | 4 => fun _ Y X => X = Y
  | 5 => fun t _ X => ∃ Y0 Y1 Y2 Y3 Y4, Fet cfg3 V 0 t Y0 ∧ Fet cfg3 V 1 t Y1 ∧ Fet cfg3 V 2 t Y2 ∧ Fet cfg3 V 3 t Y3 ∧ Fet cfg3 V 4 t Y4 ∧ X = k3_pay1 Y2 Y0 Y1 Y3 Y4
  | ⟨_ + 6, h⟩ => absurd h (Nat.not_lt.2 (Nat.le_add_left _ _))

/-- What a layer's body may leave. -/
def after5 (V : Vl F) : (w : Fin cfg5.W) → Fin cfg5.N → (Y X : (cfg5.win w).block.Idx → Elt F (cfg5.win w).elt) → Prop
  | 0 => fun _ Y X => X = Y
  | 1 => fun _ Y X => X = Y
  | 2 => fun _ Y X => X = Y
  | 3 => fun _ Y X => X = Y
  | 4 => fun _ Y X => X = Y
  | 5 => fun t _ X => ∃ Y0 Y1 Y2 Y3 Y4, Fet cfg5 V 0 t Y0 ∧ Fet cfg5 V 1 t Y1 ∧ Fet cfg5 V 2 t Y2 ∧ Fet cfg5 V 3 t Y3 ∧ Fet cfg5 V 4 t Y4 ∧ X = k3_pay1 Y2 Y0 Y1 Y3 Y4
  | ⟨_ + 6, h⟩ => absurd h (Nat.not_lt.2 (Nat.le_add_left _ _))

/-- What a layer's body may leave. -/
def after7 (V : Vl F) : (w : Fin cfg7.W) → Fin cfg7.N → (Y X : (cfg7.win w).block.Idx → Elt F (cfg7.win w).elt) → Prop
  | 0 => fun _ Y X => X = Y
  | 1 => fun _ Y X => X = Y
  | 2 => fun _ Y X => X = Y
  | 3 => fun _ Y X => X = Y
  | 4 => fun _ Y X => X = Y
  | 5 => fun t _ X => ∃ Y0 Y1 Y2 Y3 Y4, Fet cfg7 V 0 t Y0 ∧ Fet cfg7 V 1 t Y1 ∧ Fet cfg7 V 2 t Y2 ∧ Fet cfg7 V 3 t Y3 ∧ Fet cfg7 V 4 t Y4 ∧ X = k3_pay1 Y2 Y0 Y1 Y3 Y4
  | ⟨_ + 6, h⟩ => absurd h (Nat.not_lt.2 (Nat.le_add_left _ _))

/-- What the final body's accumulators may hold after the first `n` points. -/
def Acc (V : Vl F) : ℕ → Vec F S64x128 .f32 → Vec F S64x1 .f32 → Prop
  | 0 => fun _ _ => True
  | n + 1 => fun s' c' => ∃ s c, Acc V n s c ∧ ∃ (h : n < cfg9.N), ∃ Y0 Y1 Y2 Y3 Y4, Fet cfg9 V 0 ⟨n, h⟩ Y0 ∧ Fet cfg9 V 1 ⟨n, h⟩ Y1 ∧ Fet cfg9 V 2 ⟨n, h⟩ Y2 ∧ Fet cfg9 V 3 ⟨n, h⟩ Y3 ∧ Fet cfg9 V 4 ⟨n, h⟩ Y4
      ∧ s' = sum1 (grid9.coords ⟨n, h⟩) Y0 Y1 Y2 Y3 Y4 s ∧ c' = cnt1 (grid9.coords ⟨n, h⟩) Y4 c

/-- What the final body may leave. -/
def after9 (V : Vl F) : (w : Fin cfg9.W) → Fin cfg9.N → (Y X : (cfg9.win w).block.Idx → Elt F (cfg9.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t _ X => k9_cond2 (grid9.coords t) = 1#1 → ∃ s c Y5 Y6, Acc V (t.val + 1) s c ∧ Fet cfg9 V 5 t Y5 ∧ Fet cfg9 V 6 t Y6 ∧ X = k9_pay3 s c Y5 Y6
  | ⟨_ + 8, h⟩ => absurd h (Nat.not_lt.2 (Nat.le_add_left _ _))

/-- The final body's invariant: its accumulators at what they may hold. -/
def Φ9 (V : Vl F) (c : Dev nD) (t : Fin (cfg9.N + 1)) : sProp (MT nD τ sig (HIx 5) (Elt F) ℕ UU ℕ) :=
  iprop(∃ s n, ⌜Acc V t.val s n⌝ ∗ owns (T c) (Memref.whole cc9_scratch0) fullShare s ∗ owns (T c) (Memref.whole cc9_scratch1) fullShare n
    ∗ Pipeline.scopedRestBut spec9 c [cc9_scratch0, cc9_scratch1])

/-- The five pipelines' proof data. -/
def rds (V : Vl F) (n : ℕ) : (p : Fin 5) → (c : Dev nD) → RDat τ (Elt F) (HIx 5) ℕ UU ℕ (cfgs p) c
  | 0 => rdat cfg1 V n (after1 V) (ΦS cfg1)
  | 1 => rdat cfg3 V n (after3 V) (ΦS cfg3)
  | 2 => rdat cfg5 V n (after5 V) (ΦS cfg5)
  | 3 => rdat cfg7 V n (after7 V) (ΦS cfg7)
  | 4 => rdat cfg9 V n (after9 V) (Φ9 V)

/-- What each input window of region 0 is found at. -/
theorem fet1 (V : Vl F) (n : ℕ) (c : Dev nD) (t : Fin cfg1.N) :
    (∀ Y, (rds V n 0 c).Finds 0 t Y → Fet cfg1 V 0 t Y) ∧ (∀ Y, (rds V n 0 c).Finds 1 t Y → Fet cfg1 V 1 t Y) ∧ (∀ Y, (rds V n 0 c).Finds 2 t Y → Fet cfg1 V 2 t Y) ∧ (∀ Y, (rds V n 0 c).Finds 3 t Y → Fet cfg1 V 3 t Y) ∧ (∀ Y, (rds V n 0 c).Finds 4 t Y → Fet cfg1 V 4 t Y) :=
  ⟨fun Y h => ((rds V n 0 c).finds_of_fetch (fetch1_0 t) Y).mp h,
    fun Y h => (rds V n 0 c).finds_in_eq_fetched 1 rfl (fun _ _ _ => rfl) (fun _ _ _ h => h) t Y h,
    fun Y h => (rds V n 0 c).finds_in_eq_fetched 2 rfl (fun _ _ _ => rfl) (fun _ _ _ h => h) t Y h,
    fun Y h => (rds V n 0 c).finds_in_eq_fetched 3 rfl (fun _ _ _ => rfl) (fun _ _ _ h => h) t Y h,
    fun Y h => ((rds V n 0 c).finds_of_fetch (fetch1_4 t) Y).mp h⟩

/-- What each input window of region 1 is found at. -/
theorem fet3 (V : Vl F) (n : ℕ) (c : Dev nD) (t : Fin cfg3.N) :
    (∀ Y, (rds V n 1 c).Finds 0 t Y → Fet cfg3 V 0 t Y) ∧ (∀ Y, (rds V n 1 c).Finds 1 t Y → Fet cfg3 V 1 t Y) ∧ (∀ Y, (rds V n 1 c).Finds 2 t Y → Fet cfg3 V 2 t Y) ∧ (∀ Y, (rds V n 1 c).Finds 3 t Y → Fet cfg3 V 3 t Y) ∧ (∀ Y, (rds V n 1 c).Finds 4 t Y → Fet cfg3 V 4 t Y) :=
  ⟨fun Y h => ((rds V n 1 c).finds_of_fetch (fetch3_0 t) Y).mp h,
    fun Y h => ((rds V n 1 c).finds_of_fetch (fetch3_1 t) Y).mp h,
    fun Y h => ((rds V n 1 c).finds_of_fetch (fetch3_2 t) Y).mp h,
    fun Y h => (rds V n 1 c).finds_in_eq_fetched 3 rfl (fun _ _ _ => rfl) (fun _ _ _ h => h) t Y h,
    fun Y h => (rds V n 1 c).finds_in_eq_fetched 4 rfl (fun _ _ _ => rfl) (fun _ _ _ h => h) t Y h⟩

/-- What each input window of region 2 is found at. -/
theorem fet5 (V : Vl F) (n : ℕ) (c : Dev nD) (t : Fin cfg5.N) :
    (∀ Y, (rds V n 2 c).Finds 0 t Y → Fet cfg5 V 0 t Y) ∧ (∀ Y, (rds V n 2 c).Finds 1 t Y → Fet cfg5 V 1 t Y) ∧ (∀ Y, (rds V n 2 c).Finds 2 t Y → Fet cfg5 V 2 t Y) ∧ (∀ Y, (rds V n 2 c).Finds 3 t Y → Fet cfg5 V 3 t Y) ∧ (∀ Y, (rds V n 2 c).Finds 4 t Y → Fet cfg5 V 4 t Y) :=
  ⟨fun Y h => ((rds V n 2 c).finds_of_fetch (fetch5_0 t) Y).mp h,
    fun Y h => ((rds V n 2 c).finds_of_fetch (fetch5_1 t) Y).mp h,
    fun Y h => ((rds V n 2 c).finds_of_fetch (fetch5_2 t) Y).mp h,
    fun Y h => (rds V n 2 c).finds_in_eq_fetched 3 rfl (fun _ _ _ => rfl) (fun _ _ _ h => h) t Y h,
    fun Y h => (rds V n 2 c).finds_in_eq_fetched 4 rfl (fun _ _ _ => rfl) (fun _ _ _ h => h) t Y h⟩

/-- What each input window of region 3 is found at. -/
theorem fet7 (V : Vl F) (n : ℕ) (c : Dev nD) (t : Fin cfg7.N) :
    (∀ Y, (rds V n 3 c).Finds 0 t Y → Fet cfg7 V 0 t Y) ∧ (∀ Y, (rds V n 3 c).Finds 1 t Y → Fet cfg7 V 1 t Y) ∧ (∀ Y, (rds V n 3 c).Finds 2 t Y → Fet cfg7 V 2 t Y) ∧ (∀ Y, (rds V n 3 c).Finds 3 t Y → Fet cfg7 V 3 t Y) ∧ (∀ Y, (rds V n 3 c).Finds 4 t Y → Fet cfg7 V 4 t Y) :=
  ⟨fun Y h => ((rds V n 3 c).finds_of_fetch (fetch7_0 t) Y).mp h,
    fun Y h => ((rds V n 3 c).finds_of_fetch (fetch7_1 t) Y).mp h,
    fun Y h => ((rds V n 3 c).finds_of_fetch (fetch7_2 t) Y).mp h,
    fun Y h => (rds V n 3 c).finds_in_eq_fetched 3 rfl (fun _ _ _ => rfl) (fun _ _ _ h => h) t Y h,
    fun Y h => (rds V n 3 c).finds_in_eq_fetched 4 rfl (fun _ _ _ => rfl) (fun _ _ _ h => h) t Y h⟩

/-- What each input window of region 4 is found at. -/
theorem fet9 (V : Vl F) (n : ℕ) (c : Dev nD) (t : Fin cfg9.N) :
    (∀ Y, (rds V n 4 c).Finds 0 t Y → Fet cfg9 V 0 t Y) ∧ (∀ Y, (rds V n 4 c).Finds 1 t Y → Fet cfg9 V 1 t Y) ∧ (∀ Y, (rds V n 4 c).Finds 2 t Y → Fet cfg9 V 2 t Y) ∧ (∀ Y, (rds V n 4 c).Finds 3 t Y → Fet cfg9 V 3 t Y) ∧ (∀ Y, (rds V n 4 c).Finds 4 t Y → Fet cfg9 V 4 t Y) ∧ (∀ Y, (rds V n 4 c).Finds 5 t Y → Fet cfg9 V 5 t Y) ∧ (∀ Y, (rds V n 4 c).Finds 6 t Y → Fet cfg9 V 6 t Y) :=
  ⟨fun Y h => ((rds V n 4 c).finds_of_fetch (fetch9_0 t) Y).mp h,
    fun Y h => ((rds V n 4 c).finds_of_fetch (fetch9_1 t) Y).mp h,
    fun Y h => ((rds V n 4 c).finds_of_fetch (fetch9_2 t) Y).mp h,
    fun Y h => (rds V n 4 c).finds_in_eq_fetched 3 rfl (fun _ _ _ => rfl) (fun _ _ _ h => h) t Y h,
    fun Y h => ((rds V n 4 c).finds_of_fetch (fetch9_4 t) Y).mp h,
    fun Y h => (rds V n 4 c).finds_in_eq_fetched 5 rfl (fun _ _ _ => rfl) (fun _ _ _ h => h) t Y h,
    fun Y h => (rds V n 4 c).finds_in_eq_fetched 6 rfl (fun _ _ _ => rfl) (fun _ _ _ h => h) t Y h⟩

/-- The body of region 0 at every point. -/
theorem body1 (V : Vl F) (n : ℕ) (c : Dev nD) : (rds V n 0 c).BodyObligation defs₀ 𝒱₀ none Set.univ := by
  intro t Y hY
  obtain ⟨f0, f1, f2, f3, f4⟩ := fet1 V n c t
  have e := wp_prep (F := F) c none (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (Y 0) (Y 1) (Y 2) (Y 3) (Y 4) (Y 5) (Y 6)
  rw [show (rds V n 0 c).Φ t.succ = (rds V n 0 c).Φ t.castSucc from rfl]
  refine Entails.trans (Q := _) ?_ (e _)
  clear e
  rw [bigSep_W1]
  iintro ⟨HΦ, HO, H0, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  rw [bigSep_W1]
  isplitl [HΦ]; · iexact HΦ
  isplitl [HO]; · iexact HO
  isplitl [H0]
  · iexists _; isplitr [H0]; swap; · iexact H0
    ipureintro; exact rfl
  isplitl [H1]
  · iexists _; isplitr [H1]; swap; · iexact H1
    ipureintro; exact rfl
  isplitl [H2]
  · iexists _; isplitr [H2]; swap; · iexact H2
    ipureintro; exact rfl
  isplitl [H3]
  · iexists _; isplitr [H3]; swap; · iexact H3
    ipureintro; exact rfl
  isplitl [H4]
  · iexists _; isplitr [H4]; swap; · iexact H4
    ipureintro; exact rfl
  isplitl [H5]
  · iexists _; isplitr [H5]; swap; · iexact H5
    ipureintro; exact ⟨Y 0, Y 1, Y 2, Y 3, Y 4, f0 _ (hY 0), f1 _ (hY 1), f2 _ (hY 2), f3 _ (hY 3), f4 _ (hY 4), rfl⟩
  iexists _; isplitr [H6]; swap; · iexact H6
  ipureintro; exact ⟨Y 4, f4 _ (hY 4), rfl⟩

/-- Six windows handed to a body and taken back, each at what the body leaves in it. -/
theorem six {A B : sProp 𝕄} {α₀ α₁ α₂ α₃ α₄ α₅ : Type} {H₀ : α₀ → sProp 𝕄} {H₁ : α₁ → sProp 𝕄} {H₂ : α₂ → sProp 𝕄} {H₃ : α₃ → sProp 𝕄} {H₄ : α₄ → sProp 𝕄} {H₅ : α₅ → sProp 𝕄}
    {r₀ : α₀ → Prop} {r₁ : α₁ → Prop} {r₂ : α₂ → Prop} {r₃ : α₃ → Prop} {r₄ : α₄ → Prop} {r₅ : α₅ → Prop} {y₀ : α₀} {y₁ : α₁} {y₂ : α₂} {y₃ : α₃} {y₄ : α₄} {y₅ x₅ : α₅}
    (h₀ : r₀ y₀) (h₁ : r₁ y₁) (h₂ : r₂ y₂) (h₃ : r₃ y₃) (h₄ : r₄ y₄) (h₅ : r₅ x₅) :
    iprop(A ∗ B ∗ H₀ y₀ ∗ H₁ y₁ ∗ H₂ y₂ ∗ H₃ y₃ ∗ H₄ y₄ ∗ H₅ y₅ : sProp 𝕄)
      ⊢ iprop(H₀ y₀ ∗ H₁ y₁ ∗ H₂ y₂ ∗ H₃ y₃ ∗ H₄ y₄ ∗ H₅ y₅ ∗ ((H₀ y₀ ∗ H₁ y₁ ∗ H₂ y₂ ∗ H₃ y₃ ∗ H₄ y₄ ∗ H₅ x₅) -∗ A ∗ B
        ∗ (∃ X, ⌜r₀ X⌝ ∗ H₀ X) ∗ (∃ X, ⌜r₁ X⌝ ∗ H₁ X) ∗ (∃ X, ⌜r₂ X⌝ ∗ H₂ X) ∗ (∃ X, ⌜r₃ X⌝ ∗ H₃ X) ∗ (∃ X, ⌜r₄ X⌝ ∗ H₄ X) ∗ (∃ X, ⌜r₅ X⌝ ∗ H₅ X))) := by
  iintro ⟨HA, HB, H0, H1, H2, H3, H4, H5⟩
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HA]; · iexact HA
  isplitl [HB]; · iexact HB
  isplitl [H0]
  · iexists _; isplitr [H0]; swap; · iexact H0
    ipureintro; exact h₀
  isplitl [H1]
  · iexists _; isplitr [H1]; swap; · iexact H1
    ipureintro; exact h₁
  isplitl [H2]
  · iexists _; isplitr [H2]; swap; · iexact H2
    ipureintro; exact h₂
  isplitl [H3]
  · iexists _; isplitr [H3]; swap; · iexact H3
    ipureintro; exact h₃
  isplitl [H4]
  · iexists _; isplitr [H4]; swap; · iexact H4
    ipureintro; exact h₄
  iexists _; isplitr [H5]; swap; · iexact H5
  ipureintro; exact h₅

/-- The body of region 1 at every point. -/
theorem body3 (V : Vl F) (n : ℕ) (c : Dev nD) : (rds V n 1 c).BodyObligation defs₀ 𝒱₀ none Set.univ := by
  intro t Y hY
  obtain ⟨f0, f1, f2, f3, f4⟩ := fet3 V n c t
  have e := wp_layer3 (F := F) c none (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (Y 0) (Y 1) (Y 2) (Y 3) (Y 4) (Y 5)
  rw [show (rds V n 1 c).Φ t.succ = (rds V n 1 c).Φ t.castSucc from rfl]
  refine Entails.trans (Q := _) ?_ (e _)
  rw [bigSep_W3, bigSep_W3]
  exact six rfl rfl rfl rfl rfl ⟨Y 0, Y 1, Y 2, Y 3, Y 4, f0 _ (hY 0), f1 _ (hY 1), f2 _ (hY 2), f3 _ (hY 3), f4 _ (hY 4), rfl⟩

/-- The body of region 2 at every point. -/
theorem body5 (V : Vl F) (n : ℕ) (c : Dev nD) : (rds V n 2 c).BodyObligation defs₀ 𝒱₀ none Set.univ := by
  intro t Y hY
  obtain ⟨f0, f1, f2, f3, f4⟩ := fet5 V n c t
  have e := wp_layer3 (F := F) c none (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (Y 0) (Y 1) (Y 2) (Y 3) (Y 4) (Y 5)
  rw [← layer5_eq] at e
  rw [show (rds V n 2 c).Φ t.succ = (rds V n 2 c).Φ t.castSucc from rfl]
  refine Entails.trans (Q := _) ?_ (e _)
  rw [bigSep_W5, bigSep_W5]
  exact six rfl rfl rfl rfl rfl ⟨Y 0, Y 1, Y 2, Y 3, Y 4, f0 _ (hY 0), f1 _ (hY 1), f2 _ (hY 2), f3 _ (hY 3), f4 _ (hY 4), rfl⟩

/-- The body of region 3 at every point. -/
theorem body7 (V : Vl F) (n : ℕ) (c : Dev nD) : (rds V n 3 c).BodyObligation defs₀ 𝒱₀ none Set.univ := by
  intro t Y hY
  obtain ⟨f0, f1, f2, f3, f4⟩ := fet7 V n c t
  have e := wp_layer3 (F := F) c none (grid7.coords t) (win7_0.stage (cfg7.slots t 0)) (hstage7_0 ((cfg7.slots t 0).cast nbuf7_0)) (win7_1.stage (cfg7.slots t 1)) (hstage7_1 ((cfg7.slots t 1).cast nbuf7_1)) (win7_2.stage (cfg7.slots t 2)) (hstage7_2 ((cfg7.slots t 2).cast nbuf7_2)) (win7_3.stage (cfg7.slots t 3)) (hstage7_3 ((cfg7.slots t 3).cast nbuf7_3)) (win7_4.stage (cfg7.slots t 4)) (hstage7_4 ((cfg7.slots t 4).cast nbuf7_4)) (win7_5.stage (cfg7.slots t 5)) (hstage7_5 ((cfg7.slots t 5).cast nbuf7_5)) (Y 0) (Y 1) (Y 2) (Y 3) (Y 4) (Y 5)
  rw [← layer7_eq] at e
  rw [show (rds V n 3 c).Φ t.succ = (rds V n 3 c).Φ t.castSucc from rfl]
  refine Entails.trans (Q := _) ?_ (e _)
  rw [bigSep_W7, bigSep_W7]
  exact six rfl rfl rfl rfl rfl ⟨Y 0, Y 1, Y 2, Y 3, Y 4, f0 _ (hY 0), f1 _ (hY 1), f2 _ (hY 2), f3 _ (hY 3), f4 _ (hY 4), rfl⟩

/-- The final body at every point. -/
theorem body9 (V : Vl F) (n : ℕ) (c : Dev nD) : (rds V n 4 c).BodyObligation defs₀ 𝒱₀ none Set.univ := by
  intro t Y hY
  obtain ⟨f0, f1, f2, f3, f4, f5, f6⟩ := fet9 V n c t
  rw [show (rds V n 4 c).Φ t.castSucc = Φ9 V c t.castSucc from rfl, show (rds V n 4 c).Φ t.succ = Φ9 V c t.succ from rfl]
  rw [bigSep_W9]
  unfold Φ9
  iintro ⟨⟨%s, %m, %hA, HS, HN, HR⟩, HO, H0, H1, H2, H3, H4, H5, H6, H7⟩
  iapply (wp_final (F := F) c none (grid9.coords t) (win9_0.stage (cfg9.slots t 0)) (hstage9_0 ((cfg9.slots t 0).cast nbuf9_0)) (win9_1.stage (cfg9.slots t 1)) (hstage9_1 ((cfg9.slots t 1).cast nbuf9_1)) (win9_2.stage (cfg9.slots t 2)) (hstage9_2 ((cfg9.slots t 2).cast nbuf9_2)) (win9_3.stage (cfg9.slots t 3)) (hstage9_3 ((cfg9.slots t 3).cast nbuf9_3)) (win9_4.stage (cfg9.slots t 4)) (hstage9_4 ((cfg9.slots t 4).cast nbuf9_4)) (win9_5.stage (cfg9.slots t 5)) (hstage9_5 ((cfg9.slots t 5).cast nbuf9_5)) (win9_6.stage (cfg9.slots t 6)) (hstage9_6 ((cfg9.slots t 6).cast nbuf9_6)) (win9_7.stage (cfg9.slots t 7)) (hstage9_7 ((cfg9.slots t 7).cast nbuf9_7)) (Memref.whole cc9_scratch0) (Memref.isWhole_whole _) (Memref.whole cc9_scratch1) (Memref.isWhole_whole _) (Y 0) (Y 1) (Y 2) (Y 3) (Y 4) (Y 5) (Y 6) (Y 7) s m _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  isplitl [HN]; · iexact HN
  iintro ⟨H0, H1, H2, H3, H4, H5, H6, H7, HS, HN⟩
  have hA' : Acc V (t.val + 1) (sum1 (grid9.coords t) (Y 0) (Y 1) (Y 2) (Y 3) (Y 4) s) (cnt1 (grid9.coords t) (Y 4) m) :=
    ⟨s, m, hA, t.isLt, Y 0, Y 1, Y 2, Y 3, Y 4, f0 _ (hY 0), f1 _ (hY 1), f2 _ (hY 2), f3 _ (hY 3), f4 _ (hY 4), rfl, rfl⟩
  isplitl [HS HN HR]
  · iexists _, _; isplitr [HS HN HR]; swap
    · isplitl [HS]; · iexact HS
      isplitl [HN]; · iexact HN
      iexact HR
    · ipureintro; exact hA'
  isplitl [HO]; · iexact HO
  rw [bigSep_W9]
  isplitl [H0]
  · iexists _; isplitr [H0]; swap; · iexact H0
    ipureintro; exact rfl
  isplitl [H1]
  · iexists _; isplitr [H1]; swap; · iexact H1
    ipureintro; exact rfl
  isplitl [H2]
  · iexists _; isplitr [H2]; swap; · iexact H2
    ipureintro; exact rfl
  isplitl [H3]
  · iexists _; isplitr [H3]; swap; · iexact H3
    ipureintro; exact rfl
  isplitl [H4]
  · iexists _; isplitr [H4]; swap; · iexact H4
    ipureintro; exact rfl
  isplitl [H5]
  · iexists _; isplitr [H5]; swap; · iexact H5
    ipureintro; exact rfl
  isplitl [H6]
  · iexists _; isplitr [H6]; swap; · iexact H6
    ipureintro; exact rfl
  iexists _; isplitr [H7]; swap; · iexact H7
  ipureintro; exact fun hc => ⟨_, _, Y 5, Y 6, hA', f5 _ (hY 5), f6 _ (hY 6), if_pos hc⟩

end Cert.Proof.KernelIdeal

end
-- ==== Proof.KernelIdeal.Agg.lean ====
/-
  The aggregation kernel on one tile, at symbolic memrefs: from the feature rows `ut` and the packed edges `p` in HBM it
  leaves, in its own part of the output, the sum `aggAt` over all the edges.
-/
module

public import proofs.«01_k».proof.Defs
public import proofs.«01_k».proof.Proof.Own
public import proofs.«01_k».proof.Proof.Spec
public import Idealize.ShloMosaic.Lib.SparseCore.Quiescent
public import Idealize.ShloMosaic.Lib.Tactic
public import proofs.«01_k».proof.Proof.Gen.KernelIdeal
public import proofs.«01_k».proof.Proof.Gen.KernelIdeal.Skeleton

@[expose] public section

noncomputable section

namespace Cert.Proof.KernelIdeal.Agg

open Cert.KernelIdeal Cert.KernelIdeal.Gen
open Cert.Proof.Own Cert.Proof.Spec

open Idealize.ShloMosaic Idealize.ShloMosaic.Transfers
open Idealize.ShloMosaic.SparseCore (S V T)
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]
variable {Ix : Type} [DecidableEq Ix] {U : Type} [URA U] [CountersIn U]

local notation "𝕄" => MT nD τ sig Ix (Elt F) ℕ U ℕ

/-! ## The offsets of the accesses -/

theorem off2_val (k : Fin k2_t1_loop.trips) : k2_off2 k 0 = 16 * k.val := by
  have hk : k.val < 2500 := k.isLt
  show (Scalar.indexCast (Scalar.muli (Scf.iv 0#32 1#32 k.val) 16#32)).toNat = _
  show ((0#32 + BitVec.ofNat 32 k.val * 1#32) * 16#32).toNat = _
  simp only [BitVec.toNat_mul, BitVec.toNat_add, BitVec.toNat_ofNat]
  omega

theorem off4_val (k : Fin k2_t3_loop.trips) : k2_off4 k 0 = 16 * k.val := by
  have hk : k.val < 125 := k.isLt
  show ((0#32 + BitVec.ofNat 32 k.val * 1#32) * 16#32).toNat = _
  simp only [BitVec.toNat_mul, BitVec.toNat_add, BitVec.toNat_ofNat]
  omega

theorem off5_val (k : Fin k2_t2_loop.trips) : k2_off5 k 0 = 2000 * (2 * k.val + 2) := by
  have hk : k.val < 80 := k.isLt
  show ((((0#32 + BitVec.ofNat 32 k.val * 1#32) * 2#32 + 0#32) + 2#32) * 2000#32).toNat = _
  simp only [BitVec.toNat_mul, BitVec.toNat_add, BitVec.toNat_ofNat]
  omega

theorem off7_val (k : Fin k2_t2_loop.trips) : k2_off7 k 0 = 2000 * (2 * k.val + 3) := by
  have hk : k.val < 80 := k.isLt
  show ((((0#32 + BitVec.ofNat 32 k.val * 1#32) * 2#32 + 1#32) + 2#32) * 2000#32).toNat = _
  simp only [BitVec.toNat_mul, BitVec.toNat_add, BitVec.toNat_ofNat]
  omega

theorem off1_val (i : grid2.Coords) : k2_off1 i 0 = 40000 * ((i 1).val * 2 + (i 0).val) := by
  have h0 : (i 0).val < 2 := (i 0).isLt
  have h1 : (i 1).val < 16 := (i 1).isLt
  show ((BitVec.ofNat 32 (i 1).val * 2#32 + BitVec.ofNat 32 (i 0).val) * 40000#32).toNat = _
  simp only [BitVec.toNat_mul, BitVec.toNat_add, BitVec.toNat_ofNat]
  omega

theorem cond1_iff (k : Fin k2_t2_loop.trips) : k2_cond1 k = 1#1 ↔ 2 * k.val + 2 < 160 := by
  have hk : k.val < 80 := k.isLt
  revert k; decide

theorem cond2_iff (k : Fin k2_t2_loop.trips) : k2_cond2 k = 1#1 ↔ 2 * k.val + 3 < 160 := by
  have hk : k.val < 80 := k.isLt
  revert k; decide

section Body

variable (d : Dev nD) (i : grid2.Coords)

/-- The tile's thread. -/
abbrev thr : Thread nD τ := V d ((i 0).castLE hcore2) ((i 1).castLE hsub2)

variable (arg2 : Memref sig .scVector .hbm S1280000 .f32) (harg2 : arg2.IsWhole) (arg3 : Memref sig .scVector .hbm S320000 .i32) (harg3 : arg3.IsWhole) (arg4 : Memref sig .scVector .hbm S1280000 .f32) (harg4 : arg4.IsWhole) (arg5 : Memref sig .scVector .vmem S40000 .f32) (harg5 : arg5.IsWhole) (arg6 : Memref sig .scVector .vmem S40000 .f32) (harg6 : arg6.IsWhole) (arg7 : Memref sig .scVector .vmem S2000 .i32) (harg7 : arg7.IsWhole) (arg8 : Memref sig .scVector .vmem S2000 .i32) (harg8 : arg8.IsWhole) (arg9 : DmaSems sig S_) (arg10 : DmaSems sig S_) (v10_r0 : DmaSems sig S_) (v10_r1 : DmaSems sig S_)

variable (𝒱 : Variants) (bd : Option 𝒱.V)

/-- One trip of the zeroing loop. -/
theorem wp_t1 (k : Fin k2_t1_loop.trips) (g : Vec F S40000 .f32) (Q : Unit → sProp 𝕄) :
    (owns (thr d i) arg6 fullShare g : sProp 𝕄)
      ⊢ iprop((owns (thr d i) arg6 fullShare ((Rect.unit (s := S40000) (k2_off2 k) S16.size (k2_off2_inb k)).overlay g (k2_pay1 (F := F))) -∗ Q ⟨⟩)
        -∗ wp frame (wpE (defs₀ (F := F)) 𝒱 (thr d i) bd) Set.univ
          (k2_t1_body i arg2 harg2 arg3 harg3 arg4 harg4 arg5 harg5 arg6 harg6 arg7 harg7 arg8 harg8 arg9 arg10 v10_r0 v10_r1 k ⟨⟩) Q) := by
  unfold k2_t1_body
  simp only [Prog.lift, Prog.bind_op, Prog.bind_ret, Prog.pure_eq_ret]
  iintro H Hk
  iapply (wp_load_owns 𝒱 (thr d i) bd) $$ H
  iintro H
  iapply (wp_store_owns 𝒱 (thr d i) bd) $$ H
  iintro H
  rw [wp_ret]
  imodintro
  iapply Hk
  iexact H

/-- One trip of the first accumulation loop: the packed group at its place in the first buffer, added. -/
theorem wp_t3 (k : Fin k2_t3_loop.trips) (u g : Vec F S40000 .f32) (p : IVec (A1 320000) 32) (hp : ∀ j, GoodW (p j)) (n : ℕ) (hn : n < 160) (Q : Unit → sProp 𝕄) :
    (iprop(owns (thr d i) arg5 fullShare u ∗ owns (thr d i) arg6 fullShare g ∗ owns (Val := Elt F) (thr d i) arg7 fullShare (chunk p n)) : sProp 𝕄)
      ⊢ iprop((iprop(owns (thr d i) arg5 fullShare u ∗ owns (thr d i) arg6 fullShare (aggStep u (grp p (125 * n + k.val)) g) ∗ owns (Val := Elt F) (thr d i) arg7 fullShare (chunk p n)) -∗ Q ⟨⟩)
        -∗ wp frame (wpE (defs₀ (F := F)) 𝒱 (thr d i) bd) Set.univ
          (k2_t3_body i arg2 harg2 arg3 harg3 arg4 harg4 arg5 harg5 arg6 harg6 arg7 harg7 arg8 harg8 arg9 arg10 v10_r0 v10_r1 k ⟨⟩) Q) := by
  unfold k2_t3_body
  simp only [Prog.lift, Prog.bind_op, Prog.bind_ret, Prog.pure_eq_ret]
  iintro ⟨H5, H6, H7⟩ Hk
  have hv : (fun x => chunk p n ((Rect.unit (s := S2000) (k2_off4 k) S16.size (k2_off4_inb k)).emb x) : IVec S16 32) = grp p (125 * n + k.val) := by
    funext x
    have hx : (x 0).val < 16 := (x 0).isLt
    have hk : k.val < 125 := k.isLt
    refine congrArg p (congrArg (ix1 320000) ?_)
    rw [Rect.emb_apply]
    show 2000 * n + (k2_off4 k 0 + 1 * (x 0).val) = _
    rw [off4_val]; omega
  iapply (wp_load_owns_eq 𝒱 (thr d i) bd _ hv) $$ H7
  iintro H7
  have hg : ∀ x, GoodW (grp p (125 * n + k.val) x) := fun x => hp _
  generalize grp p (125 * n + k.val) = v at hg
  have s0 : InB 40000 (k2_pay4 (F := F) v) := srcIx_inB 0#32 v hg (by decide)
  have d0 : InB 40000 (k2_pay5 (F := F) v) := dstIx_inB 0#32 v hg (by decide)
  have s1 : InB 40000 (k2_pay6 (F := F) v) := srcIx_inB 10000#32 v hg (by decide)
  have d1 : InB 40000 (k2_pay7 (F := F) v) := dstIx_inB 10000#32 v hg (by decide)
  have s2 : InB 40000 (k2_pay8 (F := F) v) := srcIx_inB 20000#32 v hg (by decide)
  have d2 : InB 40000 (k2_pay9 (F := F) v) := dstIx_inB 20000#32 v hg (by decide)
  have s3 : InB 40000 (k2_pay10 (F := F) v) := srcIx_inB 30000#32 v hg (by decide)
  have d3 : InB 40000 (k2_pay11 (F := F) v) := dstIx_inB 30000#32 v hg (by decide)
  rw [wp_assume_of _ _ _ _ (show k2_chk1 (k2_pay4 (F := F) v) from s0)]
  iapply (wp_gather_owns 𝒱 (thr d i) bd) $$ H5
  iintro H5
  rw [gat_eq u _ s0, wp_assume_of _ _ _ _ (show k2_chk2 (k2_pay5 (F := F) v) from d0)]
  iapply (wp_scatter_owns 𝒱 (thr d i) bd) $$ H6
  iintro H6
  rw [sca_eq _ _ _ d0, wp_assume_of _ _ _ _ (show k2_chk3 (k2_pay6 (F := F) v) from s1)]
  iapply (wp_gather_owns 𝒱 (thr d i) bd) $$ H5
  iintro H5
  rw [gat_eq u _ s1, wp_assume_of _ _ _ _ (show k2_chk4 (k2_pay7 (F := F) v) from d1)]
  iapply (wp_scatter_owns 𝒱 (thr d i) bd) $$ H6
  iintro H6
  rw [sca_eq _ _ _ d1, wp_assume_of _ _ _ _ (show k2_chk5 (k2_pay8 (F := F) v) from s2)]
  iapply (wp_gather_owns 𝒱 (thr d i) bd) $$ H5
  iintro H5
  rw [gat_eq u _ s2, wp_assume_of _ _ _ _ (show k2_chk6 (k2_pay9 (F := F) v) from d2)]
  iapply (wp_scatter_owns 𝒱 (thr d i) bd) $$ H6
  iintro H6
  rw [sca_eq _ _ _ d2, wp_assume_of _ _ _ _ (show k2_chk7 (k2_pay10 (F := F) v) from s3)]
  iapply (wp_gather_owns 𝒱 (thr d i) bd) $$ H5
  iintro H5
  rw [gat_eq u _ s3, wp_assume_of _ _ _ _ (show k2_chk8 (k2_pay11 (F := F) v) from d3)]
  iapply (wp_scatter_owns 𝒱 (thr d i) bd) $$ H6
  iintro H6
  rw [sca_eq _ _ _ d3, wp_ret]
  imodintro
  iapply Hk
  isplitl [H5]
  · iexact H5
  isplitl [H6]
  · iexact H6
  iexact H7

/-- One trip of the second accumulation loop is one of the first, over the other buffer. -/
theorem wp_t4 (k : Fin k2_t4_loop.trips) (u g : Vec F S40000 .f32) (p : IVec (A1 320000) 32) (hp : ∀ j, GoodW (p j)) (n : ℕ) (hn : n < 160) (Q : Unit → sProp 𝕄) :
    (iprop(owns (thr d i) arg5 fullShare u ∗ owns (thr d i) arg6 fullShare g ∗ owns (Val := Elt F) (thr d i) arg8 fullShare (chunk p n)) : sProp 𝕄)
      ⊢ iprop((iprop(owns (thr d i) arg5 fullShare u ∗ owns (thr d i) arg6 fullShare (aggStep u (grp p (125 * n + k.val)) g) ∗ owns (Val := Elt F) (thr d i) arg8 fullShare (chunk p n)) -∗ Q ⟨⟩)
        -∗ wp frame (wpE (defs₀ (F := F)) 𝒱 (thr d i) bd) Set.univ
          (k2_t4_body i arg2 harg2 arg3 harg3 arg4 harg4 arg5 harg5 arg6 harg6 arg7 harg7 arg8 harg8 arg9 arg10 v10_r0 v10_r1 k ⟨⟩) Q) :=
  wp_t3 d i arg2 harg2 arg3 harg3 arg4 harg4 arg5 harg5 arg6 harg6 arg8 harg8 arg7 harg7 arg9 arg10 v10_r0 v10_r1 𝒱 bd k u g p hp n hn Q

/-! ## The chunks -/

variable (ι : Ix)

/-- A chunk buffer before chunk `n` is used: in flight, or, past the last chunk, at rest. -/
def bufAt (sm : DmaSems sig S_) (b : Memref sig .scVector .vmem S2000 .i32) (q : PosShare TreeShare) (p : IVec (A1 320000) 32) (n : ℕ) : sProp 𝕄 :=
  if n < 160 then
    Flight countersEmb (thr d i) (.dma sm.sem) ι (b.view.amount (.dma sm.sem))
      iprop(owns (Val := Elt F) (thr d i) b fullShare (chunk p n) ∗ owns (Val := Elt F) (thr d i) arg3 q p)
  else iprop((∃ X, owns (Val := Elt F) (thr d i) b fullShare X) ∗ owns (Val := Elt F) (thr d i) arg3 q p ∗ semVal (thr d i, .dma sm.sem) 0)

/-- What the thread owes, having waited at `ι` only. -/
def owing (O : CellTallies nD τ sig Ix) (W : Waits sig Ix) : sProp 𝕄 :=
  iprop(∃ W', ⌜∀ x ∈ W', x ∈ W ∨ x.2 = ι⌝ ∗ owes (thr d i) O W')

theorem owing_insert (O : CellTallies nD τ sig Ix) (W W' : Waits sig Ix) (sm : SemLoc sig) (hW : ∀ x ∈ W', x ∈ W ∨ x.2 = ι) :
    (owes (thr d i) O (insert (sm, ι) W') : sProp 𝕄) ⊢ owing (F := F) d i ι O W := by
  unfold owing
  iintro H
  iexists _
  isplitr
  swap
  · iexact H
  · ipureintro
    intro x hx
    rcases Finset.mem_insert.mp hx with hx | hx
    · exact .inr (hx ▸ rfl)
    · exact hW x hx

/-- The accumulation loop's invariant. -/
def inv2 (O : CellTallies nD τ sig Ix) (W : Waits sig Ix) (q : PosShare TreeShare) (u : Vec F S40000 .f32) (p : IVec (A1 320000) 32) (k : ℕ) (_ : Unit) : sProp 𝕄 :=
  iprop(MayWaits (thr d i) ι O ∗ owns (thr d i) arg5 fullShare u ∗ owns (thr d i) arg6 fullShare (aggAt u p (125 * (2 * k)))
    ∗ bufAt d i arg3 ι arg9 arg7 q.left p (2 * k) ∗ bufAt d i arg3 ι arg10 arg8 q.right p (2 * k + 1) ∗ owing (F := F) d i ι O W)

/-- The inner loop's invariant: `j` groups of chunk `n` added. -/
def inv3 (b : Memref sig .scVector .vmem S2000 .i32) (u : Vec F S40000 .f32) (p : IVec (A1 320000) 32) (n : ℕ) (j : ℕ) (_ : Unit) : sProp 𝕄 :=
  iprop(owns (thr d i) arg5 fullShare u ∗ owns (thr d i) arg6 fullShare (aggAt u p (125 * n + j)) ∗ owns (Val := Elt F) (thr d i) b fullShare (chunk p n))

theorem inv3_t3 (u : Vec F S40000 .f32) (p : IVec (A1 320000) 32) (hp : ∀ j, GoodW (p j)) (n : ℕ) (hn : n < 160) (k : Fin k2_t3_loop.trips) (acc : Unit) :
    inv3 (Ix := Ix) (U := U) d i arg5 arg6 arg7 u p n k.val acc ⊢ wp frame (wpE (defs₀ (F := F)) 𝒱 (thr d i) bd) Set.univ
          (k2_t3_body i arg2 harg2 arg3 harg3 arg4 harg4 arg5 harg5 arg6 harg6 arg7 harg7 arg8 harg8 arg9 arg10 v10_r0 v10_r1 k acc) (inv3 d i arg5 arg6 arg7 u p n (k.val + 1)) := by
  unfold inv3
  iintro H
  iapply (wp_t3 d i arg2 harg2 arg3 harg3 arg4 harg4 arg5 harg5 arg6 harg6 arg7 harg7 arg8 harg8 arg9 arg10 v10_r0 v10_r1 𝒱 bd k u _ p hp n hn) $$ H
  iintro H
  iexact H

theorem inv3_t4 (u : Vec F S40000 .f32) (p : IVec (A1 320000) 32) (hp : ∀ j, GoodW (p j)) (n : ℕ) (hn : n < 160) (k : Fin k2_t4_loop.trips) (acc : Unit) :
    inv3 (Ix := Ix) (U := U) d i arg5 arg6 arg8 u p n k.val acc ⊢ wp frame (wpE (defs₀ (F := F)) 𝒱 (thr d i) bd) Set.univ
          (k2_t4_body i arg2 harg2 arg3 harg3 arg4 harg4 arg5 harg5 arg6 harg6 arg7 harg7 arg8 harg8 arg9 arg10 v10_r0 v10_r1 k acc) (inv3 d i arg5 arg6 arg8 u p n (k.val + 1)) := by
  unfold inv3
  iintro H
  iapply (wp_t4 d i arg2 harg2 arg3 harg3 arg4 harg4 arg5 harg5 arg6 harg6 arg7 harg7 arg8 harg8 arg9 arg10 v10_r0 v10_r1 𝒱 bd k u _ p hp n hn) $$ H
  iintro H
  iexact H

theorem chunk_emb (p : IVec (A1 320000) 32) (off : Fin 1 → ℕ) (h : ∀ a, off a + S2000.size a ≤ S320000.size a) (n : ℕ) (ho : off 0 = 2000 * n) :
    (fun x => p ((Rect.unit (s := S320000) off S2000.size h).emb x)) = chunk p n := by
  funext x
  refine congrArg p (eq_ix1 _ _ ?_)
  rw [Rect.emb_apply]
  show off 0 + 1 * (x 0).val = _
  rw [ho]; omega

/-- The refill of a chunk buffer: chunk `n` on its way, if there is one. -/
theorem wp_refill (sm : DmaSems sig S_) (b : Memref sig .scVector .vmem S2000 .i32) (q : PosShare TreeShare) (p : IVec (A1 320000) 32) (n : ℕ)
    (X : Vec F S2000 .i32) (c : BitVec 1) (hc : c = 1#1 ↔ n < 160) (off : Fin 1 → ℕ) (ho : off 0 = 2000 * n)
    (inb : c = 1#1 → ∀ a, off a + S2000.size a ≤ S320000.size a)
    (h1 : ∀ h, (arg3.slice (Rect.unit (s := S320000) off S2000.size (inb h)) (fun _ => rfl)).view.WordExact) (h2 : b.view.WordExact)
    (h3 : DmaTarget.Typed (nD := nD) (p := (thr d i).2) .hbm (.dma sm.sem) (.here b)) (kk : Prog (TpuEff nD τ sig (Elt F) Λ₀ (.scVector ((i 0).castLE hcore2) ((i 1).castLE hsub2))) Unit) (Q : Unit → sProp 𝕄) :
    (iprop(owns (thr d i) b fullShare X ∗ owns (Val := Elt F) (thr d i) arg3 q p ∗ semVal (thr d i, .dma sm.sem) 0) : sProp 𝕄)
      ⊢ iprop((bufAt (F := F) d i arg3 ι sm b q p n -∗ wp frame (wpE (defs₀ (F := F)) 𝒱 (thr d i) bd) Set.univ kk Q)
        -∗ wp frame (wpE (defs₀ (F := F)) 𝒱 (thr d i) bd) Set.univ
          (if h : c = 1#1 then
            .op (.enqueueDma (arg3.slice (Rect.unit (s := S320000) off S2000.size (inb h)) (fun _ => rfl)) (.here b) (.dma sm.sem) (h1 h) h2 h3) (fun _ => kk)
          else kk) Q) := by
  iintro ⟨Hb, H3, Hs⟩ Hk
  by_cases h : c = 1#1
  · rw [dif_pos h]
    iapply (wp_dmaIn_owns 𝒱 (thr d i) bd countersEmb ι (b.view.amount (.dma sm.sem)) rfl (View.amount_pos _ _ (by decide))) $$ [Hb H3 Hs]
    · isplitl [H3]
      · iexact H3
      isplitl [Hb]
      · iexact Hb
      iexact Hs
    rw [chunk_emb p off (inb h) n ho]
    iintro Hf
    iapply Hk
    unfold bufAt
    rw [if_pos (hc.mp h)]
    iexact Hf
  · rw [dif_neg h]
    iapply Hk
    unfold bufAt
    rw [if_neg (fun hn => h (hc.mpr hn))]
    isplitl [Hb]
    · iexists X; iexact Hb
    isplitl [H3]
    · iexact H3
    iexact Hs

theorem inv2_step (O : CellTallies nD τ sig Ix) (W : Waits sig Ix) (q : PosShare TreeShare) (u : Vec F S40000 .f32) (p : IVec (A1 320000) 32) (hp : ∀ j, GoodW (p j))
    (k : Fin k2_t2_loop.trips) (acc : Unit) :
    inv2 (U := U) d i arg3 arg5 arg6 arg7 arg8 arg9 arg10 ι O W q u p k.val acc ⊢ wp frame (wpE (defs₀ (F := F)) 𝒱 (thr d i) bd) Set.univ
          (k2_t2_body i arg2 harg2 arg3 harg3 arg4 harg4 arg5 harg5 arg6 harg6 arg7 harg7 arg8 harg8 arg9 arg10 v10_r0 v10_r1 k acc) (inv2 d i arg3 arg5 arg6 arg7 arg8 arg9 arg10 ι O W q u p (k.val + 1)) := by
  have hk : k.val < 80 := k.isLt
  unfold k2_t2_body inv2
  simp only [Prog.lift, Prog.bind_op, Prog.bind_ret, Prog.pure_eq_ret]
  iintro ⟨#Hmw, H5, H6, HA, HB, HO⟩
  ihave HA := (Entails.of_eq (show bufAt (F := F) (U := U) d i arg3 ι arg9 arg7 q.left p (2 * k.val) = _ from if_pos (by omega))) $$ HA
  unfold owing
  icases HO with ⟨%W1, %hW1, HO⟩
  iapply (wp_dmaWait 𝒱 (thr d i) bd countersEmb ι (N := arg7.view.amount (.dma arg9.sem)) rfl) $$ [HA HO]
  · isplitl [HA]
    · iexact HA
    isplitl [HO]
    · iexact HO
    iexact Hmw
  iintro ⟨⟨H7, H3⟩, HsA, HO⟩
  iapply (Scf.wp_for_bind frame (wpE (defs₀ (F := F)) 𝒱 (thr d i) bd) Set.univ k2_t3_loop.lb k2_t3_loop.ub k2_t3_loop.st k2_t3_ok ⟨⟩ _
    (inv3 d i arg5 arg6 arg7 u p (2 * k.val))
    (inv3_t3 d i arg2 harg2 arg3 harg3 arg4 harg4 arg5 harg5 arg6 harg6 arg7 harg7 arg8 harg8 arg9 arg10 v10_r0 v10_r1 𝒱 bd u p hp (2 * k.val) (by omega))) $$ [H5 H6 H7]
  · unfold inv3
    isplitl [H5]
    · iexact H5
    isplitl [H6]
    · iexact H6
    iexact H7
  iintro %_ HI
  ihave HI := (Entails.of_eq (show inv3 (Ix := Ix) (U := U) d i arg5 arg6 arg7 u p (2 * k.val) (Scf.trips k2_t3_loop.lb k2_t3_loop.ub k2_t3_loop.st) PUnit.unit
    = iprop(owns (thr d i) arg5 fullShare u ∗ owns (thr d i) arg6 fullShare (aggAt u p (125 * (2 * k.val + 1))) ∗ owns (Val := Elt F) (thr d i) arg7 fullShare (chunk p (2 * k.val))) from rfl)) $$ HI
  icases HI with ⟨H5, H6, H7⟩
  iapply (wp_refill (F := F) d i arg3 𝒱 bd ι arg9 arg7 q.left p (2 * k.val + 2) (chunk p (2 * k.val)) (k2_cond1 k) (cond1_iff k) (k2_off5 k) (off5_val k)
    (fun h => k2_off5_inb k h)) $$ [H7 H3 HsA]
  · isplitl [H7]
    · iexact H7
    isplitl [H3]
    · iexact H3
    iexact HsA
  iintro HA
  ihave HB := (Entails.of_eq (show bufAt (F := F) (U := U) d i arg3 ι arg10 arg8 q.right p (2 * k.val + 1) = _ from if_pos (by omega))) $$ HB
  iapply (wp_dmaWait 𝒱 (thr d i) bd countersEmb ι (N := arg8.view.amount (.dma arg10.sem)) rfl) $$ [HB HO]
  · isplitl [HB]
    · iexact HB
    isplitl [HO]
    · iexact HO
    iexact Hmw
  iintro ⟨⟨H8, H3⟩, HsB, HO⟩
  iapply (Scf.wp_for_bind frame (wpE (defs₀ (F := F)) 𝒱 (thr d i) bd) Set.univ k2_t4_loop.lb k2_t4_loop.ub k2_t4_loop.st k2_t4_ok ⟨⟩ _
    (inv3 d i arg5 arg6 arg8 u p (2 * k.val + 1))
    (inv3_t4 d i arg2 harg2 arg3 harg3 arg4 harg4 arg5 harg5 arg6 harg6 arg7 harg7 arg8 harg8 arg9 arg10 v10_r0 v10_r1 𝒱 bd u p hp (2 * k.val + 1) (by omega))) $$ [H5 H6 H8]
  · unfold inv3
    isplitl [H5]
    · iexact H5
    isplitl [H6]
    · iexact H6
    iexact H8
  iintro %_ HI
  ihave HI := (Entails.of_eq (show inv3 (Ix := Ix) (U := U) d i arg5 arg6 arg8 u p (2 * k.val + 1) (Scf.trips k2_t4_loop.lb k2_t4_loop.ub k2_t4_loop.st) PUnit.unit
    = iprop(owns (thr d i) arg5 fullShare u ∗ owns (thr d i) arg6 fullShare (aggAt u p (125 * (2 * (k.val + 1)))) ∗ owns (Val := Elt F) (thr d i) arg8 fullShare (chunk p (2 * k.val + 1))) from rfl)) $$ HI
  icases HI with ⟨H5, H6, H8⟩
  iapply (wp_refill (F := F) d i arg3 𝒱 bd ι arg10 arg8 q.right p (2 * k.val + 3) (chunk p (2 * k.val + 1)) (k2_cond2 k) (cond2_iff k) (k2_off7 k) (off7_val k)
    (fun h => k2_off7_inb k h)) $$ [H8 H3 HsB]
  · isplitl [H8]
    · iexact H8
    isplitl [H3]
    · iexact H3
    iexact HsB
  iintro HB
  rw [wp_ret]
  imodintro
  isplitr
  · iexact Hmw
  isplitl [H5]
  · iexact H5
  isplitl [H6]
  · iexact H6
  isplitl [HA]
  · iexact HA
  isplitl [HB]
  · iexact HB
  iexists _
  isplitr
  swap
  · iexact HO
  · ipureintro
    intro x hx
    rcases Finset.mem_insert.mp hx with hx | hx
    · exact .inr (hx ▸ rfl)
    rcases Finset.mem_insert.mp hx with hx | hx
    · exact .inr (hx ▸ rfl)
    · exact hW1 x hx

/-- The zeroing loop's invariant: the first `16 k` words are zero. -/
def inv1 (k : ℕ) (_ : Unit) : sProp 𝕄 :=
  iprop(∃ g, ⌜∀ j : S40000.Idx, (j 0).val < 16 * k → g j = Scalar.ofBits (F := F) .f32 0x00000000#32⌝ ∗ owns (Val := Elt F) (e := .f32) (thr d i) arg6 fullShare g)

theorem inv1_step (k : Fin k2_t1_loop.trips) (acc : Unit) :
    inv1 (F := F) (Ix := Ix) (U := U) d i arg6 k.val acc ⊢ wp frame (wpE (defs₀ (F := F)) 𝒱 (thr d i) bd) Set.univ
          (k2_t1_body i arg2 harg2 arg3 harg3 arg4 harg4 arg5 harg5 arg6 harg6 arg7 harg7 arg8 harg8 arg9 arg10 v10_r0 v10_r1 k acc) (inv1 (F := F) d i arg6 (k.val + 1)) := by
  unfold inv1
  iintro ⟨%g, %hg, H⟩
  iapply (wp_t1 d i arg2 harg2 arg3 harg3 arg4 harg4 arg5 harg5 arg6 harg6 arg7 harg7 arg8 harg8 arg9 arg10 v10_r0 v10_r1 𝒱 bd k g) $$ H
  iintro H
  iexists _
  isplitr
  swap
  · iexact H
  · ipureintro
    intro j hj
    by_cases hm : j ∈ (Rect.unit (s := S40000) (k2_off2 k) S16.size (k2_off2_inb k)).set
    · obtain ⟨x, rfl⟩ := (Rect.unit (s := S40000) (k2_off2 k) S16.size (k2_off2_inb k)).exists_idx_of_mem hm
      exact Rect.overlay_emb _ _ _ x
    · rw [Rect.overlay_of_not_mem _ _ _ hm]
      refine hg j (Nat.lt_of_not_le fun hle => hm ?_)
      rw [← Rect.map_emb_univ, Finset.mem_map]
      refine ⟨fun a => ⟨(j 0).val - 16 * k.val, ?_⟩, Finset.mem_univ _, ?_⟩
      · have : a = 0 := Subsingleton.elim _ _
        subst this
        show _ < 16
        omega
      · apply idx1_ext
        rw [Rect.emb_apply]
        show k2_off2 k 0 + 1 * ((j 0).val - 16 * k.val) = _
        rw [off2_val]; omega

/-- THE TILE: from the tile's share of the feature rows, of the packed edges, and its own part of the output, the part
    holds the sums over all edges. -/
theorem tile (O : CellTallies nD τ sig Ix) (W : Waits sig Ix) (q q' : PosShare TreeShare) (ut : Vec F S1280000 .f32) (p : IVec (A1 320000) 32) (hp : ∀ j, GoodW (p j))
    (X4 : Vec F S40000 .f32) :
    (iprop(MayWaits (thr d i) ι O ∗ owns (Val := Elt F) (thr d i) arg2 q' ut ∗ owns (Val := Elt F) (thr d i) arg3 q p
        ∗ owns (thr d i) (arg4.slice (Rect.unit (s := S1280000) (k2_off1 i) S40000.size (k2_off1_inb i)) (fun _ => rfl)) fullShare X4
        ∗ (∃ X, owns (Val := Elt F) (thr d i) arg5 fullShare X) ∗ (∃ X, owns (Val := Elt F) (thr d i) arg6 fullShare X)
        ∗ (∃ X, owns (Val := Elt F) (thr d i) arg7 fullShare X) ∗ (∃ X, owns (Val := Elt F) (thr d i) arg8 fullShare X)
        ∗ semVal (thr d i, .dma arg9.sem) 0 ∗ semVal (thr d i, .dma arg10.sem) 0 ∗ semVal (thr d i, .dma v10_r0.sem) 0 ∗ semVal (thr d i, .dma v10_r1.sem) 0
        ∗ owes (thr d i) O W) : sProp 𝕄)
      ⊢ wp frame (wpE (defs₀ (F := F)) 𝒱 (thr d i) bd) Set.univ (cc2__aggregate i arg2 harg2 arg3 harg3 arg4 harg4 arg5 harg5 arg6 harg6 arg7 harg7 arg8 harg8 arg9 arg10 v10_r0 v10_r1)
        fun _ => iprop(owns (Val := Elt F) (thr d i) arg2 q' ut ∗ owns (Val := Elt F) (thr d i) arg3 q p
        ∗ owns (thr d i) (arg4.slice (Rect.unit (s := S1280000) (k2_off1 i) S40000.size (k2_off1_inb i)) (fun _ => rfl)) fullShare
            (aggAt (rows ut ((i 1).val * 2 + (i 0).val)) p 20000)
        ∗ (∃ X, owns (Val := Elt F) (thr d i) arg5 fullShare X) ∗ (∃ X, owns (Val := Elt F) (thr d i) arg6 fullShare X)
        ∗ (∃ X, owns (Val := Elt F) (thr d i) arg7 fullShare X) ∗ (∃ X, owns (Val := Elt F) (thr d i) arg8 fullShare X)
        ∗ semVal (thr d i, .dma arg9.sem) 0 ∗ semVal (thr d i, .dma arg10.sem) 0 ∗ semVal (thr d i, .dma v10_r0.sem) 0 ∗ semVal (thr d i, .dma v10_r1.sem) 0
        ∗ owing (F := F) d i ι O W) := by
  have h0 : (i 0).val < 2 := (i 0).isLt
  have h1 : (i 1).val < 16 := (i 1).isLt
  have hu : (fun x => ut ((Rect.unit (s := S1280000) (k2_off1 i) S40000.size (k2_off1_inb i)).emb x)) = rows ut ((i 1).val * 2 + (i 0).val) := by
    funext x
    refine congrArg ut (eq_ix1 _ _ ?_)
    rw [Rect.emb_apply]
    show k2_off1 i 0 + 1 * (x 0).val = _
    rw [off1_val]; omega
  simp only [cc2__aggregate_eq_skeleton]
  unfold cc2__aggregate_skel
  simp only [Prog.lift, Prog.bind_op, Prog.bind_ret, Prog.pure_eq_ret]
  iintro ⟨#Hmw, H2, H3, H4, ⟨%X5, H5⟩, ⟨%X6, H6⟩, ⟨%X7, H7⟩, ⟨%X8, H8⟩, Hs9, Hs10, Hr0, Hr1, HO⟩
  iapply (wp_dmaIn_owns 𝒱 (thr d i) bd countersEmb ι (arg5.view.amount (.dma v10_r0.sem)) rfl (View.amount_pos _ _ (by decide))) $$ [H2 H5 Hr0]
  · isplitl [H2]
    · iexact H2
    isplitl [H5]
    · iexact H5
    iexact Hr0
  rw [hu]
  iintro Hf
  iapply (wp_dmaWait 𝒱 (thr d i) bd countersEmb ι (N := arg5.view.amount (.dma v10_r0.sem)) rfl) $$ [Hf HO]
  · isplitl [Hf]
    · iexact Hf
    isplitl [HO]
    · iexact HO
    iexact Hmw
  iintro ⟨⟨H5, H2⟩, Hr0, HO⟩
  iapply (Scf.wp_for_bind frame (wpE (defs₀ (F := F)) 𝒱 (thr d i) bd) Set.univ k2_t1_loop.lb k2_t1_loop.ub k2_t1_loop.st k2_t1_ok ⟨⟩ _
    (inv1 (F := F) d i arg6)
    (inv1_step d i arg2 harg2 arg3 harg3 arg4 harg4 arg5 harg5 arg6 harg6 arg7 harg7 arg8 harg8 arg9 arg10 v10_r0 v10_r1 𝒱 bd)) $$ [H6]
  · unfold inv1
    iexists X6
    isplitr
    · ipureintro; intro j hj; omega
    iexact H6
  iintro %_ HI
  ihave HI := (Entails.of_eq (show inv1 (F := F) (Ix := Ix) (U := U) d i arg6 (Scf.trips k2_t1_loop.lb k2_t1_loop.ub k2_t1_loop.st) PUnit.unit
    = iprop(∃ g, ⌜∀ j : S40000.Idx, (j 0).val < 16 * 2500 → g j = Scalar.ofBits (F := F) .f32 0x00000000#32⌝ ∗ owns (Val := Elt F) (e := .f32) (thr d i) arg6 fullShare g) from rfl)) $$ HI
  icases HI with ⟨%g, %hg, H6⟩
  have hz : g = aggAt (rows ut ((i 1).val * 2 + (i 0).val)) p 0 := funext fun j => hg j (j 0).isLt
  rw [hz]
  ihave H3 := (owns_halves (thr d i) arg3 q p).1 $$ H3
  icases H3 with ⟨H3a, H3b⟩
  iapply (wp_dmaIn_owns 𝒱 (thr d i) bd countersEmb ι (arg7.view.amount (.dma arg9.sem)) rfl (View.amount_pos _ _ (by decide))) $$ [H3a H7 Hs9]
  · isplitl [H3a]
    · iexact H3a
    isplitl [H7]
    · iexact H7
    iexact Hs9
  iintro HA
  iapply (wp_dmaIn_owns 𝒱 (thr d i) bd countersEmb ι (arg8.view.amount (.dma arg10.sem)) rfl (View.amount_pos _ _ (by decide))) $$ [H3b H8 Hs10]
  · isplitl [H3b]
    · iexact H3b
    isplitl [H8]
    · iexact H8
    iexact Hs10
  iintro HB
  iapply (Scf.wp_for_bind frame (wpE (defs₀ (F := F)) 𝒱 (thr d i) bd) Set.univ k2_t2_loop.lb k2_t2_loop.ub k2_t2_loop.st k2_t2_ok ⟨⟩ _
    (inv2 d i arg3 arg5 arg6 arg7 arg8 arg9 arg10 ι O W q (rows ut ((i 1).val * 2 + (i 0).val)) p)
    (inv2_step d i arg2 harg2 arg3 harg3 arg4 harg4 arg5 harg5 arg6 harg6 arg7 harg7 arg8 harg8 arg9 arg10 v10_r0 v10_r1 𝒱 bd ι O W q _ p hp)) $$ [H5 H6 HA HB HO]
  · unfold inv2
    isplitr
    · iexact Hmw
    isplitl [H5]
    · iexact H5
    isplitl [H6]
    · iexact H6
    isplitl [HA]
    · unfold bufAt
      rw [if_pos (by decide), ← chunk_emb p ![0] inb_S320000_S2000_0 0 rfl]
      iexact HA
    isplitl [HB]
    · unfold bufAt
      rw [if_pos (by decide), ← chunk_emb p ![2000] inb_S320000_S2000_2000 1 rfl]
      iexact HB
    iapply (owing_insert (F := F) d i ι O W W _ (fun _ h => .inl h)) $$ HO
  iintro %_ HI
  ihave HI := (Entails.of_eq (show inv2 (U := U) d i arg3 arg5 arg6 arg7 arg8 arg9 arg10 ι O W q (rows ut ((i 1).val * 2 + (i 0).val)) p (Scf.trips k2_t2_loop.lb k2_t2_loop.ub k2_t2_loop.st) PUnit.unit
    = iprop(MayWaits (thr d i) ι O ∗ owns (thr d i) arg5 fullShare (rows ut ((i 1).val * 2 + (i 0).val)) ∗ owns (thr d i) arg6 fullShare (aggAt (rows ut ((i 1).val * 2 + (i 0).val)) p 20000)
    ∗ iprop((∃ X, owns (Val := Elt F) (thr d i) arg7 fullShare X) ∗ owns (Val := Elt F) (thr d i) arg3 q.left p ∗ semVal (thr d i, .dma arg9.sem) 0)
    ∗ iprop((∃ X, owns (Val := Elt F) (thr d i) arg8 fullShare X) ∗ owns (Val := Elt F) (thr d i) arg3 q.right p ∗ semVal (thr d i, .dma arg10.sem) 0) ∗ owing (F := F) d i ι O W) from rfl)) $$ HI
  icases HI with ⟨-, H5, H6, ⟨H7, H3a, Hs9⟩, ⟨H8, H3b, Hs10⟩, HO⟩
  unfold owing
  icases HO with ⟨%W1, %hW1, HO⟩
  iapply (wp_dma_owns 𝒱 (thr d i) bd countersEmb ι _ rfl (View.amount_pos _ _ (by decide))) $$ [H6 H4 Hr1]
  · isplitl [H6]
    · iexact H6
    isplitl [H4]
    · iexact H4
    iexact Hr1
  iintro Hf
  iapply (wp_dmaWait 𝒱 (thr d i) bd countersEmb ι rfl) $$ [Hf HO]
  · isplitl [Hf]
    · iexact Hf
    isplitl [HO]
    · iexact HO
    iexact Hmw
  iintro ⟨⟨H4, H6⟩, Hr1, HO⟩
  rw [wp_ret]
  imodintro
  isplitl [H2]
  · iexact H2
  isplitl [H3a H3b]
  · iapply (owns_halves (thr d i) arg3 q p).2
    isplitl [H3a] <;> iassumption
  isplitl [H4]
  · iexact H4
  isplitl [H5]
  · iexists _; iexact H5
  isplitl [H6]
  · iexists _; iexact H6
  isplitl [H7]
  · iexact H7
  isplitl [H8]
  · iexact H8
  isplitl [Hs9]
  · iexact Hs9
  isplitl [Hs10]
  · iexact Hs10
  isplitl [Hr0]
  · iexact Hr0
  isplitl [Hr1]
  · iexact Hr1
  ihave HO := (owing_insert (F := F) d i ι O W W1 _ hW1) $$ HO
  unfold owing
  iexact HO

end Body

end Cert.Proof.KernelIdeal.Agg

end
-- ==== Proof.KernelIdeal.AggEq.lean ====
/-
  The four aggregation calls run one program.
-/
module

public import proofs.«01_k».proof.Proof.KernelIdeal.Agg

@[expose] public section

namespace Cert.Proof.KernelIdeal.Agg

open Cert.KernelIdeal Cert.KernelIdeal.Gen
open Idealize.ShloMosaic

set_option maxRecDepth 65536

theorem cc4_eq {F : FTy → Type} [FloatOps F] : cc4__aggregate (F := F) = cc2__aggregate (F := F) := rfl
theorem cc6_eq {F : FTy → Type} [FloatOps F] : cc6__aggregate (F := F) = cc2__aggregate (F := F) := rfl
theorem cc8_eq {F : FTy → Type} [FloatOps F] : cc8__aggregate (F := F) = cc2__aggregate (F := F) := rfl

end Cert.Proof.KernelIdeal.Agg
-- ==== Proof.KernelIdeal.EdgePrep.lean ====
/-
  The edge preparation kernel on one tile, at symbolic memrefs: from the edge list `e` in HBM it leaves the packed words of
  its 10000 edges, in five slices, and its counts `degAt` of the destinations.
-/
module

public import proofs.«01_k».proof.Defs
public import proofs.«01_k».proof.Proof.Own
public import proofs.«01_k».proof.Proof.Spec
public import Idealize.ShloMosaic.Lib.SparseCore.Quiescent
public import Idealize.ShloMosaic.Lib.Tactic
public import proofs.«01_k».proof.Proof.Gen.KernelIdeal
public import proofs.«01_k».proof.Proof.Gen.KernelIdeal.Skeleton

@[expose] public section

noncomputable section

namespace Cert.Proof.KernelIdeal.EdgePrep

open Cert.KernelIdeal Cert.KernelIdeal.Gen
open Cert.Proof.Own Cert.Proof.Spec

open Idealize.ShloMosaic Idealize.ShloMosaic.Transfers
open Idealize.ShloMosaic.SparseCore (S V T)
open Idealize.SL
open Idealize.SL.BI (sProp)
open scoped Idealize.SL.BI
open Idealize.SL.BI.BIBase Idealize.SL.BI.Laws Idealize.SL.Sem Idealize.SL.ProofMode
open Idealize.SL.RA
open Idealize.ShloMosaic.Tactic

variable {F : FTy → Type} [FloatOps F]
variable {Ix : Type} [DecidableEq Ix] {U : Type} [URA U] [CountersIn U]

local notation "𝕄" => MT nD τ sig Ix (Elt F) ℕ U ℕ

/-! ## The offsets of the accesses -/

theorem off1_val (k : Fin k0_t1_loop.trips) : k0_off1 k 0 = 16 * k.val := by
  have hk : k.val < 625 := k.isLt
  show ((0#32 + BitVec.ofNat 32 k.val * 1#32) * 16#32).toNat = _
  simp only [BitVec.toNat_mul, BitVec.toNat_add, BitVec.toNat_ofNat]
  omega

theorem off4_val (k : Fin k0_t2_loop.trips) : k0_off4 k 0 = 16 * k.val := by
  have hk : k.val < 125 := k.isLt
  show ((0#32 + BitVec.ofNat 32 k.val * 1#32) * 16#32).toNat = _
  simp only [BitVec.toNat_mul, BitVec.toNat_add, BitVec.toNat_ofNat]
  omega

/-- The number of a tile. -/
abbrev wid (i : grid0.Coords) : ℕ := (i 1).val * 2 + (i 0).val

theorem off2_val (i : grid0.Coords) (o : BitVec 32) (c : ℕ) (ho : o.toNat = 2000 * c) (hc : c < 5) : k0_off2 i o 0 = 10000 * wid i + 2000 * c := by
  have h0 : (i 0).val < 2 := (i 0).isLt
  have h1 : (i 1).val < 16 := (i 1).isLt
  show ((BitVec.ofNat 32 (i 1).val * 2#32 + BitVec.ofNat 32 (i 0).val) * 10000#32 + o).toNat = _
  unfold wid
  simp only [BitVec.toNat_mul, BitVec.toNat_add, BitVec.toNat_ofNat]
  omega

theorem off3_val (i : grid0.Coords) (o : BitVec 32) (c : ℕ) (ho : o.toNat = 2000 * c) (hc : c < 5) : k0_off3 i o 0 = 320000 + (10000 * wid i + 2000 * c) := by
  have h0 : (i 0).val < 2 := (i 0).isLt
  have h1 : (i 1).val < 16 := (i 1).isLt
  show (320000#32 + ((BitVec.ofNat 32 (i 1).val * 2#32 + BitVec.ofNat 32 (i 0).val) * 10000#32 + o)).toNat = _
  unfold wid
  simp only [BitVec.toNat_mul, BitVec.toNat_add, BitVec.toNat_ofNat]
  omega

section Body

variable (d : Dev nD) (i : grid0.Coords)

/-- The tile's thread. -/
abbrev thr : Thread nD τ := V d ((i 0).castLE hcore0) ((i 1).castLE hsub0)

variable (arg2 : Memref sig .scVector .hbm S640000 .i32) (harg2 : arg2.IsWhole) (arg3 : Memref sig .scVector .hbm S320000 .i32) (harg3 : arg3.IsWhole) (arg4 : Memref sig .scVector .hbm S320000 .f32) (harg4 : arg4.IsWhole) (arg5 : Memref sig .scVector .vmem S10000 .f32) (harg5 : arg5.IsWhole) (arg6 : Memref sig .scVector .vmem S2000 .i32) (harg6 : arg6.IsWhole) (arg7 : Memref sig .scVector .vmem S2000 .i32) (harg7 : arg7.IsWhole) (arg8 : Memref sig .scVector .vmem S2000 .i32) (harg8 : arg8.IsWhole) (v22_r0 : DmaSems sig S_) (v22_r1 : DmaSems sig S_) (v22_r2 : DmaSems sig S_) (v22_r3 : DmaSems sig S_) (v22_r4 : DmaSems sig S_) (v22_r5 : DmaSems sig S_) (v22_r6 : DmaSems sig S_) (v22_r7 : DmaSems sig S_) (v22_r8 : DmaSems sig S_) (v22_r9 : DmaSems sig S_) (v22_r10 : DmaSems sig S_) (v22_r11 : DmaSems sig S_) (v22_r12 : DmaSems sig S_) (v22_r13 : DmaSems sig S_) (v22_r14 : DmaSems sig S_) (v22_r15 : DmaSems sig S_)

variable (𝒱 : Variants) (bd : Option 𝒱.V)

/-- The zeroing loop's invariant: the first `16 k` words are zero. -/
def inv1 (k : ℕ) (_ : Unit) : sProp 𝕄 :=
  iprop(∃ g, ⌜∀ j : S10000.Idx, (j 0).val < 16 * k → g j = Scalar.ofBits (F := F) .f32 0x00000000#32⌝ ∗ owns (Val := Elt F) (e := .f32) (thr d i) arg5 fullShare g)

theorem inv1_step (k : Fin k0_t1_loop.trips) (acc : Unit) :
    inv1 (F := F) (Ix := Ix) (U := U) d i arg5 k.val acc ⊢ wp frame (wpE (defs₀ (F := F)) 𝒱 (thr d i) bd) Set.univ
          (k0_t1_body i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 k acc) (inv1 (F := F) d i arg5 (k.val + 1)) := by
  unfold inv1
  iintro ⟨%g, %hg, H⟩
  unfold k0_t1_body
  simp only [Prog.lift, Prog.bind_op, Prog.bind_ret, Prog.pure_eq_ret]
  iapply (wp_load_owns 𝒱 (thr d i) bd) $$ H
  iintro H
  iapply (wp_store_owns 𝒱 (thr d i) bd) $$ H
  iintro H
  rw [wp_ret]
  imodintro
  iexists _
  isplitr
  swap
  · iexact H
  · ipureintro
    intro j hj
    by_cases hm : j ∈ (Rect.unit (s := S10000) (k0_off1 k) S16.size (k0_off1_inb k)).set
    · obtain ⟨x, rfl⟩ := (Rect.unit (s := S10000) (k0_off1 k) S16.size (k0_off1_inb k)).exists_idx_of_mem hm
      exact Rect.overlay_emb _ _ _ x
    · rw [Rect.overlay_of_not_mem _ _ _ hm]
      refine hg j (Nat.lt_of_not_le fun hle => hm ?_)
      rw [← Rect.map_emb_univ, Finset.mem_map]
      refine ⟨fun a => ⟨(j 0).val - 16 * k.val, ?_⟩, Finset.mem_univ _, ?_⟩
      · have : a = 0 := Subsingleton.elim _ _
        subst this
        show _ < 16
        omega
      · apply idx1_ext
        rw [Rect.emb_apply]
        show k0_off1 k 0 + 1 * ((j 0).val - 16 * k.val) = _
        rw [off1_val]; omega

/-- A chunk loop's invariant: the first `16 j` words of chunk `c` packed, its first `j` groups counted. -/
def inv2 (e : IVec (A1 640000) 32) (c : ℕ) (j : ℕ) (_ : Unit) : sProp 𝕄 :=
  iprop(owns (Val := Elt F) (e := .f32) (thr d i) arg5 fullShare (degAt (F := F) e (wid i) (125 * c + j))
    ∗ owns (Val := Elt F) (thr d i) arg6 fullShare (esrc e (wid i) c) ∗ owns (Val := Elt F) (thr d i) arg7 fullShare (edst e (wid i) c)
    ∗ ∃ g, ⌜∀ x : S2000.Idx, (x 0).val < 16 * j → g x = epack e (wid i) c x⌝ ∗ owns (Val := Elt F) (e := .i32) (thr d i) arg8 fullShare g)

theorem inv2_step (e : IVec (A1 640000) 32) (he : ∀ k, (e k).toNat < 10000) (c : ℕ) (hc : c < 5) (k : Fin k0_t2_loop.trips) (acc : Unit) :
    inv2 (F := F) (Ix := Ix) (U := U) d i arg5 arg6 arg7 arg8 e c k.val acc ⊢ wp frame (wpE (defs₀ (F := F)) 𝒱 (thr d i) bd) Set.univ
          (k0_t2_body i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 k acc) (inv2 (F := F) d i arg5 arg6 arg7 arg8 e c (k.val + 1)) := by
  have hk : k.val < 125 := k.isLt
  unfold inv2
  iintro ⟨H5, H6, H7, %g, %hg, H8⟩
  unfold k0_t2_body
  simp only [Prog.lift, Prog.bind_op, Prog.bind_ret, Prog.pure_eq_ret]
  iapply (wp_load_owns 𝒱 (thr d i) bd) $$ H6
  iintro H6
  have hv : (fun x => edst e (wid i) c ((Rect.unit (s := S2000) (k0_off4 k) S16.size (k0_off4_inb k)).emb x) : IVec S16 32) = dgrp e (wid i) (125 * c + k.val) := by
    funext x
    refine congrArg e (congrArg (ix1 640000) ?_)
    rw [Rect.emb_apply]
    show 320000 + (10000 * wid i + 2000 * c + (k0_off4 k 0 + 1 * (x 0).val)) = _
    rw [off4_val]; omega
  iapply (wp_load_owns_eq 𝒱 (thr d i) bd _ hv) $$ H7
  iintro H7
  have hb : InB 10000 (dgrp e (wid i) (125 * c + k.val)) := inB_of fun x => he _
  rw [wp_assume_of _ _ _ _ (show k0_chk1 (dgrp e (wid i) (125 * c + k.val)) from hb)]
  iapply (wp_load_owns 𝒱 (thr d i) bd) $$ H8
  iintro H8
  iapply (wp_store_owns 𝒱 (thr d i) bd) $$ H8
  iintro H8
  iapply (wp_scatter_owns 𝒱 (thr d i) bd) $$ H5
  iintro H5
  rw [sca_eq _ _ _ hb, wp_ret]
  imodintro
  isplitl [H5]
  · iexact H5
  isplitl [H6]
  · iexact H6
  isplitl [H7]
  · iexact H7
  iexists _
  isplitr
  swap
  · iexact H8
  · ipureintro
    intro j hj
    by_cases hm : j ∈ (Rect.unit (s := S2000) (k0_off4 k) S16.size (k0_off4_inb k)).set
    · obtain ⟨x, rfl⟩ := (Rect.unit (s := S2000) (k0_off4 k) S16.size (k0_off4_inb k)).exists_idx_of_mem hm
      refine (Rect.overlay_emb _ _ _ x).trans ?_
      rw [← hv]
      rfl
    · rw [Rect.overlay_of_not_mem _ _ _ hm]
      refine hg j (Nat.lt_of_not_le fun hle => hm ?_)
      rw [← Rect.map_emb_univ, Finset.mem_map]
      refine ⟨fun a => ⟨(j 0).val - 16 * k.val, ?_⟩, Finset.mem_univ _, ?_⟩
      · have : a = 0 := Subsingleton.elim _ _
        subst this
        show _ < 16
        omega
      · apply idx1_ext
        rw [Rect.emb_apply]
        show k0_off4 k 0 + 1 * ((j 0).val - 16 * k.val) = _
        rw [off4_val]; omega

variable (ι : Ix)

/-- A chunk: its sources and destinations copied in, packed and counted, the packed words copied out. -/
theorem wp_chunk (O : CellTallies nD τ sig Ix) (W : Waits sig Ix) (q : PosShare TreeShare) (e : IVec (A1 640000) 32) (c : ℕ) (hc : c < 5)
    (o : BitVec 32) (ho : o.toNat = 2000 * c) (ra rb rc : DmaSems sig S_)
    (inb2 : ∀ a, k0_off2 i o a + S2000.size a ≤ S640000.size a) (inb3 : ∀ a, k0_off3 i o a + S2000.size a ≤ S640000.size a)
    (inb5 : ∀ a, k0_off5 i o a + S2000.size a ≤ S320000.size a)
    (body : Fin k0_t2_loop.trips → Unit → Prog (TpuEff nD τ sig (Elt F) Λ₀ (.scVector ((i 0).castLE hcore0) ((i 1).castLE hsub0))) Unit)
    (hbody : ∀ (k : Fin k0_t2_loop.trips) (acc : Unit), inv2 (F := F) (Ix := Ix) (U := U) d i arg5 arg6 arg7 arg8 e c k.val acc ⊢ wp frame (wpE (defs₀ (F := F)) 𝒱 (thr d i) bd) Set.univ
          (body k acc) (inv2 (F := F) d i arg5 arg6 arg7 arg8 e c (k.val + 1)))
    {h1 : (arg2.slice (Rect.unit (s := S640000) (k0_off2 i o) S2000.size inb2) (fun _ => rfl)).view.WordExact} {h2 : arg6.view.WordExact}
    {h3 : DmaTarget.Typed (nD := nD) (p := (thr d i).2) .hbm (.dma ra.sem) (.here arg6)}
    {h4 : (arg2.slice (Rect.unit (s := S640000) (k0_off3 i o) S2000.size inb3) (fun _ => rfl)).view.WordExact} {h5 : arg7.view.WordExact}
    {h6 : DmaTarget.Typed (nD := nD) (p := (thr d i).2) .hbm (.dma rb.sem) (.here arg7)}
    {h7 : arg8.view.WordExact} {h8 : (arg3.slice (Rect.unit (s := S320000) (k0_off5 i o) S2000.size inb5) (fun _ => rfl)).view.WordExact}
    {h9 : DmaTarget.Typed (nD := nD) (p := (thr d i).2) .vmem (.dma rc.sem) (.here (arg3.slice (Rect.unit (s := S320000) (k0_off5 i o) S2000.size inb5) (fun _ => rfl)))}
    (X6 X7 X8 X3 : Vec F S2000 .i32)
    (kk : Prog (TpuEff nD τ sig (Elt F) Λ₀ (.scVector ((i 0).castLE hcore0) ((i 1).castLE hsub0))) Unit) (Q : Unit → sProp 𝕄) :
    (iprop(MayWaits (thr d i) ι O ∗ owns (Val := Elt F) (thr d i) arg2 q e
        ∗ owns (thr d i) (arg3.slice (Rect.unit (s := S320000) (k0_off5 i o) S2000.size inb5) (fun _ => rfl)) fullShare X3
        ∗ owns (Val := Elt F) (e := .f32) (thr d i) arg5 fullShare (degAt (F := F) e (wid i) (125 * c))
        ∗ owns (thr d i) arg6 fullShare X6 ∗ owns (thr d i) arg7 fullShare X7 ∗ owns (thr d i) arg8 fullShare X8
        ∗ semVal (thr d i, .dma ra.sem) 0 ∗ semVal (thr d i, .dma rb.sem) 0 ∗ semVal (thr d i, .dma rc.sem) 0 ∗ Owing (thr d i) ι O W) : sProp 𝕄)
      ⊢ iprop((iprop(owns (Val := Elt F) (thr d i) arg2 q e
        ∗ owns (Val := Elt F) (thr d i) (arg3.slice (Rect.unit (s := S320000) (k0_off5 i o) S2000.size inb5) (fun _ => rfl)) fullShare (epack e (wid i) c)
        ∗ owns (Val := Elt F) (e := .f32) (thr d i) arg5 fullShare (degAt (F := F) e (wid i) (125 * (c + 1)))
        ∗ owns (Val := Elt F) (thr d i) arg6 fullShare (esrc e (wid i) c) ∗ owns (Val := Elt F) (thr d i) arg7 fullShare (edst e (wid i) c) ∗ owns (Val := Elt F) (thr d i) arg8 fullShare (epack e (wid i) c)
        ∗ semVal (thr d i, .dma ra.sem) 0 ∗ semVal (thr d i, .dma rb.sem) 0 ∗ semVal (thr d i, .dma rc.sem) 0 ∗ Owing (thr d i) ι O W)
          -∗ wp frame (wpE (defs₀ (F := F)) 𝒱 (thr d i) bd) Set.univ kk Q)
        -∗ wp frame (wpE (defs₀ (F := F)) 𝒱 (thr d i) bd) Set.univ
          (.op (.enqueueDma (arg2.slice (Rect.unit (s := S640000) (k0_off2 i o) S2000.size inb2) (fun _ => rfl)) (.here arg6) (.dma ra.sem) h1 h2 h3) fun _ =>
           .op (.waitDma2 ra.sem (arg2.slice (Rect.unit (s := S640000) (k0_off2 i o) S2000.size inb2) (fun _ => rfl)) arg6 h1 h2) fun _ =>
           .op (.enqueueDma (arg2.slice (Rect.unit (s := S640000) (k0_off3 i o) S2000.size inb3) (fun _ => rfl)) (.here arg7) (.dma rb.sem) h4 h5 h6) fun _ =>
           .op (.waitDma2 rb.sem (arg2.slice (Rect.unit (s := S640000) (k0_off3 i o) S2000.size inb3) (fun _ => rfl)) arg7 h4 h5) fun _ =>
           Scf.Loop.for k0_t2_loop k0_t2_ok ⟨⟩ body >>= fun _ =>
           .op (.enqueueDma arg8 (.here (arg3.slice (Rect.unit (s := S320000) (k0_off5 i o) S2000.size inb5) (fun _ => rfl))) (.dma rc.sem) h7 h8 h9) fun _ =>
           .op (.waitDma2 rc.sem arg8 (arg3.slice (Rect.unit (s := S320000) (k0_off5 i o) S2000.size inb5) (fun _ => rfl)) h7 h8) fun _ => kk) Q) := by
  have hs : (fun x => e ((Rect.unit (s := S640000) (k0_off2 i o) S2000.size inb2).emb x)) = esrc e (wid i) c := by
    funext x
    refine congrArg e (eq_ix1 _ _ ?_)
    rw [Rect.emb_apply]
    show k0_off2 i o 0 + 1 * (x 0).val = _
    rw [off2_val i o c ho hc]; omega
  have hd : (fun x => e ((Rect.unit (s := S640000) (k0_off3 i o) S2000.size inb3).emb x)) = edst e (wid i) c := by
    funext x
    refine congrArg e (eq_ix1 _ _ ?_)
    rw [Rect.emb_apply]
    show k0_off3 i o 0 + 1 * (x 0).val = _
    rw [off3_val i o c ho hc]; omega
  iintro ⟨#Hm, H2, H3, H5, H6, H7, H8, Ha, Hb, Hc, HO⟩ Hk
  iapply (wp_copyIn 𝒱 (thr d i) bd countersEmb ι (arg6.view.amount (.dma ra.sem)) rfl (View.amount_pos _ _ (by decide)) rfl _ hs) $$ [H2 H6 Ha HO]
  · isplitr
    · iexact Hm
    isplitl [H2]
    · iexact H2
    isplitl [H6]
    · iexact H6
    isplitl [Ha] <;> iassumption
  iintro ⟨H2, H6, Ha, HO⟩
  iapply (wp_copyIn 𝒱 (thr d i) bd countersEmb ι (arg7.view.amount (.dma rb.sem)) rfl (View.amount_pos _ _ (by decide)) rfl _ hd) $$ [H2 H7 Hb HO]
  · isplitr
    · iexact Hm
    isplitl [H2]
    · iexact H2
    isplitl [H7]
    · iexact H7
    isplitl [Hb] <;> iassumption
  iintro ⟨H2, H7, Hb, HO⟩
  iapply (Scf.wp_for_bind frame (wpE (defs₀ (F := F)) 𝒱 (thr d i) bd) Set.univ k0_t2_loop.lb k0_t2_loop.ub k0_t2_loop.st k0_t2_ok ⟨⟩ _
    (inv2 (F := F) d i arg5 arg6 arg7 arg8 e c) hbody) $$ [H5 H6 H7 H8]
  · unfold inv2
    isplitl [H5]
    · iexact H5
    isplitl [H6]
    · iexact H6
    isplitl [H7]
    · iexact H7
    iexists X8
    isplitr
    · ipureintro; intro j hj; omega
    iexact H8
  iintro %_ HI
  ihave HI := (Entails.of_eq (show inv2 (F := F) (Ix := Ix) (U := U) d i arg5 arg6 arg7 arg8 e c (Scf.trips k0_t2_loop.lb k0_t2_loop.ub k0_t2_loop.st) PUnit.unit
    = iprop(owns (Val := Elt F) (e := .f32) (thr d i) arg5 fullShare (degAt (F := F) e (wid i) (125 * (c + 1)))
    ∗ owns (Val := Elt F) (thr d i) arg6 fullShare (esrc e (wid i) c) ∗ owns (Val := Elt F) (thr d i) arg7 fullShare (edst e (wid i) c)
    ∗ ∃ g, ⌜∀ x : S2000.Idx, (x 0).val < 16 * 125 → g x = epack e (wid i) c x⌝ ∗ owns (Val := Elt F) (e := .i32) (thr d i) arg8 fullShare g) from rfl)) $$ HI
  icases HI with ⟨H5, H6, H7, %g, %hg, H8⟩
  have hz : g = epack e (wid i) c := funext fun j => hg j (j 0).isLt
  rw [hz]
  iapply (wp_copy 𝒱 (thr d i) bd countersEmb ι _ rfl (View.amount_pos _ _ (by decide)) rfl) $$ [H8 H3 Hc HO]
  · isplitr
    · iexact Hm
    isplitl [H8]
    · iexact H8
    isplitl [H3]
    · iexact H3
    isplitl [Hc] <;> iassumption
  iintro ⟨H8, H3, Hc, HO⟩
  iapply Hk
  isplitl [H2]
  · iexact H2
  isplitl [H3]
  · iexact H3
  isplitl [H5]
  · iexact H5
  isplitl [H6]
  · iexact H6
  isplitl [H7]
  · iexact H7
  isplitl [H8]
  · iexact H8
  isplitl [Ha]
  · iexact Ha
  isplitl [Hb]
  · iexact Hb
  isplitl [Hc] <;> iassumption

/-- The slice of the packed edges that holds the chunk at `o`. -/
abbrev outAt (o : BitVec 32) (inb : ∀ a, k0_off5 i o a + S2000.size a ≤ S320000.size a) : Memref sig .scVector .hbm S2000 .i32 :=
  arg3.slice (Rect.unit (s := S320000) (k0_off5 i o) S2000.size inb) (fun _ => rfl)

/-- THE TILE: from its share of the edge list, the packed words of its edges and the counts of its destinations. -/
theorem tile (O : CellTallies nD τ sig Ix) (W : Waits sig Ix) (q : PosShare TreeShare) (e : IVec (A1 640000) 32) (he : ∀ k, (e k).toNat < 10000)
    (Y0 Y1 Y2 Y3 Y4 : Vec F S2000 .i32) (X4 : Vec F S10000 .f32) :
    (iprop(MayWaits (thr d i) ι O ∗ owns (Val := Elt F) (thr d i) arg2 q e
        ∗ owns (Val := Elt F) (thr d i) (outAt i arg3 0#32 (k0_off5_inb i 0)) fullShare Y0 ∗ owns (Val := Elt F) (thr d i) (outAt i arg3 2000#32 (k0_off5_inb i 1)) fullShare Y1 ∗ owns (Val := Elt F) (thr d i) (outAt i arg3 4000#32 (k0_off5_inb i 2)) fullShare Y2 ∗ owns (Val := Elt F) (thr d i) (outAt i arg3 6000#32 (k0_off5_inb i 3)) fullShare Y3 ∗ owns (Val := Elt F) (thr d i) (outAt i arg3 8000#32 (k0_off5_inb i 4)) fullShare Y4
        ∗ owns (Val := Elt F) (thr d i) (arg4.slice (Rect.unit (s := S320000) (k0_off10 i) S10000.size (k0_off10_inb i)) (fun _ => rfl)) fullShare X4
        ∗ (∃ X, owns (Val := Elt F) (thr d i) arg5 fullShare X) ∗ (∃ X, owns (Val := Elt F) (thr d i) arg6 fullShare X) ∗ (∃ X, owns (Val := Elt F) (thr d i) arg7 fullShare X) ∗ (∃ X, owns (Val := Elt F) (thr d i) arg8 fullShare X)
        ∗ semVal (thr d i, .dma v22_r0.sem) 0 ∗ semVal (thr d i, .dma v22_r1.sem) 0 ∗ semVal (thr d i, .dma v22_r2.sem) 0 ∗ semVal (thr d i, .dma v22_r3.sem) 0 ∗ semVal (thr d i, .dma v22_r4.sem) 0 ∗ semVal (thr d i, .dma v22_r5.sem) 0 ∗ semVal (thr d i, .dma v22_r6.sem) 0 ∗ semVal (thr d i, .dma v22_r7.sem) 0 ∗ semVal (thr d i, .dma v22_r8.sem) 0 ∗ semVal (thr d i, .dma v22_r9.sem) 0 ∗ semVal (thr d i, .dma v22_r10.sem) 0 ∗ semVal (thr d i, .dma v22_r11.sem) 0 ∗ semVal (thr d i, .dma v22_r12.sem) 0 ∗ semVal (thr d i, .dma v22_r13.sem) 0 ∗ semVal (thr d i, .dma v22_r14.sem) 0 ∗ semVal (thr d i, .dma v22_r15.sem) 0
        ∗ owes (thr d i) O W) : sProp 𝕄)
      ⊢ wp frame (wpE (defs₀ (F := F)) 𝒱 (thr d i) bd) Set.univ (cc0__edge_prep i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15)
        fun _ => iprop(owns (Val := Elt F) (thr d i) arg2 q e
        ∗ owns (Val := Elt F) (thr d i) (outAt i arg3 0#32 (k0_off5_inb i 0)) fullShare (epack e (wid i) 0) ∗ owns (Val := Elt F) (thr d i) (outAt i arg3 2000#32 (k0_off5_inb i 1)) fullShare (epack e (wid i) 1) ∗ owns (Val := Elt F) (thr d i) (outAt i arg3 4000#32 (k0_off5_inb i 2)) fullShare (epack e (wid i) 2) ∗ owns (Val := Elt F) (thr d i) (outAt i arg3 6000#32 (k0_off5_inb i 3)) fullShare (epack e (wid i) 3) ∗ owns (Val := Elt F) (thr d i) (outAt i arg3 8000#32 (k0_off5_inb i 4)) fullShare (epack e (wid i) 4)
        ∗ owns (Val := Elt F) (thr d i) (arg4.slice (Rect.unit (s := S320000) (k0_off10 i) S10000.size (k0_off10_inb i)) (fun _ => rfl)) fullShare (degAt (F := F) e (wid i) 625)
        ∗ (∃ X, owns (Val := Elt F) (thr d i) arg5 fullShare X) ∗ (∃ X, owns (Val := Elt F) (thr d i) arg6 fullShare X) ∗ (∃ X, owns (Val := Elt F) (thr d i) arg7 fullShare X) ∗ (∃ X, owns (Val := Elt F) (thr d i) arg8 fullShare X)
        ∗ semVal (thr d i, .dma v22_r0.sem) 0 ∗ semVal (thr d i, .dma v22_r1.sem) 0 ∗ semVal (thr d i, .dma v22_r2.sem) 0 ∗ semVal (thr d i, .dma v22_r3.sem) 0 ∗ semVal (thr d i, .dma v22_r4.sem) 0 ∗ semVal (thr d i, .dma v22_r5.sem) 0 ∗ semVal (thr d i, .dma v22_r6.sem) 0 ∗ semVal (thr d i, .dma v22_r7.sem) 0 ∗ semVal (thr d i, .dma v22_r8.sem) 0 ∗ semVal (thr d i, .dma v22_r9.sem) 0 ∗ semVal (thr d i, .dma v22_r10.sem) 0 ∗ semVal (thr d i, .dma v22_r11.sem) 0 ∗ semVal (thr d i, .dma v22_r12.sem) 0 ∗ semVal (thr d i, .dma v22_r13.sem) 0 ∗ semVal (thr d i, .dma v22_r14.sem) 0 ∗ semVal (thr d i, .dma v22_r15.sem) 0
        ∗ Owing (thr d i) ι O W) := by
  simp only [cc0__edge_prep_eq_skeleton]
  unfold cc0__edge_prep_skel
  simp only [k0_part1_eq_skeleton, k0_part2_eq_skeleton]
  unfold k0_part1_skel k0_part2_skel
  simp only [Prog.lift, Prog.bind_op, Prog.bind_ret, Prog.pure_eq_ret, Prog.bind_assoc]
  iintro ⟨#Hmw, H2, HY0, HY1, HY2, HY3, HY4, H4, ⟨%X5, H5⟩, ⟨%X6, H6⟩, ⟨%X7, H7⟩, ⟨%X8, H8⟩, R0, R1, R2, R3, R4, R5, R6, R7, R8, R9, R10, R11, R12, R13, R14, R15, HO⟩
  ihave HO := (Owing_intro (thr d i) ι O W) $$ HO
  iapply (Scf.wp_for_bind frame (wpE (defs₀ (F := F)) 𝒱 (thr d i) bd) Set.univ k0_t1_loop.lb k0_t1_loop.ub k0_t1_loop.st k0_t1_ok ⟨⟩ _
    (inv1 (F := F) d i arg5)
    (inv1_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd)) $$ [H5]
  · unfold inv1
    iexists X5
    isplitr
    · ipureintro; intro j hj; omega
    iexact H5
  iintro %_ HI
  ihave HI := (Entails.of_eq (show inv1 (F := F) (Ix := Ix) (U := U) d i arg5 (Scf.trips k0_t1_loop.lb k0_t1_loop.ub k0_t1_loop.st) PUnit.unit
    = iprop(∃ g, ⌜∀ j : S10000.Idx, (j 0).val < 16 * 625 → g j = Scalar.ofBits (F := F) .f32 0x00000000#32⌝ ∗ owns (Val := Elt F) (e := .f32) (thr d i) arg5 fullShare g) from rfl)) $$ HI
  icases HI with ⟨%g, %hg, H5⟩
  have hz : g = degAt (F := F) e (wid i) (125 * 0) := funext fun j => hg j (j 0).isLt
  rw [hz]
  iapply (wp_chunk (F := F) d i arg2 arg3 arg5 arg6 arg7 arg8 𝒱 bd ι O W q e 0 (by decide) 0#32 (by decide) v22_r0 v22_r1 v22_r2
      (k0_off2_inb i 0) (k0_off3_inb i 0) (k0_off5_inb i 0) _
      (inv2_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd e he 0 (by decide))) $$ [H2 HY0 H5 H6 H7 H8 R0 R1 R2 HO]
  · isplitr
    · iexact Hmw
    isplitl [H2]
    · iexact H2
    isplitl [HY0]
    · iexact HY0
    isplitl [H5]
    · iexact H5
    isplitl [H6]
    · iexact H6
    isplitl [H7]
    · iexact H7
    isplitl [H8]
    · iexact H8
    isplitl [R0]
    · iexact R0
    isplitl [R1]
    · iexact R1
    isplitl [R2] <;> iassumption
  iintro ⟨H2, HY0, H5, H6, H7, H8, R0, R1, R2, HO⟩
  iapply (wp_chunk (F := F) d i arg2 arg3 arg5 arg6 arg7 arg8 𝒱 bd ι O W q e 1 (by decide) 2000#32 (by decide) v22_r3 v22_r4 v22_r5
      (k0_off2_inb i 1) (k0_off3_inb i 1) (k0_off5_inb i 1) _
      (inv2_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd e he 1 (by decide))) $$ [H2 HY1 H5 H6 H7 H8 R3 R4 R5 HO]
  · isplitr
    · iexact Hmw
    isplitl [H2]
    · iexact H2
    isplitl [HY1]
    · iexact HY1
    isplitl [H5]
    · iexact H5
    isplitl [H6]
    · iexact H6
    isplitl [H7]
    · iexact H7
    isplitl [H8]
    · iexact H8
    isplitl [R3]
    · iexact R3
    isplitl [R4]
    · iexact R4
    isplitl [R5] <;> iassumption
  iintro ⟨H2, HY1, H5, H6, H7, H8, R3, R4, R5, HO⟩
  iapply (wp_chunk (F := F) d i arg2 arg3 arg5 arg6 arg7 arg8 𝒱 bd ι O W q e 2 (by decide) 4000#32 (by decide) v22_r6 v22_r7 v22_r8
      (k0_off2_inb i 2) (k0_off3_inb i 2) (k0_off5_inb i 2) _
      (inv2_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd e he 2 (by decide))) $$ [H2 HY2 H5 H6 H7 H8 R6 R7 R8 HO]
  · isplitr
    · iexact Hmw
    isplitl [H2]
    · iexact H2
    isplitl [HY2]
    · iexact HY2
    isplitl [H5]
    · iexact H5
    isplitl [H6]
    · iexact H6
    isplitl [H7]
    · iexact H7
    isplitl [H8]
    · iexact H8
    isplitl [R6]
    · iexact R6
    isplitl [R7]
    · iexact R7
    isplitl [R8] <;> iassumption
  iintro ⟨H2, HY2, H5, H6, H7, H8, R6, R7, R8, HO⟩
  iapply (wp_chunk (F := F) d i arg2 arg3 arg5 arg6 arg7 arg8 𝒱 bd ι O W q e 3 (by decide) 6000#32 (by decide) v22_r9 v22_r10 v22_r11
      (k0_off2_inb i 3) (k0_off3_inb i 3) (k0_off5_inb i 3) _
      (inv2_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd e he 3 (by decide))) $$ [H2 HY3 H5 H6 H7 H8 R9 R10 R11 HO]
  · isplitr
    · iexact Hmw
    isplitl [H2]
    · iexact H2
    isplitl [HY3]
    · iexact HY3
    isplitl [H5]
    · iexact H5
    isplitl [H6]
    · iexact H6
    isplitl [H7]
    · iexact H7
    isplitl [H8]
    · iexact H8
    isplitl [R9]
    · iexact R9
    isplitl [R10]
    · iexact R10
    isplitl [R11] <;> iassumption
  iintro ⟨H2, HY3, H5, H6, H7, H8, R9, R10, R11, HO⟩
  iapply (wp_chunk (F := F) d i arg2 arg3 arg5 arg6 arg7 arg8 𝒱 bd ι O W q e 4 (by decide) 8000#32 (by decide) v22_r12 v22_r13 v22_r14
      (k0_off2_inb i 4) (k0_off3_inb i 4) (k0_off5_inb i 4) _
      (inv2_step d i arg2 harg2 arg3 harg3 arg4 harg4 arg5 harg5 arg6 harg6 arg7 harg7 arg8 harg8 v22_r0 v22_r1 v22_r2 v22_r3 v22_r4 v22_r5 v22_r6 v22_r7 v22_r8 v22_r9 v22_r10 v22_r11 v22_r12 v22_r13 v22_r14 v22_r15 𝒱 bd e he 4 (by decide))) $$ [H2 HY4 H5 H6 H7 H8 R12 R13 R14 HO]
  · isplitr
    · iexact Hmw
    isplitl [H2]
    · iexact H2
    isplitl [HY4]
    · iexact HY4
    isplitl [H5]
    · iexact H5
    isplitl [H6]
    · iexact H6
    isplitl [H7]
    · iexact H7
    isplitl [H8]
    · iexact H8
    isplitl [R12]
    · iexact R12
    isplitl [R13]
    · iexact R13
    isplitl [R14] <;> iassumption
  iintro ⟨H2, HY4, H5, H6, H7, H8, R12, R13, R14, HO⟩
  iapply (wp_copy 𝒱 (thr d i) bd countersEmb ι _ rfl (View.amount_pos _ _ (by decide)) rfl) $$ [H5 H4 R15 HO]
  · isplitr
    · iexact Hmw
    isplitl [H5]
    · iexact H5
    isplitl [H4]
    · iexact H4
    isplitl [R15] <;> iassumption
  iintro ⟨H5, H4, R15, HO⟩
  rw [wp_ret]
  imodintro
  isplitl [H2]
  · iexact H2
  isplitl [HY0]
  · iexact HY0
  isplitl [HY1]
  · iexact HY1
  isplitl [HY2]
  · iexact HY2
  isplitl [HY3]
  · iexact HY3
  isplitl [HY4]
  · iexact HY4
  isplitl [H4]
  · iexact H4
  isplitl [H5]
  · iexists _; iexact H5
  isplitl [H6]
  · iexists _; iexact H6
  isplitl [H7]
  · iexists _; iexact H7
  isplitl [H8]
  · iexists _; iexact H8
  isplitl [R0]
  · iexact R0
  isplitl [R1]
  · iexact R1
  isplitl [R2]
  · iexact R2
  isplitl [R3]
  · iexact R3
  isplitl [R4]
  · iexact R4
  isplitl [R5]
  · iexact R5
  isplitl [R6]
  · iexact R6
  isplitl [R7]
  · iexact R7
  isplitl [R8]
  · iexact R8
  isplitl [R9]
  · iexact R9
  isplitl [R10]
  · iexact R10
  isplitl [R11]
  · iexact R11
  isplitl [R12]
  · iexact R12
  isplitl [R13]
  · iexact R13
  isplitl [R14]
  · iexact R14
  isplitl [R15]
  · iexact R15
  iexact HO

end Body

end Cert.Proof.KernelIdeal.EdgePrep

end
-- ==== Proof.KernelIdeal.Calls.lean ====
/-
  The five SparseCore calls: what each hands its tiles and takes back, and each tile's obligation, from the tile bodies.
-/
module

public import proofs.«01_k».proof.Proof.KernelIdeal.Setup
public import proofs.«01_k».proof.Proof.KernelIdeal.AggEq
public import proofs.«01_k».proof.Proof.KernelIdeal.EdgePrep

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Rounds
open Idealize.ShloMosaic.Tactic

variable {F : FTy → Type} [FloatOps F]

local notation "𝕄" => MT nD τ sig (HIx 5) (Elt F) ℕ UU ℕ

/-- A tile's coordinates from the numbers of its SparseCore and of its subcore. -/
def coordsV (c : Fin 2) (s : Fin 16) : grid0.Coords :=
  fun | 0 => c | 1 => s | ⟨_ + 2, h⟩ => absurd h (Nat.not_lt.2 (Nat.le_add_left _ _))

/-- The read share of a tile. -/
def tileShare (L : grid0.Coords) : PosShare TreeShare := shareTokN fullShare ((L 0).val * 16 + (L 1).val)

/-- The slice of the packed edges a tile writes in its `j`-th copy. -/
abbrev packPart (L : grid0.Coords) (j : Fin 5) : Memref sig .scVector .hbm S2000 .i32 :=
  EdgePrep.outAt L (Memref.whole main_v1_0_scv) (BitVec.ofNat 32 (2000 * j.val)) (k0_off5_inb L j)
/-- The slice of the counts a tile writes. -/
abbrev degPart (L : grid0.Coords) : Memref sig .scVector .hbm S10000 .f32 :=
  (Memref.whole main_v1_1_scv).slice (Rect.unit (s := S320000) (k0_off10 L) S10000.size (k0_off10_inb L)) (fun _ => rfl)
/-- The slice of an aggregated array a tile writes. -/
abbrev aggPart (a4 : Memref sig .scVector .hbm S1280000 .f32) (L : grid0.Coords) : Memref sig .scVector .hbm S40000 .f32 :=
  a4.slice (Rect.unit (s := S1280000) (k2_off1 L) S40000.size (k2_off1_inb L)) (fun _ => rfl)

variable (e : Dev nD → IVec (A1 640000) 32) (RU : Fin 4 → Dev nD → Vec F (A1 1280000) .f32 → Prop)

/-- What the edge preparation hands a tile; -/
def go0 (d : Dev nD) (L : grid0.Coords) : sProp 𝕄 :=
  iprop(owns (Val := Elt F) (EdgePrep.thr d L) (Memref.whole main_v0_scv) (tileShare L) (e d)
    ∗ (∃ Y, owns (Val := Elt F) (EdgePrep.thr d L) (packPart L 0) fullShare Y) ∗ (∃ Y, owns (Val := Elt F) (EdgePrep.thr d L) (packPart L 1) fullShare Y)
    ∗ (∃ Y, owns (Val := Elt F) (EdgePrep.thr d L) (packPart L 2) fullShare Y) ∗ (∃ Y, owns (Val := Elt F) (EdgePrep.thr d L) (packPart L 3) fullShare Y)
    ∗ (∃ Y, owns (Val := Elt F) (EdgePrep.thr d L) (packPart L 4) fullShare Y) ∗ ∃ X, owns (Val := Elt F) (EdgePrep.thr d L) (degPart L) fullShare X)
/-- and takes back. -/
def td0 (d : Dev nD) (L : grid0.Coords) : sProp 𝕄 :=
  iprop(owns (Val := Elt F) (EdgePrep.thr d L) (packPart L 0) fullShare (epack (e d) (EdgePrep.wid L) 0) ∗ owns (Val := Elt F) (EdgePrep.thr d L) (packPart L 1) fullShare (epack (e d) (EdgePrep.wid L) 1)
    ∗ owns (Val := Elt F) (EdgePrep.thr d L) (packPart L 2) fullShare (epack (e d) (EdgePrep.wid L) 2) ∗ owns (Val := Elt F) (EdgePrep.thr d L) (packPart L 3) fullShare (epack (e d) (EdgePrep.wid L) 3)
    ∗ owns (Val := Elt F) (EdgePrep.thr d L) (packPart L 4) fullShare (epack (e d) (EdgePrep.wid L) 4)
    ∗ owns (Val := Elt F) (EdgePrep.thr d L) (degPart L) fullShare (degAt (F := F) (e d) (EdgePrep.wid L) 625))

/-- What an aggregation hands a tile; -/
def goA (q : Fin 4) (a2 a4 : Memref sig .scVector .hbm S1280000 .f32) (d : Dev nD) (L : grid0.Coords) : sProp 𝕄 :=
  iprop(∃ ut, ⌜RU q d ut⌝ ∗ owns (Val := Elt F) (EdgePrep.thr d L) a2 (tileShare L) ut
    ∗ owns (Val := Elt F) (EdgePrep.thr d L) (Memref.whole main_v1_0_scv) (tileShare L) (packAll (e d))
    ∗ ∃ X, owns (Val := Elt F) (EdgePrep.thr d L) (aggPart a4 L) fullShare X)
/-- and takes back. -/
def tdA (q : Fin 4) (a4 : Memref sig .scVector .hbm S1280000 .f32) (d : Dev nD) (L : grid0.Coords) : sProp 𝕄 :=
  iprop(owns (Val := Elt F) (EdgePrep.thr d L) (Memref.whole main_v1_0_scv) (tileShare L) (packAll (e d))
    ∗ ∃ ut, ⌜RU q d ut⌝ ∗ owns (Val := Elt F) (EdgePrep.thr d L) (aggPart a4 L) fullShare (aggAt (rows ut (EdgePrep.wid L)) (packAll (e d)) 20000))

instance go0_storable (d : Dev nD) (L : grid0.Coords) : BI.Storable (upEmb : UEmb _ 𝕄) (go0 (F := F) e d L) := by unfold go0; infer_instance
instance td0_storable (d : Dev nD) (L : grid0.Coords) : BI.Storable (upEmb : UEmb _ 𝕄) (td0 (F := F) e d L) := by unfold td0; infer_instance
instance goA_storable (q : Fin 4) (a2 a4 : Memref sig .scVector .hbm S1280000 .f32) (d : Dev nD) (L : grid0.Coords) : BI.Storable (upEmb : UEmb _ 𝕄) (goA (F := F) e RU q a2 a4 d L) := by
  unfold goA; infer_instance
instance tdA_storable (q : Fin 4) (a4 : Memref sig .scVector .hbm S1280000 .f32) (d : Dev nD) (L : grid0.Coords) : BI.Storable (upEmb : UEmb _ 𝕄) (tdA (F := F) e RU q a4 d L) := by
  unfold tdA; infer_instance

/-- What call `q` hands a tile; -/
def goQ (q : Fin 5) (d : Dev nD) (c : Fin 2) (i : Fin 16) : sProp 𝕄 :=
  match q with
  | 0 => go0 e d (coordsV c i)
  | 1 => goA e RU 0 (Memref.whole main_v7_scv) (Memref.whole main_v8_scv) d (coordsV c i)
  | 2 => goA e RU 1 (Memref.whole main_v16_scv) (Memref.whole main_v17_scv) d (coordsV c i)
  | 3 => goA e RU 2 (Memref.whole main_v25_scv) (Memref.whole main_v26_scv) d (coordsV c i)
  | 4 => goA e RU 3 (Memref.whole main_v34_scv) (Memref.whole main_v35_scv) d (coordsV c i)
/-- and takes back. -/
def tdQ (q : Fin 5) (d : Dev nD) (c : Fin 2) (i : Fin 16) : sProp 𝕄 :=
  match q with
  | 0 => td0 e d (coordsV c i)
  | 1 => tdA e RU 0 (Memref.whole main_v8_scv) d (coordsV c i)
  | 2 => tdA e RU 1 (Memref.whole main_v17_scv) d (coordsV c i)
  | 3 => tdA e RU 2 (Memref.whole main_v26_scv) d (coordsV c i)
  | 4 => tdA e RU 3 (Memref.whole main_v35_scv) d (coordsV c i)

instance goQ_storable (q : Fin 5) (d : Dev nD) (c : Fin 2) (i : Fin 16) : BI.Storable (upEmb : UEmb _ 𝕄) (goQ (F := F) e RU q d c i) := by
  unfold goQ; split <;> infer_instance
instance tdQ_storable (q : Fin 5) (d : Dev nD) (c : Fin 2) (i : Fin 16) : BI.Storable (upEmb : UEmb _ 𝕄) (tdQ (F := F) e RU q d c i) := by
  unfold tdQ; split <;> infer_instance

theorem nCore_eq (q : Fin 5) : (K (F := F)).nCore q = 2 := by
  match q with | 0 => rfl | 1 => rfl | 2 => rfl | 3 => rfl | 4 => rfl
theorem nSub_eq (q : Fin 5) : (K (F := F)).nSub q = 16 := by
  match q with | 0 => rfl | 1 => rfl | 2 => rfl | 3 => rfl | 4 => rfl

/-- The calls' payloads. -/
def P : (K (F := F)).Pay (nD := nD) (Val := Elt F) (Name := ℕ) (U := UU) where
  st := fun q d c => bigSep Finset.univ fun i : Fin ((K (F := F)).nSub q) => goQ e RU q d (c.cast (nCore_eq q)) (i.cast (nSub_eq q))
  dn := fun q d c => bigSep Finset.univ fun i : Fin ((K (F := F)).nSub q) => tdQ e RU q d (c.cast (nCore_eq q)) (i.cast (nSub_eq q))
  go := fun q d c i => goQ e RU q d (c.cast (nCore_eq q)) (i.cast (nSub_eq q))
  td := fun q d c i => tdQ e RU q d (c.cast (nCore_eq q)) (i.cast (nSub_eq q))
  x := fun _ _ => iprop(emp)

instance P_storable : (P (F := F) e RU).IsStorable where
  st _ d c := by unfold P; infer_instance
  dn _ d c := by unfold P; infer_instance
  go _ _ _ _ := by unfold P; infer_instance
  td _ _ _ _ := by unfold P; infer_instance

theorem vecSplit (q : Fin 5) : (K (F := F)).VecSplit' (P (F := F) e RU) q := by
  intro d c
  unfold P
  dsimp only
  iintro H
  imodintro
  isplitl [H]; · iexact H
  iintro H; iexact H

end Cert.Proof.KernelIdeal

end
-- ==== Proof.KernelIdeal.Split.lean ====
/-
  Handing the whole arrays of a SparseCore call to its 32 tiles and taking them back: disjoint slices of what is written,
  read shares of what is read.
-/
module

public import proofs.«01_k».proof.Proof.KernelIdeal.Calls

@[expose] public section

noncomputable section

namespace Cert.Proof.KernelIdeal

open Cert.KernelIdeal Cert.KernelIdeal.Gen
open Cert.Proof.Own Cert.Proof.Spec

open Idealize.ShloMosaic hiding T
open Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA

variable {F : FTy → Type} [FloatOps F]

local notation "𝕄" => MT nD τ sig (HIx 5) (Elt F) ℕ UU ℕ

/-! ## Families of equal slices -/

section Rects

variable {I : Type} [Fintype I] {n B N : ℕ} (off : I → Fin 1 → ℕ) (inb : ∀ t a, off t a + (A1 B).size a ≤ (A1 n).size a)
variable (num : I → ℕ) (hoff : ∀ t, off t 0 = B * num t) (hinj : ∀ t t', num t = num t' → t = t') (hsur : ∀ k < N, ∃ t, num t = k) (hn : n = B * N)

include hoff hinj in
theorem slices_disjoint (t t' : I) (h : t ≠ t') : Disjoint (Rect.unit (s := A1 n) (off t) (A1 B).size (inb t)).set (Rect.unit (s := A1 n) (off t') (A1 B).size (inb t')).set := by
  rw [Finset.disjoint_left]
  intro i hi hi'
  have h1 := Rect.mem_set_unit.mp hi 0
  have h2 := Rect.mem_set_unit.mp hi' 0
  rw [hoff] at h1 h2
  have h1' : B * num t ≤ (i 0).val ∧ (i 0).val < B * num t + B := h1
  have h2' : B * num t' ≤ (i 0).val ∧ (i 0).val < B * num t' + B := h2
  apply h; apply hinj
  rcases Nat.lt_trichotomy (num t) (num t') with hl | hl | hl
  · have := Nat.mul_le_mul_left B hl; rw [Nat.mul_succ] at this; omega
  · exact hl
  · have := Nat.mul_le_mul_left B hl; rw [Nat.mul_succ] at this; omega

include hoff hsur hn in
theorem slices_cover [DecidableEq (A1 n).Idx] : (Finset.univ : Finset (A1 n).Idx) = Finset.univ.biUnion fun t => (Rect.unit (s := A1 n) (off t) (A1 B).size (inb t)).set := by
  symm
  rw [Finset.eq_univ_iff_forall]
  intro i
  have hi : (i 0).val < B * N := hn ▸ (i 0).isLt
  have hB : 0 < B := Nat.pos_of_ne_zero fun h => by subst h; simp at hi
  obtain ⟨t, ht⟩ := hsur ((i 0).val / B) (Nat.div_lt_of_lt_mul hi)
  refine Finset.mem_biUnion.mpr ⟨t, Finset.mem_univ _, Rect.mem_set_unit.mpr fun a => ?_⟩
  have : a = 0 := Subsingleton.elim _ _
  subst this
  show off t 0 ≤ (i 0).val ∧ (i 0).val < off t 0 + B
  rw [hoff, ht]
  have := Nat.div_add_mod (i 0).val B
  have := Nat.mod_lt (i 0).val hB
  omega

end Rects

/-- The tiles' indices. -/
abbrev TI : Type := Fin 2 × Fin 16
/-- A tile's coordinates. -/
abbrev co (t : TI) : grid0.Coords := coordsV t.1 t.2

theorem wid_co (t : TI) : EdgePrep.wid (co t) = t.2.val * 2 + t.1.val := rfl

theorem wid_inj (t t' : TI) (h : EdgePrep.wid (co t) = EdgePrep.wid (co t')) : t = t' := by
  rw [wid_co, wid_co] at h
  have := t.1.isLt; have := t'.1.isLt
  refine Prod.ext (Fin.ext ?_) (Fin.ext ?_) <;> omega

theorem wid_lt (t : TI) : EdgePrep.wid (co t) < 32 := by
  rw [wid_co]; have := t.1.isLt; have := t.2.isLt; omega

theorem wid_sur (k : ℕ) (hk : k < 32) : ∃ t : TI, EdgePrep.wid (co t) = k :=
  ⟨(⟨k % 2, by omega⟩, ⟨k / 2, by omega⟩), by rw [wid_co]; show k / 2 * 2 + k % 2 = k; omega⟩

theorem aggOff (t : TI) : k2_off1 (co t) 0 = 40000 * EdgePrep.wid (co t) := by
  have h0 : ((co t) 0).val < 2 := t.1.isLt
  have h1 : ((co t) 1).val < 16 := t.2.isLt
  show ((BitVec.ofNat 32 ((co t) 1).val * 2#32 + BitVec.ofNat 32 ((co t) 0).val) * 40000#32).toNat = _
  unfold EdgePrep.wid
  simp only [BitVec.toNat_mul, BitVec.toNat_add, BitVec.toNat_ofNat]
  omega

theorem degOff (t : TI) : k0_off10 (co t) 0 = 10000 * EdgePrep.wid (co t) := by
  have h0 : ((co t) 0).val < 2 := t.1.isLt
  have h1 : ((co t) 1).val < 16 := t.2.isLt
  show ((BitVec.ofNat 32 ((co t) 1).val * 2#32 + BitVec.ofNat 32 ((co t) 0).val) * 10000#32).toNat = _
  unfold EdgePrep.wid
  simp only [BitVec.toNat_mul, BitVec.toNat_add, BitVec.toNat_ofNat]
  omega

/-- The number of a packed slice. -/
abbrev pnum (x : TI × Fin 5) : ℕ := 5 * EdgePrep.wid (co x.1) + x.2.val

theorem packOff (x : TI × Fin 5) : k0_off5 (co x.1) (BitVec.ofNat 32 (2000 * x.2.val)) 0 = 2000 * pnum x := by
  have h0 : ((co x.1) 0).val < 2 := x.1.1.isLt
  have h1 : ((co x.1) 1).val < 16 := x.1.2.isLt
  have h2 := x.2.isLt
  show ((BitVec.ofNat 32 ((co x.1) 1).val * 2#32 + BitVec.ofNat 32 ((co x.1) 0).val) * 10000#32 + BitVec.ofNat 32 (2000 * x.2.val)).toNat = _
  unfold pnum EdgePrep.wid
  simp only [BitVec.toNat_mul, BitVec.toNat_add, BitVec.toNat_ofNat]
  omega

theorem pnum_inj (x y : TI × Fin 5) (h : pnum x = pnum y) : x = y := by
  have := x.2.isLt; have := y.2.isLt
  unfold pnum at h
  exact Prod.ext (wid_inj _ _ (by omega)) (Fin.ext (by omega))

theorem pnum_sur (k : ℕ) (hk : k < 160) : ∃ x, pnum x = k := by
  obtain ⟨t, ht⟩ := wid_sur (k / 5) (by omega)
  exact ⟨(t, ⟨k % 5, by omega⟩), by unfold pnum; rw [ht]; show 5 * (k / 5) + k % 5 = k; omega⟩

theorem mono_univ {I : Type} [Fintype I] {Φ Ψ : I → sProp (MT nD τ sig (HIx 5) (Elt F) ℕ UU ℕ)} (h : ∀ i, (Φ i ⊢ Ψ i)) : bigSep Finset.univ Φ ⊢ bigSep Finset.univ Ψ :=
  BI.bigSep_mono fun i _ => h i

/-- Choosing the contents of every slice. -/
theorem some_univ {I : Type} [Fintype I] [DecidableEq I] {Y : Type} [Nonempty Y] (φ : I → Y → Prop) (Φ : I → Y → sProp (MT nD τ sig (HIx 5) (Elt F) ℕ UU ℕ)) :
    bigSep Finset.univ (fun i => iprop(∃ y, ⌜φ i y⌝ ∗ Φ i y)) ⊢ iprop(∃ y : I → Y, ⌜∀ i, φ i (y i)⌝ ∗ bigSep Finset.univ fun i => Φ i (y i)) := by
  refine (BI.bigSep_exists_pi (Y := fun _ => Y) Finset.univ _).trans ?_
  iintro ⟨%y, H⟩
  ihave H := (BI.bigSep_pure_sep Finset.univ _ _) $$ H
  icases H with ⟨%h, H⟩
  iexists y
  isplitr; · ipureintro; exact fun i => h i (Finset.mem_univ i)
  iexact H

/-! ## The shares -/

/-- Sums over the tiles are sums over 32 numbers. -/
theorem bigSep_tiles (Φ : ℕ → sProp (MT nD τ sig (HIx 5) (Elt F) ℕ UU ℕ)) :
    bigSep (Finset.univ : Finset (Fin 32)) (fun i => Φ i.val) = bigSep (Finset.univ : Finset TI) fun t => Φ (t.1.val * 16 + t.2.val) := by
  rw [BI.bigSep_univ_equiv (finProdFinEquiv (m := 2) (n := 16)) (fun i => Φ i.val)]
  refine congrArg _ (funext fun t => ?_)
  refine congrArg Φ ?_
  show t.2.val + 16 * t.1.val = _
  omega

theorem share_split (d : Dev nD) (b : Ref sig .tc) (f : Buf (Elt F) ((T (τ := τ) d).loc b)) :
    ((T d).loc b ↦{fullShare} f : sProp 𝕄) ⊢ iprop(((T d).loc b ↦{shareDrop fullShare 32} f) ∗ bigSep Finset.univ fun t : TI => (T d).loc b ↦{tileShare (co t)} f) := by
  have e := bigSep_tiles (F := F) (fun i => (T d).loc b ↦{shareTokN fullShare i} f)
  refine (pointsTo_toks_split fullShare 32).trans ?_
  exact (congrArg (fun X => iprop(((T d).loc b ↦{shareDrop fullShare 32} f) ∗ X : sProp (MT nD τ sig (HIx 5) (Elt F) ℕ UU ℕ))) e) ▸ .rfl

theorem share_join (d : Dev nD) (b : Ref sig .tc) (f : Buf (Elt F) ((T (τ := τ) d).loc b)) :
    iprop(((T d).loc b ↦{shareDrop fullShare 32} f) ∗ bigSep Finset.univ fun t : TI => (T d).loc b ↦{tileShare (co t)} f) ⊢ ((T d).loc b ↦{fullShare} f : sProp 𝕄) := by
  have e := bigSep_tiles (F := F) (fun i => (T d).loc b ↦{shareTokN fullShare i} f)
  refine Entails.trans ?_ (pointsTo_toks_join fullShare 32)
  exact (congrArg (fun X => iprop(((T d).loc b ↦{shareDrop fullShare 32} f) ∗ X : sProp (MT nD τ sig (HIx 5) (Elt F) ℕ UU ℕ))) e) ▸ .rfl

/-! ## An aggregation's arrays -/

variable (e : Dev nD → IVec (A1 640000) 32) (RU : Fin 4 → Dev nD → Vec F (A1 1280000) .f32 → Prop)

/-- What an aggregation may leave. -/
def AggOk (q : Fin 4) (d : Dev nD) (X : Vec F (A1 1280000) .f32) : Prop := ∀ k, ∃ ut, RU q d ut ∧ X k = aggAll ut (packAll (e d)) k

section Agg

variable (q : Fin 4) (d : Dev nD) (b2 b4 : Ref sig .tc)
variable (a2 a4 : Memref sig .scVector .hbm S1280000 .f32)

abbrev bufA (b : Ref sig .tc) : Type := Buf (Elt F) ((T (τ := τ) (nD := nD) 0).loc b)

theorem agg_slice_eq (t : TI) (X : Vec F (A1 1280000) .f32) (k : (A1 40000).Idx) (uts : TI → Vec F (A1 1280000) .f32) (p) (tt : ℕ → TI) (htt : ∀ t, tt (EdgePrep.wid (co t)) = t)
    (hX : X = fun k => aggAll (uts (tt ((k 0).val / 40000))) p k) :
    X ((Rect.unit (s := S1280000) (k2_off1 (co t)) S40000.size (k2_off1_inb (co t))).emb k) = aggAt (rows (uts t) (EdgePrep.wid (co t))) p 20000 k := by
  have hv : ((((Rect.unit (s := S1280000) (k2_off1 (co t)) S40000.size (k2_off1_inb (co t))).emb k) 0).val : ℕ) = 40000 * EdgePrep.wid (co t) + (k 0).val := by
    rw [Rect.emb_apply]
    show k2_off1 (co t) 0 + 1 * (k 0).val = _
    rw [aggOff]; omega
  have hk : (k 0).val < 40000 := (k 0).isLt
  rw [hX]
  show aggAll (uts (tt (_ / 40000))) p _ = _
  unfold aggAll
  rw [hv]
  have e1 : (40000 * EdgePrep.wid (co t) + (k 0).val) / 40000 = EdgePrep.wid (co t) := by omega
  have e2 : (40000 * EdgePrep.wid (co t) + (k 0).val) % 40000 = (k 0).val := by omega
  rw [e1, e2, htt, ix1_self]

theorem give_agg (A2 A4 : Memref sig .tc .hbm S1280000 .f32)
    (h2 : ∀ L s f, owns (Val := Elt F) (EdgePrep.thr d L) a2 s f = (owns (T d) A2 s f : sProp 𝕄))
    (h4 : ∀ L X, owns (Val := Elt F) (EdgePrep.thr d L) (aggPart a4 L) fullShare X
      = (owns (T d) (A4.slice (Rect.unit (s := S1280000) (k2_off1 L) S40000.size (k2_off1_inb L)) (fun _ => rfl)) fullShare X : sProp 𝕄))
    (hs2 : ∀ f, (owns (T d) A2 fullShare f : sProp 𝕄) ⊢ bigSep Finset.univ fun t : TI => owns (T d) A2 (tileShare (co t)) f)
    (ut : Vec F S1280000 .f32) (hut : RU q d ut) (X : Vec F S1280000 .f32) :
    iprop(owns (T d) A2 fullShare ut ∗ owns (Val := Elt F) (T d) (Memref.whole main_v1_0) fullShare (packAll (e d)) ∗ owns (T d) A4 fullShare X : sProp 𝕄)
      ⊢ iprop(((T d).loc main_v1_0 ↦{shareDrop fullShare 32} packAll (e d)) ∗ bigSep Finset.univ fun t : TI => goA (F := F) e RU q a2 a4 d (co t)) := by
  have h0 : (owns (Val := Elt F) (T d) (Memref.whole main_v1_0) fullShare (packAll (e d)) : sProp 𝕄)
      ⊢ iprop(((T d).loc main_v1_0 ↦{shareDrop fullShare 32} packAll (e d)) ∗ bigSep Finset.univ fun t : TI => owns (Val := Elt F) (EdgePrep.thr d (co t)) (Memref.whole main_v1_0_scv) (tileShare (co t)) (packAll (e d))) := by
    rw [owns_whole]
    refine (share_split d main_v1_0 _).trans ?_
    have : ∀ t : TI, (owns (Val := Elt F) (EdgePrep.thr d (co t)) (Memref.whole main_v1_0_scv) (tileShare (co t)) (packAll (e d)) : sProp 𝕄)
      = ((T d).loc main_v1_0 ↦{tileShare (co t)} packAll (e d)) := fun t => owns_whole _ _ _ _
    rw [funext this]
  have hX : (owns (T d) A4 fullShare X : sProp 𝕄) ⊢ bigSep Finset.univ fun t : TI => iprop(∃ X, owns (Val := Elt F) (EdgePrep.thr d (co t)) (aggPart a4 (co t)) fullShare X) := by
    classical
    refine (owns_rects (T d) A4 fullShare (fun t : TI => Rect.unit (s := S1280000) (k2_off1 (co t)) S40000.size (k2_off1_inb (co t))) (fun _ _ => rfl)
      (slices_disjoint (n := 1280000) (B := 40000) (fun t : TI => k2_off1 (co t)) (fun t => k2_off1_inb (co t)) (fun t => EdgePrep.wid (co t)) aggOff wid_inj)
      (slices_cover (n := 1280000) (B := 40000) (N := 32) (fun t : TI => k2_off1 (co t)) (fun t => k2_off1_inb (co t)) (fun t => EdgePrep.wid (co t)) aggOff wid_sur rfl).symm X).trans ?_
    refine mono_univ fun t => ?_
    rw [← h4 (co t)]
    iintro H; iexists _; iexact H
  have hmix : iprop((bigSep Finset.univ fun t : TI => owns (T d) A2 (tileShare (co t)) ut)
      ∗ (bigSep Finset.univ fun t : TI => owns (Val := Elt F) (EdgePrep.thr d (co t)) (Memref.whole main_v1_0_scv) (tileShare (co t)) (packAll (e d)))
      ∗ bigSep Finset.univ fun t : TI => iprop(∃ X, owns (Val := Elt F) (EdgePrep.thr d (co t)) (aggPart a4 (co t)) fullShare X) : sProp 𝕄)
      ⊢ bigSep Finset.univ fun t : TI => goA (F := F) e RU q a2 a4 d (co t) := by
    rw [← BI.bigSep_sep', ← BI.bigSep_sep']
    refine mono_univ fun t => ?_
    unfold goA
    iintro ⟨H1, H2, H3⟩
    iexists ut
    isplitr; · ipureintro; exact hut
    isplitl [H1]
    · rw [h2]; iexact H1
    isplitl [H2]; · iexact H2
    iexact H3
  iintro ⟨H2, H1, H4⟩
  ihave H2 := (hs2 ut) $$ H2
  ihave H1 := h0 $$ H1
  ihave H4 := hX $$ H4
  icases H1 with ⟨Hd, H1⟩
  isplitl [Hd]; · iexact Hd
  iapply hmix
  isplitl [H2]; · iexact H2
  isplitl [H1]; · iexact H1
  iexact H4

theorem take_agg (A4 : Memref sig .tc .hbm S1280000 .f32)
    (h4 : ∀ L X, owns (Val := Elt F) (EdgePrep.thr d L) (aggPart a4 L) fullShare X
      = (owns (T d) (A4.slice (Rect.unit (s := S1280000) (k2_off1 L) S40000.size (k2_off1_inb L)) (fun _ => rfl)) fullShare X : sProp 𝕄)) :
    iprop(((T d).loc main_v1_0 ↦{shareDrop fullShare 32} packAll (e d)) ∗ bigSep Finset.univ fun t : TI => tdA (F := F) e RU q a4 d (co t) : sProp 𝕄)
      ⊢ iprop(owns (Val := Elt F) (T d) (Memref.whole main_v1_0) fullShare (packAll (e d)) ∗ ∃ X, ⌜AggOk e RU q d X⌝ ∗ owns (T d) A4 fullShare X) := by
  classical
  unfold tdA
  rw [BI.bigSep_sep']
  have this : ∀ t : TI, (owns (Val := Elt F) (EdgePrep.thr d (co t)) (Memref.whole main_v1_0_scv) (tileShare (co t)) (packAll (e d)) : sProp 𝕄)
      = ((T d).loc main_v1_0 ↦{tileShare (co t)} packAll (e d)) := fun t => owns_whole _ _ _ _
  rw [funext this, owns_whole]
  have hX : ∀ uts : TI → Vec F (A1 1280000) .f32, (∀ t, RU q d (uts t)) →
      ((bigSep Finset.univ fun t : TI => owns (Val := Elt F) (EdgePrep.thr d (co t)) (aggPart a4 (co t)) fullShare (aggAt (rows (uts t) (EdgePrep.wid (co t))) (packAll (e d)) 20000)) : sProp 𝕄)
        ⊢ iprop(∃ X, ⌜AggOk e RU q d X⌝ ∗ owns (T d) A4 fullShare X) := fun uts huts => by
    let tt : ℕ → TI := fun k => if h : k < 32 then (wid_sur k h).choose else (0, 0)
    have htt : ∀ t, tt (EdgePrep.wid (co t)) = t := fun t => by
      have h := wid_lt t
      show (if h : _ then _ else _) = _
      rw [dif_pos h]
      exact wid_inj _ _ (wid_sur _ h).choose_spec
    obtain ⟨X, hXe⟩ : ∃ X : Vec F (A1 1280000) .f32, X = fun k => aggAll (uts (tt ((k 0).val / 40000))) (packAll (e d)) k := ⟨_, rfl⟩
    have hpt : ∀ t : TI, (owns (Val := Elt F) (EdgePrep.thr d (co t)) (aggPart a4 (co t)) fullShare (aggAt (rows (uts t) (EdgePrep.wid (co t))) (packAll (e d)) 20000) : sProp 𝕄)
        = owns (T d) (A4.slice (Rect.unit (s := S1280000) (k2_off1 (co t)) S40000.size (k2_off1_inb (co t))) (fun _ => rfl)) fullShare
          (fun k => X ((Rect.unit (s := S1280000) (k2_off1 (co t)) S40000.size (k2_off1_inb (co t))).emb k)) := fun t => by
      rw [h4 (co t)]
      exact congrArg _ (funext fun k => (agg_slice_eq t X k uts _ tt htt hXe).symm)
    rw [funext hpt]
    refine (owns_of_rects (T d) A4 fullShare (fun t : TI => Rect.unit (s := S1280000) (k2_off1 (co t)) S40000.size (k2_off1_inb (co t))) (fun _ _ => rfl)
      (slices_disjoint (n := 1280000) (B := 40000) (fun t : TI => k2_off1 (co t)) (fun t => k2_off1_inb (co t)) (fun t => EdgePrep.wid (co t)) aggOff wid_inj)
      (slices_cover (n := 1280000) (B := 40000) (N := 32) (fun t : TI => k2_off1 (co t)) (fun t => k2_off1_inb (co t)) (fun t => EdgePrep.wid (co t)) aggOff wid_sur rfl).symm X).trans ?_
    iintro H
    iexists X
    isplitr
    · ipureintro
      intro k
      exact ⟨_, huts _, congrFun hXe k⟩
    iexact H
  iintro ⟨Hd, Hs, H⟩
  isplitl [Hd Hs]
  · iapply (share_join d main_v1_0 _)
    isplitl [Hd]; · iexact Hd
    iexact Hs
  haveI : Nonempty (Vec F (A1 1280000) .f32) := ⟨fun _ => Scalar.ofBits .f32 0x00000000#32⟩
  ihave H := (some_univ (F := F) (I := TI) (Y := Vec F (A1 1280000) .f32) (fun _ ut => RU q d ut)
    (fun t ut => owns (Val := Elt F) (EdgePrep.thr d (co t)) (aggPart a4 (co t)) fullShare (aggAt (rows ut (EdgePrep.wid (co t))) (packAll (e d)) 20000))) $$ H
  icases H with ⟨%uts, %hu, H⟩
  iapply (hX uts hu)
  iexact H

end Agg

/-! ## The edge preparation's arrays -/

section Prep

variable (d : Dev nD)

theorem bigSep_five (Φ : Fin 5 → sProp (MT nD τ sig (HIx 5) (Elt F) ℕ UU ℕ)) : bigSep Finset.univ Φ = iprop(Φ 0 ∗ Φ 1 ∗ Φ 2 ∗ Φ 3 ∗ Φ 4) := by
  exact BI.bigSep_univ_eq_bigSepL [0, 1, 2, 3, 4] (by decide) (by decide) Φ

/-- A packed slice, as the TensorCore names it. -/
theorem packPart_owns (L : grid0.Coords) (j : Fin 5) (X : IVec S2000 32) :
    (owns (Val := Elt F) (EdgePrep.thr d L) (packPart L j) fullShare X : sProp 𝕄)
      = owns (Val := Elt F) (T d) ((Memref.whole main_v1_0).slice (Rect.unit (s := S320000) (k0_off5 L (BitVec.ofNat 32 (2000 * j.val))) S2000.size (k0_off5_inb L j)) (fun _ => rfl)) fullShare X := rfl

theorem degPart_owns (L : grid0.Coords) (X : Vec F S10000 .f32) :
    (owns (Val := Elt F) (EdgePrep.thr d L) (degPart L) fullShare X : sProp 𝕄)
      = owns (Val := Elt F) (T d) ((Memref.whole main_v1_1).slice (Rect.unit (s := S320000) (k0_off10 L) S10000.size (k0_off10_inb L)) (fun _ => rfl)) fullShare X := rfl

theorem pack_slice (x : TI × Fin 5) (k : (A1 2000).Idx) :
    packAll (e d) ((Rect.unit (s := S320000) (k0_off5 (co x.1) (BitVec.ofNat 32 (2000 * x.2.val))) S2000.size (k0_off5_inb (co x.1) x.2)).emb k) = epack (e d) (EdgePrep.wid (co x.1)) x.2.val k := by
  have hv : ((((Rect.unit (s := S320000) (k0_off5 (co x.1) (BitVec.ofNat 32 (2000 * x.2.val))) S2000.size (k0_off5_inb (co x.1) x.2)).emb k) 0).val : ℕ)
      = 10000 * EdgePrep.wid (co x.1) + 2000 * x.2.val + (k 0).val := by
    rw [Rect.emb_apply]
    show k0_off5 (co x.1) (BitVec.ofNat 32 (2000 * x.2.val)) 0 + 1 * (k 0).val = _
    rw [packOff]; unfold pnum; omega
  unfold packAll epack esrc edst
  rw [hv]

theorem deg_slice (t : TI) (k : (A1 10000).Idx) :
    degAll (F := F) (e d) ((Rect.unit (s := S320000) (k0_off10 (co t)) S10000.size (k0_off10_inb (co t))).emb k) = degAt (F := F) (e d) (EdgePrep.wid (co t)) 625 k := by
  have hv : ((((Rect.unit (s := S320000) (k0_off10 (co t)) S10000.size (k0_off10_inb (co t))).emb k) 0).val : ℕ) = 10000 * EdgePrep.wid (co t) + (k 0).val := by
    rw [Rect.emb_apply]
    show k0_off10 (co t) 0 + 1 * (k 0).val = _
    rw [degOff]; omega
  have hk : (k 0).val < 10000 := (k 0).isLt
  unfold degAll
  rw [hv]
  have e1 : (10000 * EdgePrep.wid (co t) + (k 0).val) / 10000 = EdgePrep.wid (co t) := by omega
  have e2 : (10000 * EdgePrep.wid (co t) + (k 0).val) % 10000 = (k 0).val := by omega
  rw [e1, e2, ix1_self]

theorem packs_eq (X : IVec S320000 32) :
    (owns (Val := Elt F) (T d) (Memref.whole main_v1_0) fullShare X : sProp 𝕄)
      ⊢ bigSep Finset.univ fun t : TI => bigSep Finset.univ fun j : Fin 5 => owns (Val := Elt F) (EdgePrep.thr d (co t)) (packPart (co t) j) fullShare
        (fun k => X ((Rect.unit (s := S320000) (k0_off5 (co t) (BitVec.ofNat 32 (2000 * j.val))) S2000.size (k0_off5_inb (co t) j)).emb k)) := by
  classical
  refine (owns_rects (Val := Elt F) (T d) (Memref.whole main_v1_0) fullShare (fun x : TI × Fin 5 => Rect.unit (s := S320000) (k0_off5 (co x.1) (BitVec.ofNat 32 (2000 * x.2.val))) S2000.size (k0_off5_inb (co x.1) x.2)) (fun _ _ => rfl)
      (slices_disjoint (n := 320000) (B := 2000) (fun x : TI × Fin 5 => k0_off5 (co x.1) (BitVec.ofNat 32 (2000 * x.2.val))) (fun x => k0_off5_inb (co x.1) x.2) pnum packOff pnum_inj)
      (slices_cover (n := 320000) (B := 2000) (N := 160) (fun x : TI × Fin 5 => k0_off5 (co x.1) (BitVec.ofNat 32 (2000 * x.2.val))) (fun x => k0_off5_inb (co x.1) x.2) pnum packOff pnum_sur rfl).symm X).trans ?_
  rw [BI.bigSep_univ_prod]
  exact .rfl

theorem packs_join (X : IVec S320000 32) :
    (bigSep Finset.univ fun t : TI => bigSep Finset.univ fun j : Fin 5 => owns (Val := Elt F) (EdgePrep.thr d (co t)) (packPart (co t) j) fullShare
        (fun k => X ((Rect.unit (s := S320000) (k0_off5 (co t) (BitVec.ofNat 32 (2000 * j.val))) S2000.size (k0_off5_inb (co t) j)).emb k)))
      ⊢ (owns (Val := Elt F) (T d) (Memref.whole main_v1_0) fullShare X : sProp 𝕄) := by
  classical
  refine Entails.trans ?_ (owns_of_rects (Val := Elt F) (T d) (Memref.whole main_v1_0) fullShare (fun x : TI × Fin 5 => Rect.unit (s := S320000) (k0_off5 (co x.1) (BitVec.ofNat 32 (2000 * x.2.val))) S2000.size (k0_off5_inb (co x.1) x.2)) (fun _ _ => rfl)
      (slices_disjoint (n := 320000) (B := 2000) (fun x : TI × Fin 5 => k0_off5 (co x.1) (BitVec.ofNat 32 (2000 * x.2.val))) (fun x => k0_off5_inb (co x.1) x.2) pnum packOff pnum_inj)
      (slices_cover (n := 320000) (B := 2000) (N := 160) (fun x : TI × Fin 5 => k0_off5 (co x.1) (BitVec.ofNat 32 (2000 * x.2.val))) (fun x => k0_off5_inb (co x.1) x.2) pnum packOff pnum_sur rfl).symm X)
  rw [BI.bigSep_univ_prod (α := TI) (β := Fin 5)]
  exact Entails.of_eq rfl

theorem give_prep (Y : IVec S320000 32) (X : Vec F S320000 .f32) :
    iprop(owns (Val := Elt F) (T d) (Memref.whole main_v0) fullShare (e d) ∗ owns (Val := Elt F) (T d) (Memref.whole main_v1_0) fullShare Y ∗ owns (T d) (Memref.whole main_v1_1) fullShare X : sProp 𝕄)
      ⊢ bigSep Finset.univ fun t : TI => go0 (F := F) e d (co t) := by
  have h0 : (owns (Val := Elt F) (T d) (Memref.whole main_v0) fullShare (e d) : sProp 𝕄)
      ⊢ bigSep Finset.univ fun t : TI => owns (Val := Elt F) (EdgePrep.thr d (co t)) (Memref.whole main_v0_scv) (tileShare (co t)) (e d) := by
    rw [owns_whole]
    refine (share_split d main_v0 _).trans ?_
    have : ∀ t : TI, (owns (Val := Elt F) (EdgePrep.thr d (co t)) (Memref.whole main_v0_scv) (tileShare (co t)) (e d) : sProp 𝕄)
      = ((T d).loc main_v0 ↦{tileShare (co t)} e d) := fun t => owns_whole _ _ _ _
    rw [funext this]
    iintro H; icases H with ⟨-, H⟩; iexact H
  have hX : (owns (T d) (Memref.whole main_v1_1) fullShare X : sProp 𝕄) ⊢ bigSep Finset.univ fun t : TI => iprop(∃ X, owns (Val := Elt F) (EdgePrep.thr d (co t)) (degPart (co t)) fullShare X) := by
    classical
    refine (owns_rects (T d) (Memref.whole main_v1_1) fullShare (fun t : TI => Rect.unit (s := S320000) (k0_off10 (co t)) S10000.size (k0_off10_inb (co t))) (fun _ _ => rfl)
      (slices_disjoint (n := 320000) (B := 10000) (fun t : TI => k0_off10 (co t)) (fun t => k0_off10_inb (co t)) (fun t => EdgePrep.wid (co t)) degOff wid_inj)
      (slices_cover (n := 320000) (B := 10000) (N := 32) (fun t : TI => k0_off10 (co t)) (fun t => k0_off10_inb (co t)) (fun t => EdgePrep.wid (co t)) degOff wid_sur rfl).symm X).trans ?_
    refine mono_univ fun t => ?_
    rw [← degPart_owns]
    iintro H; iexists _; iexact H
  have hmix : iprop((bigSep Finset.univ fun t : TI => owns (Val := Elt F) (EdgePrep.thr d (co t)) (Memref.whole main_v0_scv) (tileShare (co t)) (e d))
      ∗ (bigSep Finset.univ fun t : TI => bigSep Finset.univ fun j : Fin 5 => owns (Val := Elt F) (EdgePrep.thr d (co t)) (packPart (co t) j) fullShare
        (fun k => Y ((Rect.unit (s := S320000) (k0_off5 (co t) (BitVec.ofNat 32 (2000 * j.val))) S2000.size (k0_off5_inb (co t) j)).emb k)))
      ∗ bigSep Finset.univ fun t : TI => iprop(∃ X, owns (Val := Elt F) (EdgePrep.thr d (co t)) (degPart (co t)) fullShare X) : sProp 𝕄)
      ⊢ bigSep Finset.univ fun t : TI => go0 (F := F) e d (co t) := by
    rw [← BI.bigSep_sep', ← BI.bigSep_sep']
    refine mono_univ fun t => ?_
    rw [bigSep_five]
    unfold go0
    iintro ⟨H1, ⟨P0, P1, P2, P3, P4⟩, H3⟩
    isplitl [H1]; · iexact H1
    isplitl [P0]; · iexists _; iexact P0
    isplitl [P1]; · iexists _; iexact P1
    isplitl [P2]; · iexists _; iexact P2
    isplitl [P3]; · iexists _; iexact P3
    isplitl [P4]; · iexists _; iexact P4
    iexact H3
  iintro ⟨H2, H1, H4⟩
  ihave H2 := h0 $$ H2
  ihave H1 := (packs_eq d Y) $$ H1
  ihave H4 := hX $$ H4
  iapply hmix
  isplitl [H2]; · iexact H2
  isplitl [H1]; · iexact H1
  iexact H4

theorem take_prep :
    (bigSep Finset.univ fun t : TI => td0 (F := F) e d (co t))
      ⊢ (iprop(owns (Val := Elt F) (T d) (Memref.whole main_v1_0) fullShare (packAll (e d)) ∗ owns (T d) (Memref.whole main_v1_1) fullShare (degAll (F := F) (e d))) : sProp 𝕄) := by
  have hm : (bigSep Finset.univ fun t : TI => td0 (F := F) e d (co t))
      ⊢ iprop((bigSep Finset.univ fun t : TI => bigSep Finset.univ fun j : Fin 5 => owns (Val := Elt F) (EdgePrep.thr d (co t)) (packPart (co t) j) fullShare
          (fun k => packAll (e d) ((Rect.unit (s := S320000) (k0_off5 (co t) (BitVec.ofNat 32 (2000 * j.val))) S2000.size (k0_off5_inb (co t) j)).emb k)))
        ∗ bigSep Finset.univ fun t : TI => owns (T d) ((Memref.whole main_v1_1).slice (Rect.unit (s := S320000) (k0_off10 (co t)) S10000.size (k0_off10_inb (co t))) (fun _ => rfl)) fullShare
          (fun k => degAll (F := F) (e d) ((Rect.unit (s := S320000) (k0_off10 (co t)) S10000.size (k0_off10_inb (co t))).emb k)) : sProp 𝕄) := by
    rw [← BI.bigSep_sep']
    refine mono_univ fun t => ?_
    rw [bigSep_five, funext (pack_slice e d (t, 0)), funext (pack_slice e d (t, 1)), funext (pack_slice e d (t, 2)), funext (pack_slice e d (t, 3)), funext (pack_slice e d (t, 4))]
    have hd : (owns (Val := Elt F) (EdgePrep.thr d (co t)) (degPart (co t)) fullShare (degAt (F := F) (e d) (EdgePrep.wid (co t)) 625) : sProp 𝕄)
        ⊢ owns (T d) ((Memref.whole main_v1_1).slice (Rect.unit (s := S320000) (k0_off10 (co t)) S10000.size (k0_off10_inb (co t))) (fun _ => rfl)) fullShare
          (fun k => degAll (F := F) (e d) ((Rect.unit (s := S320000) (k0_off10 (co t)) S10000.size (k0_off10_inb (co t))).emb k)) := by
      rw [degPart_owns]
      exact Entails.of_eq (congrArg _ (funext fun k => (deg_slice (F := F) e d t k).symm))
    unfold td0
    iintro ⟨P0, P1, P2, P3, P4, H⟩
    isplitr [H]
    · isplitl [P0]; · iexact P0
      isplitl [P1]; · iexact P1
      isplitl [P2]; · iexact P2
      isplitl [P3]; · iexact P3
      iexact P4
    iapply hd; iexact H
  refine hm.trans ?_
  iintro ⟨H1, H2⟩
  isplitl [H1]
  · iapply (packs_join d (packAll (e d))); iexact H1
  classical
  iapply (owns_of_rects (T d) (Memref.whole main_v1_1) fullShare (fun t : TI => Rect.unit (s := S320000) (k0_off10 (co t)) S10000.size (k0_off10_inb (co t))) (fun _ _ => rfl)
      (slices_disjoint (n := 320000) (B := 10000) (fun t : TI => k0_off10 (co t)) (fun t => k0_off10_inb (co t)) (fun t => EdgePrep.wid (co t)) degOff wid_inj)
      (slices_cover (n := 320000) (B := 10000) (N := 32) (fun t : TI => k0_off10 (co t)) (fun t => k0_off10_inb (co t)) (fun t => EdgePrep.wid (co t)) degOff wid_sur rfl).symm (degAll (F := F) (e d)))
  iexact H2

end Prep

end Cert.Proof.KernelIdeal

end
-- ==== Proof.KernelIdeal.Steps.lean ====
/-
  @main on the TensorCore: its ten calls and the host operations between them, over the buffers it holds, from any
  predicate on their contents that each step keeps.
-/
module

public import proofs.«01_k».proof.Proof.KernelIdeal.Regions
public import proofs.«01_k».proof.Proof.KernelIdeal.Split

@[expose] public section

noncomputable section

namespace Cert.Proof.KernelIdeal

open Cert.KernelIdeal Cert.KernelIdeal.Gen
open Cert.Proof.Own Cert.Proof.Spec

open Idealize.ShloMosaic hiding T
open Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Pipeline (arrRef arrRefs ucRefs RDat)

variable {F : FTy → Type} [FloatOps F]

local notation "𝕄" => MT nD τ sig (HIx 5) (Elt F) ℕ UU ℕ

/-! ## The buffers held -/

/-- A buffer of @main as a device buffer. -/
abbrev dr (b : Ref sig .tc) : DevRef τ sig := Proc.devRef .tc b

theorem dr_ne {a b : Ref sig .tc} (h : a ≠ b) : dr a ≠ dr b := fun e => h (Proc.devRef_injective _ e)

/-- The unscoped buffers but those listed. -/
def SS (D : List (Ref sig .tc)) : Finset (DevRef τ sig) := ucRefs τ sig \ (D.map dr).toFinset

theorem mem_SS {D : List (Ref sig .tc)} {b : Ref sig .tc} (hb : b.isScoped = false) (hD : b ∉ D) : dr b ∈ SS D := by
  refine Finset.mem_sdiff.mpr ⟨Finset.mem_filter.mpr ⟨StableHlo.devRef_mem_tcRefs b, by rw [Proc.isScoped_devRef, hb]; exact Bool.false_ne_true⟩, fun h => ?_⟩
  obtain ⟨x, hx, e⟩ := List.mem_map.mp (List.mem_toFinset.mp h)
  exact hD (Proc.devRef_injective _ e ▸ hx)

theorem SS_nil : SS [] = ucRefs τ sig := by unfold SS; simp

theorem SS_cons (D : List (Ref sig .tc)) (b : Ref sig .tc) : SS (b :: D) = (SS D).erase (dr b) := by
  ext x
  unfold SS
  simp only [Finset.mem_sdiff, List.mem_toFinset, Finset.mem_erase, List.map_cons, List.mem_cons]
  tauto

theorem arrs_SS {gr W : ℕ} (win : Fin W → Pipeline.WinSpec sig gr) (D : List (Ref sig .tc)) (hw : ∀ w, (arrRef win w).isScoped = false) (hD : ∀ w, arrRef win w ∉ D) :
    arrRefs (τ := τ) win ⊆ SS D := fun b hb => by
  obtain ⟨r, hr, rfl⟩ := Finset.mem_map.mp hb
  obtain ⟨w, -, rfl⟩ := Finset.mem_image.mp hr
  exact mem_SS (hw w) (hD w)

theorem pair_SS {D : List (Ref sig .tc)} {x y : Ref sig .tc} (hx : x.isScoped = false) (hy : y.isScoped = false) (hxD : x ∉ D) (hyD : y ∉ D) :
    ({dr x, dr y} : Finset (DevRef τ sig)) ⊆ SS D := fun b hb => by
  rcases Finset.mem_insert.mp hb with rfl | hb
  · exact mem_SS hx hxD
  · cases Finset.mem_singleton.mp hb; exact mem_SS hy hyD

/-- Three buffers taken out of what is held. -/
theorem held_three (d : Dev nD) (S : Finset (DevRef τ sig)) (a b c : Ref sig .tc) (hab : a ≠ b) (hac : a ≠ c) (hbc : b ≠ c) (ha : dr a ∈ S) (hb : dr b ∈ S) (hc : dr c ∈ S) (V : Vl F) :
    (StableHlo.held (T d) S V : sProp 𝕄) = iprop(((T d).loc a ↦{fullShare} V (dr a)) ∗ ((T d).loc b ↦{fullShare} V (dr b)) ∗ ((T d).loc c ↦{fullShare} V (dr c))
      ∗ StableHlo.held (T d) (((S.erase (dr a)).erase (dr b)).erase (dr c)) V) := by
  unfold StableHlo.held
  rw [BI.bigSep_erase ha, BI.bigSep_erase (Finset.mem_erase.mpr ⟨(dr_ne hab).symm, hb⟩),
    BI.bigSep_erase (Finset.mem_erase.mpr ⟨(dr_ne hbc).symm, Finset.mem_erase.mpr ⟨(dr_ne hac).symm, hc⟩⟩)]
  rfl

theorem held_two (d : Dev nD) (S : Finset (DevRef τ sig)) (b c : Ref sig .tc) (hbc : b ≠ c) (hb : dr b ∈ S) (hc : dr c ∈ S) (V : Vl F) :
    (StableHlo.held (T d) S V : sProp 𝕄) = iprop(((T d).loc b ↦{fullShare} V (dr b)) ∗ ((T d).loc c ↦{fullShare} V (dr c))
      ∗ StableHlo.held (T d) ((S.erase (dr b)).erase (dr c)) V) := by
  unfold StableHlo.held
  rw [BI.bigSep_erase hb, BI.bigSep_erase (Finset.mem_erase.mpr ⟨(dr_ne hbc).symm, hc⟩)]
  rfl

/-! ## The steps -/

/-- A host operation on two of the buffers held. -/
theorem step_host (d : Dev nD) (op : HloOp τ sig (Elt F)) {x y : Ref sig .tc} (D : List (Ref sig .tc)) (V : Vl F) (hb : op.bufs = {dr x, dr y})
    (hx : x.isScoped = false) (hy : y.isScoped = false) (hD : x ∉ D ∧ y ∉ D) (hf : op.fresh = ∅) (Φ : PUnit → sProp (MT nD τ sig (HIx 5) (Elt F) ℕ UU ℕ)) :
    iprop(boundary (T d) ∗ StableHlo.held (T d) (SS D) V : sProp 𝕄)
      ⊢ iprop(((boundary (T d) ∗ StableHlo.held (T d) (SS D) (op.result V)) -∗ Φ ⟨⟩)
        -∗ wp frame (wpE (defs (F := F)) 𝒱 (T d) none) Set.univ (hlo rfl op (fun _ => .ret ⟨⟩)) Φ) := by
  iintro H Hk
  iapply (StableHlo.wp_hlo_within 𝒱 (T d) none Set.univ (op := op) (S := SS D) (hb ▸ pair_SS hx hy hD.1 hD.2) (V := V) hf) $$ H
  iintro H
  rw [wp_ret]; imodintro
  iapply Hk; iexact H

/-- What is held once a buffer is gone. -/
theorem held_gone (d : Dev nD) (D : List (Ref sig .tc)) (b : Ref sig .tc) (V : Vl F) :
    (StableHlo.held (T d) ((SS D).erase (dr b)) V : sProp 𝕄) ⊢ StableHlo.held (T d) (SS (b :: D)) V :=
  Entails.of_eq (by rw [SS_cons])

variable (e : Dev nD → IVec (A1 640000) 32) (RU : Fin 4 → Dev nD → Vec F (A1 1280000) .f32 → Prop)

/-- What the edge preparation leaves. -/
def Call0 (d : Dev nD) (V V' : Vl F) : Prop :=
  V' (dr main_v1_0) = packAll (e d) ∧ V' (dr main_v1_1) = degAll (F := F) (e d) ∧ ∀ b, b ≠ dr main_v1_0 → b ≠ dr main_v1_1 → V' b = V b

theorem st_eq (q : Fin 5) (d : Dev nD) : (bigSep Finset.univ fun c : Fin ((K (F := F)).nCore q) => (P (F := F) e RU).st q d c) = bigSep Finset.univ fun t : TI => goQ (F := F) e RU q d t.1 t.2 := by
  rw [BI.bigSep_univ_prod (α := Fin 2) (β := Fin 16), BI.bigSep_univ_equiv (finCongr (nCore_eq (F := F) q)) (fun c => bigSep Finset.univ fun i : Fin 16 => goQ (F := F) e RU q d c i)]
  refine congrArg _ (funext fun c => ?_)
  rw [BI.bigSep_univ_equiv (finCongr (nSub_eq (F := F) q)) (fun i => goQ (F := F) e RU q d _ i)]
  rfl
theorem dn_eq (q : Fin 5) (d : Dev nD) : (bigSep Finset.univ fun c : Fin ((K (F := F)).nCore q) => (P (F := F) e RU).dn q d c) = bigSep Finset.univ fun t : TI => tdQ (F := F) e RU q d t.1 t.2 := by
  rw [BI.bigSep_univ_prod (α := Fin 2) (β := Fin 16), BI.bigSep_univ_equiv (finCongr (nCore_eq (F := F) q)) (fun c => bigSep Finset.univ fun i : Fin 16 => tdQ (F := F) e RU q d c i)]
  refine congrArg _ (funext fun c => ?_)
  rw [BI.bigSep_univ_equiv (finCongr (nSub_eq (F := F) q)) (fun i => tdQ (F := F) e RU q d _ i)]
  rfl

theorem st0_eq (d : Dev nD) : (bigSep Finset.univ fun c : Fin ((K (F := F)).nCore 0) => (P (F := F) e RU).st 0 d c) = bigSep Finset.univ fun t : TI => go0 (F := F) e d (co t) :=st_eq e RU 0 d
theorem dn0_eq (d : Dev nD) : (bigSep Finset.univ fun c : Fin ((K (F := F)).nCore 0) => (P (F := F) e RU).dn 0 d c) = bigSep Finset.univ fun t : TI => td0 (F := F) e d (co t) :=dn_eq e RU 0 d

/-- The edge preparation. -/
theorem wp_call0 (κ : GSem nD τ sig → ℕ) (d : Dev nD) (V : Vl F) (S : Finset (DevRef τ sig)) (h0 : dr main_v0 ∈ S) (h1 : dr main_v1_0 ∈ S) (h2 : dr main_v1_1 ∈ S) (hv : V (dr main_v0) = e d)
    (Φ : PUnit → sProp (MT nD τ sig (HIx 5) (Elt F) ℕ UU ℕ)) :
    iprop((K (F := F)).ctx EH (P (F := F) e RU) κ ∗ (K (F := F)).tcSt EH d 0 ∗ StableHlo.held (T d) S V
        ∗ ((∃ V', ⌜Call0 e d V V'⌝ ∗ (K (F := F)).tcSt EH d 1 ∗ StableHlo.held (T d) (S.erase (dr main_v0)) V') -∗ Φ ⟨⟩) : sProp 𝕄)
      ⊢ wp frame (wpE (defs (F := F)) 𝒱 (T d) none) Set.univ (sc.run d 0) Φ := by
  have hg := give_prep (F := F) e d (V (dr main_v1_0)) (V (dr main_v1_1))
  rw [owns_whole, owns_whole, owns_whole] at hg
  have ht := take_prep (F := F) e d
  rw [owns_whole, owns_whole] at ht
  rw [held_three d S main_v0 main_v1_0 main_v1_1 (by decide) (by decide) (by decide) h0 h1 h2 V, hv]
  refine Entails.trans ?_ ((K (F := F)).wp_run D 𝒱 (EH := EH) (P := P (F := F) e RU) κ d 0)
  rw [st0_eq, dn0_eq]
  iintro ⟨Hc, Hst, ⟨H0, H1, H2, Hr⟩, Hk⟩
  isplitl [Hc]; · iexact Hc
  isplitl [Hst]; · iexact Hst
  isplitl [H0 H1 H2]
  · iapply hg
    isplitl [H0]; · iexact H0
    isplitl [H1]; · iexact H1
    iexact H2
  iintro ⟨Hst, Hd⟩
  ihave Hd := ht $$ Hd
  icases Hd with ⟨H1, H2⟩
  iapply Hk
  have hn : main_v1_0 ≠ main_v1_1 := by decide
  obtain ⟨V', hV'⟩ : ∃ V' : Vl F, V' = Function.update (Function.update V (dr main_v1_1) (degAll (F := F) (e d))) (dr main_v1_0) (packAll (e d)) := ⟨_, rfl⟩
  have hC : Call0 e d V V' := by
    subst hV'
    refine ⟨Function.update_self _ _ _, ?_, fun b hb hb' => ?_⟩
    · rw [Function.update_of_ne (dr_ne hn.symm), Function.update_self]
    · rw [Function.update_of_ne hb, Function.update_of_ne hb']
  iexists V'
  isplitr; · ipureintro; exact hC
  isplitl [Hst]; · iexact Hst
  iapply (Entails.of_eq (held_two d (S.erase (dr main_v0)) main_v1_0 main_v1_1 hn (Finset.mem_erase.mpr ⟨dr_ne (by decide), h1⟩) (Finset.mem_erase.mpr ⟨dr_ne (by decide), h2⟩) V').symm)
  isplitl [H1]
  · iapply (Entails.of_eq (congrArg (fun f => ((T d).loc main_v1_0 ↦{fullShare} f : sProp (MT nD τ sig (HIx 5) (Elt F) ℕ UU ℕ))) hC.1.symm)); iexact H1
  isplitl [H2]
  · iapply (Entails.of_eq (congrArg (fun f => ((T d).loc main_v1_1 ↦{fullShare} f : sProp (MT nD τ sig (HIx 5) (Elt F) ℕ UU ℕ))) hC.2.1.symm)); iexact H2
  iapply (Entails.of_eq (StableHlo.held_congr (T d) (V := V) (V' := V') (fun b hb => (hC.2.2 b (Finset.mem_erase.mp (Finset.mem_erase.mp hb).2).1 (Finset.mem_erase.mp hb).1).symm)))
  iexact Hr

/-- What an aggregation into `b` leaves. -/
def CallA (q : Fin 4) (b : Ref sig .tc) (d : Dev nD) (V V' : Vl F) (hb : Vl F → Vec F (A1 1280000) .f32) : Prop :=
  AggOk e RU q d (hb V') ∧ ∀ x, x ≠ dr b → V' x = V x

/-- An aggregation from `b2` into `b4`: `g2` and `g4` read the buffers' contents as the arrays. -/
theorem wp_callA (q : Fin 4) (q5 : Fin 5) (a2 a4 : Memref sig .scVector .hbm S1280000 .f32) (A2 A4 : Memref sig .tc .hbm S1280000 .f32) (b2 b4 : Ref sig .tc)
    (κ : GSem nD τ sig → ℕ) (d : Dev nD) (V : Vl F) (S : Finset (DevRef τ sig)) (h0 : dr b2 ∈ S) (h1 : dr main_v1_0 ∈ S) (h2 : dr b4 ∈ S)
    (u2 u4 : Vl F → Vec F S1280000 .f32) (g2 : Vec F S1280000 .f32 → Buf (Elt F) ((T (τ := τ) d).loc b2)) (g4 : Vec F S1280000 .f32 → Buf (Elt F) ((T (τ := τ) d).loc b4))
    (hu2 : ∀ V, g2 (u2 V) = V (dr b2)) (hu4 : ∀ V, g4 (u4 V) = V (dr b4)) (hg4 : ∀ V X, V (dr b4) = g4 X → u4 V = X)
    (o2 : ∀ s f, (owns (Val := Elt F) (T d) A2 s f : sProp (MT nD τ sig (HIx 5) (Elt F) ℕ UU ℕ)) = ((T d).loc b2 ↦{s} g2 f))
    (o4 : ∀ f, (owns (Val := Elt F) (T d) A4 fullShare f : sProp (MT nD τ sig (HIx 5) (Elt F) ℕ UU ℕ)) = ((T d).loc b4 ↦{fullShare} g4 f))
    (h2' : ∀ L s f, owns (Val := Elt F) (EdgePrep.thr d L) a2 s f = (owns (T d) A2 s f : sProp (MT nD τ sig (HIx 5) (Elt F) ℕ UU ℕ)))
    (h4' : ∀ L X, owns (Val := Elt F) (EdgePrep.thr d L) (aggPart a4 L) fullShare X
      = (owns (T d) (A4.slice (Rect.unit (s := S1280000) (k2_off1 L) S40000.size (k2_off1_inb L)) (fun _ => rfl)) fullShare X : sProp (MT nD τ sig (HIx 5) (Elt F) ℕ UU ℕ)))
    (hgo : ∀ t : TI, goQ (F := F) e RU q5 d t.1 t.2 = goA (F := F) e RU q a2 a4 d (co t)) (htd : ∀ t : TI, tdQ (F := F) e RU q5 d t.1 t.2 = tdA (F := F) e RU q a4 d (co t))
    (n02 : b2 ≠ main_v1_0) (n04 : b2 ≠ b4) (n14 : main_v1_0 ≠ b4)
    (hp : V (dr main_v1_0) = packAll (e d)) (hu : RU q d (u2 V)) (Φ : PUnit → sProp (MT nD τ sig (HIx 5) (Elt F) ℕ UU ℕ)) :
    iprop((K (F := F)).ctx EH (P (F := F) e RU) κ ∗ (K (F := F)).tcSt EH d q5.val ∗ StableHlo.held (T d) S V
        ∗ ((∃ V', ⌜CallA e RU q b4 d V V' u4⌝ ∗ (K (F := F)).tcSt EH d (q5.val + 1) ∗ StableHlo.held (T d) (S.erase (dr b2)) V') -∗ Φ ⟨⟩) : sProp 𝕄)
      ⊢ wp frame (wpE (defs (F := F)) 𝒱 (T d) none) Set.univ (sc.run d q5) Φ := by
  have hg := give_agg (F := F) e RU q d a2 a4 A2 A4 h2' h4'
    (fun f => by
      rw [o2]
      refine (share_split d b2 _).trans ?_
      iintro H; icases H with ⟨-, H⟩
      iapply (Entails.of_eq (congrArg (bigSep Finset.univ) (funext fun t : TI => o2 (tileShare (co t)) f)).symm)
      iexact H) (u2 V) hu (u4 V)
  rw [owns_whole, o2, o4, hu2, hu4] at hg
  have ht := take_agg (F := F) e RU q d a4 A4 h4'
  rw [owns_whole] at ht
  rw [held_three d S b2 main_v1_0 b4 n02 n04 n14 h0 h1 h2 V, hp]
  refine Entails.trans ?_ ((K (F := F)).wp_run D 𝒱 (EH := EH) (P := P (F := F) e RU) κ d q5)
  rw [st_eq, dn_eq, funext hgo, funext htd]
  iintro ⟨Hc, Hst, ⟨H0, H1, H2, Hr⟩, Hk⟩
  ihave Hg := hg $$ [H0 H1 H2]
  · isplitl [H0]; · iexact H0
    isplitl [H1]; · iexact H1
    iexact H2
  icases Hg with ⟨Hdrop, Hg⟩
  isplitl [Hc]; · iexact Hc
  isplitl [Hst]; · iexact Hst
  isplitl [Hg]; · iexact Hg
  iintro ⟨Hst, Hd⟩
  ihave Hd := ht $$ [Hdrop Hd]
  · isplitl [Hdrop]; · iexact Hdrop
    iexact Hd
  icases Hd with ⟨H1, %X, %hX, H2⟩
  ihave H2 := (Entails.of_eq (o4 X)) $$ H2
  iapply Hk
  obtain ⟨V', hV'⟩ : ∃ V' : Vl F, V' = Function.update V (dr b4) (g4 X) := ⟨_, rfl⟩
  have hs : V' (dr b4) = g4 X := by rw [hV', Function.update_self]
  have hC : CallA e RU q b4 d V V' u4 := by
    refine ⟨?_, fun b hb => ?_⟩
    · rw [hg4 V' X hs]; exact hX
    · rw [hV', Function.update_of_ne hb]
  have hp' : V' (dr main_v1_0) = packAll (e d) := (hC.2 _ (dr_ne n14)).trans hp
  iexists V'
  isplitr; · ipureintro; exact hC
  isplitl [Hst]; · iexact Hst
  iapply (Entails.of_eq (held_two d (S.erase (dr b2)) main_v1_0 b4 n14 (Finset.mem_erase.mpr ⟨dr_ne n02.symm, h1⟩) (Finset.mem_erase.mpr ⟨dr_ne n04.symm, h2⟩) V').symm)
  isplitl [H1]
  · iapply (Entails.of_eq (congrArg (fun f => ((T d).loc main_v1_0 ↦{fullShare} f : sProp (MT nD τ sig (HIx 5) (Elt F) ℕ UU ℕ))) hp'.symm)); iexact H1
  isplitl [H2]
  · iapply (Entails.of_eq (congrArg (fun f => ((T d).loc b4 ↦{fullShare} f : sProp (MT nD τ sig (HIx 5) (Elt F) ℕ UU ℕ))) hs.symm)); iexact H2
  iapply (Entails.of_eq (StableHlo.held_congr (T d) (V := V) (V' := V') (fun b hb => (hC.2 b (Finset.mem_erase.mp hb).1).symm)))
  iexact Hr

/-! ## The regions -/

/-- What a region leaves. -/
def RegOk (p : Fin 5) (n : ℕ) (d : Dev nD) (V V' : Vl F) : Prop :=
  (∀ w, (rds V n p d).ArrAt w (cfgs p).N (V' (Proc.devRef .tc (arrRef (cfgs p).spec w)))) ∧ ∀ b, b ∉ arrRefs (τ := τ) (cfgs p).spec → V' b = V b

/-- A region, from its pipeline's facts and its body. -/
theorem wp_reg (p : Fin 5) (kit : Pipeline.LaunchFacts (nD := nD) (τ := τ) cfgs p) (hK : (pcfgs (F := F) p).pre.K = 0) (κ : GSem nD τ sig → ℕ) (d : Dev nD) (V : Vl F) (n : ℕ) (D : List (Ref sig .tc)) (hs : ∀ w, (arrRef (cfgs p).spec w).isScoped = false) (hD : ∀ w, arrRef (cfgs p).spec w ∉ D)
    (hq : ∀ c w, (rds V n p c).q w = fullShare) (ho : ∀ c t, (rds V n p c).owed t = (K (F := F)).Otc c n)
    (hA : ∀ c w, (rds V n p c).A w = V (Proc.devRef .tc (arrRef (cfgs p).spec w)))
    (hr : ∀ c t, (rds V n p c).recorded t = {x | (K (F := F)).lev (T c, x.1) x.2 ≤ wb n})
    (hb : ∀ c, (rds V n p c).BodyObligation defs₀ 𝒱₀ none Set.univ)
    (hin : ∀ c, (Pipeline.scopedRest (cfgs p).spec c : sProp (MT nD τ sig (HIx 5) (Elt F) ℕ UU ℕ)) ⊢ (rds V n p c).Φ 0)
    (hout : ∀ c, (rds V n p c).Φ (Fin.last (cfgs p).N) ⊢ (Pipeline.scopedRest (cfgs p).spec c : sProp (MT nD τ sig (HIx 5) (Elt F) ℕ UU ℕ)))
    (Φ : PUnit → sProp (MT nD τ sig (HIx 5) (Elt F) ℕ UU ℕ)) :
    iprop((K (F := F)).ctx EH (P (F := F) e RU) κ ∗ (K (F := F)).tcSt EH d n ∗ (boundary (T d) ∗ StableHlo.held (T d) (SS D) V)
        ∗ Pipeline.cellsGhost cfgs (EP (F := F)) p d ∗ Pipeline.toksInit cfgs (EP (F := F)) p d
        ∗ ((∃ V', ⌜RegOk p n d V V'⌝ ∗ (K (F := F)).tcSt EH d n ∗ boundary (T d) ∗ StableHlo.held (T d) (SS D) V') -∗ Φ ⟨⟩) : sProp 𝕄)
      ⊢ wp frame (wpE (defs (F := F)) 𝒱 (T d) none) Set.univ (Prog.lift (.customCall (SparseCore.inner (Pipeline.entry p)) ())) Φ := by
  refine Entails.trans ?_ (wp_region (rds V n) p V n d (regionSeg (rds V n) p kit V n (SS D) (arrs_SS _ D hs hD) hK hA hq ho hr hb hin hout) Φ)
  unfold SparseCore.Cfg.tcSt regionSeg owesB wb
  dsimp only
  iintro ⟨Hc, ⟨HO, Hst⟩, ⟨Hb, Hh⟩, Hg, Ht, Hk⟩
  ihave HL := (SparseCore.Cfg.ctx_levAts (K := K (F := F)) κ) $$ Hc
  isplitl [Hb]; · iexact Hb
  isplitl [HO Hh]
  · isplitl [Hh]; · iexact Hh
    iexact HO
  isplitl [HL]; · iexact HL
  isplitl [Hg]; · iexact Hg
  isplitl [Ht]; · iexact Ht
  iintro ⟨Hb, %V', %hV, Hh, HO⟩
  iapply Hk
  iexists V'
  isplitr; · ipureintro; exact hV
  isplitl [HO Hst]
  · isplitl [HO]; · iexact HO
    iexact Hst
  isplitl [Hb]; · iexact Hb
  iexact Hh

/-- The final pipeline's scratch enters its invariant at anything; -/
theorem final_in (V : Vl F) (c : Dev nD) : (Pipeline.scopedRest spec9 c : sProp 𝕄) ⊢ Φ9 V c 0 := by
  rw [scopedRest9_split]
  unfold Φ9
  iintro ⟨⟨⟨%f, H0⟩, %g, H1⟩, Hr⟩
  iexists f, g
  isplitr; · ipureintro; exact trivial
  isplitl [H0]; · iapply (Entails.of_eq (owns_whole (T c) cc9_scratch0 fullShare f).symm); iexact H0
  isplitl [H1]; · iapply (Entails.of_eq (owns_whole (T c) cc9_scratch1 fullShare g).symm); iexact H1
  iexact Hr

/-- and leaves it at whatever it holds. -/
theorem final_out (V : Vl F) (c : Dev nD) : Φ9 V c (Fin.last _) ⊢ (Pipeline.scopedRest spec9 c : sProp 𝕄) := by
  rw [scopedRest9_split]
  unfold Φ9
  iintro ⟨%f, %g, -, H0, H1, Hr⟩
  isplitl [H0 H1]
  · isplitl [H0]
    · iexists f; iapply (Entails.of_eq (owns_whole (T c) cc9_scratch0 fullShare f)); iexact H0
    · iexists g; iapply (Entails.of_eq (owns_whole (T c) cc9_scratch1 fullShare g)); iexact H1
  iexact Hr

end Cert.Proof.KernelIdeal

end
-- ==== Proof.KernelIdeal.Tiles.lean ====
/-
  The tiles' obligations in the five SparseCore calls.
-/
module

public import proofs.«01_k».proof.Proof.KernelIdeal.Calls

@[expose] public section

noncomputable section

namespace Cert.Proof.KernelIdeal

open Cert.KernelIdeal Cert.KernelIdeal.Gen
open Cert.Proof.Own Cert.Proof.Spec

open Idealize.ShloMosaic Idealize.ShloMosaic.Transfers
open Idealize.ShloMosaic.SparseCore (S V T)
open Idealize.ShloMosaic.SparseCore.Cfg (HIx Pay ownBufs ownSems0 ownCells ownRefs mem_ownCells mem_ownRefs)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Rounds
open Idealize.ShloMosaic.Tactic

variable {F : FTy → Type} [FloatOps F]

local notation "𝕄" => MT nD τ sig (HIx 5) (Elt F) ℕ UU ℕ

theorem defs₀_0 (c : Fin τ.nSC) (s : Fin τ.nSub) :
    defs₀ (F := F) (.scVector c s) 0 ()
      = SparseCore.onTile hcore0 hsub0 (fun c s => cc0__edge_prep (coordsV c s) (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

theorem obl_post {thr : Thread nD τ} {A B C : sProp (MT nD τ sig (HIx 5) (Elt F) ℕ UU ℕ)} {O : CellTallies nD τ sig (HIx 5)} {W : Waits sig (HIx 5)} {q : Fin 5} :
    iprop(A ∗ B ∗ C ∗ Owing thr none O W)
      ⊢ iprop(A ∗ B ∗ C ∗ ∃ W', ⌜∀ p ∈ W', p ∈ W ∨ p.2 = none ∨ p.2 = some q⌝ ∗ owes thr O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem own_buf (thr : Thread nD τ) (b : Ref sig thr.2.kind) :
    (iprop(∃ f, ((thr.1, thr.2.devRef b) : Loc nD τ sig) ↦{fullShare} f) : sProp 𝕄) = iprop(∃ X, owns (Val := Elt F) thr (Memref.whole b) fullShare X) := by
  simp only [owns_whole]

variable (e : Dev nD → IVec (A1 640000) 32) (RU : Fin 4 → Dev nD → Vec F (A1 1280000) .f32 → Prop)

/-- A tile's four scratch buffers among what it holds. -/
theorem scratch4 (d : Dev nD) (L : grid0.Coords) (b0 b1 b2 b3 : Ref sig .scVector) (hn : [b0, b1, b2, b3].Nodup)
    (ho : ∀ b ∈ [b0, b1, b2, b3], ((EdgePrep.thr d L).2.devRef b).owner = .proc (EdgePrep.thr d L).2) :
    ∃ B : sProp (MT nD τ sig (HIx 5) (Elt F) ℕ UU ℕ), scopedBufs (EdgePrep.thr d L)
      = iprop(((∃ X, owns (Val := Elt F) (EdgePrep.thr d L) (Memref.whole b0) fullShare X) ∗ (∃ X, owns (Val := Elt F) (EdgePrep.thr d L) (Memref.whole b1) fullShare X)
        ∗ (∃ X, owns (Val := Elt F) (EdgePrep.thr d L) (Memref.whole b2) fullShare X) ∗ (∃ X, owns (Val := Elt F) (EdgePrep.thr d L) (Memref.whole b3) fullShare X) ∗ emp) ∗ B) := by
  have hb := ownBufs_list (F := F) d (.scVector ((L 0).castLE hcore0) ((L 1).castLE hsub0)) [b0, b1, b2, b3] hn ho
  simp only [List.map_cons, List.map_nil, bigSepL_cons', bigSepL_nil'] at hb
  rw [(K (F := F)).scopedBufs_V facts d ((L 0).castLE hcore0) ((L 1).castLE hsub0), hb, ← own_buf (EdgePrep.thr d L) b0, ← own_buf (EdgePrep.thr d L) b1,
    ← own_buf (EdgePrep.thr d L) b2, ← own_buf (EdgePrep.thr d L) b3]
  exact ⟨_, rfl⟩

/-- A tile's semaphores `l` among what it holds. -/
theorem copySems (d : Dev nD) (L : grid0.Coords) (l : List (SemLoc sig)) (hl : l.Nodup) (h : ∀ s ∈ l, s.isScoped .scVector = true) :
    ∃ R : sProp (MT nD τ sig (HIx 5) (Elt F) ℕ UU ℕ), scopedSems0 (EdgePrep.thr d L)
      = iprop(bigSepL (l.map fun s => ((EdgePrep.thr d L, s) : GSem nD τ sig)) (fun g => semVal g 0) ∗ R) := by
  rw [SparseCore.Cfg.scopedSems0_V (Val := Elt F) d ((L 0).castLE hcore0) ((L 1).castLE hsub0), ownSems0_list (F := F) (EdgePrep.thr d L) l hl h]
  exact ⟨_, rfl⟩

/-- The sixteen semaphores of the edge preparation's copies. -/
abbrev sems0 : List (SemLoc sig) :=
  [.dma cc0_scoped0.sem, .dma cc0_scoped1.sem, .dma cc0_scoped2.sem, .dma cc0_scoped3.sem, .dma cc0_scoped4.sem, .dma cc0_scoped5.sem, .dma cc0_scoped6.sem, .dma cc0_scoped7.sem,
   .dma cc0_scoped8.sem, .dma cc0_scoped9.sem, .dma cc0_scoped10.sem, .dma cc0_scoped11.sem, .dma cc0_scoped12.sem, .dma cc0_scoped13.sem, .dma cc0_scoped14.sem, .dma cc0_scoped15.sem]

theorem tile_body0 (d : Dev nD) (L : grid0.Coords) (he : ∀ d k, (e d k).toNat < 10000) (O : CellTallies nD τ sig (HIx 5)) (W : Waits sig (HIx 5)) (hO : ∀ g, O g none = 0) :
    (iprop(levAts (K (F := F)).L (K (F := F)).lev ∗ emp ∗ go0 (F := F) e d L
        ∗ scopedBufs (EdgePrep.thr d L) ∗ scopedSems0 (EdgePrep.thr d L) ∗ owes (EdgePrep.thr d L) O W) : sProp 𝕄)
      ⊢ wp frame (wpE (defs₀ (F := F)) 𝒱₀ (EdgePrep.thr d L) none) Set.univ
          (cc0__edge_prep L (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15)
          fun _ => iprop(td0 (F := F) e d L ∗ scopedBufs (EdgePrep.thr d L) ∗ scopedSems0 (EdgePrep.thr d L) ∗ Owing (EdgePrep.thr d L) none O W) := by
  obtain ⟨B, hb⟩ := scratch4 (F := F) d L cc0_scratch0 cc0_scratch1 cc0_scratch2 cc0_scratch3 (by decide) fun b hb => by
    simp only [List.mem_cons, List.not_mem_nil, or_false] at hb
    rcases hb with rfl | rfl | rfl | rfl <;> rfl
  obtain ⟨R, hs⟩ := copySems (F := F) d L sems0 (by decide) (by decide)
  simp only [List.map_cons, List.map_nil, bigSepL_cons', bigSepL_nil'] at hs
  rw [hb, hs]
  unfold go0 td0
  iintro ⟨#Hlv, -, ⟨H2, ⟨%Y0, HY0⟩, ⟨%Y1, HY1⟩, ⟨%Y2, HY2⟩, ⟨%Y3, HY3⟩, ⟨%Y4, HY4⟩, ⟨%X4, H4⟩⟩, ⟨⟨B0, B1, B2, B3, -⟩, HB⟩, ⟨⟨R0, R1, R2, R3, R4, R5, R6, R7, R8, R9, R10, R11, R12, R13, R14, R15, -⟩, HS⟩, HO⟩
  iapply (wp_wand_r frame _ _)
  isplitl [H2 HY0 HY1 HY2 HY3 HY4 H4 B0 B1 B2 B3 R0 R1 R2 R3 R4 R5 R6 R7 R8 R9 R10 R11 R12 R13 R14 R15 HO]
  · iapply (EdgePrep.tile (F := F) d L (Memref.whole main_v0_scv) (Memref.isWhole_whole _) (Memref.whole main_v1_0_scv) (Memref.isWhole_whole _) (Memref.whole main_v1_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15
      𝒱₀ none none O W (tileShare L) (e d) (he d) Y0 Y1 Y2 Y3 Y4 X4)
    isplitr
    · iapply ((K (F := F)).mayWaits_none hO); iexact Hlv
    isplitl [H2]; · iexact H2
    isplitl [HY0]; · iexact HY0
    isplitl [HY1]; · iexact HY1
    isplitl [HY2]; · iexact HY2
    isplitl [HY3]; · iexact HY3
    isplitl [HY4]; · iexact HY4
    isplitl [H4]; · iexact H4
    isplitl [B0]; · iexact B0
    isplitl [B1]; · iexact B1
    isplitl [B2]; · iexact B2
    isplitl [B3]; · iexact B3
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    iexact HO
  iintro %_ ⟨-, HY0, HY1, HY2, HY3, HY4, H4, B0, B1, B2, B3, R0, R1, R2, R3, R4, R5, R6, R7, R8, R9, R10, R11, R12, R13, R14, R15, HO⟩
  isplitl [HY0 HY1 HY2 HY3 HY4 H4]
  · isplitl [HY0]; · iexact HY0
    isplitl [HY1]; · iexact HY1
    isplitl [HY2]; · iexact HY2
    isplitl [HY3]; · iexact HY3
    isplitl [HY4]; · iexact HY4
    iexact H4
  isplitl [B0 B1 B2 B3 HB]
  · isplitr [HB]
    · isplitl [B0]; · iexact B0
      isplitl [B1]; · iexact B1
      isplitl [B2]; · iexact B2
      isplitl [B3]; · iexact B3
      iempintro
    iexact HB
  isplitl [R0 R1 R2 R3 R4 R5 R6 R7 R8 R9 R10 R11 R12 R13 R14 R15 HS]
  · isplitr [HS]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      iempintro
    iexact HS
  iexact HO

theorem tileObl0 (he : ∀ d k, (e d k).toNat < 10000) : (K (F := F)).TileObl (D (F := F)) 𝒱 (P (F := F) e RU) v₀ 0 := by
  intro d c i O W hO _ _
  simp only [show (P (F := F) e RU).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_0]; simp only [SparseCore.onTile, hc, and_self, ↓reduceDIte]
  exact (tile_body0 e d (coordsV ⟨_, hc.1⟩ ⟨_, hc.2⟩) he O W hO).trans (wp_mono frame _ _ fun _ => obl_post)

theorem owing_eq (d : Dev nD) (L : grid0.Coords) (O : CellTallies nD τ sig (HIx 5)) (W : Waits sig (HIx 5)) :
    (Agg.owing (F := F) (Ix := HIx 5) (U := UU) d L none O W : sProp 𝕄) ⊢ Owing (EdgePrep.thr d L) none O W := by
  unfold Agg.owing Owing
  exact .rfl

/-- An aggregation's tile, from what it holds to what it hands back. -/
theorem tile_bodyA (q : Fin 4) (d : Dev nD) (L : grid0.Coords) (hp : ∀ d j, GoodW (packAll (e d) j)) (O : CellTallies nD τ sig (HIx 5)) (W : Waits sig (HIx 5)) (hO : ∀ g, O g none = 0)
    (a2 : Memref sig .scVector .hbm S1280000 .f32) (h2 : a2.IsWhole) (a4 : Memref sig .scVector .hbm S1280000 .f32) (h4 : a4.IsWhole)
    (a5 : Memref sig .scVector .vmem S40000 .f32) (h5 : a5.IsWhole) (a6 : Memref sig .scVector .vmem S40000 .f32) (h6 : a6.IsWhole)
    (a7 : Memref sig .scVector .vmem S2000 .i32) (h7 : a7.IsWhole) (a8 : Memref sig .scVector .vmem S2000 .i32) (h8 : a8.IsWhole) (s9 s10 r0 r1 : DmaSems sig S_)
    {B R : sProp (MT nD τ sig (HIx 5) (Elt F) ℕ UU ℕ)}
    (hb : scopedBufs (EdgePrep.thr d L) = iprop(((∃ X, owns (Val := Elt F) (EdgePrep.thr d L) a5 fullShare X) ∗ (∃ X, owns (Val := Elt F) (EdgePrep.thr d L) a6 fullShare X)
      ∗ (∃ X, owns (Val := Elt F) (EdgePrep.thr d L) a7 fullShare X) ∗ (∃ X, owns (Val := Elt F) (EdgePrep.thr d L) a8 fullShare X) ∗ emp) ∗ B))
    (hs : scopedSems0 (EdgePrep.thr d L) = iprop(bigSepL ([SemLoc.dma s9.sem, .dma s10.sem, .dma r0.sem, .dma r1.sem].map fun s => ((EdgePrep.thr d L, s) : GSem nD τ sig)) (fun g => semVal g 0) ∗ R)) :
    (iprop(levAts (K (F := F)).L (K (F := F)).lev ∗ emp ∗ goA (F := F) e RU q a2 a4 d L
        ∗ scopedBufs (EdgePrep.thr d L) ∗ scopedSems0 (EdgePrep.thr d L) ∗ owes (EdgePrep.thr d L) O W) : sProp 𝕄)
      ⊢ wp frame (wpE (defs₀ (F := F)) 𝒱₀ (EdgePrep.thr d L) none) Set.univ
          (cc2__aggregate L a2 h2 (Memref.whole main_v1_0_scv) (Memref.isWhole_whole _) a4 h4 a5 h5 a6 h6 a7 h7 a8 h8 s9 s10 r0 r1)
          fun _ => iprop(tdA (F := F) e RU q a4 d L ∗ scopedBufs (EdgePrep.thr d L) ∗ scopedSems0 (EdgePrep.thr d L) ∗ Owing (EdgePrep.thr d L) none O W) := by
  simp only [List.map_cons, List.map_nil, bigSepL_cons', bigSepL_nil'] at hs
  rw [hb, hs]
  unfold goA tdA
  iintro ⟨#Hlv, -, ⟨%ut, %hut, H2, H3, ⟨%X4, H4⟩⟩, ⟨⟨B0, B1, B2, B3, -⟩, HB⟩, ⟨⟨R0, R1, R2, R3, -⟩, HS⟩, HO⟩
  iapply (wp_wand_r frame _ _)
  isplitl [H2 H3 H4 B0 B1 B2 B3 R0 R1 R2 R3 HO]
  · iapply (Agg.tile (F := F) d L a2 h2 (Memref.whole main_v1_0_scv) (Memref.isWhole_whole _) a4 h4 a5 h5 a6 h6 a7 h7 a8 h8 s9 s10 r0 r1
      𝒱₀ none none O W (tileShare L) (tileShare L) ut (packAll (e d)) (hp d) X4)
    isplitr
    · iapply ((K (F := F)).mayWaits_none hO); iexact Hlv
    isplitl [H2]; · iexact H2
    isplitl [H3]; · iexact H3
    isplitl [H4]; · iexact H4
    isplitl [B0]; · iexact B0
    isplitl [B1]; · iexact B1
    isplitl [B2]; · iexact B2
    isplitl [B3]; · iexact B3
    isplitl [R0]; · iexact R0
    isplitl [R1]; · iexact R1
    isplitl [R2]; · iexact R2
    isplitl [R3]; · iexact R3
    iexact HO
  iintro %_ ⟨-, H3, H4, B0, B1, B2, B3, R0, R1, R2, R3, HO⟩
  isplitl [H3 H4]
  · isplitl [H3]; · iexact H3
    iexists ut
    isplitr
    · ipureintro; exact hut
    iexact H4
  isplitl [B0 B1 B2 B3 HB]
  · isplitr [HB]
    · isplitl [B0]; · iexact B0
      isplitl [B1]; · iexact B1
      isplitl [B2]; · iexact B2
      isplitl [B3]; · iexact B3
      iempintro
    iexact HB
  isplitl [R0 R1 R2 R3 HS]
  · isplitr [HS]
    · isplitl [R0]; · iexact R0
      isplitl [R1]; · iexact R1
      isplitl [R2]; · iexact R2
      isplitl [R3]; · iexact R3
      iempintro
    iexact HS
  iapply (owing_eq (F := F) d L O W); iexact HO

theorem defs₀_2 (c : Fin τ.nSC) (s : Fin τ.nSub) :
    defs₀ (F := F) (.scVector c s) 2 ()
      = SparseCore.onTile hcore2 hsub2 (fun c s => cc2__aggregate (coordsV c s) (Memref.whole main_v7_scv) (Memref.isWhole_whole _) (Memref.whole main_v1_0_scv) (Memref.isWhole_whole _) (Memref.whole main_v8_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) cc2_scratch4 cc2_scratch5 cc2_scoped0 cc2_scoped1) ⟨⟩ c s := rfl

theorem tileObl1 (hp : ∀ d j, GoodW (packAll (e d) j)) : (K (F := F)).TileObl (D (F := F)) 𝒱 (P (F := F) e RU) v₀ 1 := by
  intro d c i O W hO _ _
  simp only [show (P (F := F) e RU).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_2]; simp only [SparseCore.onTile, hc, and_self, ↓reduceDIte]
  obtain ⟨B, hb⟩ := scratch4 (F := F) d (coordsV ⟨_, hc.1⟩ ⟨_, hc.2⟩) cc2_scratch0 cc2_scratch1 cc2_scratch2 cc2_scratch3 (by decide) fun b hb => by
    simp only [List.mem_cons, List.not_mem_nil, or_false] at hb
    rcases hb with rfl | rfl | rfl | rfl <;> rfl
  obtain ⟨R, hs⟩ := copySems (F := F) d (coordsV ⟨_, hc.1⟩ ⟨_, hc.2⟩) [.dma cc2_scratch4.sem, .dma cc2_scratch5.sem, .dma cc2_scoped0.sem, .dma cc2_scoped1.sem] (by decide) (by decide)
  exact (tile_bodyA e RU 0 d _ hp O W hO _ _ _ _ _ _ _ _ _ _ _ _ _ _ _ _ hb hs).trans (wp_mono frame _ _ fun _ => obl_post)

theorem defs₀_4 (c : Fin τ.nSC) (s : Fin τ.nSub) :
    defs₀ (F := F) (.scVector c s) 4 ()
      = SparseCore.onTile hcore4 hsub4 (fun c s => cc4__aggregate (coordsV c s) (Memref.whole main_v16_scv) (Memref.isWhole_whole _) (Memref.whole main_v1_0_scv) (Memref.isWhole_whole _) (Memref.whole main_v17_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) cc4_scratch4 cc4_scratch5 cc4_scoped0 cc4_scoped1) ⟨⟩ c s := rfl

theorem tileObl2 (hp : ∀ d j, GoodW (packAll (e d) j)) : (K (F := F)).TileObl (D (F := F)) 𝒱 (P (F := F) e RU) v₀ 2 := by
  intro d c i O W hO _ _
  simp only [show (P (F := F) e RU).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_4]; simp only [SparseCore.onTile, hc, and_self, ↓reduceDIte]; rw [Agg.cc4_eq]
  obtain ⟨B, hb⟩ := scratch4 (F := F) d (coordsV ⟨_, hc.1⟩ ⟨_, hc.2⟩) cc4_scratch0 cc4_scratch1 cc4_scratch2 cc4_scratch3 (by decide) fun b hb => by
    simp only [List.mem_cons, List.not_mem_nil, or_false] at hb
    rcases hb with rfl | rfl | rfl | rfl <;> rfl
  obtain ⟨R, hs⟩ := copySems (F := F) d (coordsV ⟨_, hc.1⟩ ⟨_, hc.2⟩) [.dma cc4_scratch4.sem, .dma cc4_scratch5.sem, .dma cc4_scoped0.sem, .dma cc4_scoped1.sem] (by decide) (by decide)
  exact (tile_bodyA e RU 1 d _ hp O W hO _ _ _ _ _ _ _ _ _ _ _ _ _ _ _ _ hb hs).trans (wp_mono frame _ _ fun _ => obl_post)

theorem defs₀_6 (c : Fin τ.nSC) (s : Fin τ.nSub) :
    defs₀ (F := F) (.scVector c s) 6 ()
      = SparseCore.onTile hcore6 hsub6 (fun c s => cc6__aggregate (coordsV c s) (Memref.whole main_v25_scv) (Memref.isWhole_whole _) (Memref.whole main_v1_0_scv) (Memref.isWhole_whole _) (Memref.whole main_v26_scv) (Memref.isWhole_whole _) (Memref.whole cc6_scratch0) (Memref.isWhole_whole _) (Memref.whole cc6_scratch1) (Memref.isWhole_whole _) (Memref.whole cc6_scratch2) (Memref.isWhole_whole _) (Memref.whole cc6_scratch3) (Memref.isWhole_whole _) cc6_scratch4 cc6_scratch5 cc6_scoped0 cc6_scoped1) ⟨⟩ c s := rfl

theorem tileObl3 (hp : ∀ d j, GoodW (packAll (e d) j)) : (K (F := F)).TileObl (D (F := F)) 𝒱 (P (F := F) e RU) v₀ 3 := by
  intro d c i O W hO _ _
  simp only [show (P (F := F) e RU).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_6]; simp only [SparseCore.onTile, hc, and_self, ↓reduceDIte]; rw [Agg.cc6_eq]
  obtain ⟨B, hb⟩ := scratch4 (F := F) d (coordsV ⟨_, hc.1⟩ ⟨_, hc.2⟩) cc6_scratch0 cc6_scratch1 cc6_scratch2 cc6_scratch3 (by decide) fun b hb => by
    simp only [List.mem_cons, List.not_mem_nil, or_false] at hb
    rcases hb with rfl | rfl | rfl | rfl <;> rfl
  obtain ⟨R, hs⟩ := copySems (F := F) d (coordsV ⟨_, hc.1⟩ ⟨_, hc.2⟩) [.dma cc6_scratch4.sem, .dma cc6_scratch5.sem, .dma cc6_scoped0.sem, .dma cc6_scoped1.sem] (by decide) (by decide)
  exact (tile_bodyA e RU 2 d _ hp O W hO _ _ _ _ _ _ _ _ _ _ _ _ _ _ _ _ hb hs).trans (wp_mono frame _ _ fun _ => obl_post)

theorem defs₀_8 (c : Fin τ.nSC) (s : Fin τ.nSub) :
    defs₀ (F := F) (.scVector c s) 8 ()
      = SparseCore.onTile hcore8 hsub8 (fun c s => cc8__aggregate (coordsV c s) (Memref.whole main_v34_scv) (Memref.isWhole_whole _) (Memref.whole main_v1_0_scv) (Memref.isWhole_whole _) (Memref.whole main_v35_scv) (Memref.isWhole_whole _) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 cc8_scratch5 cc8_scoped0 cc8_scoped1) ⟨⟩ c s := rfl

theorem tileObl4 (hp : ∀ d j, GoodW (packAll (e d) j)) : (K (F := F)).TileObl (D (F := F)) 𝒱 (P (F := F) e RU) v₀ 4 := by
  intro d c i O W hO _ _
  simp only [show (P (F := F) e RU).ox = fun _ _ => 0 from rfl, add_zero]
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  have hc : ((K (F := F)).core 4 c).val < grid8.bound 0 ∧ ((K (F := F)).sub 4 i).val < grid8.bound 1 := ⟨c.isLt, i.isLt⟩
  rw [defs₀_8]; simp only [SparseCore.onTile, hc, and_self, ↓reduceDIte]; rw [Agg.cc8_eq]
  obtain ⟨B, hb⟩ := scratch4 (F := F) d (coordsV ⟨_, hc.1⟩ ⟨_, hc.2⟩) cc8_scratch0 cc8_scratch1 cc8_scratch2 cc8_scratch3 (by decide) fun b hb => by
    simp only [List.mem_cons, List.not_mem_nil, or_false] at hb
    rcases hb with rfl | rfl | rfl | rfl <;> rfl
  obtain ⟨R, hs⟩ := copySems (F := F) d (coordsV ⟨_, hc.1⟩ ⟨_, hc.2⟩) [.dma cc8_scratch4.sem, .dma cc8_scratch5.sem, .dma cc8_scoped0.sem, .dma cc8_scoped1.sem] (by decide) (by decide)
  exact (tile_bodyA e RU 3 d _ hp O W hO _ _ _ _ _ _ _ _ _ _ _ _ _ _ _ _ hb hs).trans (wp_mono frame _ _ fun _ => obl_post)

theorem tileObl (he : ∀ d k, (e d k).toNat < 10000) (hp : ∀ d j, GoodW (packAll (e d) j)) (q : Fin 5) : (K (F := F)).TileObl (D (F := F)) 𝒱 (P (F := F) e RU) v₀ q := by
  match q with
  | 0 => exact tileObl0 e RU he
  | 1 => exact tileObl1 e RU hp
  | 2 => exact tileObl2 e RU hp
  | 3 => exact tileObl3 e RU hp
  | 4 => exact tileObl4 e RU hp

end Cert.Proof.KernelIdeal

end
-- ==== Proof.KernelIdeal.Main.lean ====
/-
  @main on the TensorCore: its ten calls and the host operations between them, from any predicate on the contents of its
  buffers that each step keeps; and the whole launch.
-/
module

public import proofs.«01_k».proof.Proof.KernelIdeal.Steps
public import proofs.«01_k».proof.Proof.KernelIdeal.Tiles

@[expose] public section

noncomputable section

namespace Cert.Proof.KernelIdeal

open Cert.KernelIdeal Cert.KernelIdeal.Gen
open Cert.Proof.Own Cert.Proof.Spec

open Idealize.ShloMosaic hiding T
open Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Pipeline (arrRef arrRefs ucRefs RDat)

variable {F : FTy → Type} [FloatOps F]

local notation "𝕄" => MT nD τ sig (HIx 5) (Elt F) ℕ UU ℕ

/-! ## The host operations between the calls -/

abbrev op0_0 : HloOp τ sig (Elt F) := StableHlo.reshape main_arg1 main_v0 (rfl : (.i32 : EltTy) = .i32) shapeCasts_S2x320000_S640000
/-- The buffers after the host operations before step 0. -/
def hs0 (V : Vl F) : Vl F := (op0_0 (F := F)).result V

abbrev op1_0 : HloOp τ sig (Elt F) := StableHlo.reshape main_v1_1 main_v2 (rfl : (.f32 : EltTy) = .f32) shapeCasts_S320000_S32x10000
abbrev op1_1 : HloOp τ sig (Elt F) := StableHlo.reshape main_arg4 main_v3 (rfl : (.f32 : EltTy) = .f32) shapeCasts_S128_S128x1
abbrev op1_2 : HloOp τ sig (Elt F) := StableHlo.unary main_arg5 main_v4 ((extractStridedSlice S1x128x128 ![0, 0, 0] · slices_S4x128x128_S1x128x128_0_0_0) : (⟨S4x128x128, .f32⟩ : BufTy).Contents (Elt F) → (⟨S1x128x128, .f32⟩ : BufTy).Contents (Elt F))
abbrev op1_3 : HloOp τ sig (Elt F) := StableHlo.reshape main_v4 main_v5 (rfl : (.f32 : EltTy) = .f32) shapeCasts_S1x128x128_S128x128
/-- The buffers after the host operations before step 1. -/
def hs1 (V : Vl F) : Vl F := (op1_3 (F := F)).result ((op1_2 (F := F)).result ((op1_1 (F := F)).result ((op1_0 (F := F)).result V)))

abbrev op2_0 : HloOp τ sig (Elt F) := StableHlo.reshape main_v6_0 main_v7 (rfl : (.f32 : EltTy) = .f32) shapeCasts_S128x10000_S1280000
/-- The buffers after the host operations before step 2. -/
def hs2 (V : Vl F) : Vl F := (op2_0 (F := F)).result V

abbrev op3_0 : HloOp τ sig (Elt F) := StableHlo.reshape main_v8 main_v9 (rfl : (.f32 : EltTy) = .f32) shapeCasts_S1280000_S128x10000
abbrev op3_1 : HloOp τ sig (Elt F) := StableHlo.unary main_arg6 main_v10 ((extractStridedSlice S1x128 ![0, 0] · slices_S4x128_S1x128_0_0) : (⟨S4x128, .f32⟩ : BufTy).Contents (Elt F) → (⟨S1x128, .f32⟩ : BufTy).Contents (Elt F))
abbrev op3_2 : HloOp τ sig (Elt F) := StableHlo.reshape main_v10 main_v11 (rfl : (.f32 : EltTy) = .f32) shapeCasts_S1x128_S128
abbrev op3_3 : HloOp τ sig (Elt F) := StableHlo.reshape main_v11 main_v12 (rfl : (.f32 : EltTy) = .f32) shapeCasts_S128_S128x1
abbrev op3_4 : HloOp τ sig (Elt F) := StableHlo.unary main_arg5 main_v13 ((extractStridedSlice S1x128x128 ![1, 0, 0] · slices_S4x128x128_S1x128x128_1_0_0) : (⟨S4x128x128, .f32⟩ : BufTy).Contents (Elt F) → (⟨S1x128x128, .f32⟩ : BufTy).Contents (Elt F))
abbrev op3_5 : HloOp τ sig (Elt F) := StableHlo.reshape main_v13 main_v14 (rfl : (.f32 : EltTy) = .f32) shapeCasts_S1x128x128_S128x128
/-- The buffers after the host operations before step 3. -/
def hs3 (V : Vl F) : Vl F := (op3_5 (F := F)).result ((op3_4 (F := F)).result ((op3_3 (F := F)).result ((op3_2 (F := F)).result ((op3_1 (F := F)).result ((op3_0 (F := F)).result V)))))

abbrev op4_0 : HloOp τ sig (Elt F) := StableHlo.reshape main_v15 main_v16 (rfl : (.f32 : EltTy) = .f32) shapeCasts_S128x10000_S1280000
/-- The buffers after the host operations before step 4. -/
def hs4 (V : Vl F) : Vl F := (op4_0 (F := F)).result V

abbrev op5_0 : HloOp τ sig (Elt F) := StableHlo.reshape main_v17 main_v18 (rfl : (.f32 : EltTy) = .f32) shapeCasts_S1280000_S128x10000
abbrev op5_1 : HloOp τ sig (Elt F) := StableHlo.unary main_arg6 main_v19 ((extractStridedSlice S1x128 ![1, 0] · slices_S4x128_S1x128_1_0) : (⟨S4x128, .f32⟩ : BufTy).Contents (Elt F) → (⟨S1x128, .f32⟩ : BufTy).Contents (Elt F))
abbrev op5_2 : HloOp τ sig (Elt F) := StableHlo.reshape main_v19 main_v20 (rfl : (.f32 : EltTy) = .f32) shapeCasts_S1x128_S128
abbrev op5_3 : HloOp τ sig (Elt F) := StableHlo.reshape main_v20 main_v21 (rfl : (.f32 : EltTy) = .f32) shapeCasts_S128_S128x1
abbrev op5_4 : HloOp τ sig (Elt F) := StableHlo.unary main_arg5 main_v22 ((extractStridedSlice S1x128x128 ![2, 0, 0] · slices_S4x128x128_S1x128x128_2_0_0) : (⟨S4x128x128, .f32⟩ : BufTy).Contents (Elt F) → (⟨S1x128x128, .f32⟩ : BufTy).Contents (Elt F))
abbrev op5_5 : HloOp τ sig (Elt F) := StableHlo.reshape main_v22 main_v23 (rfl : (.f32 : EltTy) = .f32) shapeCasts_S1x128x128_S128x128
/-- The buffers after the host operations before step 5. -/
def hs5 (V : Vl F) : Vl F := (op5_5 (F := F)).result ((op5_4 (F := F)).result ((op5_3 (F := F)).result ((op5_2 (F := F)).result ((op5_1 (F := F)).result ((op5_0 (F := F)).result V)))))

abbrev op6_0 : HloOp τ sig (Elt F) := StableHlo.reshape main_v24 main_v25 (rfl : (.f32 : EltTy) = .f32) shapeCasts_S128x10000_S1280000
/-- The buffers after the host operations before step 6. -/
def hs6 (V : Vl F) : Vl F := (op6_0 (F := F)).result V

abbrev op7_0 : HloOp τ sig (Elt F) := StableHlo.reshape main_v26 main_v27 (rfl : (.f32 : EltTy) = .f32) shapeCasts_S1280000_S128x10000
abbrev op7_1 : HloOp τ sig (Elt F) := StableHlo.unary main_arg6 main_v28 ((extractStridedSlice S1x128 ![2, 0] · slices_S4x128_S1x128_2_0) : (⟨S4x128, .f32⟩ : BufTy).Contents (Elt F) → (⟨S1x128, .f32⟩ : BufTy).Contents (Elt F))
abbrev op7_2 : HloOp τ sig (Elt F) := StableHlo.reshape main_v28 main_v29 (rfl : (.f32 : EltTy) = .f32) shapeCasts_S1x128_S128
abbrev op7_3 : HloOp τ sig (Elt F) := StableHlo.reshape main_v29 main_v30 (rfl : (.f32 : EltTy) = .f32) shapeCasts_S128_S128x1
abbrev op7_4 : HloOp τ sig (Elt F) := StableHlo.unary main_arg5 main_v31 ((extractStridedSlice S1x128x128 ![3, 0, 0] · slices_S4x128x128_S1x128x128_3_0_0) : (⟨S4x128x128, .f32⟩ : BufTy).Contents (Elt F) → (⟨S1x128x128, .f32⟩ : BufTy).Contents (Elt F))
abbrev op7_5 : HloOp τ sig (Elt F) := StableHlo.reshape main_v31 main_v32 (rfl : (.f32 : EltTy) = .f32) shapeCasts_S1x128x128_S128x128
/-- The buffers after the host operations before step 7. -/
def hs7 (V : Vl F) : Vl F := (op7_5 (F := F)).result ((op7_4 (F := F)).result ((op7_3 (F := F)).result ((op7_2 (F := F)).result ((op7_1 (F := F)).result ((op7_0 (F := F)).result V)))))

abbrev op8_0 : HloOp τ sig (Elt F) := StableHlo.reshape main_v33 main_v34 (rfl : (.f32 : EltTy) = .f32) shapeCasts_S128x10000_S1280000
/-- The buffers after the host operations before step 8. -/
def hs8 (V : Vl F) : Vl F := (op8_0 (F := F)).result V

abbrev op9_0 : HloOp τ sig (Elt F) := StableHlo.reshape main_v35 main_v36 (rfl : (.f32 : EltTy) = .f32) shapeCasts_S1280000_S128x10000
abbrev op9_1 : HloOp τ sig (Elt F) := StableHlo.unary main_arg6 main_v37 ((extractStridedSlice S1x128 ![3, 0] · slices_S4x128_S1x128_3_0) : (⟨S4x128, .f32⟩ : BufTy).Contents (Elt F) → (⟨S1x128, .f32⟩ : BufTy).Contents (Elt F))
abbrev op9_2 : HloOp τ sig (Elt F) := StableHlo.reshape main_v37 main_v38 (rfl : (.f32 : EltTy) = .f32) shapeCasts_S1x128_S128
abbrev op9_3 : HloOp τ sig (Elt F) := StableHlo.reshape main_v38 main_v39 (rfl : (.f32 : EltTy) = .f32) shapeCasts_S128_S128x1
abbrev op9_4 : HloOp τ sig (Elt F) := StableHlo.reshape main_arg2 main_v40 (rfl : (.i32 : EltTy) = .i32) shapeCasts_S10000_S1x10000
abbrev op9_5 : HloOp τ sig (Elt F) := StableHlo.reshape main_arg8 main_v41 (rfl : (.f32 : EltTy) = .f32) shapeCasts_S10_S1x10
/-- The buffers after the host operations before step 9. -/
def hs9 (V : Vl F) : Vl F := (op9_5 (F := F)).result ((op9_4 (F := F)).result ((op9_3 (F := F)).result ((op9_2 (F := F)).result ((op9_1 (F := F)).result ((op9_0 (F := F)).result V)))))

variable (e : Dev nD → IVec (A1 640000) 32) (RU : Fin 4 → Dev nD → Vec F (A1 1280000) .f32 → Prop)

/-- A predicate on the buffers' contents at each point between two steps, kept by every step. -/
structure Keeps (d : Dev nD) (J : ℕ → Vl F → Prop) : Prop where
  call0 : ∀ V, J 0 V → hs0 V (dr main_v0) = e d ∧ ∀ V', Call0 e d (hs0 V) V' → J 1 V'
  reg0 : ∀ V, J 1 V → ∀ V', RegOk 0 1 d (hs1 V) V' → J 2 V'
  call1 : ∀ V, J 2 V → hs2 V (dr main_v1_0) = packAll (e d) ∧ RU 0 d (hs2 V (dr main_v7)) ∧ ∀ V', CallA e RU 0 main_v8 d (hs2 V) V' (fun V => V (dr main_v8)) → J 3 V'
  reg1 : ∀ V, J 3 V → ∀ V', RegOk 1 2 d (hs3 V) V' → J 4 V'
  call2 : ∀ V, J 4 V → hs4 V (dr main_v1_0) = packAll (e d) ∧ RU 1 d (hs4 V (dr main_v16)) ∧ ∀ V', CallA e RU 1 main_v17 d (hs4 V) V' (fun V => V (dr main_v17)) → J 5 V'
  reg2 : ∀ V, J 5 V → ∀ V', RegOk 2 3 d (hs5 V) V' → J 6 V'
  call3 : ∀ V, J 6 V → hs6 V (dr main_v1_0) = packAll (e d) ∧ RU 2 d (hs6 V (dr main_v25)) ∧ ∀ V', CallA e RU 2 main_v26 d (hs6 V) V' (fun V => V (dr main_v26)) → J 7 V'
  reg3 : ∀ V, J 7 V → ∀ V', RegOk 3 4 d (hs7 V) V' → J 8 V'
  call4 : ∀ V, J 8 V → hs8 V (dr main_v1_0) = packAll (e d) ∧ RU 3 d (hs8 V (dr main_v34)) ∧ ∀ V', CallA e RU 3 main_v35 d (hs8 V) V' (fun V => V (dr main_v35)) → J 9 V'
  reg4 : ∀ V, J 9 V → ∀ V', RegOk 4 5 d (hs9 V) V' → J 10 V'

/-! The buffers no longer held after each call. -/
abbrev gone1 : List (Ref sig .tc) := [main_v0]
abbrev gone2 : List (Ref sig .tc) := [main_v7, main_v0]
abbrev gone3 : List (Ref sig .tc) := [main_v16, main_v7, main_v0]
abbrev gone4 : List (Ref sig .tc) := [main_v25, main_v16, main_v7, main_v0]
/-- The buffers no longer held at the end. -/
abbrev dead : List (Ref sig .tc) := [main_v34, main_v25, main_v16, main_v7, main_v0]

/-- What @main leaves. -/
def FIN (J : ℕ → Vl F → Prop) (d : Dev nD) : sProp (MT nD τ sig (HIx 5) (Elt F) ℕ UU ℕ) := iprop(∃ V, ⌜J 10 V⌝ ∗ StableHlo.held (T d) (SS dead) V)

set_option maxHeartbeats 4000000 in
theorem hmain (m : (ℓ : Loc nD τ sig) → Buf (Elt F) ℓ) (ρ : Dev nD → PrngReg) (J : ℕ → Vl F → Prop) (κ : GSem nD τ sig → ℕ) (d : Dev nD) (hJ : Keeps e RU d J) (h0 : J 0 (fun b => m (d, b))) :
    iprop((K (F := F)).ctx EH (P (F := F) e RU) κ ∗ (K (F := F)).tcSt EH d 0 ∗ (K (F := F)).tcRes m ρ d ∗ G (F := F) d : sProp 𝕄)
      ⊢ wp frame (wpE (defs (F := F)) 𝒱 (T d) none) Set.univ (main d)
          fun _ => iprop((K (F := F)).tcSt EH d 5 ∗ FIN J d ∗ (K (F := F)).tcEnd d) := by
  have hun : (unscopedBufs d (fun b => m ((T d).loc b)) : sProp 𝕄) = StableHlo.held (T d) (SS []) (fun b => m (d, b)) := by
    rw [SS_nil]; exact Pipeline.unscopedBufs_held d (fun b => m (d, b))
  unfold SparseCore.Cfg.tcRes SparseCore.Cfg.tcEnd G
  rw [hun, bigSep_five, bigSep_five]
  simp only [main, wp_bind, wp_pure]
  iintro ⟨#Hctx, Hst, ⟨Hb, Hheld, Hts, -⟩, ⟨G0, G1, G2, G3, G4⟩, T0, T1, T2, T3, T4⟩
  iapply (step_host d op0_0 [] _ rfl rfl rfl (by decide) rfl) $$ [Hb Hheld]
  · isplitl [Hb]; · iexact Hb
    iexact Hheld
  iintro ⟨Hb, Hheld⟩
  obtain ⟨hv, hn0⟩ := hJ.call0 _ h0
  iapply (wp_call0 e RU κ d (hs0 (fun b => m (d, b))) (SS []) (mem_SS rfl (by decide)) (mem_SS rfl (by decide)) (mem_SS rfl (by decide)) hv) $$ [-]
  isplitr; · iexact Hctx
  isplitl [Hst]; · iexact Hst
  isplitl [Hheld]; · iexact Hheld
  iintro ⟨%V1, %hV1, Hst, Hheld⟩
  ihave Hheld := (held_gone d [] main_v0 _) $$ Hheld
  have j1 := hn0 _ hV1
  iapply (step_host d op1_0 gone1 _ rfl rfl rfl (by decide) rfl) $$ [Hb Hheld]
  · isplitl [Hb]; · iexact Hb
    iexact Hheld
  iintro H
  iapply (step_host d op1_1 gone1 _ rfl rfl rfl (by decide) rfl) $$ H
  iintro H
  iapply (step_host d op1_2 gone1 _ rfl rfl rfl (by decide) rfl) $$ H
  iintro H
  iapply (step_host d op1_3 gone1 _ rfl rfl rfl (by decide) rfl) $$ H
  iintro H
  have hn1 := hJ.reg0 _ j1
  iapply (wp_reg e RU 0 launch1 rfl κ d (hs1 V1) 1 gone1 (by decide) (by decide) (fun _ _ => rfl) (fun _ _ => rfl) (fun _ _ => rfl) (fun _ _ => rfl)
    (body1 _ _) (fun _ => .rfl) (fun _ => .rfl)) $$ [-]
  isplitr; · iexact Hctx
  isplitl [Hst]; · iexact Hst
  isplitl [H]; · iexact H
  isplitl [G0]; · iexact G0
  isplitl [T0]; · iexact T0
  iintro ⟨%V2, %hV2, Hst, H⟩
  have j2 := hn1 _ hV2
  iapply (step_host d op2_0 gone1 _ rfl rfl rfl (by decide) rfl) $$ H
  iintro ⟨Hb, Hheld⟩
  obtain ⟨hp2, hu2, hn2⟩ := hJ.call1 _ j2
  iapply (wp_callA e RU 0 1 (Memref.whole main_v7_scv) (Memref.whole main_v8_scv) (Memref.whole main_v7) (Memref.whole main_v8) main_v7 main_v8 κ d (hs2 V2) (SS gone1) (mem_SS rfl (by decide)) (mem_SS rfl (by decide)) (mem_SS rfl (by decide))
    (fun V => V (dr main_v7)) (fun V => V (dr main_v8)) id id (fun _ => rfl) (fun _ => rfl) (fun _ _ h => h) (fun _ _ => owns_whole _ _ _ _) (fun _ => owns_whole _ _ _ _)
    (fun _ _ _ => rfl) (fun _ _ => rfl) (fun _ => rfl) (fun _ => rfl) (by decide) (by decide) (by decide) hp2 hu2) $$ [-]
  isplitr; · iexact Hctx
  isplitl [Hst]; · iexact Hst
  isplitl [Hheld]; · iexact Hheld
  iintro ⟨%V3, %hV3, Hst, Hheld⟩
  ihave Hheld := (held_gone d gone1 main_v7 _) $$ Hheld
  have j3 := hn2 _ hV3
  iapply (step_host d op3_0 gone2 _ rfl rfl rfl (by decide) rfl) $$ [Hb Hheld]
  · isplitl [Hb]; · iexact Hb
    iexact Hheld
  iintro H
  iapply (step_host d op3_1 gone2 _ rfl rfl rfl (by decide) rfl) $$ H
  iintro H
  iapply (step_host d op3_2 gone2 _ rfl rfl rfl (by decide) rfl) $$ H
  iintro H
  iapply (step_host d op3_3 gone2 _ rfl rfl rfl (by decide) rfl) $$ H
  iintro H
  iapply (step_host d op3_4 gone2 _ rfl rfl rfl (by decide) rfl) $$ H
  iintro H
  iapply (step_host d op3_5 gone2 _ rfl rfl rfl (by decide) rfl) $$ H
  iintro H
  have hn3 := hJ.reg1 _ j3
  iapply (wp_reg e RU 1 launch3 rfl κ d (hs3 V3) 2 gone2 (by decide) (by decide) (fun _ _ => rfl) (fun _ _ => rfl) (fun _ _ => rfl) (fun _ _ => rfl)
    (body3 _ _) (fun _ => .rfl) (fun _ => .rfl)) $$ [-]
  isplitr; · iexact Hctx
  isplitl [Hst]; · iexact Hst
  isplitl [H]; · iexact H
  isplitl [G1]; · iexact G1
  isplitl [T1]; · iexact T1
  iintro ⟨%V4, %hV4, Hst, H⟩
  have j4 := hn3 _ hV4
  iapply (step_host d op4_0 gone2 _ rfl rfl rfl (by decide) rfl) $$ H
  iintro ⟨Hb, Hheld⟩
  obtain ⟨hp4, hu4, hn4⟩ := hJ.call2 _ j4
  iapply (wp_callA e RU 1 2 (Memref.whole main_v16_scv) (Memref.whole main_v17_scv) (Memref.whole main_v16) (Memref.whole main_v17) main_v16 main_v17 κ d (hs4 V4) (SS gone2) (mem_SS rfl (by decide)) (mem_SS rfl (by decide)) (mem_SS rfl (by decide))
    (fun V => V (dr main_v16)) (fun V => V (dr main_v17)) id id (fun _ => rfl) (fun _ => rfl) (fun _ _ h => h) (fun _ _ => owns_whole _ _ _ _) (fun _ => owns_whole _ _ _ _)
    (fun _ _ _ => rfl) (fun _ _ => rfl) (fun _ => rfl) (fun _ => rfl) (by decide) (by decide) (by decide) hp4 hu4) $$ [-]
  isplitr; · iexact Hctx
  isplitl [Hst]; · iexact Hst
  isplitl [Hheld]; · iexact Hheld
  iintro ⟨%V5, %hV5, Hst, Hheld⟩
  ihave Hheld := (held_gone d gone2 main_v16 _) $$ Hheld
  have j5 := hn4 _ hV5
  iapply (step_host d op5_0 gone3 _ rfl rfl rfl (by decide) rfl) $$ [Hb Hheld]
  · isplitl [Hb]; · iexact Hb
    iexact Hheld
  iintro H
  iapply (step_host d op5_1 gone3 _ rfl rfl rfl (by decide) rfl) $$ H
  iintro H
  iapply (step_host d op5_2 gone3 _ rfl rfl rfl (by decide) rfl) $$ H
  iintro H
  iapply (step_host d op5_3 gone3 _ rfl rfl rfl (by decide) rfl) $$ H
  iintro H
  iapply (step_host d op5_4 gone3 _ rfl rfl rfl (by decide) rfl) $$ H
  iintro H
  iapply (step_host d op5_5 gone3 _ rfl rfl rfl (by decide) rfl) $$ H
  iintro H
  have hn5 := hJ.reg2 _ j5
  iapply (wp_reg e RU 2 launch5 rfl κ d (hs5 V5) 3 gone3 (by decide) (by decide) (fun _ _ => rfl) (fun _ _ => rfl) (fun _ _ => rfl) (fun _ _ => rfl)
    (body5 _ _) (fun _ => .rfl) (fun _ => .rfl)) $$ [-]
  isplitr; · iexact Hctx
  isplitl [Hst]; · iexact Hst
  isplitl [H]; · iexact H
  isplitl [G2]; · iexact G2
  isplitl [T2]; · iexact T2
  iintro ⟨%V6, %hV6, Hst, H⟩
  have j6 := hn5 _ hV6
  iapply (step_host d op6_0 gone3 _ rfl rfl rfl (by decide) rfl) $$ H
  iintro ⟨Hb, Hheld⟩
  obtain ⟨hp6, hu6, hn6⟩ := hJ.call3 _ j6
  iapply (wp_callA e RU 2 3 (Memref.whole main_v25_scv) (Memref.whole main_v26_scv) (Memref.whole main_v25) (Memref.whole main_v26) main_v25 main_v26 κ d (hs6 V6) (SS gone3) (mem_SS rfl (by decide)) (mem_SS rfl (by decide)) (mem_SS rfl (by decide))
    (fun V => V (dr main_v25)) (fun V => V (dr main_v26)) id id (fun _ => rfl) (fun _ => rfl) (fun _ _ h => h) (fun _ _ => owns_whole _ _ _ _) (fun _ => owns_whole _ _ _ _)
    (fun _ _ _ => rfl) (fun _ _ => rfl) (fun _ => rfl) (fun _ => rfl) (by decide) (by decide) (by decide) hp6 hu6) $$ [-]
  isplitr; · iexact Hctx
  isplitl [Hst]; · iexact Hst
  isplitl [Hheld]; · iexact Hheld
  iintro ⟨%V7, %hV7, Hst, Hheld⟩
  ihave Hheld := (held_gone d gone3 main_v25 _) $$ Hheld
  have j7 := hn6 _ hV7
  iapply (step_host d op7_0 gone4 _ rfl rfl rfl (by decide) rfl) $$ [Hb Hheld]
  · isplitl [Hb]; · iexact Hb
    iexact Hheld
  iintro H
  iapply (step_host d op7_1 gone4 _ rfl rfl rfl (by decide) rfl) $$ H
  iintro H
  iapply (step_host d op7_2 gone4 _ rfl rfl rfl (by decide) rfl) $$ H
  iintro H
  iapply (step_host d op7_3 gone4 _ rfl rfl rfl (by decide) rfl) $$ H
  iintro H
  iapply (step_host d op7_4 gone4 _ rfl rfl rfl (by decide) rfl) $$ H
  iintro H
  iapply (step_host d op7_5 gone4 _ rfl rfl rfl (by decide) rfl) $$ H
  iintro H
  have hn7 := hJ.reg3 _ j7
  iapply (wp_reg e RU 3 launch7 rfl κ d (hs7 V7) 4 gone4 (by decide) (by decide) (fun _ _ => rfl) (fun _ _ => rfl) (fun _ _ => rfl) (fun _ _ => rfl)
    (body7 _ _) (fun _ => .rfl) (fun _ => .rfl)) $$ [-]
  isplitr; · iexact Hctx
  isplitl [Hst]; · iexact Hst
  isplitl [H]; · iexact H
  isplitl [G3]; · iexact G3
  isplitl [T3]; · iexact T3
  iintro ⟨%V8, %hV8, Hst, H⟩
  have j8 := hn7 _ hV8
  iapply (step_host d op8_0 gone4 _ rfl rfl rfl (by decide) rfl) $$ H
  iintro ⟨Hb, Hheld⟩
  obtain ⟨hp8, hu8, hn8⟩ := hJ.call4 _ j8
  iapply (wp_callA e RU 3 4 (Memref.whole main_v34_scv) (Memref.whole main_v35_scv) (Memref.whole main_v34) (Memref.whole main_v35) main_v34 main_v35 κ d (hs8 V8) (SS gone4) (mem_SS rfl (by decide)) (mem_SS rfl (by decide)) (mem_SS rfl (by decide))
    (fun V => V (dr main_v34)) (fun V => V (dr main_v35)) id id (fun _ => rfl) (fun _ => rfl) (fun _ _ h => h) (fun _ _ => owns_whole _ _ _ _) (fun _ => owns_whole _ _ _ _)
    (fun _ _ _ => rfl) (fun _ _ => rfl) (fun _ => rfl) (fun _ => rfl) (by decide) (by decide) (by decide) hp8 hu8) $$ [-]
  isplitr; · iexact Hctx
  isplitl [Hst]; · iexact Hst
  isplitl [Hheld]; · iexact Hheld
  iintro ⟨%V9, %hV9, Hst, Hheld⟩
  ihave Hheld := (held_gone d gone4 main_v34 _) $$ Hheld
  have j9 := hn8 _ hV9
  iapply (step_host d op9_0 dead _ rfl rfl rfl (by decide) rfl) $$ [Hb Hheld]
  · isplitl [Hb]; · iexact Hb
    iexact Hheld
  iintro H
  iapply (step_host d op9_1 dead _ rfl rfl rfl (by decide) rfl) $$ H
  iintro H
  iapply (step_host d op9_2 dead _ rfl rfl rfl (by decide) rfl) $$ H
  iintro H
  iapply (step_host d op9_3 dead _ rfl rfl rfl (by decide) rfl) $$ H
  iintro H
  iapply (step_host d op9_4 dead _ rfl rfl rfl (by decide) rfl) $$ H
  iintro H
  iapply (step_host d op9_5 dead _ rfl rfl rfl (by decide) rfl) $$ H
  iintro H
  have hn9 := hJ.reg4 _ j9
  iapply (wp_reg e RU 4 launch9 rfl κ d (hs9 V9) 5 dead (by decide) (by decide) (fun _ _ => rfl) (fun _ _ => rfl) (fun _ _ => rfl) (fun _ _ => rfl)
    (body9 _ _) (final_in _) (final_out _)) $$ [-]
  isplitr; · iexact Hctx
  isplitl [Hst]; · iexact Hst
  isplitl [H]; · iexact H
  isplitl [G4]; · iexact G4
  isplitl [T4]; · iexact T4
  iintro ⟨%V10, %hV10, Hst, Hb, Hheld⟩
  have j10 := hn9 _ hV10
  imodintro
  isplitl [Hst]; · iexact Hst
  isplitl [Hheld]
  · unfold FIN
    iexists V10
    isplitr; · ipureintro; exact j10
    iexact Hheld
  isplitl [Hb]; · iexact Hb
  iexact Hts

end Cert.Proof.KernelIdeal

end
-- ==== Proof.KernelIdeal.Run.lean ====
/-
  The kernel's launch as a whole: from a predicate on the TensorCore's buffers kept by every step of @main, every run
  terminates without a fault, with memory satisfying the predicate at the end and every semaphore counter at zero.
-/
module

public import proofs.«01_k».proof.Proof.KernelIdeal.Main

@[expose] public section

noncomputable section

namespace Cert.Proof.KernelIdeal

open Cert.KernelIdeal Cert.KernelIdeal.Gen
open Cert.Proof.Own Cert.Proof.Spec

open Idealize.ShloMosaic hiding T
open Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Rounds (initOf)
open Idealize.ShloMosaic.Pipeline (arrRef arrRefs ucRefs RDat)

variable {F : FTy → Type} [FloatOps F]

local notation "𝕄" => MT nD τ sig (HIx 5) (Elt F) ℕ UU ℕ

variable (e : Dev nD → IVec (A1 640000) 32) (RU : Fin 4 → Dev nD → Vec F (A1 1280000) .f32 → Prop)

omit [FloatOps F] in
theorem bigSep_emp' {I : Type} (s : Finset I) : (bigSep s fun _ => iprop(emp)) = (iprop(emp) : sProp (MT nD τ sig (HIx 5) (Elt F) ℕ UU ℕ)) := BI.bigSep_emp_const s

theorem hu₀ : (ownU (u₀ F) : sProp (MT nD τ sig (HIx 5) (Elt F) ℕ UU ℕ))
    ⊢ |={Set.univ}=> iprop(BI.own ((EH (F := F)) (initOf (K (F := F)).hsCells (K (F := F)).hsToks)) ∗ bigSep Finset.univ (G (F := F))
        ∗ bigSep Finset.univ fun thr : Thread nD τ => bigSep Finset.univ fun q : Fin 5 => (P (F := F) e RU).x q thr) := by
  iintro Hu
  imod (split_u₀ (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 5 => (iprop(emp) : sProp (MT nD τ sig (HIx 5) (Elt F) ℕ UU ℕ))) = iprop(emp) from by
    rw [BI.bigSep_congr fun _ _ => bigSep_emp' _, bigSep_emp']]
  iempintro

/-- What the final memory of a device satisfies. -/
def fq (J : Dev nD → ℕ → Vl F → Prop) (d : Dev nD) (s' : Phys nD τ sig (Elt F)) : Prop :=
  ∃ V, J d 10 V ∧ ∀ b ∈ SS dead, s'.mem.mem (d, b) = V b

theorem hfin (J : Dev nD → ℕ → Vl F → Prop) (d : Dev nD) (s' : Phys nD τ sig (Elt F)) :
    iprop(FIN (J d) d ∗ SI s') ⊢ (⌜fq J d s'⌝ : sProp (MT nD τ sig (HIx 5) (Elt F) ℕ UU ℕ)) := by
  unfold FIN StableHlo.held
  iintro ⟨⟨%V, %hV, Hh⟩, HSI⟩
  ihave H := (SI_pointsTo_bufs_agree (st := s') (c := d) (qs := fun _ => fullShare) (F := V) (SS dead)) $$ [HSI Hh]
  · isplitl [HSI] <;> iassumption
  icases H with %hx
  ipureintro; exact ⟨V, hV, hx⟩

set_option maxRecDepth 20000 in
/-- Every run of the kernel ends with each device's buffers as the predicate says and every counter at zero. -/
theorem run_main (he : ∀ d k, (e d k).toNat < 10000) (hp : ∀ d j, GoodW (packAll (e d) j)) (m : (ℓ : Loc nD τ sig) → Buf (Elt F) ℓ) (ρ : Dev nD → PrngReg)
    (J : Dev nD → ℕ → Vl F → Prop) (hJ : ∀ d, Keeps e RU d (J d)) (h0 : ∀ d, J d 0 (fun b => m (d, b))) :
    θ_run (defs (F := F)) (threads (F := F)) ⟨m, fun _ => 0, ρ⟩
      (fun r => (∀ d, ∃ V, J d 10 V ∧ ∀ b ∈ SS dead, r.2.mem (d, b) = V b) ∧ r.2.sem = fun _ => 0) :=
  SparseCore.Cfg.θ_run_sc_quiescent (K := K (F := F)) (D := D (F := F)) (𝒱 := 𝒱) (EH := EH) (P := P (F := F) e RU) (A := ∅) facts v₀
    (fun q hq => match q with | 0 => nomatch hq | 1 => nomatch hq | 2 => nomatch hq | 3 => nomatch hq | 4 => nomatch hq)
    (fun q _ => tileObl e RU he hp q)
    (fun q _ => SparseCore.Cfg.VecSplit.of_plain (vecSplit e RU q))
    m ρ main (G (F := F)) (fun d => FIN (J d) d) (u₀ F) (sep_elim_left.trans (hu₀ e RU)) (fun κ d => hmain e RU m ρ (J d) κ d (hJ d) (h0 d)) (fq J) (hfin J)
    (fun r => (∀ d, ∃ V, J d 10 V ∧ ∀ b ∈ SS dead, r.2.mem (d, b) = V b) ∧ r.2.sem = fun _ => 0) (fun _ h hz => ⟨h, hz⟩)

end Cert.Proof.KernelIdeal

end
-- ==== Proof.KernelIdeal.Frame.lean ====
/-
  The kernel's frame: every step of @main leaves the arguments as they are, so the kernel runs without a fault from any
  memory whose edge words name nodes, leaving its arguments unchanged and every semaphore counter at zero.
-/
module

public import proofs.«01_k».proof.Proof.KernelIdeal.Run
public import proofs.«01_k».proof.Proof.Pack
public import proofs.«01_k».proof.Proof.Gen.Pre_edges_in_nodes

@[expose] public section

noncomputable section

namespace Cert.Proof.KernelIdeal

open Cert.KernelIdeal Cert.KernelIdeal.Gen
open Cert.Proof.Own Cert.Proof.Spec

open Idealize.ShloMosaic hiding T
open Idealize.ShloMosaic.Transfers
open Idealize.ShloMosaic.SparseCore (S V T)
open Idealize.ShloMosaic.SparseCore.Cfg (HIx Pay)
open Idealize.SL
open Idealize.SL.BI (sProp bigSep bigSepL)
open scoped Idealize.SL.BI
open Idealize.SL.BI.BIBase Idealize.SL.BI.Laws Idealize.SL.Sem Idealize.SL.ProofMode
open Idealize.SL.RA
open Idealize.ShloMosaic.Pipeline (arrRef arrRefs ucRefs RDat)

variable {F : FTy → Type} [FloatOps F]

local notation "𝕄" => MT nD τ sig (HIx 5) (Elt F) ℕ UU ℕ

/-! ## What the host operations and the regions leave alone -/

theorem hs0_ne (V : Vl F) {b : Ref sig .tc} (h : b ∉ [main_v0]) : hs0 V (dr b) = V (dr b) := by
  simp only [List.mem_cons, List.not_mem_nil, or_false, not_or] at h
  have h0 := h
  unfold hs0
  rw [StableHlo.reshape_result_ne (h := h0)]

theorem hs1_ne (V : Vl F) {b : Ref sig .tc} (h : b ∉ [main_v2, main_v3, main_v4, main_v5]) : hs1 V (dr b) = V (dr b) := by
  simp only [List.mem_cons, List.not_mem_nil, or_false, not_or] at h
  obtain ⟨h0, h1, h2, h3⟩ := h
  unfold hs1
  rw [StableHlo.reshape_result_ne (h := h3), StableHlo.unary_result_ne (h := h2), StableHlo.reshape_result_ne (h := h1), StableHlo.reshape_result_ne (h := h0)]

theorem hs2_ne (V : Vl F) {b : Ref sig .tc} (h : b ∉ [main_v7]) : hs2 V (dr b) = V (dr b) := by
  simp only [List.mem_cons, List.not_mem_nil, or_false, not_or] at h
  have h0 := h
  unfold hs2
  rw [StableHlo.reshape_result_ne (h := h0)]

theorem hs3_ne (V : Vl F) {b : Ref sig .tc} (h : b ∉ [main_v9, main_v10, main_v11, main_v12, main_v13, main_v14]) : hs3 V (dr b) = V (dr b) := by
  simp only [List.mem_cons, List.not_mem_nil, or_false, not_or] at h
  obtain ⟨h0, h1, h2, h3, h4, h5⟩ := h
  unfold hs3
  rw [StableHlo.reshape_result_ne (h := h5), StableHlo.unary_result_ne (h := h4), StableHlo.reshape_result_ne (h := h3), StableHlo.reshape_result_ne (h := h2), StableHlo.unary_result_ne (h := h1), StableHlo.reshape_result_ne (h := h0)]

theorem hs4_ne (V : Vl F) {b : Ref sig .tc} (h : b ∉ [main_v16]) : hs4 V (dr b) = V (dr b) := by
  simp only [List.mem_cons, List.not_mem_nil, or_false, not_or] at h
  have h0 := h
  unfold hs4
  rw [StableHlo.reshape_result_ne (h := h0)]

theorem hs5_ne (V : Vl F) {b : Ref sig .tc} (h : b ∉ [main_v18, main_v19, main_v20, main_v21, main_v22, main_v23]) : hs5 V (dr b) = V (dr b) := by
  simp only [List.mem_cons, List.not_mem_nil, or_false, not_or] at h
  obtain ⟨h0, h1, h2, h3, h4, h5⟩ := h
  unfold hs5
  rw [StableHlo.reshape_result_ne (h := h5), StableHlo.unary_result_ne (h := h4), StableHlo.reshape_result_ne (h := h3), StableHlo.reshape_result_ne (h := h2), StableHlo.unary_result_ne (h := h1), StableHlo.reshape_result_ne (h := h0)]

theorem hs6_ne (V : Vl F) {b : Ref sig .tc} (h : b ∉ [main_v25]) : hs6 V (dr b) = V (dr b) := by
  simp only [List.mem_cons, List.not_mem_nil, or_false, not_or] at h
  have h0 := h
  unfold hs6
  rw [StableHlo.reshape_result_ne (h := h0)]

theorem hs7_ne (V : Vl F) {b : Ref sig .tc} (h : b ∉ [main_v27, main_v28, main_v29, main_v30, main_v31, main_v32]) : hs7 V (dr b) = V (dr b) := by
  simp only [List.mem_cons, List.not_mem_nil, or_false, not_or] at h
  obtain ⟨h0, h1, h2, h3, h4, h5⟩ := h
  unfold hs7
  rw [StableHlo.reshape_result_ne (h := h5), StableHlo.unary_result_ne (h := h4), StableHlo.reshape_result_ne (h := h3), StableHlo.reshape_result_ne (h := h2), StableHlo.unary_result_ne (h := h1), StableHlo.reshape_result_ne (h := h0)]

theorem hs8_ne (V : Vl F) {b : Ref sig .tc} (h : b ∉ [main_v34]) : hs8 V (dr b) = V (dr b) := by
  simp only [List.mem_cons, List.not_mem_nil, or_false, not_or] at h
  have h0 := h
  unfold hs8
  rw [StableHlo.reshape_result_ne (h := h0)]

theorem hs9_ne (V : Vl F) {b : Ref sig .tc} (h : b ∉ [main_v36, main_v37, main_v38, main_v39, main_v40, main_v41]) : hs9 V (dr b) = V (dr b) := by
  simp only [List.mem_cons, List.not_mem_nil, or_false, not_or] at h
  obtain ⟨h0, h1, h2, h3, h4, h5⟩ := h
  unfold hs9
  rw [StableHlo.reshape_result_ne (h := h5), StableHlo.reshape_result_ne (h := h4), StableHlo.reshape_result_ne (h := h3), StableHlo.reshape_result_ne (h := h2), StableHlo.unary_result_ne (h := h1), StableHlo.reshape_result_ne (h := h0)]

/-- A region leaves alone what it does not name and what it only reads. -/
theorem reg_ne {p : Fin 5} {n : ℕ} {d : Dev nD} {V V' : Vl F} (h : RegOk p n d V V') (hA : ∀ w, (rds V n p d).A w = V (Proc.devRef .tc (arrRef (cfgs p).spec w))) (b : Ref sig .tc)
    (hb : (∃ w, arrRef (cfgs p).spec w = b ∧ ((cfgs p).win w).isOut = false) ∨ ∀ w, arrRef (cfgs p).spec w ≠ b) : V' (dr b) = V (dr b) := by
  rcases hb with ⟨w, rfl, hin⟩ | hb
  · have hw := h.1 w
    rw [(rds V n p d).ArrAt_in w hin] at hw
    exact hw.trans (hA w)
  · refine h.2 _ fun hm => ?_
    obtain ⟨r, hr, e⟩ := Finset.mem_map.mp hm
    obtain ⟨w, -, rfl⟩ := Finset.mem_image.mp hr
    exact hb w (Proc.devRef_injective _ e)

/-- @main's arguments and the packed edges, which nothing writes once they are there. -/
abbrev kept : List (Ref sig .tc) := [main_arg0, main_arg1, main_arg2, main_arg3, main_arg4, main_arg5, main_arg6, main_arg7, main_arg8, main_v1_0]

/-- No region writes them. -/
theorem regs_kept : ∀ p : Fin 5, ∀ b ∈ kept, (∃ w, arrRef (cfgs p).spec w = b ∧ ((cfgs p).win w).isOut = false) ∨ ∀ w, arrRef (cfgs p).spec w ≠ b := by decide

theorem reg_kept {p : Fin 5} {n : ℕ} {d : Dev nD} {V V' : Vl F} (h : RegOk p n d V V') : ∀ b ∈ kept, V' (dr b) = V (dr b) := fun b hb =>
  reg_ne h (match p with | 0 | 1 | 2 | 3 | 4 => fun _ => rfl) b (regs_kept p b hb)

theorem hs0_kept (V : Vl F) : ∀ b ∈ kept, hs0 V (dr b) = V (dr b) := fun b hb => hs0_ne V ((by decide : ∀ b ∈ kept, b ∉ [main_v0]) b hb)
theorem hs1_kept (V : Vl F) : ∀ b ∈ kept, hs1 V (dr b) = V (dr b) := fun b hb => hs1_ne V ((by decide : ∀ b ∈ kept, b ∉ [main_v2, main_v3, main_v4, main_v5]) b hb)
theorem hs2_kept (V : Vl F) : ∀ b ∈ kept, hs2 V (dr b) = V (dr b) := fun b hb => hs2_ne V ((by decide : ∀ b ∈ kept, b ∉ [main_v7]) b hb)
theorem hs3_kept (V : Vl F) : ∀ b ∈ kept, hs3 V (dr b) = V (dr b) := fun b hb => hs3_ne V ((by decide : ∀ b ∈ kept, b ∉ [main_v9, main_v10, main_v11, main_v12, main_v13, main_v14]) b hb)
theorem hs4_kept (V : Vl F) : ∀ b ∈ kept, hs4 V (dr b) = V (dr b) := fun b hb => hs4_ne V ((by decide : ∀ b ∈ kept, b ∉ [main_v16]) b hb)
theorem hs5_kept (V : Vl F) : ∀ b ∈ kept, hs5 V (dr b) = V (dr b) := fun b hb => hs5_ne V ((by decide : ∀ b ∈ kept, b ∉ [main_v18, main_v19, main_v20, main_v21, main_v22, main_v23]) b hb)
theorem hs6_kept (V : Vl F) : ∀ b ∈ kept, hs6 V (dr b) = V (dr b) := fun b hb => hs6_ne V ((by decide : ∀ b ∈ kept, b ∉ [main_v25]) b hb)
theorem hs7_kept (V : Vl F) : ∀ b ∈ kept, hs7 V (dr b) = V (dr b) := fun b hb => hs7_ne V ((by decide : ∀ b ∈ kept, b ∉ [main_v27, main_v28, main_v29, main_v30, main_v31, main_v32]) b hb)
theorem hs8_kept (V : Vl F) : ∀ b ∈ kept, hs8 V (dr b) = V (dr b) := fun b hb => hs8_ne V ((by decide : ∀ b ∈ kept, b ∉ [main_v34]) b hb)
theorem hs9_kept (V : Vl F) : ∀ b ∈ kept, hs9 V (dr b) = V (dr b) := fun b hb => hs9_ne V ((by decide : ∀ b ∈ kept, b ∉ [main_v36, main_v37, main_v38, main_v39, main_v40, main_v41]) b hb)

variable (m : (ℓ : Loc nD τ sig) → Buf (Elt F) ℓ)

/-- The edge list as @main flattens it. -/
def edges (d : Dev nD) : IVec (A1 640000) 32 := hs0 (fun b => m (d, b)) (dr main_v0)

/-- The arguments are the initial ones; after the first call the packed edges are there. -/
def JF (d : Dev nD) (k : ℕ) (V : Vl F) : Prop :=
  (∀ b ∈ kept, b ≠ main_v1_0 → V (dr b) = m (d, dr b)) ∧ (k = 0 → V = fun b => m (d, b)) ∧ (k ≠ 0 → V (dr main_v1_0) = packAll (edges m d))

theorem JF.step {d : Dev nD} {k k' : ℕ} (hk : k ≠ 0) (hk' : k' ≠ 0) {V V' : Vl F} (h : JF m d k V) (h' : ∀ b ∈ kept, V' (dr b) = V (dr b)) : JF m d k' V' :=
  ⟨fun b hb hne => (h' b hb).trans (h.1 b hb hne), fun e => absurd e hk', fun _ => (h' main_v1_0 (by decide)).trans (h.2.2 hk)⟩

abbrev RT : Fin 4 → Dev nD → Vec F (A1 1280000) .f32 → Prop := fun _ _ _ => True

theorem callA_kept {RU : Fin 4 → Dev nD → Vec F (A1 1280000) .f32 → Prop} {e : Dev nD → IVec (A1 640000) 32} {q : Fin 4} {b : Ref sig .tc} {d : Dev nD} {V V' : Vl F} {hb : Vl F → Vec F (A1 1280000) .f32}
    (h : CallA e RU q b d V V' hb) (hk : b ∉ kept) : ∀ x ∈ kept, V' (dr x) = V (dr x) := fun x hx => h.2 _ (dr_ne fun e => hk (e ▸ hx))

theorem keepsF (d : Dev nD) : Keeps (edges m) RT d (JF m d) where
  call0 V h := by
    cases h.2.1 rfl
    refine ⟨rfl, fun V' h' => ⟨fun b hb hne => ?_, fun e => absurd e (by decide), fun _ => h'.1⟩⟩
    rw [h'.2.2 (dr b) (dr_ne hne) (dr_ne ((by decide : ∀ b ∈ kept, b ≠ main_v1_1) b hb)), hs0_kept _ b hb]
  reg0 V h V' h' := h.step m (by decide) (by decide) fun b hb => (reg_kept h' b hb).trans (hs1_kept V b hb)
  call1 V h := ⟨(hs2_kept V _ (by decide)).trans (h.2.2 (by decide)), trivial,
    fun V' h' => h.step m (by decide) (by decide) fun b hb => (callA_kept h' (by decide) b hb).trans (hs2_kept V b hb)⟩
  reg1 V h V' h' := h.step m (by decide) (by decide) fun b hb => (reg_kept h' b hb).trans (hs3_kept V b hb)
  call2 V h := ⟨(hs4_kept V _ (by decide)).trans (h.2.2 (by decide)), trivial,
    fun V' h' => h.step m (by decide) (by decide) fun b hb => (callA_kept h' (by decide) b hb).trans (hs4_kept V b hb)⟩
  reg2 V h V' h' := h.step m (by decide) (by decide) fun b hb => (reg_kept h' b hb).trans (hs5_kept V b hb)
  call3 V h := ⟨(hs6_kept V _ (by decide)).trans (h.2.2 (by decide)), trivial,
    fun V' h' => h.step m (by decide) (by decide) fun b hb => (callA_kept h' (by decide) b hb).trans (hs6_kept V b hb)⟩
  reg3 V h V' h' := h.step m (by decide) (by decide) fun b hb => (reg_kept h' b hb).trans (hs7_kept V b hb)
  call4 V h := ⟨(hs8_kept V _ (by decide)).trans (h.2.2 (by decide)), trivial,
    fun V' h' => h.step m (by decide) (by decide) fun b hb => (callA_kept h' (by decide) b hb).trans (hs8_kept V b hb)⟩
  reg4 V h V' h' := h.step m (by decide) (by decide) fun b hb => (reg_kept h' b hb).trans (hs9_kept V b hb)

/-! ## The precondition -/

/-- An argument's edge words all name nodes. -/
def EdgesOk : Prop := ∀ (d : Dev nD) (i : S2x320000.Idx), (m (d, dr main_arg1) i : BitVec 32).toNat < 10000

theorem edges_lt (h : EdgesOk m) (d : Dev nD) (k : (A1 640000).Idx) : (edges m d k).toNat < 10000 := by
  unfold edges hs0
  rw [StableHlo.reshape_result]
  exact h d _

/-- The precondition on the edge list, read word by word. -/
theorem word_lt (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem args_SS : ∀ b ∈ kept, dr b ∈ SS dead := fun b hb =>
  mem_SS ((by decide : ∀ b ∈ kept, b.isScoped = false) b hb) ((by decide : ∀ b ∈ kept, b ∉ dead) b hb)

/-- The kernel runs, its arguments unchanged and every counter back at zero. -/
theorem run_frame (h : EdgesOk m) (ρ : Dev nD → PrngReg) :
    θ_run (defs (F := F)) (threads (F := F)) ⟨m, fun _ => 0, ρ⟩
      (fun r => (∀ d, ∀ b ∈ kept, b ≠ main_v1_0 → r.2.mem (d, dr b) = m (d, dr b)) ∧ r.2.sem = fun _ => 0) :=
  (θ_run defs _ _).mono (fun r hr => ⟨fun d b hb hne => by
    obtain ⟨V, hV, hm⟩ := hr.1 d
    exact (hm _ (args_SS b hb)).trans (hV.1 b hb hne), hr.2⟩)
    (run_main (edges m) RT (edges_lt m h) (fun d j => goodW_packAll _ (edges_lt m h d) j) m ρ (JF m) (keepsF m)
      (fun d => ⟨fun _ _ _ => rfl, fun _ => rfl, fun e => absurd rfl e⟩))

end Cert.Proof.KernelIdeal

/-! ## The claim -/

namespace Cert.Proof.KernelIdeal

open Cert.KernelIdeal Cert.KernelIdeal.Gen
open Idealize.ShloMosaic Idealize.SL.Sem

local instance : Cert.Pre_edges_in_nodes.Facts := Cert.Pre_edges_in_nodes.Gen.facts

theorem edgesOk (m : (ℓ : Loc nD τ sig) → Buf (Elt Ideal) ℓ) (h : Cert.Pre_KernelIdeal m) : EdgesOk m := fun d i => by
  have e := congrFun (h d) i
  simp only [Pre_edges_in_nodes.fn, andi, cmpi, broadcastInDim, constantI] at e
  exact word_lt _ e

/-- `Cert.quiescent_KernelIdeal` (Defs.lean). -/
theorem frame : Cert.quiescent_KernelIdeal := fun m ρ hpre =>
  (θ_run Cert.KernelIdeal.defs _ _).mono (fun _ h => ⟨fun c => ⟨h.1 c main_arg0 (by decide) (by decide), h.1 c main_arg1 (by decide) (by decide),
    h.1 c main_arg2 (by decide) (by decide), h.1 c main_arg3 (by decide) (by decide), h.1 c main_arg4 (by decide) (by decide), h.1 c main_arg5 (by decide) (by decide),
    h.1 c main_arg6 (by decide) (by decide), h.1 c main_arg7 (by decide) (by decide), h.1 c main_arg8 (by decide) (by decide)⟩, h.2⟩)
    (run_frame m (edgesOk m hpre) ρ)

end Cert.Proof.KernelIdeal

end
-- ==== Proof.Reads.lean ====
/-
  Array operations read at an element, at the shapes these programs use: a dot of two matrices over any one axis of each, a
  column broadcast over many, a reduced axis.
-/
module

public import Idealize.ShloMosaic.Lib.Pipeline.Value
public import Idealize.ShloMosaic.Lib.ValueLayout
public import Idealize.ShloMosaic.Lib.ValueIdxCore
public import Idealize.ShloMosaic.PureOps.Ideal.Laws

@[expose] public section

noncomputable section

namespace Cert.Proof.Reads

open Idealize.ShloMosaic Idealize.ShloMosaic.ValueIdx

/-- Two index functions of rank two agree when their coordinates do. -/
theorem ix2_ext {a b : ℕ} {i j : (⟨2, ![a, b]⟩ : Shape).Idx} (h0 : (i 0).val = (j 0).val) (h1 : (i 1).val = (j 1).val) : i = j := by
  funext ax; apply Fin.ext; match ax with
  | ⟨0, _⟩ => exact h0
  | ⟨1, _⟩ => exact h1

/-- The sum over a dot's one contracted axis, its operands read at given indices. -/
theorem dot_sum {sl sr so : Shape} (D : DotDims sl sr so) (n : ℕ) (hr : D.contr.rank = 1) (hs : D.contr.size ⟨0, by omega⟩ = n) (lhs : sl.Idx → EReal) (rhs : sr.Idx → EReal)
    (j : so.Idx) (L : Fin n → sl.Idx) (R : Fin n → sr.Idx) (hl : ∀ k, (∀ q, (q ⟨0, by omega⟩ : Fin _).val = k.val → D.lhsIdx j q = L k))
    (hr' : ∀ k, (∀ q, (q ⟨0, by omega⟩ : Fin _).val = k.val → D.rhsIdx j q = R k)) :
    (∑ q : D.contr.Idx, lhs (D.lhsIdx j q) * rhs (D.rhsIdx j q)) = ∑ k, lhs (L k) * rhs (R k) := by
  rw [← Equiv.sum_comp (contrEquiv1 D n hr hs).symm]
  refine Finset.sum_congr rfl fun k _ => ?_
  rw [hl k _ (contrEquiv1_symm_val D n hr hs k), hr' k _ (contrEquiv1_symm_val D n hr hs k)]

/-- A `[a, 1]` array broadcast to `[a, b]`. -/
theorem broadcastTo_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[a]` array cast to `[a, 1]`. -/
theorem shapeCast_col {α : Type} {a : ℕ} (x : (⟨1, ![a]⟩ : Shape).Idx → α) (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    rw [Shape.rowMajor_val_one, Shape.rowMajor_val_two]
    show p.val = p.val * 1 + z.val
    omega)

/-- A float sum over the rows of a matrix. -/
theorem sum_rows {a b : ℕ} (src : FVec Ideal ⟨2, ![a, b]⟩ .f32) (h : (⟨2, ![a, b]⟩ : Shape).Reduces [0] ⟨1, ![b]⟩) (hφ) (hacc) (j : Fin b) :
    multiReduction .add [0] ⟨1, ![b]⟩ src 0x00000000#32 h hφ hacc (ix1 j) = ∑ w : Fin a, src (ix2 w j) := by
  rw [Ideal.multiReduction_add_single]
  refine Finset.sum_congr rfl fun k _ => congrArg src (ix2_ext ?_ ?_)
  · rw [Shape.Reduces.lift_val]; rfl
  · rw [Shape.Reduces.lift_val]; rfl

/-- A float sum over the columns of a matrix. -/
theorem sum_cols {a b : ℕ} (src : FVec Ideal ⟨2, ![a, b]⟩ .f32) (h : (⟨2, ![a, b]⟩ : Shape).Reduces [1] ⟨1, ![a]⟩) (hφ) (hacc) (j : Fin a) :
    multiReduction .add [1] ⟨1, ![a]⟩ src 0x00000000#32 h hφ hacc (ix1 j) = ∑ w : Fin b, src (ix2 j w) := by
  rw [Ideal.multiReduction_add_single]
  refine Finset.sum_congr rfl fun k _ => congrArg src (ix2_ext ?_ ?_)
  · rw [Shape.Reduces.lift_val]; rfl
  · rw [Shape.Reduces.lift_val]; rfl

end Cert.Proof.Reads

end
-- ==== Proof.Sums.lean ====
/-
  What the tiles compute, over the extended reals: each element of the aggregated array is the sum, over the edges that
  end in its node, of the feature at the edge's source; the in-degree counts of the tiles add up to the number of edges
  that end in a node.
-/
module

public import proofs.«01_k».proof.Proof.Pack
public import Idealize.ShloMosaic.PureOps.Ideal.Laws
public import Idealize.ShloMosaic.Lib.IdealHost

@[expose] public section

noncomputable section

namespace Cert.Proof.Spec

open Idealize.ShloMosaic
open Finset (range)

/-- A sum over the edges `k < n` with `d k = i`. -/
def eSum (n : ℕ) (d : ℕ → ℕ) (i : ℕ) (g : ℕ → EReal) : EReal := ∑ k ∈ range n, if d k = i then g k else 0

theorem eSum_add (n m : ℕ) (d : ℕ → ℕ) (i : ℕ) (g : ℕ → EReal) :
    eSum (n + m) d i g = eSum n d i g + ∑ l : Fin m, if d (n + l.val) = i then g (n + l.val) else 0 := by
  unfold eSum
  rw [Finset.sum_range_add, Finset.sum_range (fun k => if d (n + k) = i then g (n + k) else 0)]

theorem eSum_congr {n : ℕ} {d d' : ℕ → ℕ} {i : ℕ} {g g' : ℕ → EReal} (hd : ∀ k < n, d k = d' k) (hg : ∀ k < n, d k = i → g k = g' k) :
    eSum n d i g = eSum n d' i g' := by
  unfold eSum
  refine Finset.sum_congr rfl fun k hk => ?_
  have hk := Finset.mem_range.mp hk
  rw [← hd k hk]
  split
  · rename_i h; exact hg k hk h
  · rfl

/-! ## One scatter -/

theorem foldl_add {s : Shape} (hit : Fin 16 → s.Idx) (v : Fin 16 → EReal) (i : s.Idx) :
    ∀ (ls : List (Fin 16)) (g : s.Idx → EReal),
      ls.foldl (fun g k => fun j => if ∀ a, (j a).val = (hit k a).val then g (hit k) + v k else g j) g i
        = g i + (ls.map fun k => if ∀ a, (i a).val = (hit k a).val then v k else 0).sum
  | [], g => by simp
  | k :: ls, g => by
    rw [List.foldl_cons, foldl_add hit v i ls, List.map_cons, List.sum_cons, ← add_assoc]
    congr 1
    by_cases h : ∀ a, (i a).val = (hit k a).val
    · rw [if_pos h, if_pos h]
      have : hit k = i := funext fun a => Fin.ext (h a).symm
      rw [this]
    · rw [if_neg h, if_neg h, add_zero]

theorem sca_apply {n : ℕ} (g : Vec Ideal (A1 n) .f32) (idx : IVec L16 32) (v : Vec Ideal L16 .f32) (h : InB n idx) (i : (A1 n).Idx) :
    sca g idx v i = g i + ∑ l : Fin 16, if (idx (ix1 16 l.val)).toNat = (i 0).val then v (ix1 16 l.val) else (0 : EReal) := by
  have e : ∀ k : Fin 16, (Shape.ofLane (d := ![16]) k : L16.Idx) = ix1 16 k.val := fun k => eq_ix1 _ _ rfl
  unfold sca
  rw [dif_pos h]
  simp only [storeIdx, if_true]
  refine (foldl_add (s := A1 n) (fun k => idxAt (t := L16) (s := A1 n) ![idx] h (Shape.ofLane (d := ![16]) k)) (fun k => v (Shape.ofLane (d := ![16]) k)) i
    (List.finRange 16) g).trans ?_
  rw [Fin.sum_univ_def]
  congr 3
  funext k
  have hc : (∀ a, (i a).val = (idxAt (t := L16) (s := A1 n) ![idx] h (Shape.ofLane (d := ![16]) k) a).val) ↔ (idx (ix1 16 k.val)).toNat = (i 0).val := by
    rw [← e k]
    constructor
    · intro h0; exact (h0 0).symm
    · intro h0 a
      have : a = 0 := Subsingleton.elim _ _
      subst this; exact h0.symm
  simp only [hc]
  rw [e k]

/-! ## The aggregation -/

/-- The source a packed word names. -/
def srcW (p : IVec (A1 320000) 32) (k : ℕ) : ℕ := ((p (ix1 320000 k)).sshiftRight' 14#32).toNat
/-- The destination a packed word names. -/
def dstW (p : IVec (A1 320000) 32) (k : ℕ) : ℕ := (p (ix1 320000 k) &&& 16383#32).toNat

theorem gat_apply (u : Vec Ideal (A1 40000) .f32) (idx : IVec L16 32) (h : InB 40000 idx) (x : L16.Idx) (k : ℕ) (hk : (idx x).toNat = k) :
    gat u idx x = u (ix1 40000 k) := by
  unfold gat
  rw [dif_pos h]
  exact congrArg u (eq_ix1 _ _ hk)

variable (p : IVec (A1 320000) 32) (hp : ∀ k, GoodW (p k)) (u : Vec Ideal (A1 40000) .f32)

include hp in
theorem sca_row (g : Vec Ideal (A1 40000) .f32) (n j f d : ℕ) (hj : j < 4) (hf : f < 4) (hd : d < 10000) (o : BitVec 32) (ho : o.toNat = j * 10000) :
    sca g (dstIx o (grp p n)) (gat u (srcIx o (grp p n))) (ix1 40000 (f * 10000 + d))
      = g (ix1 40000 (f * 10000 + d)) + if j = f then ∑ l : Fin 16, if dstW p (16 * n + l.val) = d then u (ix1 40000 (f * 10000 + srcW p (16 * n + l.val))) else (0 : EReal) else 0 := by
  have hg : ∀ i, GoodW (grp p n i) := fun i => hp _
  have ho' : o.toNat ≤ 30000 := by omega
  rw [sca_apply _ _ _ (dstIx_inB o _ hg ho')]
  congr 1
  have hi : ((ix1 40000 (f * 10000 + d) : (A1 40000).Idx) 0).val = f * 10000 + d := by rw [ix1_val]; omega
  have hlane : ∀ l : Fin 16, grp p n (ix1 16 l.val) = p (ix1 320000 (16 * n + l.val)) := fun l => by
    unfold grp; rw [ix1_val, Nat.mod_eq_of_lt l.isLt]
  have hds : ∀ l : Fin 16, (dstIx o (grp p n) (ix1 16 l.val)).toNat = dstW p (16 * n + l.val) + j * 10000 := fun l => by
    rw [dstIx_val o _ _ (hg _) ho', hlane, ho]; rfl
  have hsr : ∀ l : Fin 16, (srcIx o (grp p n) (ix1 16 l.val)).toNat = j * 10000 + srcW p (16 * n + l.val) := fun l => by
    rw [srcIx_val o _ _ (hg _) ho', hlane, ho, add_comm]; rfl
  have hlt : ∀ l : Fin 16, dstW p (16 * n + l.val) < 10000 := fun l => (hp _).2
  have hterm : ∀ l : Fin 16, (if (dstIx o (grp p n) (ix1 16 l.val)).toNat = ((ix1 40000 (f * 10000 + d) : (A1 40000).Idx) 0).val then gat u (srcIx o (grp p n)) (ix1 16 l.val) else (0 : EReal))
      = if j = f then (if dstW p (16 * n + l.val) = d then u (ix1 40000 (f * 10000 + srcW p (16 * n + l.val))) else (0 : EReal)) else 0 := fun l => by
    rw [hds, hi, gat_apply u _ (srcIx_inB o _ hg ho') _ _ (hsr l)]
    have := hlt l
    by_cases hjf : j = f
    · subst hjf
      simp only [if_true]
      by_cases hdd : dstW p (16 * n + l.val) = d
      · rw [if_pos (by omega), if_pos hdd]
      · rw [if_neg (by omega), if_neg hdd]
    · rw [if_neg (by omega), if_neg hjf]
  rw [Finset.sum_congr rfl fun l _ => hterm l]
  split
  · rfl
  · exact Finset.sum_const_zero

include hp in
theorem aggStep_apply (g : Vec Ideal (A1 40000) .f32) (n f d : ℕ) (hf : f < 4) (hd : d < 10000) :
    aggStep u (grp p n) g (ix1 40000 (f * 10000 + d))
      = g (ix1 40000 (f * 10000 + d)) + ∑ l : Fin 16, if dstW p (16 * n + l.val) = d then u (ix1 40000 (f * 10000 + srcW p (16 * n + l.val))) else (0 : EReal) := by
  unfold aggStep
  rw [sca_row p hp u _ n 3 f d (by omega) hf hd _ (by simp), sca_row p hp u _ n 2 f d (by omega) hf hd _ (by simp),
    sca_row p hp u _ n 1 f d (by omega) hf hd _ (by simp), sca_row p hp u _ n 0 f d (by omega) hf hd _ (by simp)]
  have : f = 0 ∨ f = 1 ∨ f = 2 ∨ f = 3 := by omega
  rcases this with rfl | rfl | rfl | rfl <;> simp

include hp in
theorem aggAt_apply (f d : ℕ) (hf : f < 4) (hd : d < 10000) : ∀ n,
    aggAt u p n (ix1 40000 (f * 10000 + d)) = eSum (16 * n) (dstW p) d fun k => u (ix1 40000 (f * 10000 + srcW p k))
  | 0 => by
    show Ideal.ofBits .f32 0x00000000#32 = _
    rw [Ideal.ofBits_zero_f32]; simp [eSum]
  | n + 1 => by
    rw [show aggAt u p (n + 1) = aggStep u (grp p n) (aggAt u p n) from rfl, aggStep_apply p hp u _ n f d hf hd, aggAt_apply f d hf hd n,
      show 16 * (n + 1) = 16 * n + 16 from rfl, eSum_add]

/-- An element of the aggregated array: the sum over the edges that end in its node. -/
theorem aggAll_apply (ut : Vec Ideal (A1 1280000) .f32) (e : IVec (A1 640000) 32) (he : ∀ k, (e k).toNat < 10000) (f d : ℕ) (hf : f < 128) (hd : d < 10000) :
    aggAll ut (packAll e) (ix1 1280000 (f * 10000 + d))
      = eSum 320000 (fun k => (e (ix1 640000 (320000 + k))).toNat) d fun k => ut (ix1 1280000 (f * 10000 + (e (ix1 640000 k)).toNat)) := by
  have hk : ((ix1 1280000 (f * 10000 + d) : (A1 1280000).Idx) 0).val = f * 10000 + d := by rw [ix1_val]; omega
  unfold aggAll
  rw [hk]
  have hm : (f * 10000 + d) % 40000 = f % 4 * 10000 + d := by omega
  rw [hm, aggAt_apply (packAll e) (goodW_packAll e he) _ _ _ (by omega) hd, show 16 * 20000 = 320000 by norm_num]
  have hpk : ∀ k < 320000, packAll e (ix1 320000 k) = packW (e (ix1 640000 k)) (e (ix1 640000 (320000 + k))) := fun k hk => by
    unfold packAll; rw [ix1_val, Nat.mod_eq_of_lt hk]
  refine eSum_congr (fun k hk => ?_) fun k hk _ => ?_
  · unfold dstW; rw [hpk k hk, packW_dst _ _ (he _) (he _)]
  · have hs : srcW (packAll e) k = (e (ix1 640000 k)).toNat := by unfold srcW; rw [hpk k hk, packW_src _ _ (he _) (he _)]
    have hlt := he (ix1 640000 k)
    rw [hs]
    unfold rows
    refine congrArg ut (congrArg (ix1 1280000) ?_)
    rw [ix1_val]; omega

/-! ## The counts -/

theorem degAt_apply (e : IVec (A1 640000) 32) (he : ∀ k, (e k).toNat < 10000) (w d : ℕ) (hd : d < 10000) : ∀ n,
    degAt (F := Ideal) e w n (ix1 10000 d) = eSum (16 * n) (fun k => (e (ix1 640000 (320000 + (10000 * w + k)))).toNat) d fun _ => 1
  | 0 => by
    show Ideal.ofBits .f32 0x00000000#32 = _
    rw [Ideal.ofBits_zero_f32]; simp [eSum]
  | n + 1 => by
    have hb : InB 10000 (dgrp e w n) := inB_of fun x => he _
    rw [show degAt (F := Ideal) e w (n + 1) = sca (degAt e w n) (dgrp e w n) (broadcast L16 (Scalar.ofBits .f32 0x3F800000#32)) from rfl,
      sca_apply _ _ _ hb, degAt_apply e he w d hd n, show 16 * (n + 1) = 16 * n + 16 from rfl, eSum_add]
    congr 1
    refine Finset.sum_congr rfl fun l _ => ?_
    have hl : dgrp e w n (ix1 16 l.val) = e (ix1 640000 (320000 + (10000 * w + (16 * n + l.val)))) := by
      unfold dgrp; rw [ix1_val, Nat.mod_eq_of_lt l.isLt, add_assoc (10000 * w)]
    rw [hl, ix1_val, Nat.mod_eq_of_lt hd]
    refine if_congr Iff.rfl ?_ rfl
    exact Ideal.ofBits_one_f32

/-- The tiles' counts of a node add up to the number of edges that end in it. -/
theorem degAll_sum (e : IVec (A1 640000) 32) (he : ∀ k, (e k).toNat < 10000) (d : ℕ) (hd : d < 10000) :
    (∑ w : Fin 32, degAll (F := Ideal) e (ix1 320000 (w.val * 10000 + d)) : EReal) = eSum 320000 (fun k => (e (ix1 640000 (320000 + k))).toNat) d fun _ => 1 := by
  have h1 : ∀ w : Fin 32, degAll (F := Ideal) e (ix1 320000 (w.val * 10000 + d))
      = eSum 10000 (fun k => (e (ix1 640000 (320000 + (10000 * w.val + k)))).toNat) d fun _ => 1 := fun w => by
    have hk : ((ix1 320000 (w.val * 10000 + d) : (A1 320000).Idx) 0).val = w.val * 10000 + d := by rw [ix1_val]; omega
    unfold degAll
    rw [hk, show (w.val * 10000 + d) / 10000 = w.val by omega, show (w.val * 10000 + d) % 10000 = d by omega, degAt_apply e he _ d hd, show 16 * 625 = 10000 by norm_num]
  have h2 : ∀ n, (∑ w ∈ range n, eSum 10000 (fun k => (e (ix1 640000 (320000 + (10000 * w + k)))).toNat) d fun _ => 1)
      = eSum (10000 * n) (fun k => (e (ix1 640000 (320000 + k))).toNat) d fun _ => 1 := fun n => by
    induction n with
    | zero => rw [Finset.sum_range_zero, Nat.mul_zero]; unfold eSum; rw [Finset.sum_range_zero]
    | succ n ih =>
      rw [Finset.sum_range_succ, ih, Nat.mul_succ, eSum_add]
      exact congrArg (_ + ·) <| Finset.sum_range (fun k => if (e (ix1 640000 (320000 + (10000 * n + k)))).toNat = d then (1 : EReal) else 0)
  rw [Finset.sum_congr rfl fun w _ => h1 w, ← Finset.sum_range (fun w => eSum 10000 (fun k => (e (ix1 640000 (320000 + (10000 * w + k)))).toNat) d fun _ => 1)]
  rw [h2 32, show 10000 * 32 = 320000 by norm_num]

end Cert.Proof.Spec

end
-- ==== Proof.Graph.lean ====
/-
  The network's mathematics over the extended reals, as functions of node and feature numbers: what the reference writes
  (every message scaled by the factors of both its ends, a loop at every node) and what the kernel computes (features
  scaled before they are summed, the sum scaled after) agree.
-/
module

public import proofs.«01_k».proof.Proof.Sums

@[expose] public section

noncomputable section

namespace Cert.Proof.Graph

open Idealize.ShloMosaic
open Cert.Proof.Spec (eSum eSum_congr)
open Finset (range)

/-! ## Sums -/

/-- A nonnegative finite factor goes into a finite sum. -/
theorem mul_sum {ι : Type} (s : Finset ι) (c : EReal) (h0 : 0 ≤ c) (ht : c ≠ ⊤) (g : ι → EReal) : c * ∑ k ∈ s, g k = ∑ k ∈ s, c * g k := by
  classical
  induction s using Finset.induction_on with
  | empty => simp
  | insert a s ha ih => rw [Finset.sum_insert ha, Finset.sum_insert ha, EReal.left_distrib_of_nonneg_of_ne_top h0 ht, ih]

theorem mul_eSum (n : ℕ) (d : ℕ → ℕ) (i : ℕ) (c : EReal) (h0 : 0 ≤ c) (ht : c ≠ ⊤) (g : ℕ → EReal) :
    c * eSum n d i g = eSum n d i fun k => c * g k := by
  unfold eSum
  rw [mul_sum _ c h0 ht]
  refine Finset.sum_congr rfl fun k _ => ?_
  split
  · rfl
  · exact mul_zero c

/-- Edges and then loops: end `k` of the extended list. -/
def ext (d : ℕ → ℕ) (k : ℕ) : ℕ := if k < 320000 then d k else k - 320000

/-- The sum over edges and loops: the sum over the edges and the node's own loop. -/
theorem eSum_ext (d : ℕ → ℕ) (i : ℕ) (hi : i < 10000) (g : ℕ → EReal) :
    eSum 330000 (ext d) i g = eSum 320000 d i g + g (320000 + i) := by
  have h := Cert.Proof.Spec.eSum_add 320000 10000 (ext d) i g
  rw [show 320000 + 10000 = 330000 by norm_num] at h
  rw [h]
  refine congrArg₂ (· + ·) (eSum_congr (fun k hk => if_pos hk) fun _ _ _ => rfl) ?_
  have : ∀ l : Fin 10000, (if ext d (320000 + l.val) = i then g (320000 + l.val) else 0) = if l = ⟨i, hi⟩ then g (320000 + l.val) else 0 := fun l => by
    have e : ext d (320000 + l.val) = l.val := by unfold ext; rw [if_neg (by omega)]; omega
    rw [e]
    exact if_congr ⟨fun h => Fin.ext h, fun h => by rw [h]⟩ rfl rfl
  rw [Finset.sum_congr rfl fun l _ => this l, Finset.sum_ite_eq' Finset.univ (⟨i, hi⟩ : Fin 10000) (fun l => g (320000 + l.val)), if_pos (Finset.mem_univ _)]

/-! ## Degrees -/

variable (src dst : ℕ → ℕ)

/-- A node's degree, its loop counted. -/
def deg (n : ℕ) : EReal := eSum 320000 dst n (fun _ => 1) + 1
/-- A node's factor. -/
def dis (n : ℕ) : EReal := Ideal.rsqrt (deg dst n)

theorem deg_eq (n : ℕ) : ∃ r : ℝ, 1 ≤ r ∧ deg dst n = (r : EReal) := by
  refine ⟨(((range 320000).filter fun k => dst k = n).card : ℝ) + 1, by have := Nat.cast_nonneg (α := ℝ) ((range 320000).filter fun k => dst k = n).card; linarith, ?_⟩
  unfold deg eSum
  rw [← Finset.sum_filter, Finset.sum_const, nsmul_one, EReal.coe_add]
  generalize ((range 320000).filter fun k => dst k = n).card = c
  simp

theorem dis_eq (n : ℕ) : ∃ r : ℝ, 0 ≤ r ∧ dis dst n = (r : EReal) := by
  obtain ⟨r, hr, h⟩ := deg_eq dst n
  refine ⟨(Real.sqrt r)⁻¹, inv_nonneg.2 (Real.sqrt_nonneg r), ?_⟩
  unfold dis
  rw [h, Ideal.rsqrt_coe, if_neg (by linarith), if_neg (by linarith)]

theorem dis_nonneg (n : ℕ) : 0 ≤ dis dst n := by
  obtain ⟨r, hr, h⟩ := dis_eq dst n
  rw [h]; exact_mod_cast hr
theorem dis_ne_top (n : ℕ) : dis dst n ≠ ⊤ := by
  obtain ⟨r, hr, h⟩ := dis_eq dst n
  rw [h]; exact EReal.coe_ne_top r

/-- The reference's degree is the kernel's. -/
theorem deg_ext (n : ℕ) (hn : n < 10000) : eSum 330000 (ext dst) n (fun _ => 1) = deg dst n := eSum_ext dst n hn _

/-- The guards the reference puts on the degree change nothing. -/
theorem dis_guard (n : ℕ) (c : EReal) (hc : c ≤ 1) : max (deg dst n) c = deg dst n ∧ 0 < deg dst n := by
  obtain ⟨r, hr, h⟩ := deg_eq dst n
  have h1 : (1 : EReal) ≤ deg dst n := by rw [h]; exact_mod_cast hr
  exact ⟨max_eq_left (hc.trans h1), lt_of_lt_of_le zero_lt_one h1⟩

/-! ## A layer -/

/-- A product of a weight matrix and the features. -/
def zz (W h : ℕ → ℕ → EReal) (n f : ℕ) : EReal := ∑ k : Fin 128, W k.val f * h n k.val
/-- The scaled features. -/
def uu (W h : ℕ → ℕ → EReal) (n f : ℕ) : EReal := dis dst n * zz W h n f
/-- The sum of the scaled features over the edges that end in a node. -/
def agg (u : ℕ → ℕ → EReal) (n f : ℕ) : EReal := eSum 320000 dst n fun k => u (src k) f
/-- A layer's features from the scaled features and their sums. -/
def nxt (a u : ℕ → ℕ → EReal) (b : ℕ → EReal) (n f : ℕ) : EReal := max (dis dst n * (a n f + u n f) + b f) 0

/-- The features after the first product. -/
def feat0 (X Wp : ℕ → ℕ → EReal) (bp : ℕ → EReal) (n f : ℕ) : EReal := max ((∑ k : Fin 128, Wp k.val f * X n k.val) + bp f) 0

variable (X Wp : ℕ → ℕ → EReal) (bp : ℕ → EReal) (W : ℕ → ℕ → ℕ → EReal) (b : ℕ → ℕ → EReal)

/-- The features after `l` layers. -/
def feat : ℕ → ℕ → ℕ → EReal
  | 0 => feat0 X Wp bp
  | l + 1 => nxt dst (agg src dst (uu dst (W l) (feat l))) (uu dst (W l) (feat l)) (b l)

/-- The scaled features of layer `l`. -/
abbrev U (l : ℕ) : ℕ → ℕ → EReal := uu dst (W l) (feat src dst X Wp bp W b l)

/-- A layer as the reference writes it: the messages of edges and loops, each scaled by the factors of both its ends. -/
theorem layer_eq (z : ℕ → ℕ → EReal) (n f : ℕ) (hn : n < 10000) :
    (eSum 330000 (ext dst) n fun k => z (ext src k) f * (dis dst (ext src k) * dis dst (ext dst k)))
      = dis dst n * (agg src dst (fun n f => dis dst n * z n f) n f + dis dst n * z n f) := by
  have h0 := dis_nonneg dst n
  have ht := dis_ne_top dst n
  have e : ∀ d : ℕ → ℕ, ext d (320000 + n) = n := fun d => by unfold ext; rw [if_neg (by omega)]; omega
  rw [eSum_ext dst n hn, EReal.left_distrib_of_nonneg_of_ne_top h0 ht, e, e]
  refine congrArg₂ (· + ·) ?_ (by rw [mul_comm (z n f), mul_assoc])
  unfold agg
  rw [mul_eSum _ _ _ _ h0 ht]
  refine eSum_congr (fun _ _ => rfl) fun k hk hd => ?_
  have e1 : ext src k = src k := if_pos hk
  have e2 : ext dst k = n := (if_pos hk : ext dst k = dst k).trans hd
  rw [e1, e2, mul_comm (z _ f), mul_comm (dis dst (src k)) (dis dst n), mul_assoc]

/-! ## The pooled result -/

/-- The sum of the features over a group's nodes. -/
def pool (bt : ℕ → BitVec 32) (h : ℕ → EReal) (g : ℕ) : EReal := ∑ n ∈ range 10000, if bt n = BitVec.ofNat 32 g then h n else 0

/-- The result. -/
def out (bt : ℕ → BitVec 32) (h Wo : ℕ → ℕ → EReal) (bo : ℕ → EReal) (g j : ℕ) : EReal :=
  (∑ f : Fin 128, Ideal.div (pool bt (fun n => h n f.val) g) (max (pool bt (fun _ => 1) g) 1) * Wo f.val j) + bo j

end Cert.Proof.Graph

end
-- ==== Proof.KernelIdeal.Payloads.lean ====
/-
  The TensorCore bodies' payloads over the extended reals, element by element.
-/
module

public import proofs.«01_k».proof.Proof.KernelIdeal.Bodies
public import proofs.«01_k».proof.Proof.Reads
public import proofs.«01_k».proof.Proof.Graph
public import Idealize.ShloMosaic.Lib.WordArith

@[expose] public section

noncomputable section

namespace Cert.Proof.KernelIdeal

open Cert.KernelIdeal Cert.KernelIdeal.Gen
open Cert.Proof.Reads
open Idealize.ShloMosaic hiding T
open Idealize.ShloMosaic.ValueIdx

/-- The weights against the features: contracted on the first axes. -/
theorem mm_left (A : FVec Ideal S128x128 .f32) (B : FVec Ideal S128x2048 .f32) (f : Fin 128) (j : Fin 2048) :
    matmul dot_S128x128_S128x2048_S128x2048_0_0_1_1_n_n none A B (constant (F := Ideal) S128x2048 .f32 0x00000000#32) (ix2 f j) = ∑ k : Fin 128, A (ix2 k f) * B (ix2 k j) := by
  refine (Ideal.matmul_constant_zero_apply _ _ _ _ _).trans ?_
  refine dot_sum _ 128 rfl rfl _ _ _ (fun k => ix2 k f) (fun k => ix2 k j) (fun k q hq => ix2_ext ?_ ?_) (fun k q hq => ix2_ext ?_ ?_)
  · exact hq
  · rfl
  · exact hq
  · rfl

/-- The weights against the nodes' rows. -/
theorem mm_rows (A : FVec Ideal S128x128 .f32) (B : FVec Ideal S2048x128 .f32) (f : Fin 128) (j : Fin 2048) :
    matmul dot_S128x128_S2048x128_S128x2048_0_1_1_0_n_n none A B (constant (F := Ideal) S128x2048 .f32 0x00000000#32) (ix2 f j) = ∑ k : Fin 128, A (ix2 k f) * B (ix2 j k) := by
  refine (Ideal.matmul_constant_zero_apply _ _ _ _ _).trans ?_
  refine dot_sum _ 128 rfl rfl _ _ _ (fun k => ix2 k f) (fun k => ix2 j k) (fun k q hq => ix2_ext ?_ ?_) (fun k q hq => ix2_ext ?_ ?_)
  · exact hq
  · rfl
  · rfl
  · exact hq

/-- The block's pooling. -/
theorem mm_pool (A : FVec Ideal S64x2048 .f32) (B : FVec Ideal S128x2048 .f32) (g : Fin 64) (f : Fin 128) :
    matmul dot_S64x2048_S128x2048_S64x128_1_1_0_0_n_n none A B (constant (F := Ideal) S64x128 .f32 0x00000000#32) (ix2 g f) = ∑ k : Fin 2048, A (ix2 g k) * B (ix2 f k) := by
  refine (Ideal.matmul_constant_zero_apply _ _ _ _ _).trans ?_
  refine dot_sum _ 2048 rfl rfl _ _ _ (fun k => ix2 g k) (fun k => ix2 f k) (fun k q hq => ix2_ext ?_ ?_) (fun k q hq => ix2_ext ?_ ?_)
  · rfl
  · exact hq
  · rfl
  · exact hq

/-- The classifier's product. -/
theorem mm_out (A : FVec Ideal S64x128 .f32) (B : FVec Ideal S128x10 .f32) (g : Fin 64) (j : Fin 10) :
    matmul dot_S64x128_S128x10_S64x10_1_0_0_1_n_n none A B (constant (F := Ideal) S64x10 .f32 0x00000000#32) (ix2 g j) = ∑ k : Fin 128, A (ix2 g k) * B (ix2 k j) := by
  refine (Ideal.matmul_constant_zero_apply _ _ _ _ _).trans ?_
  refine dot_sum _ 128 rfl rfl _ _ _ (fun k => ix2 g k) (fun k => ix2 k j) (fun k q hq => ix2_ext ?_ ?_) (fun k q hq => ix2_ext ?_ ?_)
  · rfl
  · exact hq
  · exact hq
  · rfl

/-- The factors: one over the root of one plus the tiles' counts. -/
theorem pay1_apply (v : Vec Ideal S32x2048 .f32) (z : Fin 1) (j : Fin 2048) : k1_pay1 (F := Ideal) v (ix2 z j) = Ideal.rsqrt ((∑ w : Fin 32, v (ix2 w j)) + 1) := by
  unfold k1_pay1
  show Ideal.rsqrt (shapeCast S1x2048 _ shapeCasts_S2048_S1x2048 (ix2 z j) + Ideal.ofBits .f32 0x3F800000#32) = _
  rw [Ideal.ofBits_one_f32, shapeCast_a_1a_apply, shapeCast_self]
  exact congrArg (fun x => Ideal.rsqrt (x + 1)) (sum_rows v _ _ _ j)

/-- The scaled features of the first layer. -/
theorem pay2_apply (v0 : Vec Ideal S32x2048 .f32) (v8 : Vec Ideal S128x128 .f32) (v9 : Vec Ideal S2048x128 .f32) (v11 : Vec Ideal S128x1 .f32) (v17 : Vec Ideal S128x128 .f32)
    (f : Fin 128) (j : Fin 2048) : k1_pay2 (F := Ideal) v0 v8 v9 v11 v17 (ix2 f j)
      = Ideal.rsqrt ((∑ w : Fin 32, v0 (ix2 w j)) + 1) * ∑ k : Fin 128, v17 (ix2 k f) * max ((∑ k' : Fin 128, v8 (ix2 k' k) * v9 (ix2 j k')) + v11 (ix2 k 0)) 0 := by
  unfold k1_pay2
  show broadcastTo S128x2048 (k1_pay1 v0) _ (ix2 f j) * matmul (F := Ideal) _ _ _ _ _ (ix2 f j) = _
  rw [mm_left, broadcastTo_1b_ab_apply, pay1_apply, shapeCast_self, shapeCast_self]
  refine congrArg (Ideal.rsqrt _ * ·) (Finset.sum_congr rfl fun k _ => congrArg (v17 (ix2 k f) * ·) ?_)
  show max (matmul (F := Ideal) _ _ _ _ _ (ix2 k j) + broadcastTo _ _ _ (ix2 k j)) (Ideal.ofBits .f32 0x00000000#32) = _
  rw [mm_rows, broadcastTo_col, Ideal.ofBits_zero_f32]

/-- The scaled features of a later layer. -/
theorem pay3_apply (v0 : Vec Ideal S1x2048 .f32) (v2 v4 : Vec Ideal S128x2048 .f32) (v9 : Vec Ideal S128x1 .f32) (v15 : Vec Ideal S128x128 .f32)
    (f : Fin 128) (j : Fin 2048) : k3_pay1 (F := Ideal) v0 v2 v4 v9 v15 (ix2 f j)
      = v0 (ix2 0 j) * ∑ k : Fin 128, v15 (ix2 k f) * max (v0 (ix2 0 j) * (v2 (ix2 k j) + v4 (ix2 k j)) + v9 (ix2 k 0)) 0 := by
  unfold k3_pay1
  simp only [shapeCast_self]
  show broadcastTo S128x2048 v0 _ (ix2 f j) * matmul (F := Ideal) _ _ _ _ _ (ix2 f j) = _
  rw [mm_left, broadcastTo_1b_ab_apply]
  refine congrArg (v0 (ix2 0 j) * ·) (Finset.sum_congr rfl fun k _ => congrArg (v15 (ix2 k f) * ·) ?_)
  show max (broadcastTo _ _ _ (ix2 k j) * (v2 (ix2 k j) + v4 (ix2 k j)) + broadcastTo _ _ _ (ix2 k j)) (Ideal.ofBits .f32 0x00000000#32) = _
  rw [broadcastTo_col, broadcastTo_1b_ab_apply, Ideal.ofBits_zero_f32]

/-- The selection: whether a column is a node of the graph. -/
theorem pay6_apply (i : grid9.Coords) (v : Vec Ideal S1x2048 .i32) (g : Fin 64) (j : Fin 2048) :
    k9_pay6 (F := Ideal) i v (ix2 g j) = if v (ix2 0 j) = BitVec.ofNat 32 g.val ∧ (i 0).val * 2048 + j.val < 10000 then 1 else 0 := by
  unfold k9_pay6
  simp only [shapeCast_self]
  show Scalar.select (Scalar.andi (Scalar.cmpi .eq (iota .tc S64x2048 32 [0] _ (ix2 g j)) (broadcastTo S64x2048 v _ (ix2 g j)))
    (Scalar.cmpi .slt (iota .tc S64x2048 32 [1] _ (ix2 g j) + BitVec.ofNat 32 (i 0).val * 2048#32) 10000#32)) (Ideal.ofBits .f32 0x3F800000#32) (Ideal.ofBits .f32 0x00000000#32) = _
  rw [broadcastTo_1b_ab_apply, iota_single_apply, iota_single_apply, Ideal.ofBits_zero_f32, Ideal.ofBits_one_f32]
  have hi : (i 0).val < 5 := (i 0).isLt
  have e : (BitVec.ofNat 32 ((ix2 g j : S64x2048.Idx) 1).val + BitVec.ofNat 32 (i 0).val * 2048#32).slt 10000#32 = decide ((i 0).val * 2048 + j.val < 10000) := by
    rw [show BitVec.ofNat 32 ((ix2 g j : S64x2048.Idx) 1).val + BitVec.ofNat 32 (i 0).val * 2048#32 = BitVec.ofNat 32 ((i 0).val * 2048 + j.val) from by
      rw [Nat.add_comm, BitVec.ofNat_add, BitVec.ofNat_mul]]
    unfold BitVec.slt
    have hj := j.isLt
    generalize j.val = b at hj ⊢
    generalize (i 0).val = a at hi ⊢
    rw [WordArith.toInt_ofNat_small (a * 2048 + b) (by omega), show (10000#32).toInt = 10000 from by decide]
    exact decide_eq_decide.2 (by omega)
  show Scalar.select (BitVec.ofBool (BitVec.ofNat 32 g.val == v (ix2 0 j)) &&& BitVec.ofBool (BitVec.slt _ _)) _ _ = _
  rw [e]
  by_cases h1 : BitVec.ofNat 32 g.val = v (ix2 0 j)
  · by_cases h2 : (i 0).val * 2048 + j.val < 10000
    · rw [if_pos ⟨h1.symm, h2⟩, decide_eq_true h2, beq_iff_eq.2 h1]; rfl
    · rw [if_neg (fun h => h2 h.2), decide_eq_false h2, beq_iff_eq.2 h1]; rfl
  · rw [if_neg (fun h => h1 h.1.symm), beq_eq_false_iff_ne.2 h1]
    cases decide ((i 0).val * 2048 + j.val < 10000) <;> rfl

/-- A step's sums. -/
theorem sum1_apply (i : grid9.Coords) (n : ℕ) (hn : (i 0).val = n) (X1 X2 : Vec Ideal S128x2048 .f32) (X3 : Vec Ideal S1x2048 .f32) (X4 : Vec Ideal S128x1 .f32) (X5 : Vec Ideal S1x2048 .i32) (X : Vec Ideal S64x128 .f32)
    (g : Fin 64) (f : Fin 128) : sum1 (F := Ideal) i X1 X2 X3 X4 X5 X (ix2 g f) = (if first i then 0 else X (ix2 g f))
      + ∑ j : Fin 2048, (if X5 (ix2 0 j) = BitVec.ofNat 32 g.val ∧ n * 2048 + j.val < 10000 then 1 else 0)
        * max (X3 (ix2 0 j) * (X1 (ix2 f j) + X2 (ix2 f j)) + X4 (ix2 f 0)) 0 := by
  unfold sum1 k9_pay1 k9_pay7
  simp only [shapeCast_self]
  show sum0 i X (ix2 g f) + matmul (F := Ideal) _ _ _ _ _ (ix2 g f) = _
  rw [mm_pool]
  refine congr (congrArg HAdd.hAdd ?_) (Finset.sum_congr rfl fun j _ => ?_)
  · unfold sum0
    split
    · unfold k9_pay4
      rw [shapeCast_self]
      exact Ideal.ofBits_zero_f32
    · rfl
  · rw [pay6_apply, hn]
    refine congrArg (HMul.hMul (α := EReal) _) ?_
    show max (broadcastTo _ _ _ (ix2 f j) * (X1 (ix2 f j) + X2 (ix2 f j)) + broadcastTo _ _ _ (ix2 f j)) (Ideal.ofBits .f32 0x00000000#32) = _
    rw [broadcastTo_col, broadcastTo_1b_ab_apply, Ideal.ofBits_zero_f32]

/-- A step's counts. -/
theorem cnt1_apply (i : grid9.Coords) (n : ℕ) (hn : (i 0).val = n) (X5 : Vec Ideal S1x2048 .i32) (X : Vec Ideal S64x1 .f32) (g : Fin 64) (z : Fin 1) :
    cnt1 (F := Ideal) i X5 X (ix2 g z) = (if first i then 0 else X (ix2 g z))
      + ∑ j : Fin 2048, (if X5 (ix2 0 j) = BitVec.ofNat 32 g.val ∧ n * 2048 + j.val < 10000 then 1 else 0) := by
  unfold cnt1 k9_pay2
  simp only [shapeCast_self]
  show cnt0 i X (ix2 g z) + shapeCast S64x1 _ _ (ix2 g z) = _
  rw [shapeCast_col]
  refine congr (congrArg HAdd.hAdd ?_) ((sum_cols _ _ _ _ g).trans (Finset.sum_congr rfl fun j _ => by rw [pay6_apply, hn]))
  unfold cnt0
  split
  · unfold k9_pay5
    rw [shapeCast_self]
    exact Ideal.ofBits_zero_f32
  · rfl

/-- The result: the graphs' means through the classifier. -/
theorem pay9_apply (s : Vec Ideal S64x128 .f32) (c : Vec Ideal S64x1 .f32) (W : Vec Ideal S128x10 .f32) (b : Vec Ideal S1x10 .f32) (g : Fin 64) (j : Fin 10) :
    k9_pay3 (F := Ideal) s c W b (ix2 g j) = (∑ f : Fin 128, Ideal.div (s (ix2 g f)) (max (c (ix2 g 0)) 1) * W (ix2 f j)) + b (ix2 0 j) := by
  unfold k9_pay3
  simp only [shapeCast_self]
  show matmul (F := Ideal) _ _ _ _ _ (ix2 g j) + broadcastTo S64x10 b _ (ix2 g j) = _
  rw [mm_out, broadcastTo_1b_ab_apply]
  refine congrArg (· + b (ix2 0 j)) (Finset.sum_congr rfl fun f _ => congrArg (· * W (ix2 f j)) ?_)
  show Ideal.div (s (ix2 g f)) (broadcastTo _ _ _ (ix2 g f)) = _
  rw [broadcastTo_col]
  show Ideal.div _ (max (c (ix2 g 0)) (Ideal.ofBits .f32 0x3F800000#32)) = _
  rw [Ideal.ofBits_one_f32]

end Cert.Proof.KernelIdeal

end
-- ==== Proof.Windows.lean ====
/-
  Reading a pipeline's windows at an element: what a fetch leaves in the part of a block that lies in the array, and what
  the array holds after every block has been written back, when each element of what a body leaves is known.
-/
module

public import Idealize.ShloMosaic.Lib.Pipeline.ArrRel
public import Idealize.ShloMosaic.Lib.Pipeline.Value

@[expose] public section

noncomputable section

namespace Cert.Proof.Windows

open Idealize.ShloMosaic Idealize.ShloMosaic.Pipeline
open Idealize.SL Idealize.SL.RA

/-- A fetched block, read where it lies in the array, is the array there. -/
theorem fill_read {sig : RefSig} {G : Grid} (w : Window sig G) {Val : EltTy → Type} (t : Fin G.N) (d : w.block.Idx → Val w.elt)
    (A : w.arr.view.ty.Contents Val) (j : w.block.Idx) (i : w.shape.Idx)
    (hi : ∀ a, (i a).val = w.kind.off (w.index t a) (w.size a) + (j a).val) :
    w.fill (G.coords t) d ((w.blk t).view.read Val A) j = w.arr.view.read Val A i := by
  have hj : ∀ a, (j a).val < w.xsize (G.coords t) a := fun a => by
    have hok := w.hclip (G.coords t) a
    have h1 := (i a).isLt
    have h2 := (j a).isLt
    have h3 := hi a
    change (i a).val = w.kind.off (w.indexMap (G.coords t) a) (w.size a) + (j a).val at h3
    show (j a).val < (w.clip (G.coords t) a).extent (w.size a)
    generalize w.clip (G.coords t) a = c at hok ⊢
    cases c with
    | none => exact h2
    | some n => have h4 := hok.2.2; show (j a).val < n; omega
  unfold Window.fill
  rw [dif_pos ((w.moved_iff _ _).2 hj)]
  show w.arr.view.read Val A ((w.rect t).emb _) = _
  refine congrArg _ (funext fun a => Fin.ext ?_)
  rw [Window.rect_emb_val_off, hi a]

variable {nD : Nat} {τ : Topo} {sig : RefSig} {Val : EltTy → Type} {Ix : Type} [DecidableEq Ix] {Name : Type} [DecidableEq Name] {U : Type} [URA U] {Lvl : Type}
  {Λ₀ : Idealize.SL.Sem.Labels} {cfg : Cfg sig Λ₀} {c : Dev nD} {rd : RDat τ Val Ix Name U Lvl cfg c}

/-- The array after the run, element by element. -/
theorem arr_read [∀ e, Nonempty (Val e)] {w : Fin cfg.W} {A : Buf Val ((cfg.win w).arr.view.loc (c.tc : Thread nD τ))} (hA : rd.ArrAt w cfg.N A)
    (spec : (cfg.win w).shape.Idx → Val (cfg.win w).elt → Prop)
    (hX : ∀ t, (cfg.win w).flush t = true → ∀ X, rd.Leaves w t X → ∀ (j : (cfg.win w).block.Idx) (i : (cfg.win w).shape.Idx),
      (∀ a, (i a).val = (cfg.win w).kind.off ((cfg.win w).index t a) ((cfg.win w).size a) + (j a).val) → spec i (X j))
    (i : (cfg.win w).shape.Idx)
    (hc : ∃ t, (cfg.win w).flush t = true ∧ ∀ a, (cfg.win w).kind.off ((cfg.win w).index t a) ((cfg.win w).size a) ≤ (i a).val
      ∧ (i a).val < (cfg.win w).kind.off ((cfg.win w).index t a) ((cfg.win w).size a) + (cfg.win w).size a) :
    spec i ((cfg.win w).arr.view.read Val A i) := by
  obtain ⟨X, hXl, hG⟩ := hA.exists_exact
  have e := hG (Function.update (fun _ _ _ => Classical.arbitrary _) w X) fun u _ _ => by rw [Function.update_self]
  rw [e]
  obtain ⟨t, hf, ht⟩ := hc
  have key := ((rd.withAfter (Function.update (fun _ _ _ => Classical.arbitrary _) w X)).arrAt_forall_of_flushed w
    (fun k v => ∀ x : (cfg.win w).shape.Idx, (cfg.win w).arr.view.emb x = k → spec x (_root_.cast (congrArg Val (cfg.win w).arr.view.elt_eq) v))
    (fun t hf y x hx => by
      have hx' : x = ((cfg.win w).rect t).emb y := (cfg.win w).arr.view.emb.injective hx
      subst hx'
      rw [cast_cast, cast_eq]
      show spec _ ((Function.update (fun _ _ _ => Classical.arbitrary _) w X : (w' : Fin cfg.W) → Fin cfg.N → (cfg.win w').block.Idx → Val (cfg.win w').elt) w t
        ((cfg.win w).xinj (cfg.grid.coords t) y))
      rw [Function.update_self]
      exact hX t hf _ (hXl t t.isLt hf) _ _ fun a => Window.rect_emb_val_off _ t y a)
    cfg.N t ((cfg.win w).arr.view.emb i) t.isLt hf ?_) i rfl
  · exact key
  · have hlt : ∀ a, (i a).val - (cfg.win w).kind.off ((cfg.win w).index t a) ((cfg.win w).size a) < (cfg.win w).xsize (cfg.grid.coords t) a := fun a => by
      have hok := (cfg.win w).hclip (cfg.grid.coords t) a
      have h1 := (i a).isLt
      have h2 := ht a
      change (cfg.win w).kind.off ((cfg.win w).indexMap (cfg.grid.coords t) a) ((cfg.win w).size a) ≤ (i a).val
        ∧ (i a).val < (cfg.win w).kind.off ((cfg.win w).indexMap (cfg.grid.coords t) a) ((cfg.win w).size a) + (cfg.win w).size a at h2
      show (i a).val - (cfg.win w).kind.off ((cfg.win w).indexMap (cfg.grid.coords t) a) ((cfg.win w).size a) < ((cfg.win w).clip (cfg.grid.coords t) a).extent ((cfg.win w).size a)
      generalize (cfg.win w).clip (cfg.grid.coords t) a = c at hok ⊢
      cases c with
      | none => show _ < (cfg.win w).size a; omega
      | some n => have h4 := hok.2.2; show _ < n; omega
    have hi : i = ((cfg.win w).rect t).emb fun a => ⟨_, hlt a⟩ := funext fun a => Fin.ext (by
      rw [Window.rect_emb_val_off]
      have := (ht a).1
      show _ = _ + ((i a).val - _)
      omega)
    rw [hi]
    exact ((cfg.win w).blk t).view.emb_mem_set _

end Cert.Proof.Windows

end
-- ==== Proof.KernelIdeal.Outs.lean ====
/-
  What the five TensorCore regions leave in their output arrays, element by element.
-/
module

public import proofs.«01_k».proof.Proof.KernelIdeal.Steps
public import proofs.«01_k».proof.Proof.KernelIdeal.Payloads
public import proofs.«01_k».proof.Proof.Windows

@[expose] public section

noncomputable section

namespace Cert.Proof.KernelIdeal

open Cert.KernelIdeal Cert.KernelIdeal.Gen
open Cert.Proof.Reads Cert.Proof.Windows
open Idealize.ShloMosaic hiding T
open Idealize.ShloMosaic.ValueIdx
open Idealize.ShloMosaic.Pipeline (arrRef arrRefs)

/-- A fetched block at an element is the array there. -/
theorem fet_read {cfg : Pipeline.Cfg sig Λ₀} {V : Vl Ideal} {w : Fin cfg.W} {t : Fin cfg.N} {Y : (cfg.win w).block.Idx → Elt Ideal (cfg.win w).elt} (h : Fet cfg V w t Y)
    (j : (cfg.win w).block.Idx) (i : (cfg.win w).shape.Idx) (hi : ∀ a, (i a).val = (cfg.win w).kind.off ((cfg.win w).index t a) ((cfg.win w).size a) + (j a).val) :
    Y j = (cfg.win w).arr.view.read (Elt Ideal) (V (Proc.devRef .tc (arrRef cfg.spec w))) i := by
  obtain ⟨d, rfl⟩ := h
  exact fill_read _ t d _ j i hi

/-- A real matrix's elements. -/
def rd (a b : ℕ) (x : (⟨2, ![a, b]⟩ : Shape).Idx → EReal) (i : Fin a) (j : Fin b) : EReal := x (ix2 i j)

/-- A condition on both axes. -/
theorem both {P : Fin 2 → Prop} (h0 : P 0) (h1 : P 1) : ∀ a, P a := fun a => match a with
  | ⟨0, _⟩ => h0
  | ⟨1, _⟩ => h1

/-- The block a column is in. -/
theorem cover {o n : ℕ} (e : o = n / 2048 * 2048) : o ≤ n ∧ n < o + 2048 := by omega

/-- The block number of a column. -/
def blkOf (i : Fin 10000) : Fin 5 := ⟨i.val / 2048, by omega⟩

/-- The preparation's factors. -/
theorem reg0_dis {n : ℕ} {d : Dev nD} {V V' : Vl Ideal} (h : RegOk 0 n d V V') (z : Fin 1) (i : Fin 10000) :
    rd 1 10000 (V' (dr main_v6_1)) z i = Ideal.rsqrt ((∑ w : Fin 32, rd 32 10000 (V (dr main_v2)) w i) + 1) := by
  refine arr_read (rd := rds V n 0 d) (w := (6 : Fin 7)) (h.1 (6 : Fin 7))
    (fun i x => x = Ideal.rsqrt ((∑ w : Fin 32, rd 32 10000 (V (dr main_v2)) w (i 1)) + 1)) ?_ (ix2 z i) ?_
  · rintro t - X ⟨_, _, Y4, h4, rfl⟩ j i hi
    refine (congrArg _ (eq_ix2 j)).trans ((pay1_apply Y4 (j 0) (j 1)).trans ?_)
    refine congrArg (fun x => Ideal.rsqrt (x + 1)) (Finset.sum_congr rfl fun w _ => ?_)
    exact fet_read h4 (ix2 w (j 1)) (ix2 w (i 1)) (both (Nat.zero_add _).symm (hi 1))
  · exact ⟨blkOf i, flush1_6 _, both ⟨Nat.zero_le _, z.isLt⟩ (cover (congrArg (· * 2048) ((by decide : ∀ t : Fin 5, (cfg1.win 6).index t 1 = t.val) (blkOf i))))⟩

/-- The first layer's features before the weights. -/
def feat0At (Wp : Fin 128 → Fin 128 → EReal) (X : Fin 10000 → Fin 128 → EReal) (b : Fin 128 → Fin 1 → EReal) (f : Fin 128) (i : Fin 10000) : EReal :=
  max ((∑ k : Fin 128, Wp k f * X i k) + b f 0) 0
/-- A later layer's features before the weights. -/
def nextAt (a u : Fin 128 → Fin 10000 → EReal) (s : Fin 1 → Fin 10000 → EReal) (b : Fin 128 → Fin 1 → EReal) (f : Fin 128) (i : Fin 10000) : EReal :=
  max (s 0 i * (a f i + u f i) + b f 0) 0

/-- The preparation's scaled features. -/
theorem reg0_ut {n : ℕ} {d : Dev nD} {V V' : Vl Ideal} (h : RegOk 0 n d V V') (f : Fin 128) (i : Fin 10000) :
    rd 128 10000 (V' (dr main_v6_0)) f i = Ideal.rsqrt ((∑ w : Fin 32, rd 32 10000 (V (dr main_v2)) w i) + 1)
      * ∑ k : Fin 128, rd 128 128 (V (dr main_v5)) k f * feat0At (rd 128 128 (V (dr main_arg3))) (rd 10000 128 (V (dr main_arg0))) (rd 128 1 (V (dr main_v3))) k i := by
  refine arr_read (rd := rds V n 0 d) (w := (5 : Fin 7)) (h.1 (5 : Fin 7))
    (fun i x => x = Ideal.rsqrt ((∑ w : Fin 32, rd 32 10000 (V (dr main_v2)) w (i 1)) + 1)
      * ∑ k : Fin 128, rd 128 128 (V (dr main_v5)) k (i 0) * feat0At (rd 128 128 (V (dr main_arg3))) (rd 10000 128 (V (dr main_arg0))) (rd 128 1 (V (dr main_v3))) k (i 1)) ?_ (ix2 f i) ?_
  · rintro t - X ⟨_, _, Y0, Y1, Y2, Y3, Y4, h0, h1, h2, h3, h4, rfl⟩ j i hi
    refine (congrArg _ (eq_ix2 j)).trans ((pay2_apply Y4 Y1 Y0 Y2 Y3 (j 0) (j 1)).trans ?_)
    have ej : j 0 = i 0 := Fin.ext ((hi 0).trans (Nat.zero_add _)).symm
    refine congr (congrArg HMul.hMul (congrArg (fun x => Ideal.rsqrt (x + 1)) (Finset.sum_congr rfl fun w _ =>
      fet_read h4 (ix2 w (j 1)) (ix2 w (i 1)) (both (Nat.zero_add _).symm (hi 1))))) (Finset.sum_congr rfl fun k _ => ?_)
    refine congr (congrArg HMul.hMul (fet_read h3 (ix2 k (j 0)) (ix2 k (i 0)) (both (Nat.zero_add _).symm (hi 0)))) ?_
    refine congrArg (fun x => max x (0 : EReal)) (congr (congrArg HAdd.hAdd (Finset.sum_congr rfl fun k' _ => ?_)) ?_)
    · exact congr (congrArg HMul.hMul (fet_read h1 (ix2 k' k) (ix2 k' k) (both (Nat.zero_add _).symm (Nat.zero_add _).symm)))
        (fet_read h0 (ix2 (j 1) k') (ix2 (i 1) k') (both (hi 1) (Nat.zero_add _).symm))
    · exact fet_read h2 (ix2 k 0) (ix2 k 0) (both (Nat.zero_add _).symm (Nat.zero_add _).symm)
  · exact ⟨blkOf i, flush1_5 _, both ⟨Nat.zero_le _, (Nat.zero_add 128).symm ▸ f.isLt⟩ (cover (congrArg (· * 2048) ((by decide : ∀ t : Fin 5, (cfg1.win 5).index t 1 = t.val) (blkOf i))))⟩

/-- Layer 1's scaled features. -/
theorem reg1_ut {n : ℕ} {d : Dev nD} {V V' : Vl Ideal} (h : RegOk 1 n d V V') (f : Fin 128) (i : Fin 10000) :
    rd 128 10000 (V' (dr main_v15)) f i = rd 1 10000 (V (dr main_v6_1)) 0 i
      * ∑ k : Fin 128, rd 128 128 (V (dr main_v14)) k f * nextAt (rd 128 10000 (V (dr main_v9))) (rd 128 10000 (V (dr main_v6_0))) (rd 1 10000 (V (dr main_v6_1))) (rd 128 1 (V (dr main_v12))) k i := by
  refine arr_read (rd := rds V n 1 d) (w := (5 : Fin 6)) (h.1 (5 : Fin 6))
    (fun i x => x = rd 1 10000 (V (dr main_v6_1)) 0 (i 1)
      * ∑ k : Fin 128, rd 128 128 (V (dr main_v14)) k (i 0) * nextAt (rd 128 10000 (V (dr main_v9))) (rd 128 10000 (V (dr main_v6_0))) (rd 1 10000 (V (dr main_v6_1))) (rd 128 1 (V (dr main_v12))) k (i 1)) ?_ (ix2 f i) ?_
  · rintro t - X ⟨_, _, Y0, Y1, Y2, Y3, Y4, h0, h1, h2, h3, h4, rfl⟩ j i hi
    refine (congrArg _ (eq_ix2 j)).trans ((pay3_apply Y2 Y0 Y1 Y3 Y4 (j 0) (j 1)).trans ?_)
    have e2 := fet_read h2 (ix2 0 (j 1)) (ix2 0 (i 1)) (both (Nat.zero_add _).symm (hi 1))
    refine congr (congrArg HMul.hMul e2) (Finset.sum_congr rfl fun k _ => congr (congrArg HMul.hMul
      (fet_read h4 (ix2 k (j 0)) (ix2 k (i 0)) (both (Nat.zero_add _).symm (hi 0)))) (congrArg (fun x => max x (0 : EReal)) (congr (congrArg HAdd.hAdd ?_) ?_)))
    · exact congr (congrArg HMul.hMul e2) (congr (congrArg HAdd.hAdd (fet_read h0 (ix2 k (j 1)) (ix2 k (i 1)) (both (Nat.zero_add _).symm (hi 1))))
        (fet_read h1 (ix2 k (j 1)) (ix2 k (i 1)) (both (Nat.zero_add _).symm (hi 1))))
    · exact fet_read h3 (ix2 k 0) (ix2 k 0) (both (Nat.zero_add _).symm (Nat.zero_add _).symm)
  · exact ⟨blkOf i, flush3_5 _, both ⟨Nat.zero_le _, (Nat.zero_add 128).symm ▸ f.isLt⟩ (cover (congrArg (· * 2048) ((by decide : ∀ t : Fin 5, (cfg3.win 5).index t 1 = t.val) (blkOf i))))⟩

/-- Layer 2's scaled features. -/
theorem reg2_ut {n : ℕ} {d : Dev nD} {V V' : Vl Ideal} (h : RegOk 2 n d V V') (f : Fin 128) (i : Fin 10000) :
    rd 128 10000 (V' (dr main_v24)) f i = rd 1 10000 (V (dr main_v6_1)) 0 i
      * ∑ k : Fin 128, rd 128 128 (V (dr main_v23)) k f * nextAt (rd 128 10000 (V (dr main_v18))) (rd 128 10000 (V (dr main_v15))) (rd 1 10000 (V (dr main_v6_1))) (rd 128 1 (V (dr main_v21))) k i := by
  refine arr_read (rd := rds V n 2 d) (w := (5 : Fin 6)) (h.1 (5 : Fin 6))
    (fun i x => x = rd 1 10000 (V (dr main_v6_1)) 0 (i 1)
      * ∑ k : Fin 128, rd 128 128 (V (dr main_v23)) k (i 0) * nextAt (rd 128 10000 (V (dr main_v18))) (rd 128 10000 (V (dr main_v15))) (rd 1 10000 (V (dr main_v6_1))) (rd 128 1 (V (dr main_v21))) k (i 1)) ?_ (ix2 f i) ?_
  · rintro t - X ⟨_, _, Y0, Y1, Y2, Y3, Y4, h0, h1, h2, h3, h4, rfl⟩ j i hi
    refine (congrArg _ (eq_ix2 j)).trans ((pay3_apply Y2 Y0 Y1 Y3 Y4 (j 0) (j 1)).trans ?_)
    have e2 := fet_read h2 (ix2 0 (j 1)) (ix2 0 (i 1)) (both (Nat.zero_add _).symm (hi 1))
    refine congr (congrArg HMul.hMul e2) (Finset.sum_congr rfl fun k _ => congr (congrArg HMul.hMul
      (fet_read h4 (ix2 k (j 0)) (ix2 k (i 0)) (both (Nat.zero_add _).symm (hi 0)))) (congrArg (fun x => max x (0 : EReal)) (congr (congrArg HAdd.hAdd ?_) ?_)))
    · exact congr (congrArg HMul.hMul e2) (congr (congrArg HAdd.hAdd (fet_read h0 (ix2 k (j 1)) (ix2 k (i 1)) (both (Nat.zero_add _).symm (hi 1))))
        (fet_read h1 (ix2 k (j 1)) (ix2 k (i 1)) (both (Nat.zero_add _).symm (hi 1))))
    · exact fet_read h3 (ix2 k 0) (ix2 k 0) (both (Nat.zero_add _).symm (Nat.zero_add _).symm)
  · exact ⟨blkOf i, flush5_5 _, both ⟨Nat.zero_le _, (Nat.zero_add 128).symm ▸ f.isLt⟩ (cover (congrArg (· * 2048) ((by decide : ∀ t : Fin 5, (cfg5.win 5).index t 1 = t.val) (blkOf i))))⟩

/-- Layer 3's scaled features. -/
theorem reg3_ut {n : ℕ} {d : Dev nD} {V V' : Vl Ideal} (h : RegOk 3 n d V V') (f : Fin 128) (i : Fin 10000) :
    rd 128 10000 (V' (dr main_v33)) f i = rd 1 10000 (V (dr main_v6_1)) 0 i
      * ∑ k : Fin 128, rd 128 128 (V (dr main_v32)) k f * nextAt (rd 128 10000 (V (dr main_v27))) (rd 128 10000 (V (dr main_v24))) (rd 1 10000 (V (dr main_v6_1))) (rd 128 1 (V (dr main_v30))) k i := by
  refine arr_read (rd := rds V n 3 d) (w := (5 : Fin 6)) (h.1 (5 : Fin 6))
    (fun i x => x = rd 1 10000 (V (dr main_v6_1)) 0 (i 1)
      * ∑ k : Fin 128, rd 128 128 (V (dr main_v32)) k (i 0) * nextAt (rd 128 10000 (V (dr main_v27))) (rd 128 10000 (V (dr main_v24))) (rd 1 10000 (V (dr main_v6_1))) (rd 128 1 (V (dr main_v30))) k (i 1)) ?_ (ix2 f i) ?_
  · rintro t - X ⟨_, _, Y0, Y1, Y2, Y3, Y4, h0, h1, h2, h3, h4, rfl⟩ j i hi
    refine (congrArg _ (eq_ix2 j)).trans ((pay3_apply Y2 Y0 Y1 Y3 Y4 (j 0) (j 1)).trans ?_)
    have e2 := fet_read h2 (ix2 0 (j 1)) (ix2 0 (i 1)) (both (Nat.zero_add _).symm (hi 1))
    refine congr (congrArg HMul.hMul e2) (Finset.sum_congr rfl fun k _ => congr (congrArg HMul.hMul
      (fet_read h4 (ix2 k (j 0)) (ix2 k (i 0)) (both (Nat.zero_add _).symm (hi 0)))) (congrArg (fun x => max x (0 : EReal)) (congr (congrArg HAdd.hAdd ?_) ?_)))
    · exact congr (congrArg HMul.hMul e2) (congr (congrArg HAdd.hAdd (fet_read h0 (ix2 k (j 1)) (ix2 k (i 1)) (both (Nat.zero_add _).symm (hi 1))))
        (fet_read h1 (ix2 k (j 1)) (ix2 k (i 1)) (both (Nat.zero_add _).symm (hi 1))))
    · exact fet_read h3 (ix2 k 0) (ix2 k 0) (both (Nat.zero_add _).symm (Nat.zero_add _).symm)
  · exact ⟨blkOf i, flush7_5 _, both ⟨Nat.zero_le _, (Nat.zero_add 128).symm ▸ f.isLt⟩ (cover (congrArg (· * 2048) ((by decide : ∀ t : Fin 5, (cfg7.win 5).index t 1 = t.val) (blkOf i))))⟩

/-! ## The pooling -/

/-- One more block of a sum over the nodes. -/
theorem step_sum (t : ℕ) (q : ℕ → EReal) (g : Fin 2048 → EReal) (h : ∀ j : Fin 2048, g j = if t * 2048 + j.val < 10000 then q (t * 2048 + j.val) else 0) :
    (∑ n ∈ Finset.range (t * 2048), if n < 10000 then q n else 0) + ∑ j, g j = ∑ n ∈ Finset.range ((t + 1) * 2048), if n < 10000 then q n else 0 := by
  rw [Nat.succ_mul, Finset.sum_range_add, Finset.sum_range (n := 2048)]
  exact congrArg _ (Finset.sum_congr rfl fun j _ => h j)

/-- All the blocks are all the nodes. -/
theorem all_sum (q : ℕ → EReal) : (∑ n ∈ Finset.range (5 * 2048), if n < 10000 then q n else 0) = ∑ n ∈ Finset.range 10000, q n := by
  rw [show 5 * 2048 = 10000 + 240 by norm_num, Finset.sum_range_add, Finset.sum_congr rfl fun n hn => if_pos (Finset.mem_range.1 hn),
    Finset.sum_eq_zero (s := Finset.range 240) fun n _ => if_neg (by omega), add_zero]

/-- The sums over the graph's nodes below a bound. -/
def below (bt : ℕ → BitVec 32) (g : ℕ) (q : ℕ → EReal) (m : ℕ) : EReal := ∑ k ∈ Finset.range m, if k < 10000 then (if bt k = BitVec.ofNat 32 g then q k else 0) else 0

/-- Equal parts make an equal feature. -/
theorem nx_congr {s s' a a' u u' b b' : EReal} (hs : s = s') (ha : a = a') (hu : u = u') (hb : b = b') : max (s * (a + u) + b) 0 = max (s' * (a' + u') + b') 0 := by
  rw [hs, ha, hu, hb]

/-- What the accumulators hold after the first points. -/
theorem acc_eq {V : Vl Ideal} (bt : ℕ → BitVec 32) (N : ℕ → ℕ → EReal)
    (hb : ∀ i : Fin 10000, (V (dr main_v40)) (ix2 (0 : Fin 1) i : S1x10000.Idx) = bt i.val)
    (hN : ∀ (f : Fin 128) (i : Fin 10000), nextAt (rd 128 10000 (V (dr main_v36))) (rd 128 10000 (V (dr main_v33))) (rd 1 10000 (V (dr main_v6_1))) (rd 128 1 (V (dr main_v39))) f i = N i.val f.val) :
    ∀ n s c, Acc V n s c → n = 0 ∨ (∀ (g : Fin 64) (f : Fin 128), s (ix2 g f) = below bt g.val (fun k => N k f.val) (n * 2048))
      ∧ ∀ (g : Fin 64) (z : Fin 1), c (ix2 g z) = below bt g.val (fun _ => 1) (n * 2048) := by
  intro n
  induction n with
  | zero => exact fun _ _ _ => .inl rfl
  | succ n ih =>
    rintro s' c' ⟨s, c, hA, hlt, Y0, Y1, Y2, Y3, Y4, h0, h1, h2, h3, h4, rfl, rfl⟩
    have e0 : (grid9.coords ⟨n, hlt⟩ 0).val = n := (by decide : ∀ t : Fin 5, (grid9.coords t 0).val = t.val) ⟨n, hlt⟩
    have e1 : first (grid9.coords ⟨n, hlt⟩) ↔ n = 0 := (by decide : ∀ t : Fin 5, first (grid9.coords t) ↔ t.val = 0) ⟨n, hlt⟩
    have eo : ∀ j : Fin 2048, n * 2048 + j.val = (cfg9.win 0).kind.off ((cfg9.win 0).index ⟨n, hlt⟩ 1) ((cfg9.win 0).size 1) + j.val := fun j =>
      congrArg (· * 2048 + j.val) ((by decide : ∀ t : Fin 5, t.val = (cfg9.win 0).index t 1) ⟨n, hlt⟩)
    have hsel : ∀ (j : Fin 2048) (hj : n * 2048 + j.val < 10000), Y4 (ix2 0 j) = bt (n * 2048 + j.val) := fun j hj =>
      (fet_read h4 (ix2 0 j) (ix2 0 ⟨_, hj⟩) (both (Nat.zero_add _).symm (eo j))).trans (hb ⟨_, hj⟩)
    have hval : ∀ (f : Fin 128) (j : Fin 2048) (hj : n * 2048 + j.val < 10000), max (rd 1 2048 Y2 0 j * (rd 128 2048 Y0 f j + rd 128 2048 Y1 f j) + rd 128 1 Y3 f 0) 0 = N (n * 2048 + j.val) f.val := fun f j hj =>
      (nx_congr (fet_read h2 (ix2 0 j) (ix2 0 ⟨_, hj⟩) (both (Nat.zero_add _).symm (eo j))) (fet_read h0 (ix2 f j) (ix2 f ⟨_, hj⟩) (both (Nat.zero_add _).symm (eo j)))
        (fet_read h1 (ix2 f j) (ix2 f ⟨_, hj⟩) (both (Nat.zero_add _).symm (eo j))) (fet_read h3 (ix2 f 0) (ix2 f 0) (both (Nat.zero_add _).symm (Nat.zero_add _).symm))).trans (hN f ⟨_, hj⟩)
    refine .inr ⟨fun g f => ?_, fun g z => ?_⟩
    · rw [sum1_apply _ n e0]
      refine Eq.trans (congrArg (· + _) (?_ : _ = below bt g.val (fun k => N k f.val) (n * 2048))) (step_sum n (fun k => if bt k = BitVec.ofNat 32 g.val then N k f.val else 0) _ fun j => ?_)
      · rcases ih s c hA with rfl | ⟨hs, -⟩
        · rw [if_pos (e1.2 rfl), Nat.zero_mul]; exact Finset.sum_range_zero _ |>.symm
        · by_cases hz : n = 0
          · subst hz; rw [if_pos (e1.2 rfl), Nat.zero_mul]; exact Finset.sum_range_zero _ |>.symm
          · rw [if_neg (fun h => hz (e1.1 h)), hs]
      · by_cases hj : n * 2048 + j.val < 10000
        · refine (congrArg (HMul.hMul (α := EReal) _) (hval f j hj)).trans ?_
          rw [if_pos hj, hsel j hj]
          by_cases hg : bt (n * 2048 + j.val) = BitVec.ofNat 32 g.val
          · rw [if_pos ⟨hg, hj⟩, if_pos hg, one_mul]
          · rw [if_neg (fun h => hg h.1), if_neg hg, zero_mul]
        · rw [if_neg (fun h => hj h.2), if_neg hj, zero_mul]
    · rw [cnt1_apply _ n e0]
      refine Eq.trans (congrArg (· + _) (?_ : _ = below bt g.val (fun _ => 1) (n * 2048))) (step_sum n (fun k => if bt k = BitVec.ofNat 32 g.val then 1 else 0) _ fun j => ?_)
      · rcases ih s c hA with rfl | ⟨-, hs⟩
        · rw [if_pos (e1.2 rfl), Nat.zero_mul]; exact Finset.sum_range_zero _ |>.symm
        · by_cases hz : n = 0
          · subst hz; rw [if_pos (e1.2 rfl), Nat.zero_mul]; exact Finset.sum_range_zero _ |>.symm
          · rw [if_neg (fun h => hz (e1.1 h)), hs]
      · by_cases hj : n * 2048 + j.val < 10000
        · rw [if_pos hj, hsel j hj]
          by_cases hg : bt (n * 2048 + j.val) = BitVec.ofNat 32 g.val
          · rw [if_pos ⟨hg, hj⟩, if_pos hg]
          · rw [if_neg (fun h => hg h.1), if_neg hg]
        · rw [if_neg (fun h => hj h.2), if_neg hj]

/-- The result. -/
theorem reg4_out {n : ℕ} {d : Dev nD} {V V' : Vl Ideal} (h : RegOk 4 n d V V') (bt : ℕ → BitVec 32) (N : ℕ → ℕ → EReal)
    (hb : ∀ i : Fin 10000, (V (dr main_v40)) (ix2 (0 : Fin 1) i : S1x10000.Idx) = bt i.val)
    (hN : ∀ (f : Fin 128) (i : Fin 10000), nextAt (rd 128 10000 (V (dr main_v36))) (rd 128 10000 (V (dr main_v33))) (rd 1 10000 (V (dr main_v6_1))) (rd 128 1 (V (dr main_v39))) f i = N i.val f.val)
    (g : Fin 64) (j : Fin 10) :
    rd 64 10 (V' (dr main_v42)) g j = (∑ f : Fin 128, Ideal.div (Graph.pool bt (fun n => N n f.val) g.val) (max (Graph.pool bt (fun _ => 1) g.val) 1) * rd 128 10 (V (dr main_arg7)) f j)
      + rd 1 10 (V (dr main_v41)) 0 j := by
  refine arr_read (rd := rds V n 4 d) (w := (7 : Fin 8)) (h.1 (7 : Fin 8))
    (fun i x => x = (∑ f : Fin 128, Ideal.div (Graph.pool bt (fun n => N n f.val) (i 0).val) (max (Graph.pool bt (fun _ => 1) (i 0).val) 1) * rd 128 10 (V (dr main_arg7)) f (i 1))
      + rd 1 10 (V (dr main_v41)) 0 (i 1)) ?_ (ix2 g j) ⟨(4 : Fin 5), by decide, both ⟨Nat.zero_le _, (Nat.zero_add 64).symm ▸ g.isLt⟩ ⟨Nat.zero_le _, (Nat.zero_add 10).symm ▸ j.isLt⟩⟩
  intro t hf X hX j i hi
  obtain rfl : t = (4 : Fin 5) := by
    have h4 := (flush9_7 t).1 hf
    have h5 : t.val < 5 := t.isLt
    exact Fin.ext (by show t.val = 4; omega)
  obtain ⟨_, _, hX⟩ := hX
  obtain ⟨s, c, Y5, Y6, hA, h5, h6, rfl⟩ := hX (by decide)
  obtain ⟨hs, hc⟩ := (acc_eq bt N hb hN _ s c hA).resolve_left (by decide)
  have e0 : j 0 = i 0 := Fin.ext ((hi 0).trans (Nat.zero_add _)).symm
  have e1 : j 1 = i 1 := Fin.ext ((hi 1).trans (Nat.zero_add _)).symm
  refine (congrArg _ (eq_ix2 j)).trans ((pay9_apply s c Y5 Y6 (j 0) (j 1)).trans ?_)
  have hp : ∀ q : ℕ → EReal, below bt (j 0).val q (5 * 2048) = Graph.pool bt q (i 0).val := fun q => by
    rw [← e0]
    exact all_sum fun k => if bt k = BitVec.ofNat 32 (j 0).val then q k else 0
  refine congr (congrArg HAdd.hAdd (Finset.sum_congr rfl fun f _ => congr (congrArg HMul.hMul ?_) ?_)) ?_
  · exact congr (congrArg Ideal.div ((hs (j 0) f).trans (hp _))) (congrArg (fun x => max x (1 : EReal)) ((hc (j 0) 0).trans (hp _)))
  · exact fet_read h5 (ix2 f (j 1)) (ix2 f (i 1)) (both (Nat.zero_add _).symm (hi 1))
  · exact fet_read h6 (ix2 0 (j 1)) (ix2 0 (i 1)) (both (Nat.zero_add _).symm (hi 1))

end Cert.Proof.KernelIdeal

end
-- ==== Proof.Model.lean ====
/-
  The network as a function of the nine argument arrays, which both programs' results are shown to be; and the slices and
  casts by which both programs take a layer's weights.
-/
module

public import proofs.«01_k».proof.Proof.Graph
public import proofs.«01_k».proof.Proof.Reads

@[expose] public section

noncomputable section

namespace Cert.Proof.Model

open Idealize.ShloMosaic Idealize.ShloMosaic.ValueIdx
open Cert.Proof.Reads

/-- A coordinate from a number, wrapped into range. -/
def co (a : ℕ) [NeZero a] (i : ℕ) : Fin a := ⟨i % a, Nat.mod_lt _ (Nat.pos_of_ne_zero (NeZero.ne a))⟩

theorem co_val {a : ℕ} [NeZero a] (i : Fin a) : co a i.val = i := Fin.ext (Nat.mod_eq_of_lt i.isLt)

section
variable {α : Type}

/-- An array's element by its numbers. -/
def n1 (a : ℕ) [NeZero a] (x : (⟨1, ![a]⟩ : Shape).Idx → α) (i : ℕ) : α := x (ix1 (co a i))
def n2 (a b : ℕ) [NeZero a] [NeZero b] (x : (⟨2, ![a, b]⟩ : Shape).Idx → α) (i j : ℕ) : α := x (ix2 (co a i) (co b j))
def n3 (a b c : ℕ) [NeZero a] [NeZero b] [NeZero c] (x : (⟨3, ![a, b, c]⟩ : Shape).Idx → α) (i j k : ℕ) : α := x (ix3 (co a i) (co b j) (co c k))

theorem n1_val {a : ℕ} [NeZero a] (x : (⟨1, ![a]⟩ : Shape).Idx → α) (i : Fin a) : x (ix1 i) = n1 a x i.val := by unfold n1; rw [co_val]
theorem n2_val {a b : ℕ} [NeZero a] [NeZero b] (x : (⟨2, ![a, b]⟩ : Shape).Idx → α) (i : Fin a) (j : Fin b) : x (ix2 i j) = n2 a b x i.val j.val := by
  unfold n2; rw [co_val, co_val]
theorem n3_val {a b c : ℕ} [NeZero a] [NeZero b] [NeZero c] (x : (⟨3, ![a, b, c]⟩ : Shape).Idx → α) (i : Fin a) (j : Fin b) (k : Fin c) :
    x (ix3 i j k) = n3 a b c x i.val j.val k.val := by
  unfold n3; rw [co_val, co_val, co_val]

/-- A row of a matrix, as a vector. -/
theorem row_read {a b : ℕ} [NeZero a] [NeZero b] (x : (⟨2, ![a, b]⟩ : Shape).Idx → α) (l : ℕ) (hs : (⟨2, ![a, b]⟩ : Shape).Slices ![l, 0] ⟨2, ![1, b]⟩)
    (h : (⟨2, ![1, b]⟩ : Shape).ShapeCasts ⟨1, ![b]⟩) (hl : l < a) (f : Fin b) :
    shapeCast ⟨1, ![b]⟩ (extractStridedSlice ⟨2, ![1, b]⟩ ![l, 0] x hs) h (ix1 f) = n2 a b x l f.val := by
  rw [shapeCast_1a_a_apply, extractStridedSlice_apply ![l, 0] x hs _ (ix2 ⟨l, hl⟩ f), n2_val x]
  intro ax
  match ax with
  | ⟨0, _⟩ => rfl
  | ⟨1, _⟩ => exact (Nat.zero_add _).symm

/-- A matrix of a stack. -/
theorem member_read {a b c : ℕ} [NeZero a] [NeZero b] [NeZero c] (x : (⟨3, ![a, b, c]⟩ : Shape).Idx → α) (l : ℕ) (hs : (⟨3, ![a, b, c]⟩ : Shape).Slices ![l, 0, 0] ⟨3, ![1, b, c]⟩)
    (h : (⟨3, ![1, b, c]⟩ : Shape).ShapeCasts ⟨2, ![b, c]⟩) (hl : l < a) (i : Fin b) (j : Fin c) :
    shapeCast ⟨2, ![b, c]⟩ (extractStridedSlice ⟨3, ![1, b, c]⟩ ![l, 0, 0] x hs) h (ix2 i j) = n3 a b c x l i.val j.val := by
  rw [shapeCast_1ab_ab_apply, extractStridedSlice_apply ![l, 0, 0] x hs _ (ix3 ⟨l, hl⟩ i j), n3_val x]
  intro ax
  match ax with
  | ⟨0, _⟩ => rfl
  | ⟨1, _⟩ => exact (Nat.zero_add _).symm
  | ⟨2, _⟩ => exact (Nat.zero_add _).symm

/-- A flat array as a matrix. -/
theorem unflat_read {n a b : ℕ} [NeZero n] (x : (⟨1, ![n]⟩ : Shape).Idx → α) (h : (⟨1, ![n]⟩ : Shape).ShapeCasts ⟨2, ![a, b]⟩) (i : Fin a) (j : Fin b) (hn : i.val * b + j.val < n) :
    shapeCast ⟨2, ![a, b]⟩ x h (ix2 i j) = x (Spec.ix1 n (i.val * b + j.val)) :=
  shapeCast_apply x h _ _ (by
    rw [Shape.rowMajor_val_one, Shape.rowMajor_val_two]
    show (i.val * b + j.val) % n = i.val * b + j.val
    exact Nat.mod_eq_of_lt hn)

/-- A matrix as a flat array. -/
theorem flat_read {n a b : ℕ} [NeZero n] (x : (⟨2, ![a, b]⟩ : Shape).Idx → α) (h : (⟨2, ![a, b]⟩ : Shape).ShapeCasts ⟨1, ![n]⟩) (i : Fin a) (j : Fin b) (hn : i.val * b + j.val < n) :
    shapeCast ⟨1, ![n]⟩ x h (Spec.ix1 n (i.val * b + j.val)) = x (ix2 i j) :=
  shapeCast_apply x h _ _ (by
    rw [Shape.rowMajor_val_one, Shape.rowMajor_val_two]
    show i.val * b + j.val = (i.val * b + j.val) % n
    exact (Nat.mod_eq_of_lt hn).symm)

end

variable (a0 : (⟨2, ![10000, 128]⟩ : Shape).Idx → EReal) (a1 : (⟨2, ![2, 320000]⟩ : Shape).Idx → BitVec 32) (a2 : (⟨1, ![10000]⟩ : Shape).Idx → BitVec 32)
  (a3 : (⟨2, ![128, 128]⟩ : Shape).Idx → EReal) (a4 : (⟨1, ![128]⟩ : Shape).Idx → EReal) (a5 : (⟨3, ![4, 128, 128]⟩ : Shape).Idx → EReal)
  (a6 : (⟨2, ![4, 128]⟩ : Shape).Idx → EReal) (a7 : (⟨2, ![128, 10]⟩ : Shape).Idx → EReal) (a8 : (⟨1, ![10]⟩ : Shape).Idx → EReal)

/-- The node an edge starts from. -/
def src (k : ℕ) : ℕ := (n2 2 320000 a1 0 k).toNat
/-- The node an edge ends in. -/
def dst (k : ℕ) : ℕ := (n2 2 320000 a1 1 k).toNat
/-- The features after `l` layers. -/
def feat (l n f : ℕ) : EReal := Graph.feat (src a1) (dst a1) (n2 10000 128 a0) (n2 128 128 a3) (n1 128 a4) (n3 4 128 128 a5) (n2 4 128 a6) l n f
/-- The scaled features of layer `l`. -/
def U (l n f : ℕ) : EReal := Graph.U (src a1) (dst a1) (n2 10000 128 a0) (n2 128 128 a3) (n1 128 a4) (n3 4 128 128 a5) (n2 4 128 a6) l n f
/-- Their sums over a node's incoming edges. -/
def A (l n f : ℕ) : EReal := Graph.agg (src a1) (dst a1) (U a0 a1 a3 a4 a5 a6 l) n f
/-- The result. -/
def out (g j : ℕ) : EReal := Graph.out (n1 10000 a2) (feat a0 a1 a3 a4 a5 a6 4) (n2 128 10 a7) (n1 10 a8) g j

theorem U_eq (l n f : ℕ) : U a0 a1 a3 a4 a5 a6 l n f = Graph.dis (dst a1) n * ∑ k : Fin 128, n3 4 128 128 a5 l k.val f * feat a0 a1 a3 a4 a5 a6 l n k.val := rfl

theorem feat_zero (n f : ℕ) : feat a0 a1 a3 a4 a5 a6 0 n f = max ((∑ k : Fin 128, n2 128 128 a3 k.val f * n2 10000 128 a0 n k.val) + n1 128 a4 f) 0 := rfl

theorem feat_succ (l n f : ℕ) : feat a0 a1 a3 a4 a5 a6 (l + 1) n f
    = max (Graph.dis (dst a1) n * (A a0 a1 a3 a4 a5 a6 l n f + U a0 a1 a3 a4 a5 a6 l n f) + n2 4 128 a6 l f) 0 := rfl

end Cert.Proof.Model

end
-- ==== Proof.KernelIdeal.Values.lean ====
/-
  The kernel's result over the extended reals: what @main's steps leave, up to the last region's array, which holds the
  network's result of the arguments.
-/
module

public import proofs.«01_k».proof.Proof.KernelIdeal.Frame
public import proofs.«01_k».proof.Proof.KernelIdeal.Outs
public import proofs.«01_k».proof.Proof.Model

@[expose] public section

noncomputable section

namespace Cert.Proof.KernelIdeal

open Cert.KernelIdeal Cert.KernelIdeal.Gen
open Cert.Proof.Spec
open Cert.Proof.Model (n1 n2 n3 n1_val n2_val n3_val row_read member_read unflat_read flat_read)
open Idealize.ShloMosaic hiding T
open Idealize.ShloMosaic.ValueIdx hiding ix1
open Idealize.SL.Sem

/-! ## The host operations -/

theorem hs1_v2 (V : Vl Ideal) (w : Fin 32) (i : Fin 10000) : rd 32 10000 (hs1 V (dr main_v2)) w i = (V (dr main_v1_1) : (A1 320000).Idx → EReal) (ix1 320000 (w.val * 10000 + i.val)) := by
  unfold hs1
  rw [StableHlo.reshape_result_ne (h := (by decide : main_v2 ≠ main_v5)), StableHlo.unary_result_ne (h := (by decide : main_v2 ≠ main_v4)), StableHlo.reshape_result_ne (h := (by decide : main_v2 ≠ main_v3)), StableHlo.reshape_result]
  exact unflat_read (α := EReal) (V (dr main_v1_1)) _ w i (by have := w.isLt; have := i.isLt; omega)

theorem hs1_v3 (V : Vl Ideal) (f : Fin 128) (z : Fin 1) : rd 128 1 (hs1 V (dr main_v3)) f z = n1 128 (V (dr main_arg4)) f.val := by
  unfold hs1
  rw [StableHlo.reshape_result_ne (h := (by decide : main_v3 ≠ main_v5)), StableHlo.unary_result_ne (h := (by decide : main_v3 ≠ main_v4)), StableHlo.reshape_result, StableHlo.reshape_result_ne (h := (by decide : main_arg4 ≠ main_v2))]
  exact (Reads.shapeCast_col (α := EReal) (V (dr main_arg4)) _ f z).trans (n1_val _ f)

theorem hs1_v5 (V : Vl Ideal) (k f : Fin 128) : rd 128 128 (hs1 V (dr main_v5)) k f = n3 4 128 128 (V (dr main_arg5)) 0 k.val f.val := by
  unfold hs1
  rw [StableHlo.reshape_result, StableHlo.unary_result, StableHlo.reshape_result_ne (h := (by decide : main_arg5 ≠ main_v3)), StableHlo.reshape_result_ne (h := (by decide : main_arg5 ≠ main_v2))]
  exact member_read (α := EReal) (V (dr main_arg5)) 0 _ _ (by decide) k f

theorem hs2_v7 (V : Vl Ideal) (f : Fin 128) (i : Fin 10000) : (hs2 V (dr main_v7) : (A1 1280000).Idx → EReal) (ix1 1280000 (f.val * 10000 + i.val)) = rd 128 10000 (V (dr main_v6_0)) f i := by
  unfold hs2
  rw [StableHlo.reshape_result]
  exact flat_read (α := EReal) (V (dr main_v6_0)) _ f i (by have := f.isLt; have := i.isLt; omega)

theorem hs4_v16 (V : Vl Ideal) (f : Fin 128) (i : Fin 10000) : (hs4 V (dr main_v16) : (A1 1280000).Idx → EReal) (ix1 1280000 (f.val * 10000 + i.val)) = rd 128 10000 (V (dr main_v15)) f i := by
  unfold hs4
  rw [StableHlo.reshape_result]
  exact flat_read (α := EReal) (V (dr main_v15)) _ f i (by have := f.isLt; have := i.isLt; omega)

theorem hs6_v25 (V : Vl Ideal) (f : Fin 128) (i : Fin 10000) : (hs6 V (dr main_v25) : (A1 1280000).Idx → EReal) (ix1 1280000 (f.val * 10000 + i.val)) = rd 128 10000 (V (dr main_v24)) f i := by
  unfold hs6
  rw [StableHlo.reshape_result]
  exact flat_read (α := EReal) (V (dr main_v24)) _ f i (by have := f.isLt; have := i.isLt; omega)

theorem hs8_v34 (V : Vl Ideal) (f : Fin 128) (i : Fin 10000) : (hs8 V (dr main_v34) : (A1 1280000).Idx → EReal) (ix1 1280000 (f.val * 10000 + i.val)) = rd 128 10000 (V (dr main_v33)) f i := by
  unfold hs8
  rw [StableHlo.reshape_result]
  exact flat_read (α := EReal) (V (dr main_v33)) _ f i (by have := f.isLt; have := i.isLt; omega)

theorem hs3_v9 (V : Vl Ideal) (f : Fin 128) (i : Fin 10000) : rd 128 10000 (hs3 V (dr main_v9)) f i = (V (dr main_v8) : (A1 1280000).Idx → EReal) (ix1 1280000 (f.val * 10000 + i.val)) := by
  unfold hs3
  rw [StableHlo.reshape_result_ne (h := (by decide : main_v9 ≠ main_v14)), StableHlo.unary_result_ne (h := (by decide : main_v9 ≠ main_v13)), StableHlo.reshape_result_ne (h := (by decide : main_v9 ≠ main_v12)), StableHlo.reshape_result_ne (h := (by decide : main_v9 ≠ main_v11)), StableHlo.unary_result_ne (h := (by decide : main_v9 ≠ main_v10)), StableHlo.reshape_result]
  exact unflat_read (α := EReal) (V (dr main_v8)) _ f i (by have := f.isLt; have := i.isLt; omega)

theorem hs3_v12 (V : Vl Ideal) (f : Fin 128) (z : Fin 1) : rd 128 1 (hs3 V (dr main_v12)) f z = n2 4 128 (V (dr main_arg6)) 0 f.val := by
  unfold hs3
  rw [StableHlo.reshape_result_ne (h := (by decide : main_v12 ≠ main_v14)), StableHlo.unary_result_ne (h := (by decide : main_v12 ≠ main_v13)), StableHlo.reshape_result, StableHlo.reshape_result, StableHlo.unary_result, StableHlo.reshape_result_ne (h := (by decide : main_arg6 ≠ main_v9))]
  exact (Reads.shapeCast_col (α := EReal) _ _ f z).trans (row_read (α := EReal) (V (dr main_arg6)) 0 _ _ (by decide) f)

theorem hs3_v14 (V : Vl Ideal) (k f : Fin 128) : rd 128 128 (hs3 V (dr main_v14)) k f = n3 4 128 128 (V (dr main_arg5)) 1 k.val f.val := by
  unfold hs3
  rw [StableHlo.reshape_result, StableHlo.unary_result, StableHlo.reshape_result_ne (h := (by decide : main_arg5 ≠ main_v12)), StableHlo.reshape_result_ne (h := (by decide : main_arg5 ≠ main_v11)), StableHlo.unary_result_ne (h := (by decide : main_arg5 ≠ main_v10)), StableHlo.reshape_result_ne (h := (by decide : main_arg5 ≠ main_v9))]
  exact member_read (α := EReal) (V (dr main_arg5)) 1 _ _ (by decide) k f

theorem hs5_v18 (V : Vl Ideal) (f : Fin 128) (i : Fin 10000) : rd 128 10000 (hs5 V (dr main_v18)) f i = (V (dr main_v17) : (A1 1280000).Idx → EReal) (ix1 1280000 (f.val * 10000 + i.val)) := by
  unfold hs5
  rw [StableHlo.reshape_result_ne (h := (by decide : main_v18 ≠ main_v23)), StableHlo.unary_result_ne (h := (by decide : main_v18 ≠ main_v22)), StableHlo.reshape_result_ne (h := (by decide : main_v18 ≠ main_v21)), StableHlo.reshape_result_ne (h := (by decide : main_v18 ≠ main_v20)), StableHlo.unary_result_ne (h := (by decide : main_v18 ≠ main_v19)), StableHlo.reshape_result]
  exact unflat_read (α := EReal) (V (dr main_v17)) _ f i (by have := f.isLt; have := i.isLt; omega)

theorem hs5_v21 (V : Vl Ideal) (f : Fin 128) (z : Fin 1) : rd 128 1 (hs5 V (dr main_v21)) f z = n2 4 128 (V (dr main_arg6)) 1 f.val := by
  unfold hs5
  rw [StableHlo.reshape_result_ne (h := (by decide : main_v21 ≠ main_v23)), StableHlo.unary_result_ne (h := (by decide : main_v21 ≠ main_v22)), StableHlo.reshape_result, StableHlo.reshape_result, StableHlo.unary_result, StableHlo.reshape_result_ne (h := (by decide : main_arg6 ≠ main_v18))]
  exact (Reads.shapeCast_col (α := EReal) _ _ f z).trans (row_read (α := EReal) (V (dr main_arg6)) 1 _ _ (by decide) f)

theorem hs5_v23 (V : Vl Ideal) (k f : Fin 128) : rd 128 128 (hs5 V (dr main_v23)) k f = n3 4 128 128 (V (dr main_arg5)) 2 k.val f.val := by
  unfold hs5
  rw [StableHlo.reshape_result, StableHlo.unary_result, StableHlo.reshape_result_ne (h := (by decide : main_arg5 ≠ main_v21)), StableHlo.reshape_result_ne (h := (by decide : main_arg5 ≠ main_v20)), StableHlo.unary_result_ne (h := (by decide : main_arg5 ≠ main_v19)), StableHlo.reshape_result_ne (h := (by decide : main_arg5 ≠ main_v18))]
  exact member_read (α := EReal) (V (dr main_arg5)) 2 _ _ (by decide) k f

theorem hs7_v27 (V : Vl Ideal) (f : Fin 128) (i : Fin 10000) : rd 128 10000 (hs7 V (dr main_v27)) f i = (V (dr main_v26) : (A1 1280000).Idx → EReal) (ix1 1280000 (f.val * 10000 + i.val)) := by
  unfold hs7
  rw [StableHlo.reshape_result_ne (h := (by decide : main_v27 ≠ main_v32)), StableHlo.unary_result_ne (h := (by decide : main_v27 ≠ main_v31)), StableHlo.reshape_result_ne (h := (by decide : main_v27 ≠ main_v30)), StableHlo.reshape_result_ne (h := (by decide : main_v27 ≠ main_v29)), StableHlo.unary_result_ne (h := (by decide : main_v27 ≠ main_v28)), StableHlo.reshape_result]
  exact unflat_read (α := EReal) (V (dr main_v26)) _ f i (by have := f.isLt; have := i.isLt; omega)

theorem hs7_v30 (V : Vl Ideal) (f : Fin 128) (z : Fin 1) : rd 128 1 (hs7 V (dr main_v30)) f z = n2 4 128 (V (dr main_arg6)) 2 f.val := by
  unfold hs7
  rw [StableHlo.reshape_result_ne (h := (by decide : main_v30 ≠ main_v32)), StableHlo.unary_result_ne (h := (by decide : main_v30 ≠ main_v31)), StableHlo.reshape_result, StableHlo.reshape_result, StableHlo.unary_result, StableHlo.reshape_result_ne (h := (by decide : main_arg6 ≠ main_v27))]
  exact (Reads.shapeCast_col (α := EReal) _ _ f z).trans (row_read (α := EReal) (V (dr main_arg6)) 2 _ _ (by decide) f)

theorem hs7_v32 (V : Vl Ideal) (k f : Fin 128) : rd 128 128 (hs7 V (dr main_v32)) k f = n3 4 128 128 (V (dr main_arg5)) 3 k.val f.val := by
  unfold hs7
  rw [StableHlo.reshape_result, StableHlo.unary_result, StableHlo.reshape_result_ne (h := (by decide : main_arg5 ≠ main_v30)), StableHlo.reshape_result_ne (h := (by decide : main_arg5 ≠ main_v29)), StableHlo.unary_result_ne (h := (by decide : main_arg5 ≠ main_v28)), StableHlo.reshape_result_ne (h := (by decide : main_arg5 ≠ main_v27))]
  exact member_read (α := EReal) (V (dr main_arg5)) 3 _ _ (by decide) k f

theorem hs9_v36 (V : Vl Ideal) (f : Fin 128) (i : Fin 10000) : rd 128 10000 (hs9 V (dr main_v36)) f i = (V (dr main_v35) : (A1 1280000).Idx → EReal) (ix1 1280000 (f.val * 10000 + i.val)) := by
  unfold hs9
  rw [StableHlo.reshape_result_ne (h := (by decide : main_v36 ≠ main_v41)), StableHlo.reshape_result_ne (h := (by decide : main_v36 ≠ main_v40)), StableHlo.reshape_result_ne (h := (by decide : main_v36 ≠ main_v39)), StableHlo.reshape_result_ne (h := (by decide : main_v36 ≠ main_v38)), StableHlo.unary_result_ne (h := (by decide : main_v36 ≠ main_v37)), StableHlo.reshape_result]
  exact unflat_read (α := EReal) (V (dr main_v35)) _ f i (by have := f.isLt; have := i.isLt; omega)

theorem hs9_v39 (V : Vl Ideal) (f : Fin 128) (z : Fin 1) : rd 128 1 (hs9 V (dr main_v39)) f z = n2 4 128 (V (dr main_arg6)) 3 f.val := by
  unfold hs9
  rw [StableHlo.reshape_result_ne (h := (by decide : main_v39 ≠ main_v41)), StableHlo.reshape_result_ne (h := (by decide : main_v39 ≠ main_v40)), StableHlo.reshape_result, StableHlo.reshape_result, StableHlo.unary_result, StableHlo.reshape_result_ne (h := (by decide : main_arg6 ≠ main_v36))]
  exact (Reads.shapeCast_col (α := EReal) _ _ f z).trans (row_read (α := EReal) (V (dr main_arg6)) 3 _ _ (by decide) f)

theorem hs9_v40 (V : Vl Ideal) (i : Fin 10000) : (hs9 V (dr main_v40)) (ix2 (0 : Fin 1) i : S1x10000.Idx) = n1 10000 (V (dr main_arg2) : S10000.Idx → BitVec 32) i.val := by
  unfold hs9
  rw [StableHlo.reshape_result_ne (h := (by decide : main_v40 ≠ main_v41)), StableHlo.reshape_result, StableHlo.reshape_result_ne (h := (by decide : main_arg2 ≠ main_v39)), StableHlo.reshape_result_ne (h := (by decide : main_arg2 ≠ main_v38)), StableHlo.unary_result_ne (h := (by decide : main_arg2 ≠ main_v37)), StableHlo.reshape_result_ne (h := (by decide : main_arg2 ≠ main_v36))]
  exact (shapeCast_a_1a_apply (α := BitVec 32) (V (dr main_arg2)) _ 0 i).trans (n1_val _ i)

theorem hs9_v41 (V : Vl Ideal) (j : Fin 10) : rd 1 10 (hs9 V (dr main_v41)) 0 j = n1 10 (V (dr main_arg8)) j.val := by
  unfold hs9
  rw [StableHlo.reshape_result, StableHlo.reshape_result_ne (h := (by decide : main_arg8 ≠ main_v40)), StableHlo.reshape_result_ne (h := (by decide : main_arg8 ≠ main_v39)), StableHlo.reshape_result_ne (h := (by decide : main_arg8 ≠ main_v38)), StableHlo.unary_result_ne (h := (by decide : main_arg8 ≠ main_v37)), StableHlo.reshape_result_ne (h := (by decide : main_arg8 ≠ main_v36))]
  exact (shapeCast_a_1a_apply (α := EReal) (V (dr main_arg8)) _ 0 j).trans (n1_val _ j)

/-! ## The network at the memory's arguments -/

section

variable (m : (ℓ : Loc nD τ sig) → Buf (Elt Ideal) ℓ) (d : Dev nD)

/-- A node's factor. -/
def disK (n : ℕ) : EReal := Graph.dis (Model.dst (m (d, dr main_arg1))) n
/-- The features after `l` layers. -/
def fK (l n f : ℕ) : EReal := Model.feat (m (d, dr main_arg0)) (m (d, dr main_arg1)) (m (d, dr main_arg3)) (m (d, dr main_arg4)) (m (d, dr main_arg5)) (m (d, dr main_arg6)) l n f
/-- The scaled features of layer `l`. -/
def uK (l n f : ℕ) : EReal := Model.U (m (d, dr main_arg0)) (m (d, dr main_arg1)) (m (d, dr main_arg3)) (m (d, dr main_arg4)) (m (d, dr main_arg5)) (m (d, dr main_arg6)) l n f
/-- Their sums over the edges. -/
def aK (l n f : ℕ) : EReal := Model.A (m (d, dr main_arg0)) (m (d, dr main_arg1)) (m (d, dr main_arg3)) (m (d, dr main_arg4)) (m (d, dr main_arg5)) (m (d, dr main_arg6)) l n f
/-- The result. -/
def outK (g j : ℕ) : EReal := Model.out (m (d, dr main_arg0)) (m (d, dr main_arg1)) (m (d, dr main_arg2)) (m (d, dr main_arg3)) (m (d, dr main_arg4)) (m (d, dr main_arg5)) (m (d, dr main_arg6))
  (m (d, dr main_arg7)) (m (d, dr main_arg8)) g j

/-- The flattened edge list's two halves. -/
theorem edges_src (k : ℕ) (hk : k < 320000) : (edges m d (ix1 640000 k)).toNat = Model.src (m (d, dr main_arg1)) k := by
  unfold edges hs0
  rw [StableHlo.reshape_result]
  have h := flat_read (α := BitVec 32) (n := 640000) (m (d, dr main_arg1)) shapeCasts_S2x320000_S640000 (0 : Fin 2) (⟨k, hk⟩ : Fin 320000) (by show 0 * 320000 + k < _; omega)
  rw [show ((0 : Fin 2).val * 320000 + (⟨k, hk⟩ : Fin 320000).val) = k from by show 0 * 320000 + k = k; omega] at h
  exact congrArg BitVec.toNat (h.trans (n2_val _ _ _))
theorem edges_dst (k : ℕ) (hk : k < 320000) : (edges m d (ix1 640000 (320000 + k))).toNat = Model.dst (m (d, dr main_arg1)) k := by
  unfold edges hs0
  rw [StableHlo.reshape_result]
  have h := flat_read (α := BitVec 32) (n := 640000) (m (d, dr main_arg1)) shapeCasts_S2x320000_S640000 (1 : Fin 2) (⟨k, hk⟩ : Fin 320000) (by show 1 * 320000 + k < _; omega)
  rw [show ((1 : Fin 2).val * 320000 + (⟨k, hk⟩ : Fin 320000).val) = 320000 + k from by show 1 * 320000 + k = 320000 + k; omega] at h
  exact congrArg BitVec.toNat (h.trans (n2_val _ _ _))

/-- The array the aggregation `q` reads. -/
def RK (q : Fin 4) (d : Dev nD) (ut : Vec Ideal (A1 1280000) .f32) : Prop := ∀ (f : Fin 128) (i : Fin 10000), ut (ix1 1280000 (f.val * 10000 + i.val)) = uK m d q.val i.val f.val
/-- The array it leaves. -/
def AOk (l : ℕ) (x : (A1 1280000).Idx → EReal) : Prop := ∀ (f : Fin 128) (i : Fin 10000), x (ix1 1280000 (f.val * 10000 + i.val)) = aK m d l i.val f.val
/-- The array of layer `l`'s scaled features. -/
def UOk (l : ℕ) (x : S128x10000.Idx → EReal) : Prop := ∀ (f : Fin 128) (i : Fin 10000), rd 128 10000 x f i = uK m d l i.val f.val
/-- The array of the factors. -/
def DOk (x : S1x10000.Idx → EReal) : Prop := ∀ (z : Fin 1) (i : Fin 10000), rd 1 10000 x z i = disK m d i.val

theorem agg_val (h : EdgesOk m) {q : Fin 4} {l : ℕ} (hq : q.val = l) {X : Vec Ideal (A1 1280000) .f32} (hX : AggOk (edges m) (RK m) q d X) : AOk m d l X := fun f i => by
  subst hq
  obtain ⟨ut, hut, e⟩ := hX (ix1 1280000 (f.val * 10000 + i.val))
  rw [e]
  refine (aggAll_apply ut (edges m d) (edges_lt m h d) f.val i.val f.isLt i.isLt).trans ?_
  show _ = eSum 320000 (Model.dst (m (d, dr main_arg1))) i.val fun k => uK m d q.val (Model.src (m (d, dr main_arg1)) k) f.val
  refine eSum_congr (fun k hk => edges_dst m d k hk) fun k hk _ => ?_
  rw [← edges_src m d k hk]
  exact hut f ⟨_, edges_lt m h d _⟩

theorem deg_val (h : EdgesOk m) (i : Fin 10000) : Ideal.rsqrt ((∑ w : Fin 32, degAll (F := Ideal) (edges m d) (ix1 320000 (w.val * 10000 + i.val)) : EReal) + 1) = disK m d i.val := by
  rw [degAll_sum (edges m d) (edges_lt m h d) i.val i.isLt]
  rw [eSum_congr (d' := Model.dst (m (d, dr main_arg1))) (g' := fun _ => 1) (fun k hk => edges_dst m d k hk) fun _ _ _ => rfl]
  rfl

/-- A layer's features from its arrays. -/
theorem next_val {l : ℕ} {a u : Fin 128 → Fin 10000 → EReal} {s : Fin 1 → Fin 10000 → EReal} {b : Fin 128 → Fin 1 → EReal} (ha : ∀ f i, a f i = aK m d l i.val f.val)
    (hu : ∀ f i, u f i = uK m d l i.val f.val) (hs : ∀ z i, s z i = disK m d i.val) (hb : ∀ f z, b f z = n2 4 128 (m (d, dr main_arg6)) l f.val) (f : Fin 128) (i : Fin 10000) :
    nextAt a u s b f i = fK m d (l + 1) i.val f.val := by
  unfold nextAt
  rw [ha, hu, hs, hb]
  rfl

/-- A layer's scaled features. -/
theorem scaled_val {l : ℕ} {x : EReal} {W : Fin 128 → Fin 128 → EReal} {h : Fin 128 → EReal} (f : Fin 128) (i : Fin 10000) (hx : x = disK m d i.val)
    (hW : ∀ k f, W k f = n3 4 128 128 (m (d, dr main_arg5)) l k.val f.val) (hh : ∀ k : Fin 128, h k = fK m d l i.val k.val) : (x * ∑ k : Fin 128, W k f * h k) = uK m d l i.val f.val := by
  rw [hx]
  exact congrArg (HMul.hMul (α := EReal) _) (Finset.sum_congr rfl fun k _ => by rw [hW, hh]; rfl)

/-- What is known of the buffers before step `k`. -/
def Val : ℕ → Vl Ideal → Prop
  | 1 => fun V => V (dr main_v1_1) = degAll (F := Ideal) (edges m d)
  | 2 => fun V => DOk m d (V (dr main_v6_1)) ∧ UOk m d 0 (V (dr main_v6_0))
  | 3 => fun V => DOk m d (V (dr main_v6_1)) ∧ UOk m d 0 (V (dr main_v6_0)) ∧ AOk m d 0 (V (dr main_v8))
  | 4 => fun V => DOk m d (V (dr main_v6_1)) ∧ UOk m d 1 (V (dr main_v15))
  | 5 => fun V => DOk m d (V (dr main_v6_1)) ∧ UOk m d 1 (V (dr main_v15)) ∧ AOk m d 1 (V (dr main_v17))
  | 6 => fun V => DOk m d (V (dr main_v6_1)) ∧ UOk m d 2 (V (dr main_v24))
  | 7 => fun V => DOk m d (V (dr main_v6_1)) ∧ UOk m d 2 (V (dr main_v24)) ∧ AOk m d 2 (V (dr main_v26))
  | 8 => fun V => DOk m d (V (dr main_v6_1)) ∧ UOk m d 3 (V (dr main_v33))
  | 9 => fun V => DOk m d (V (dr main_v6_1)) ∧ UOk m d 3 (V (dr main_v33)) ∧ AOk m d 3 (V (dr main_v35))
  | 10 => fun V => ∀ (g : Fin 64) (j : Fin 10), rd 64 10 (V (dr main_v42)) g j = outK m d g.val j.val
  | _ => fun _ => True

theorem val_reg0 (h : EdgesOk m) {V V' : Vl Ideal} (hF : JF m d 1 V) (hV : Val m d 1 V) {n : ℕ} (h' : RegOk 0 n d (hs1 V) V') : Val m d 2 V' := by
  have hd : ∀ i : Fin 10000, Ideal.rsqrt ((∑ w : Fin 32, rd 32 10000 (hs1 V (dr main_v2)) w i) + 1) = disK m d i.val := fun i => by
    rw [← deg_val m d h i]
    refine congrArg (fun x => Ideal.rsqrt (x + 1)) (Finset.sum_congr rfl fun w _ => (hs1_v2 V w i).trans ?_)
    exact congrFun hV _
  have ek : ∀ b ∈ kept, b ≠ main_v1_0 → hs1 V (dr b) = m (d, dr b) := fun b hb hne => (hs1_kept V b hb).trans (hF.1 b hb hne)
  refine ⟨fun z i => (reg0_dis h' z i).trans (hd i), fun f i => (reg0_ut h' f i).trans ?_⟩
  refine scaled_val m d f i (hd i) (fun k f => ?_) fun k => ?_
  · rw [hs1_v5, hF.1 main_arg5 (by decide) (by decide)]
  · unfold feat0At
    rw [hs1_v3, hF.1 main_arg4 (by decide) (by decide), ek main_arg3 (by decide) (by decide), ek main_arg0 (by decide) (by decide)]
    refine congrArg (fun x => max (x + _) (0 : EReal)) (Finset.sum_congr rfl fun k' _ => ?_)
    exact congr (congrArg HMul.hMul (n2_val (α := EReal) (m (d, dr main_arg3)) k' k)) (n2_val (α := EReal) (m (d, dr main_arg0)) i k')

set_option maxRecDepth 20000 in
theorem val_call1 (h : EdgesOk m) {V V' : Vl Ideal} (hV : Val m d 2 V) (h' : CallA (edges m) (RK m) 0 main_v8 d (hs2 V) V' (fun V => V (dr main_v8))) : Val m d 3 V' := by
  refine ⟨?_, ?_, agg_val m d h (q := 0) (X := V' (dr main_v8)) rfl h'.1⟩
  · rw [h'.2 _ (dr_ne (by decide)), hs2_ne V (by decide)]; exact hV.1
  · rw [h'.2 _ (dr_ne (by decide)), hs2_ne V (by decide)]; exact hV.2

theorem val_reg1 {V V' : Vl Ideal} (hF : JF m d 3 V) (hV : Val m d 3 V) {n : ℕ} (h' : RegOk 1 n d (hs3 V) V') : Val m d 4 V' := by
  obtain ⟨hD, hU, hA⟩ := hV
  have hD' : DOk m d (hs3 V (dr main_v6_1)) := by rw [hs3_ne V (by decide)]; exact hD
  refine ⟨?_, fun f i => (reg1_ut h' f i).trans (scaled_val m d f i (hD' 0 i) (fun k f => ?_) fun k => next_val m d (fun f i => (hs3_v9 V f i).trans (hA f i)) (fun f i => ?_) hD' (fun f z => ?_) k i)⟩
  · rw [reg_ne h' (fun _ => rfl) main_v6_1 (by decide)]; exact hD'
  · rw [hs3_v14, hF.1 main_arg5 (by decide) (by decide)]
  · rw [hs3_ne V (by decide)]; exact hU f i
  · rw [hs3_v12, hF.1 main_arg6 (by decide) (by decide)]

set_option maxRecDepth 20000 in
theorem val_call2 (h : EdgesOk m) {V V' : Vl Ideal} (hV : Val m d 4 V) (h' : CallA (edges m) (RK m) 1 main_v17 d (hs4 V) V' (fun V => V (dr main_v17))) : Val m d 5 V' := by
  refine ⟨?_, ?_, agg_val m d h (q := 1) (X := V' (dr main_v17)) rfl h'.1⟩
  · rw [h'.2 _ (dr_ne (by decide)), hs4_ne V (by decide)]; exact hV.1
  · rw [h'.2 _ (dr_ne (by decide)), hs4_ne V (by decide)]; exact hV.2

theorem val_reg2 {V V' : Vl Ideal} (hF : JF m d 5 V) (hV : Val m d 5 V) {n : ℕ} (h' : RegOk 2 n d (hs5 V) V') : Val m d 6 V' := by
  obtain ⟨hD, hU, hA⟩ := hV
  have hD' : DOk m d (hs5 V (dr main_v6_1)) := by rw [hs5_ne V (by decide)]; exact hD
  refine ⟨?_, fun f i => (reg2_ut h' f i).trans (scaled_val m d f i (hD' 0 i) (fun k f => ?_) fun k => next_val m d (fun f i => (hs5_v18 V f i).trans (hA f i)) (fun f i => ?_) hD' (fun f z => ?_) k i)⟩
  · rw [reg_ne h' (fun _ => rfl) main_v6_1 (by decide)]; exact hD'
  · rw [hs5_v23, hF.1 main_arg5 (by decide) (by decide)]
  · rw [hs5_ne V (by decide)]; exact hU f i
  · rw [hs5_v21, hF.1 main_arg6 (by decide) (by decide)]

set_option maxRecDepth 20000 in
theorem val_call3 (h : EdgesOk m) {V V' : Vl Ideal} (hV : Val m d 6 V) (h' : CallA (edges m) (RK m) 2 main_v26 d (hs6 V) V' (fun V => V (dr main_v26))) : Val m d 7 V' := by
  refine ⟨?_, ?_, agg_val m d h (q := 2) (X := V' (dr main_v26)) rfl h'.1⟩
  · rw [h'.2 _ (dr_ne (by decide)), hs6_ne V (by decide)]; exact hV.1
  · rw [h'.2 _ (dr_ne (by decide)), hs6_ne V (by decide)]; exact hV.2

theorem val_reg3 {V V' : Vl Ideal} (hF : JF m d 7 V) (hV : Val m d 7 V) {n : ℕ} (h' : RegOk 3 n d (hs7 V) V') : Val m d 8 V' := by
  obtain ⟨hD, hU, hA⟩ := hV
  have hD' : DOk m d (hs7 V (dr main_v6_1)) := by rw [hs7_ne V (by decide)]; exact hD
  refine ⟨?_, fun f i => (reg3_ut h' f i).trans (scaled_val m d f i (hD' 0 i) (fun k f => ?_) fun k => next_val m d (fun f i => (hs7_v27 V f i).trans (hA f i)) (fun f i => ?_) hD' (fun f z => ?_) k i)⟩
  · rw [reg_ne h' (fun _ => rfl) main_v6_1 (by decide)]; exact hD'
  · rw [hs7_v32, hF.1 main_arg5 (by decide) (by decide)]
  · rw [hs7_ne V (by decide)]; exact hU f i
  · rw [hs7_v30, hF.1 main_arg6 (by decide) (by decide)]

set_option maxRecDepth 20000 in
theorem val_call4 (h : EdgesOk m) {V V' : Vl Ideal} (hV : Val m d 8 V) (h' : CallA (edges m) (RK m) 3 main_v35 d (hs8 V) V' (fun V => V (dr main_v35))) : Val m d 9 V' := by
  refine ⟨?_, ?_, agg_val m d h (q := 3) (X := V' (dr main_v35)) rfl h'.1⟩
  · rw [h'.2 _ (dr_ne (by decide)), hs8_ne V (by decide)]; exact hV.1
  · rw [h'.2 _ (dr_ne (by decide)), hs8_ne V (by decide)]; exact hV.2

theorem val_reg4 {V V' : Vl Ideal} (hF : JF m d 9 V) (hV : Val m d 9 V) {n : ℕ} (h' : RegOk 4 n d (hs9 V) V') : Val m d 10 V' := fun g j => by
  obtain ⟨hD, hU, hA⟩ := hV
  have hD' : DOk m d (hs9 V (dr main_v6_1)) := by rw [hs9_ne V (by decide)]; exact hD
  refine (reg4_out h' (n1 10000 (m (d, dr main_arg2) : S10000.Idx → BitVec 32)) (fun n f => fK m d 4 n f) (fun i => ?_)
    (fun f i => next_val m d (fun f i => (hs9_v36 V f i).trans (hA f i)) (fun f i => ?_) hD' (fun f z => ?_) f i) g j).trans ?_
  · rw [hs9_v40, hF.1 main_arg2 (by decide) (by decide)]
  · rw [hs9_ne V (by decide)]; exact hU f i
  · rw [hs9_v39, hF.1 main_arg6 (by decide) (by decide)]
  · rw [hs9_v41, hF.1 main_arg8 (by decide) (by decide), hs9_kept V main_arg7 (by decide), hF.1 main_arg7 (by decide) (by decide)]
    have e : ∀ f : Fin 128, rd 128 10 (m (d, dr main_arg7)) f j = n2 128 10 (m (d, dr main_arg7)) f.val j.val := fun f => n2_val (α := EReal) (m (d, dr main_arg7)) f j
    simp only [e]
    rfl

/-- What every step of @main keeps. -/
theorem keepsV (h : EdgesOk m) : Keeps (edges m) (RK m) d (fun k V => JF m d k V ∧ Val m d k V) where
  call0 V hV := ⟨((keepsF m d).call0 V hV.1).1, fun V' h' => ⟨((keepsF m d).call0 V hV.1).2 V' h', h'.2.1⟩⟩
  reg0 V hV V' h' := ⟨(keepsF m d).reg0 V hV.1 V' h', val_reg0 m d h hV.1 hV.2 h'⟩
  call1 V hV := ⟨((keepsF m d).call1 V hV.1).1, fun f i => (hs2_v7 V f i).trans (hV.2.2 f i),
    fun V' h' => ⟨hV.1.step m (by decide) (by decide) fun b hb => (callA_kept h' (by decide) b hb).trans (hs2_kept V b hb), val_call1 m d h hV.2 h'⟩⟩
  reg1 V hV V' h' := ⟨(keepsF m d).reg1 V hV.1 V' h', val_reg1 m d hV.1 hV.2 h'⟩
  call2 V hV := ⟨((keepsF m d).call2 V hV.1).1, fun f i => (hs4_v16 V f i).trans (hV.2.2 f i),
    fun V' h' => ⟨hV.1.step m (by decide) (by decide) fun b hb => (callA_kept h' (by decide) b hb).trans (hs4_kept V b hb), val_call2 m d h hV.2 h'⟩⟩
  reg2 V hV V' h' := ⟨(keepsF m d).reg2 V hV.1 V' h', val_reg2 m d hV.1 hV.2 h'⟩
  call3 V hV := ⟨((keepsF m d).call3 V hV.1).1, fun f i => (hs6_v25 V f i).trans (hV.2.2 f i),
    fun V' h' => ⟨hV.1.step m (by decide) (by decide) fun b hb => (callA_kept h' (by decide) b hb).trans (hs6_kept V b hb), val_call3 m d h hV.2 h'⟩⟩
  reg3 V hV V' h' := ⟨(keepsF m d).reg3 V hV.1 V' h', val_reg3 m d hV.1 hV.2 h'⟩
  call4 V hV := ⟨((keepsF m d).call4 V hV.1).1, fun f i => (hs8_v34 V f i).trans (hV.2.2 f i),
    fun V' h' => ⟨hV.1.step m (by decide) (by decide) fun b hb => (callA_kept h' (by decide) b hb).trans (hs8_kept V b hb), val_call4 m d h hV.2 h'⟩⟩
  reg4 V hV V' h' := ⟨(keepsF m d).reg4 V hV.1 V' h', val_reg4 m d hV.1 hV.2 h'⟩

end

/-- The kernel runs, its arguments unchanged, every counter back at zero, and its result the network's. -/
theorem run_value (m : (ℓ : Loc nD τ sig) → Buf (Elt Ideal) ℓ) (h : EdgesOk m) (ρ : Dev nD → PrngReg) :
    θ_run (defs (F := Ideal)) (threads (F := Ideal)) ⟨m, fun _ => 0, ρ⟩
      (fun r => (∀ d, (∀ b ∈ kept, b ≠ main_v1_0 → r.2.mem (d, dr b) = m (d, dr b)) ∧ ∀ (g : Fin 64) (j : Fin 10), rd 64 10 (r.2.mem (d, dr main_v42)) g j = outK m d g.val j.val)
        ∧ r.2.sem = fun _ => 0) :=
  (θ_run defs _ _).mono (fun r hr => ⟨fun d => by
    obtain ⟨V, hV, hm⟩ := hr.1 d
    refine ⟨fun b hb hne => (hm _ (args_SS b hb)).trans (hV.1.1 b hb hne), fun g j => ?_⟩
    rw [hm _ (mem_SS (by decide : main_v42.isScoped = false) (by decide : main_v42 ∉ dead))]
    exact hV.2 g j, hr.2⟩)
    (run_main (edges m) (RK m) (edges_lt m h) (fun d j => goodW_packAll _ (edges_lt m h d) j) m ρ (fun d k V => JF m d k V ∧ Val m d k V) (fun d => keepsV m d h)
      (fun d => ⟨⟨fun _ _ _ => rfl, fun _ => rfl, fun e => absurd rfl e⟩, trivial⟩))

end Cert.Proof.KernelIdeal

end
-- ==== Proof.Scatters.lean ====
/-
  The reference's accumulating scatters read at an element, as sums over the updates whose index word is the element's row.
-/
module

public import proofs.«01_k».proof.Proof.Sums
public import Idealize.ShloMosaic.Lib.ValueIdxCore
public import Idealize.ShloMosaic.Lib.ValueIdxRank1

@[expose] public section

noncomputable section

namespace Cert.Proof.Scatters

open Idealize.ShloMosaic Idealize.ShloMosaic.ValueIdx

/-- An update lands at `k` exactly when its start plus its window coordinate is `k` on every axis. -/
theorem lands_iff {s si u : Shape} (d : ScatterDims s si u) (j : u.Idx) (idx : IVec si 32) (k : s.Idx) :
    d.resultIdx? j idx = some k ↔ ∀ a, d.start j idx a + (d.window j a : Int) = ((k a).val : Int) := by
  unfold ScatterDims.resultIdx?
  split
  · next h =>
    constructor
    · intro e a
      have e0 : (d.start j idx a + (d.window j a : Int)).toNat = (k a).val := congrArg Fin.val (congrFun (Option.some.inj e) a)
      have := (h a).1
      omega
    · intro e
      exact congrArg some (funext fun a => Fin.ext (by show (d.start j idx a + (d.window j a : Int)).toNat = (k a).val; rw [e a]; omega))
  · next h =>
    refine ⟨fun e => (by cases e), fun e => (h fun a => ?_).elim⟩
    rw [e a]
    have := (k a).isLt
    omega

/-- A scatter of scalars into a vector by one index word each. -/
theorem lands1 {N M : ℕ} (d : ScatterDims ⟨1, ![N]⟩ ⟨2, ![M, 1]⟩ ⟨1, ![M]⟩) (hiw : d.insertedWindowDims = [0]) (hsd : d.scatterDimsToOperandDims = [0]) (hivd : d.indexVectorDim = 1)
    (idx : IVec ⟨2, ![M, 1]⟩ 32) (c : Fin M) (x : Fin N) : d.resultIdx? (ix1 c) idx = some (ix1 x) ↔ (idx (ix2 c (0 : Fin 1))).toInt = (x.val : Int) := by
  have hm : (0 : Fin 1) ∈ d.scatterDimsToOperandDims := by rw [hsd]; exact List.mem_singleton.2 rfl
  have hwin : d.window (ix1 c) 0 = 0 := by
    unfold ScatterDims.window
    rw [dif_neg fun h => (of_decide_eq_true (List.mem_filter.1 h).2) (by rw [hiw]; exact List.mem_singleton.2 rfl)]
  have hstart : d.start (ix1 c) idx 0 = (idx (ix2 c (0 : Fin 1))).toInt := by
    unfold ScatterDims.start
    rw [dif_pos hm]
    refine congrArg (fun k => (idx k).toInt) (funext fun b => Fin.ext ?_)
    match b with
    | ⟨0, _⟩ =>
      unfold ScatterDims.siIdx
      rw [dif_neg (by rw [hivd]; exact Nat.zero_ne_one)]
      have e : ∀ X : Fin 1, (ix1 c X).val = c.val := fun X => by obtain rfl : X = 0 := Subsingleton.elim _ _; rfl
      exact e _
    | ⟨1, _⟩ =>
      unfold ScatterDims.siIdx
      rw [dif_pos (by rw [hivd])]
      show List.idxOf (0 : Fin 1) d.scatterDimsToOperandDims = 0
      rw [hsd]; simp
  rw [lands_iff]
  refine ⟨fun h => ?_, fun h a => ?_⟩
  · have := h 0
    rw [hstart, hwin] at this
    exact (add_zero _).symm.trans this
  · obtain rfl : a = 0 := Subsingleton.elim (α := Fin 1) _ _
    rw [hstart, hwin]
    exact (add_zero _).trans h

/-- A scatter of rows into a matrix by one index word each. -/
theorem lands2 {N B M : ℕ} (d : ScatterDims ⟨2, ![N, B]⟩ ⟨2, ![M, 1]⟩ ⟨2, ![M, B]⟩) (huw : d.updateWindowDims = [1]) (hiw : d.insertedWindowDims = [0])
    (hsd : d.scatterDimsToOperandDims = [0]) (hivd : d.indexVectorDim = 1) (idx : IVec ⟨2, ![M, 1]⟩ 32) (c : Fin M) (y' : Fin B) (x : Fin N) (y : Fin B) :
    d.resultIdx? (ix2 c y') idx = some (ix2 x y) ↔ (idx (ix2 c (0 : Fin 1))).toInt = (x.val : Int) ∧ y' = y := by
  have o : (1 : Fin 2) ∉ ([0] : List (Fin 2)) := by decide
  have hm : (0 : Fin 2) ∈ d.scatterDimsToOperandDims := by rw [hsd]; exact List.mem_singleton.2 rfl
  have hm1 : (1 : Fin 2) ∉ d.scatterDimsToOperandDims := by rw [hsd]; exact o
  have hk0 : (0 : Fin 2) ∉ d.sKept := fun h => (of_decide_eq_true (List.mem_filter.1 h).2) (by rw [hiw]; exact List.mem_singleton.2 rfl)
  have hk1 : (1 : Fin 2) ∈ d.sKept := List.mem_filter.2 ⟨List.mem_finRange _, decide_eq_true (by rw [hiw]; exact o)⟩
  have e0 : ∀ X : Fin 2, X = 0 → (ix2 c y' X).val = c.val := fun X h => by subst h; rfl
  have e1 : ∀ X : Fin 2, X = 1 → (ix2 c y' X).val = y'.val := fun X h => by subst h; rfl
  have hwin0 : d.window (ix2 c y') 0 = 0 := by
    unfold ScatterDims.window
    rw [dif_neg hk0]
  have hwin1 : d.window (ix2 c y') 1 = y'.val := by
    unfold ScatterDims.window
    rw [dif_pos hk1]
    have hu : ∀ X ∈ d.updateWindowDims, X = (1 : Fin 2) := fun X hX => by rw [huw] at hX; exact List.mem_singleton.1 hX
    exact e1 _ (hu _ (List.getElem_mem _))
  have hstart1 : d.start (ix2 c y') idx 1 = 0 := by
    unfold ScatterDims.start
    rw [dif_neg hm1]
  have hs0 : ∀ X ∈ d.uScatter, X = (0 : Fin 2) := fun X hX => by
    have hX' : X ∉ d.updateWindowDims := of_decide_eq_true (List.mem_filter.1 hX).2
    rw [huw] at hX'
    have h1 : X.val ≠ 1 := fun e => hX' (List.mem_singleton.2 (Fin.ext e))
    have h2 : X.val < 2 := X.isLt
    exact Fin.ext (by show X.val = 0; omega)
  have hstart0 : d.start (ix2 c y') idx 0 = (idx (ix2 c (0 : Fin 1))).toInt := by
    unfold ScatterDims.start
    rw [dif_pos hm]
    refine congrArg (fun k => (idx k).toInt) (funext fun b => Fin.ext ?_)
    match b with
    | ⟨0, _⟩ =>
      unfold ScatterDims.siIdx
      rw [dif_neg (by rw [hivd]; exact Nat.zero_ne_one)]
      exact e0 _ (hs0 _ (List.getElem_mem _))
    | ⟨1, _⟩ =>
      unfold ScatterDims.siIdx
      rw [dif_pos (by rw [hivd])]
      show List.idxOf (0 : Fin 2) d.scatterDimsToOperandDims = 0
      rw [hsd]; simp
  rw [lands_iff]
  refine ⟨fun h => ⟨?_, Fin.ext ?_⟩, fun h a => ?_⟩
  · have := h 0
    rw [hstart0, hwin0] at this
    exact (add_zero _).symm.trans this
  · have := h 1
    rw [hstart1, hwin1] at this
    exact Int.ofNat.inj ((zero_add _).symm.trans this)
  · match a with
    | ⟨0, _⟩ => exact (congrArg₂ (· + ·) hstart0 (congrArg Int.ofNat hwin0)).trans ((add_zero _).trans h.1)
    | ⟨1, _⟩ => exact (congrArg₂ (· + ·) hstart1 (congrArg Int.ofNat hwin1)).trans ((zero_add _).trans (congrArg (fun z : Fin B => (z.val : Int)) h.2))

/-- The vector scatter's element: the updates whose index word is its row, added up. -/
theorem scatter1 {N M : ℕ} (d : ScatterDims ⟨1, ![N]⟩ ⟨2, ![M, 1]⟩ ⟨1, ![M]⟩) (hiw : d.insertedWindowDims = [0]) (hsd : d.scatterDimsToOperandDims = [0]) (hivd : d.indexVectorDim = 1)
    (z : FVec Ideal ⟨1, ![N]⟩ .f32) (idx : IVec ⟨2, ![M, 1]⟩ 32) (upd : FVec Ideal ⟨1, ![M]⟩ .f32) (x : Fin N) (hz : z (ix1 x) = (0 : EReal)) :
    (Host.scatterAdd d z idx upd (ix1 x) : EReal) = ∑ c : Fin M, if (idx (ix2 c (0 : Fin 1))).toInt = (x.val : Int) then (upd (ix1 c) : EReal) else 0 := by
  show (z (ix1 x) : EReal) + ∑ j ∈ Finset.univ.filter (fun j => d.resultIdx? j idx = some (ix1 x)), (upd j : EReal) = _
  rw [hz, zero_add, Finset.sum_filter, ← Equiv.sum_comp (idxEquiv1 (n := M)).symm]
  exact Finset.sum_congr rfl fun c _ => if_congr (lands1 d hiw hsd hivd idx c x) rfl rfl

/-- The row scatter's element. -/
theorem scatter2 {N B M : ℕ} (d : ScatterDims ⟨2, ![N, B]⟩ ⟨2, ![M, 1]⟩ ⟨2, ![M, B]⟩) (huw : d.updateWindowDims = [1]) (hiw : d.insertedWindowDims = [0])
    (hsd : d.scatterDimsToOperandDims = [0]) (hivd : d.indexVectorDim = 1) (z : FVec Ideal ⟨2, ![N, B]⟩ .f32) (idx : IVec ⟨2, ![M, 1]⟩ 32) (upd : FVec Ideal ⟨2, ![M, B]⟩ .f32)
    (x : Fin N) (y : Fin B) (hz : z (ix2 x y) = (0 : EReal)) :
    (Host.scatterAdd d z idx upd (ix2 x y) : EReal) = ∑ c : Fin M, if (idx (ix2 c (0 : Fin 1))).toInt = (x.val : Int) then (upd (ix2 c y) : EReal) else 0 := by
  show (z (ix2 x y) : EReal) + ∑ j ∈ Finset.univ.filter (fun j => d.resultIdx? j idx = some (ix2 x y)), (upd j : EReal) = _
  rw [hz, zero_add, Finset.sum_filter, sum_idx2]
  refine Finset.sum_congr rfl fun c _ => ?_
  rw [Finset.sum_congr rfl fun y' _ => if_congr (lands2 d huw hiw hsd hivd idx c y' x y) rfl rfl]
  by_cases h : (idx (ix2 c (0 : Fin 1))).toInt = (x.val : Int)
  · rw [if_pos h, Finset.sum_eq_single y]
    · rw [if_pos ⟨h, rfl⟩]
    · exact fun b _ hb => if_neg fun e => hb e.2
    · exact fun e => absurd (Finset.mem_univ _) e
  · rw [if_neg h]
    exact Finset.sum_eq_zero fun b _ => if_neg fun e => h e.1

/-- Such a sum, over the words of small numbers, as a sum over the edges. -/
theorem sum_eSum {M : ℕ} (w : Fin M → BitVec 32) (u : Fin M → EReal) (t : ℕ → ℕ) (g : ℕ → EReal) (n : ℕ) (hw : ∀ c, (w c).toInt = (t c.val : Int)) (hu : ∀ c, u c = g c.val) :
    (∑ c : Fin M, if (w c).toInt = (n : Int) then u c else 0) = Cert.Proof.Spec.eSum M t n g := by
  unfold Cert.Proof.Spec.eSum
  rw [Finset.sum_range (fun k => if t k = n then g k else 0)]
  refine Finset.sum_congr rfl fun c _ => ?_
  rw [hw, hu]
  exact if_congr (by omega) rfl rfl

end Cert.Proof.Scatters

end
-- ==== Proof.RefValue.lean ====
/-
  The reference's result, read element by element off its operations' term: it is the network's (Model.lean).
-/
module

public import proofs.«01_k».proof.Proof.Gen.ReferenceIdeal.Run
public import proofs.«01_k».proof.Proof.Model
public import proofs.«01_k».proof.Proof.Reads
public import proofs.«01_k».proof.Proof.Scatters
public import Idealize.ShloMosaic.Lib.IdealHost
public import Idealize.ShloMosaic.Lib.WordArith
public import Idealize.ShloMosaic.Lib.Routing.Ops
public import Idealize.ShloMosaic.Lib.Routing.OpsSet

@[expose] public section

noncomputable section

namespace Cert.Proof.Ref

open Cert.ReferenceIdeal Cert.ReferenceIdeal.Gen Cert.ReferenceIdeal.Value
open Cert.Proof.Model Cert.Proof.Reads Cert.Proof.Scatters
open Idealize.ShloMosaic Idealize.ShloMosaic.ValueIdx Idealize.ShloMosaic.TcCoe Idealize.SL.Sem

/-! ## The reference's term by parts -/

section Parts

variable (V : Valuation τ sig (Elt Ideal))

/-- A column of index words from a vector of them, a negative one counted from the end. -/
def idx (v : IVec S330000 32) : IVec S330000x1 32 :=
  broadcastInDim S330000x1 ![0] bcast_S330000_S330000x1_0 (select (cmpi .slt v (broadcastInDim S330000 ![] bcast_S_S330000 (constantI S_ 32 0#32)))
    (addi v (broadcastInDim S330000 ![] bcast_S_S330000 (constantI S_ 32 10000#32))) v)
/-- The zeros a sum or a rectifier starts from. -/
def zeros : FVec Ideal S10000x128 .f32 := broadcastInDim S10000x128 ![] bcast_S_S10000x128 (constant S_ .f32 0x00000000#32)
/-- The product of the features and a matrix. -/
def dot (h : FVec Ideal S10000x128 .f32) (W : FVec Ideal S128x128 .f32) : FVec Ideal S10000x128 .f32 := Host.dotGeneral dot_S10000x128_S128x128_S10000x128_1_0_0_1_n_n none h W
/-- A bias added, then the rectifier. -/
def act (x : FVec Ideal S10000x128 .f32) (b : FVec Ideal S128 .f32) : FVec Ideal S10000x128 .f32 :=
  maximumf (addf x (broadcastInDim S10000x128 ![0, 1] bcast_S1x128_S10000x128_0_1 (broadcastInDim S1x128 ![1] bcast_S128_S1x128_1 b))) zeros
/-- The messages of edges and loops. -/
def msg (h : FVec Ideal S10000x128 .f32) (W : FVec Ideal S128x128 .f32) : FVec Ideal S330000x128 .f32 :=
  mulf (Host.gather gather_S10000x128_S330000x1_S330000x128_1_0_n_n_0_1_1128 (dot h W) (idx (res_main_v5 V)))
    (broadcastInDim S330000x128 ![0, 1] bcast_S330000x1_S330000x128_0_1 (broadcastInDim S330000x1 ![0] bcast_S330000_S330000x1_0 (res_main_v36 V)))
/-- A layer. -/
def layer (h : FVec Ideal S10000x128 .f32) (W : FVec Ideal S128x128 .f32) (b : FVec Ideal S128 .f32) : FVec Ideal S10000x128 .f32 :=
  act (Host.scatterAdd scatter_S10000x128_S330000x1_S330000x128_1_0_0_1 zeros (idx (res_main_v6 V)) (msg V h W)) b
/-- The features before and after each layer. -/
def h0 : FVec Ideal S10000x128 .f32 := act (dot (V (Proc.devRef .tc main_arg0)) (V (Proc.devRef .tc main_arg3))) (V (Proc.devRef .tc main_arg4))
def h1 : FVec Ideal S10000x128 .f32 := layer V (h0 V)
  (shapeCast _ (extractStridedSlice S1x128x128 ![0, 0, 0] (V (Proc.devRef .tc main_arg5)) slices_S4x128x128_S1x128x128_0_0_0) shapeCasts_S1x128x128_S128x128)
  (shapeCast _ (extractStridedSlice S1x128 ![0, 0] (V (Proc.devRef .tc main_arg6)) slices_S4x128_S1x128_0_0) shapeCasts_S1x128_S128)
def h2 : FVec Ideal S10000x128 .f32 := layer V (h1 V)
  (shapeCast _ (extractStridedSlice S1x128x128 ![1, 0, 0] (V (Proc.devRef .tc main_arg5)) slices_S4x128x128_S1x128x128_1_0_0) shapeCasts_S1x128x128_S128x128)
  (shapeCast _ (extractStridedSlice S1x128 ![1, 0] (V (Proc.devRef .tc main_arg6)) slices_S4x128_S1x128_1_0) shapeCasts_S1x128_S128)
def h3 : FVec Ideal S10000x128 .f32 := layer V (h2 V)
  (shapeCast _ (extractStridedSlice S1x128x128 ![2, 0, 0] (V (Proc.devRef .tc main_arg5)) slices_S4x128x128_S1x128x128_2_0_0) shapeCasts_S1x128x128_S128x128)
  (shapeCast _ (extractStridedSlice S1x128 ![2, 0] (V (Proc.devRef .tc main_arg6)) slices_S4x128_S1x128_2_0) shapeCasts_S1x128_S128)
def h4 : FVec Ideal S10000x128 .f32 := layer V (h3 V)
  (shapeCast _ (extractStridedSlice S1x128x128 ![3, 0, 0] (V (Proc.devRef .tc main_arg5)) slices_S4x128x128_S1x128x128_3_0_0) shapeCasts_S1x128x128_S128x128)
  (shapeCast _ (extractStridedSlice S1x128 ![3, 0] (V (Proc.devRef .tc main_arg6)) slices_S4x128_S1x128_3_0) shapeCasts_S1x128_S128)
/-- The groups' sums, their sizes and the result. -/
def sums : FVec Ideal S64x128 .f32 := Host.scatterAdd scatter_S64x128_S10000x1_S10000x128_1_0_0_1 (broadcastInDim S64x128 ![] bcast_S_S64x128 (constant S_ .f32 0x00000000#32))
  (broadcastInDim S10000x1 ![0] bcast_S10000_S10000x1_0 (V (Proc.devRef .tc main_arg2))) (h4 V)
def sizes : FVec Ideal S64x1 .f32 := Host.scatterAdd scatter_S64x1_S10000x1_S10000x1_1_0_0_1 (broadcastInDim S64x1 ![] bcast_S_S64x1 (constant S_ .f32 0x00000000#32))
  (broadcastInDim S10000x1 ![0] bcast_S10000_S10000x1_0 (V (Proc.devRef .tc main_arg2))) (broadcastInDim S10000x1 ![] bcast_S_S10000x1 (constant S_ .f32 0x3F800000#32))
def means : FVec Ideal S64x128 .f32 := Host.divf (sums V)
  (broadcastInDim S64x128 ![0, 1] bcast_S64x1_S64x128_0_1 (maximumf (sizes V) (broadcastInDim S64x1 ![] bcast_S_S64x1 (constant S_ .f32 0x3F800000#32))))
def result : FVec Ideal S64x10 .f32 := addf (Host.dotGeneral (φ₁ := .f32) (φ₂ := .f32) dot_S64x128_S128x10_S64x10_1_0_0_1_n_n none (means V) (V (Proc.devRef .tc main_arg7)))
  (broadcastInDim S64x10 ![0, 1] bcast_S1x10_S64x10_0_1 (broadcastInDim S1x10 ![1] bcast_S10_S1x10_1 (V (Proc.devRef .tc main_arg8))))

end Parts

/-! ## Its parts at an element -/

section Reads

variable {α : Type}

/-- The constants. -/
theorem zero_word : (FloatOps.ofBits (F := Ideal) .f32 0x00000000#32 : EReal) = 0 := Ideal.ofBits_zero_f32
theorem one_word : (FloatOps.ofBits (F := Ideal) .f32 0x3F800000#32 : EReal) = 1 := Ideal.ofBits_one_f32
/-- The guard on the degree is at most one. -/
theorem guard_word : (FloatOps.ofBits (F := Ideal) .f32 0x2B8CBCCC#32 : EReal) ≤ 1 := by
  rw [show (1 : EReal) = ((1 : ℝ) : EReal) by norm_cast]
  show Ideal.ofBits .f32 0x2B8CBCCC#32 ≤ _
  simp [Ideal.ofBits, Ideal.ieee, -EReal.coe_mul, -EReal.coe_one]
  norm_num

/-- A vector as a column. -/
theorem col_read {n : ℕ} (x : (⟨1, ![n]⟩ : Shape).Idx → α) (h : (⟨1, ![n]⟩ : Shape).BroadcastsInDim ⟨2, ![n, 1]⟩ ![0]) (hn : n ≠ 1) (i : Fin n) (z : Fin 1) :
    broadcastInDim ⟨2, ![n, 1]⟩ ![0] h x (ix2 i z) = x (ix1 i) :=
  broadcastInDim_apply _ h x _ _ fun a => by
    obtain rfl : a = 0 := Subsingleton.elim (α := Fin 1) _ _
    exact (if_neg hn).symm
/-- A vector as a row. -/
theorem row1_read {n : ℕ} (x : (⟨1, ![n]⟩ : Shape).Idx → α) (h : (⟨1, ![n]⟩ : Shape).BroadcastsInDim ⟨2, ![1, n]⟩ ![1]) (hn : n ≠ 1) (i : Fin n) (z : Fin 1) :
    broadcastInDim ⟨2, ![1, n]⟩ ![1] h x (ix2 z i) = x (ix1 i) :=
  broadcastInDim_apply _ h x _ _ fun a => by
    obtain rfl : a = 0 := Subsingleton.elim (α := Fin 1) _ _
    exact (if_neg hn).symm
/-- A column across columns. -/
theorem across_read {n b : ℕ} (x : (⟨2, ![n, 1]⟩ : Shape).Idx → α) (h : (⟨2, ![n, 1]⟩ : Shape).BroadcastsInDim ⟨2, ![n, b]⟩ ![0, 1]) (hn : n ≠ 1) (i : Fin n) (j : Fin b) :
    broadcastInDim ⟨2, ![n, b]⟩ ![0, 1] h x (ix2 i j) = x (ix2 i 0) :=
  broadcastInDim_apply _ h x _ _ fun a => by
    match a with
    | ⟨0, _⟩ => exact (if_neg hn).symm
    | ⟨1, _⟩ => exact (if_pos rfl).symm
/-- A row down rows. -/
theorem down_read {n b : ℕ} (x : (⟨2, ![1, b]⟩ : Shape).Idx → α) (h : (⟨2, ![1, b]⟩ : Shape).BroadcastsInDim ⟨2, ![n, b]⟩ ![0, 1]) (hb : b ≠ 1) (i : Fin n) (j : Fin b) :
    broadcastInDim ⟨2, ![n, b]⟩ ![0, 1] h x (ix2 i j) = x (ix2 0 j) :=
  broadcastInDim_apply _ h x _ _ fun a => by
    match a with
    | ⟨0, _⟩ => exact (if_pos rfl).symm
    | ⟨1, _⟩ => exact (if_neg hb).symm

/-- A node's word is not negative: its index is itself. -/
theorem idx_read (v : IVec S330000 32) (k : Fin 330000) (z : Fin 1) (n : ℕ) (hn : n < 10000) (h : v (ix1 k) = BitVec.ofNat 32 n) : idx v (ix2 k z) = BitVec.ofNat 32 n := by
  unfold idx
  rw [col_read _ _ (by norm_num)]
  show Scalar.select (IntOp.cmpi .slt (v (ix1 k)) 0#32) (IntOp.addi (v (ix1 k)) 10000#32) (v (ix1 k)) = _
  rw [h]
  have : IntOp.cmpi .slt (BitVec.ofNat 32 n) 0#32 = 0#1 := by
    have e : (BitVec.ofNat 32 n).toInt = n := WordArith.toInt_ofNat_small _ (by omega)
    show BitVec.ofBool ((BitVec.ofNat 32 n).slt 0#32) = 0#1
    rw [BitVec.slt_eq_decide, e, decide_eq_false (by simp)]
    rfl
  rw [this]
  exact select_zero _ _

theorem dot_read (h : FVec Ideal S10000x128 .f32) (W : FVec Ideal S128x128 .f32) (n : Fin 10000) (f : Fin 128) :
    (dot h W (ix2 n f) : EReal) = ∑ k : Fin 128, (W (ix2 k f) : EReal) * h (ix2 n k) := by
  refine (Ideal.dotGeneral_apply _ none .single h W (ix2 n f)).trans ?_
  refine (dot_sum _ 128 rfl rfl _ _ _ (fun k => ix2 n k) (fun k => ix2 k f) (fun k q hq => ix2_ext ?_ ?_) (fun k q hq => ix2_ext ?_ ?_)).trans (Finset.sum_congr rfl fun k _ => mul_comm _ _)
  · rfl
  · exact hq
  · exact hq
  · rfl

theorem act_read (x : FVec Ideal S10000x128 .f32) (b : FVec Ideal S128 .f32) (n : Fin 10000) (f : Fin 128) : (act x b (ix2 n f) : EReal) = max (x (ix2 n f) + b (ix1 f)) 0 := by
  unfold act
  show max ((x (ix2 n f) : EReal) + broadcastInDim S10000x128 ![0, 1] bcast_S1x128_S10000x128_0_1 (broadcastInDim S1x128 ![1] bcast_S128_S1x128_1 b) (ix2 n f)) (zeros (ix2 n f)) = _
  rw [down_read _ _ (by norm_num), row1_read _ _ (by norm_num)]
  exact congrArg (max _) ((broadcastInDim_scalar_apply _ _ _).trans zero_word)

end Reads

/-! ## The ends of edges and loops -/

/-- A row of the edge list, then the nodes. -/
theorem ends_read (x : S2x320000.Idx → BitVec 32) (l : ℕ) (hl : l < 2) (hs : S2x320000.Slices ![l, 0] S1x320000) (hc : S1x320000.ShapeCasts S320000)
    (h : Shape.Concatenates [S320000, S10000] S330000 0) (k : Fin 330000) :
    concatenate S330000 0 [⟨S320000, shapeCast S320000 (extractStridedSlice S1x320000 ![l, 0] x hs) hc⟩, ⟨S10000, iotaInDim S10000 32 0⟩] h (ix1 k)
      = BitVec.ofNat 32 (Graph.ext (fun k => (n2 2 320000 x l k).toNat) k.val) := by
  unfold Graph.ext
  by_cases hk : k.val < 320000
  · rw [if_pos hk]
    refine (concatenate_pair_apply_left (0 : Fin S330000.rank) _ _ h (ix1 k) rfl (ix1 ⟨k.val, hk⟩) fun b => ?_).trans ?_
    · obtain rfl : b = 0 := Subsingleton.elim (α := Fin 1) _ _
      rfl
    · refine (row_read x l hs hc hl ⟨k.val, hk⟩).trans ?_
      exact ((BitVec.ofNat_toNat 32 (n2 2 320000 x l k.val)).trans (BitVec.setWidth_eq _)).symm
  · rw [if_neg hk]
    have hlt : k.val - 320000 < 10000 := by have := k.isLt; omega
    refine (concatenate_pair_apply_right (0 : Fin S330000.rank) _ _ h (ix1 k) rfl rfl (ix1 ⟨k.val - 320000, hlt⟩) (fun b hb => ?_) ?_).trans ?_
    · exact absurd (Subsingleton.elim (α := Fin 1) _ _) hb
    · show k.val - 320000 + 320000 = k.val
      omega
    · rfl

/-- The host's rectified reciprocal root at an element. -/
theorem rsqrt_max {s : Shape} (x y : FVec Ideal s .f32) (i : s.Idx) : (Host.rsqrt (maximumf x y) i : EReal) = Ideal.rsqrt (max (x i) (y i)) := rfl

section Net

variable (V : Valuation τ sig (Elt Ideal))

/-- The ends of the edges. -/
def src : ℕ → ℕ := Model.src (V (Proc.devRef .tc main_arg1))
def dst : ℕ → ℕ := Model.dst (V (Proc.devRef .tc main_arg1))
/-- The features. -/
def F (l n f : ℕ) : EReal := Model.feat (V (Proc.devRef .tc main_arg0)) (V (Proc.devRef .tc main_arg1)) (V (Proc.devRef .tc main_arg3)) (V (Proc.devRef .tc main_arg4))
  (V (Proc.devRef .tc main_arg5)) (V (Proc.devRef .tc main_arg6)) l n f

theorem v5_read (k : Fin 330000) : (res_main_v5 V : IVec S330000 32) (ix1 k) = BitVec.ofNat 32 (Graph.ext (src V) k.val) := ends_read _ 0 (by norm_num) _ _ _ k
theorem v6_read (k : Fin 330000) : (res_main_v6 V : IVec S330000 32) (ix1 k) = BitVec.ofNat 32 (Graph.ext (dst V) k.val) := ends_read _ 1 (by norm_num) _ _ _ k

variable (hE : ∀ i : S2x320000.Idx, (V (Proc.devRef .tc main_arg1) i : BitVec 32).toNat < 10000)
include hE

theorem src_lt (k : Fin 330000) : Graph.ext (src V) k.val < 10000 := by
  unfold Graph.ext
  split
  · exact hE _
  · have := k.isLt; omega
theorem dst_lt (k : Fin 330000) : Graph.ext (dst V) k.val < 10000 := by
  unfold Graph.ext
  split
  · exact hE _
  · have := k.isLt; omega

theorem idx5 (k : Fin 330000) (z : Fin 1) : idx (res_main_v5 V) (ix2 k z) = BitVec.ofNat 32 (Graph.ext (src V) k.val) := idx_read _ k z _ (src_lt V hE k) (v5_read V k)
theorem idx6 (k : Fin 330000) (z : Fin 1) : idx (res_main_v6 V) (ix2 k z) = BitVec.ofNat 32 (Graph.ext (dst V) k.val) := idx_read _ k z _ (dst_lt V hE k) (v6_read V k)
theorem int6 (k : Fin 330000) : (idx (res_main_v6 V) (ix2 k 0)).toInt = (Graph.ext (dst V) k.val : ℤ) := by
  rw [idx6 V hE]
  have := dst_lt V hE k
  exact WordArith.toInt_ofNat_small _ (by omega)

theorem deg_read (n : Fin 10000) : ((res_main_v15 V : FVec Ideal S10000 .f32) (ix1 n) : EReal) = Graph.deg (dst V) n.val := by
  refine (scatter1 _ rfl rfl rfl _ (idx (res_main_v6 V)) _ n ((broadcastInDim_scalar_apply _ _ _).trans zero_word)).trans ?_
  refine (sum_eSum (fun c => idx (res_main_v6 V) (ix2 c 0)) _ (Graph.ext (dst V)) (fun _ => 1) n.val (int6 V hE) fun c => ?_).trans (Graph.deg_ext (dst V) n.val n.isLt)
  exact (broadcastInDim_scalar_apply _ _ _).trans one_word

theorem dis_read (n : Fin 10000) : ((res_main_v21 V : FVec Ideal S10000 .f32) (ix1 n) : EReal) = Graph.dis (dst V) n.val := by
  obtain ⟨hm, hp⟩ := Graph.dis_guard (dst V) n.val _ guard_word
  have hz : ∀ w : BitVec 32, broadcastInDim S10000 ![] bcast_S_S10000 (constant (F := Ideal) S_ .f32 w) (ix1 n) = FloatOps.ofBits (F := Ideal) .f32 w := fun w => broadcastInDim_scalar_apply _ _ _
  have e1 : cmpf (F := Ideal) (φ := .f32) .ogt (res_main_v15 V) (broadcastInDim S10000 ![] bcast_S_S10000 (constant S_ .f32 0x00000000#32)) (ix1 n) = Ideal.cmp .ogt (Graph.deg (dst V) n.val) 0 := by
    rw [cmpf_apply, hz, deg_read V hE]
    exact congrArg (Ideal.cmp .ogt _) zero_word
  have e2 : (Host.rsqrt (F := Ideal) (φ := .f32) (maximumf (res_main_v15 V) (broadcastInDim S10000 ![] bcast_S_S10000 (constant S_ .f32 0x2B8CBCCC#32))) (ix1 n) : EReal)
      = Ideal.rsqrt (Graph.deg (dst V) n.val) := by
    rw [rsqrt_max, hz, deg_read V hE]
    exact congrArg Ideal.rsqrt hm
  unfold res_main_v21
  rw [select_apply, e1, e2, show Ideal.cmp .ogt (Graph.deg (dst V) n.val) 0 = 1#1 from by simp [Ideal.cmp, hp]]
  exact select_one _ _

theorem norm_read (k : Fin 330000) : ((res_main_v36 V : FVec Ideal S330000 .f32) (ix1 k) : EReal) = Graph.dis (dst V) (Graph.ext (src V) k.val) * Graph.dis (dst V) (Graph.ext (dst V) k.val) := by
  refine congrArg₂ (HMul.hMul (α := EReal)) ?_ ?_
  · exact (Routing.gather_take1 _ rfl rfl rfl rfl _ (idx (res_main_v5 V)) k ⟨_, src_lt V hE k⟩ (idx5 V hE k 0) (by norm_num)).trans (dis_read V hE ⟨_, src_lt V hE k⟩)
  · exact (Routing.gather_take1 _ rfl rfl rfl rfl _ (idx (res_main_v6 V)) k ⟨_, dst_lt V hE k⟩ (idx6 V hE k 0) (by norm_num)).trans (dis_read V hE ⟨_, dst_lt V hE k⟩)

/-- A layer at an element, its operands read. -/
theorem layer_read (l : ℕ) (h : FVec Ideal S10000x128 .f32) (W : FVec Ideal S128x128 .f32) (b : FVec Ideal S128 .f32) (hh : ∀ (n : Fin 10000) (f : Fin 128), (h (ix2 n f) : EReal) = F V l n.val f.val)
    (hW : ∀ (k f : Fin 128), (W (ix2 k f) : EReal) = n3 4 128 128 (V (Proc.devRef .tc main_arg5)) l k.val f.val)
    (hb : ∀ f : Fin 128, (b (ix1 f) : EReal) = n2 4 128 (V (Proc.devRef .tc main_arg6)) l f.val) (n : Fin 10000) (f : Fin 128) :
    (layer V h W b (ix2 n f) : EReal) = F V (l + 1) n.val f.val := by
  let z : ℕ → ℕ → EReal := fun n f => ∑ k : Fin 128, (n3 4 128 128 (V (Proc.devRef .tc main_arg5)) l k.val f : EReal) * F V l n k.val
  unfold layer
  rw [act_read, hb]
  have e : (Host.scatterAdd scatter_S10000x128_S330000x1_S330000x128_1_0_0_1 zeros (idx (res_main_v6 V)) (msg V h W) (ix2 n f) : EReal)
      = Graph.dis (dst V) n.val * (Graph.agg (src V) (dst V) (fun n f => Graph.dis (dst V) n * z n f) n.val f.val + Graph.dis (dst V) n.val * z n.val f.val) := by
    refine (scatter2 _ rfl rfl rfl rfl _ _ _ n f ((broadcastInDim_scalar_apply _ _ _).trans zero_word)).trans ?_
    rw [← Graph.layer_eq (src V) (dst V) z n.val f.val n.isLt]
    refine sum_eSum (fun c => idx (res_main_v6 V) (ix2 c 0)) _ (Graph.ext (dst V)) _ n.val (int6 V hE) fun c => ?_
    unfold msg
    refine congrArg₂ (HMul.hMul (α := EReal)) ?_ ?_
    · refine (Routing.gather_row _ rfl rfl rfl rfl rfl _ (idx (res_main_v5 V)) c f ⟨_, src_lt V hE c⟩ (idx5 V hE c 0) (by norm_num)).trans ((dot_read h W _ f).trans ?_)
      exact Finset.sum_congr rfl fun k _ => congrArg₂ (HMul.hMul (α := EReal)) (hW k f) (hh _ k)
    · exact (across_read _ _ (by norm_num) c f).trans ((col_read _ _ (by norm_num) c 0).trans (norm_read V hE c))
  rw [e]
  rfl

theorem h4_read (n : Fin 10000) (f : Fin 128) : (h4 V (ix2 n f) : EReal) = F V 4 n.val f.val := by
  have r0 : ∀ (n : Fin 10000) (f : Fin 128), (h0 V (ix2 n f) : EReal) = F V 0 n.val f.val := fun n f => by
    refine (act_read _ _ n f).trans ?_
    rw [dot_read]
    refine congrArg₂ (fun x y : EReal => max (x + y) 0) (Finset.sum_congr rfl fun k _ => congrArg₂ (HMul.hMul (α := EReal)) ?_ ?_) ?_
    · exact n2_val (α := EReal) (V (Proc.devRef .tc main_arg3)) k f
    · exact n2_val (α := EReal) (V (Proc.devRef .tc main_arg0)) n k
    · exact n1_val (α := EReal) (V (Proc.devRef .tc main_arg4)) f
  have r1 := layer_read V hE 0 (h0 V) _ _ r0 (member_read (α := EReal) (V (Proc.devRef .tc main_arg5)) 0 slices_S4x128x128_S1x128x128_0_0_0 shapeCasts_S1x128x128_S128x128 (by norm_num))
    (row_read (α := EReal) (V (Proc.devRef .tc main_arg6)) 0 slices_S4x128_S1x128_0_0 shapeCasts_S1x128_S128 (by norm_num))
  have r2 := layer_read V hE 1 (h1 V) _ _ r1 (member_read (α := EReal) (V (Proc.devRef .tc main_arg5)) 1 slices_S4x128x128_S1x128x128_1_0_0 shapeCasts_S1x128x128_S128x128 (by norm_num))
    (row_read (α := EReal) (V (Proc.devRef .tc main_arg6)) 1 slices_S4x128_S1x128_1_0 shapeCasts_S1x128_S128 (by norm_num))
  have r3 := layer_read V hE 2 (h2 V) _ _ r2 (member_read (α := EReal) (V (Proc.devRef .tc main_arg5)) 2 slices_S4x128x128_S1x128x128_2_0_0 shapeCasts_S1x128x128_S128x128 (by norm_num))
    (row_read (α := EReal) (V (Proc.devRef .tc main_arg6)) 2 slices_S4x128_S1x128_2_0 shapeCasts_S1x128_S128 (by norm_num))
  exact layer_read V hE 3 (h3 V) _ _ r3 (member_read (α := EReal) (V (Proc.devRef .tc main_arg5)) 3 slices_S4x128x128_S1x128x128_3_0_0 shapeCasts_S1x128x128_S128x128 (by norm_num))
    (row_read (α := EReal) (V (Proc.devRef .tc main_arg6)) 3 slices_S4x128_S1x128_3_0 shapeCasts_S1x128_S128 (by norm_num)) n f

omit hE in
/-- A group's sum as the scatter adds it up. -/
theorem pool_read (u : Fin 10000 → EReal) (h : ℕ → EReal) (hu : ∀ c, u c = h c.val) (g : Fin 64) :
    (∑ c : Fin 10000, if (broadcastInDim S10000x1 ![0] bcast_S10000_S10000x1_0 (V (Proc.devRef .tc main_arg2) : S10000.Idx → BitVec 32) (ix2 c (0 : Fin 1))).toInt = (g.val : ℤ) then u c else 0)
      = Graph.pool (n1 10000 (V (Proc.devRef .tc main_arg2) : S10000.Idx → BitVec 32)) h g.val := by
  unfold Graph.pool
  rw [Finset.sum_range (fun n => if n1 10000 (V (Proc.devRef .tc main_arg2) : S10000.Idx → BitVec 32) n = BitVec.ofNat 32 g.val then h n else 0)]
  refine Finset.sum_congr rfl fun c _ => ?_
  rw [col_read _ _ (by norm_num), hu, n1_val (V (Proc.devRef .tc main_arg2) : S10000.Idx → BitVec 32)]
  have hg : (BitVec.ofNat 32 g.val).toInt = g.val := WordArith.toInt_ofNat_small _ (by have := g.isLt; omega)
  exact if_congr ⟨fun e => BitVec.eq_of_toInt_eq (e.trans hg.symm), fun e => (congrArg BitVec.toInt e).trans hg⟩ rfl rfl

theorem means_read (g : Fin 64) (f : Fin 128) : (means V (ix2 g f) : EReal)
    = Ideal.div (Graph.pool (n1 10000 (V (Proc.devRef .tc main_arg2) : S10000.Idx → BitVec 32)) (fun n => F V 4 n f.val) g.val)
        (max (Graph.pool (n1 10000 (V (Proc.devRef .tc main_arg2) : S10000.Idx → BitVec 32)) (fun _ => 1) g.val) 1) := by
  unfold means
  rw [hostDivf_apply, across_read _ _ (by norm_num)]
  refine congrArg₂ Ideal.div ?_ ?_
  · refine (scatter2 _ rfl rfl rfl rfl _ _ _ g f ((broadcastInDim_scalar_apply _ _ _).trans zero_word)).trans ?_
    exact pool_read V _ (fun n => F V 4 n f.val) (fun c => h4_read V hE c f) g
  · refine congrArg₂ (max (α := EReal)) ?_ ((broadcastInDim_scalar_apply _ _ _).trans one_word)
    refine (scatter2 _ rfl rfl rfl rfl _ _ _ g 0 ((broadcastInDim_scalar_apply _ _ _).trans zero_word)).trans ?_
    exact pool_read V _ (fun _ => 1) (fun c => (broadcastInDim_scalar_apply _ _ _).trans one_word) g

/-- The reference's result is the network's. -/
theorem result_read (g : Fin 64) (j : Fin 10) : (result V (ix2 g j) : EReal) = Model.out (V (Proc.devRef .tc main_arg0)) (V (Proc.devRef .tc main_arg1)) (V (Proc.devRef .tc main_arg2))
    (V (Proc.devRef .tc main_arg3)) (V (Proc.devRef .tc main_arg4)) (V (Proc.devRef .tc main_arg5)) (V (Proc.devRef .tc main_arg6)) (V (Proc.devRef .tc main_arg7)) (V (Proc.devRef .tc main_arg8)) g.val j.val := by
  unfold Model.out Graph.out
  refine congrArg₂ (HAdd.hAdd (α := EReal)) ?_ ?_
  · refine (Ideal.dotGeneral_apply _ none .single (means V) _ (ix2 g j)).trans ?_
    refine (dot_sum _ 128 rfl rfl _ _ _ (fun k => ix2 g k) (fun k => ix2 k j) (fun k q hq => ix2_ext ?_ ?_) (fun k q hq => ix2_ext ?_ ?_)).trans
      (Finset.sum_congr rfl fun k _ => congrArg₂ (HMul.hMul (α := EReal)) (means_read V hE g k) (n2_val (α := EReal) (V (Proc.devRef .tc main_arg7)) k j))
    · rfl
    · exact hq
    · exact hq
    · rfl
  · exact (down_read _ _ (by norm_num) g j).trans ((row1_read _ _ (by norm_num) j 0).trans (n1_val (α := EReal) (V (Proc.devRef .tc main_arg8)) j))

end Net

/-- The reference runs, its result that term of its arguments, its arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v169) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1, (h c).2⟩) (Value.run m ρ)

end Cert.Proof.Ref

end
-- ==== Proof.lean ====
/-
  The proof of `Cert.Claim`: the kernel's frame at machine numbers and at ideal ones, the reference's run, and their
  results' equality at ideal numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_in_nodes
public import proofs.«01_k».proof.Proof.Kernel.Frame
public import proofs.«01_k».proof.Proof.KernelIdeal.Values
public import proofs.«01_k».proof.Proof.RefValue
public import Idealize.ShloMosaic.Adequacy
public import Idealize.ShloMosaic.Init

@[expose] public section

noncomputable section

namespace Cert.Proof

open Idealize.ShloMosaic Idealize.SL.Sem

/-- The reference runs, its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_edges_in_nodes.Facts := Cert.Pre_edges_in_nodes.Gen.facts

/-- From equal arguments the kernel and the reference end with equal results: both are the network's. -/
theorem algebraic : Cert.algebraic_KernelIdeal_ReferenceIdeal := fun m g m' g' hpre harg => by
  have hE := KernelIdeal.edgesOk m hpre
  refine ⟨fun d => fun i => KernelIdeal.outK m d (i 0).val (i 1).val, ?_, ?_⟩
  · refine (θ_run Cert.KernelIdeal.defs _ _).mono (fun r h c => ?_) (KernelIdeal.run_value m hE g)
    obtain ⟨ha, hv⟩ := h.1 c
    refine ⟨funext fun i => ?_, ha Cert.KernelIdeal.main_arg0 (by decide) (by decide), ha Cert.KernelIdeal.main_arg1 (by decide) (by decide), ha Cert.KernelIdeal.main_arg2 (by decide) (by decide),
      ha Cert.KernelIdeal.main_arg3 (by decide) (by decide), ha Cert.KernelIdeal.main_arg4 (by decide) (by decide), ha Cert.KernelIdeal.main_arg5 (by decide) (by decide),
      ha Cert.KernelIdeal.main_arg6 (by decide) (by decide), ha Cert.KernelIdeal.main_arg7 (by decide) (by decide), ha Cert.KernelIdeal.main_arg8 (by decide) (by decide)⟩
    exact (congrArg _ (ValueIdx.eq_ix2 (n0 := 64) (n1 := 10) i)).trans (hv (i 0) (i 1))
  · refine (θ_run Cert.ReferenceIdeal.defs _ _).mono (fun r h c => ⟨funext fun i => ?_, (h c).2⟩) (Ref.run_result m' g')
    obtain ⟨e0, e1, e2, e3, e4, e5, e6, e7, e8⟩ := harg c
    have hE' : ∀ i, (StableHlo.launchContents m' c (Proc.devRef .tc Cert.ReferenceIdeal.main_arg1) i : BitVec 32).toNat < 10000 := fun i => by
      rw [show StableHlo.launchContents m' c (Proc.devRef .tc Cert.ReferenceIdeal.main_arg1) = _ from e1]
      exact hE c i
    rw [(h c).1]
    refine (congrArg _ (ValueIdx.eq_ix2 (n0 := 64) (n1 := 10) i)).trans ((Ref.result_read (StableHlo.launchContents m' c) hE' (i 0) (i 1)).trans ?_)
    unfold KernelIdeal.outK
    rw [show StableHlo.launchContents m' c (Proc.devRef .tc Cert.ReferenceIdeal.main_arg0) = _ from e0, show StableHlo.launchContents m' c (Proc.devRef .tc Cert.ReferenceIdeal.main_arg1) = _ from e1,
      show StableHlo.launchContents m' c (Proc.devRef .tc Cert.ReferenceIdeal.main_arg2) = _ from e2, show StableHlo.launchContents m' c (Proc.devRef .tc Cert.ReferenceIdeal.main_arg3) = _ from e3,
      show StableHlo.launchContents m' c (Proc.devRef .tc Cert.ReferenceIdeal.main_arg4) = _ from e4, show StableHlo.launchContents m' c (Proc.devRef .tc Cert.ReferenceIdeal.main_arg5) = _ from e5,
      show StableHlo.launchContents m' c (Proc.devRef .tc Cert.ReferenceIdeal.main_arg6) = _ from e6, show StableHlo.launchContents m' c (Proc.devRef .tc Cert.ReferenceIdeal.main_arg7) = _ from e7,
      show StableHlo.launchContents m' c (Proc.devRef .tc Cert.ReferenceIdeal.main_arg8) = _ from e8]

theorem claim : Cert.Claim :=
  ⟨Cert.Kernel.Gen.facts, Cert.KernelIdeal.Gen.facts, Cert.ReferenceIdeal.Gen.facts, Cert.Pre_edges_in_nodes.Gen.facts,
    Kernel.frame, KernelIdeal.frame, frame_reference, fun m ρ _ => frame_reference m ρ True.intro, trivial, algebraic⟩

end Cert.Proof

end
